-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prepare (m : (ℓ : Loc Cert.Prepare.nD Cert.Prepare.τ Cert.Prepare.sig) → Buf (Elt Bits) ℓ) : Prop :=
  True

def Pre_PrepareIdeal (m : (ℓ : Loc Cert.PrepareIdeal.nD Cert.PrepareIdeal.τ Cert.PrepareIdeal.sig) → Buf (Elt Ideal) ℓ) : Prop :=
  True

def Pre_PrepareReferenceIdeal (m : (ℓ : Loc Cert.PrepareReferenceIdeal.nD Cert.PrepareReferenceIdeal.τ Cert.PrepareReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Prepare [hPrepare : Cert.Prepare.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2)
      ∧ r.2.mem ((c.tc : Thread Cert.Prepare.nD Cert.Prepare.τ).loc Cert.Prepare.main_arg3) = m ((c.tc : Thread Cert.Prepare.nD Cert.Prepare.τ).loc Cert.Prepare.main_arg3)
      ∧ r.2.mem ((c.tc : Thread Cert.Prepare.nD Cert.Prepare.τ).loc Cert.Prepare.main_arg4) = m ((c.tc : Thread Cert.Prepare.nD Cert.Prepare.τ).loc Cert.Prepare.main_arg4)
      ∧ r.2.mem ((c.tc : Thread Cert.Prepare.nD Cert.Prepare.τ).loc Cert.Prepare.main_arg5) = m ((c.tc : Thread Cert.Prepare.nD Cert.Prepare.τ).loc Cert.Prepare.main_arg5)
      ∧ r.2.mem ((c.tc : Thread Cert.Prepare.nD Cert.Prepare.τ).loc Cert.Prepare.main_arg6) = m ((c.tc : Thread Cert.Prepare.nD Cert.Prepare.τ).loc Cert.Prepare.main_arg6))
      ∧ r.2.sem = fun _ => 0)

def quiescent_PrepareIdeal [hPrepareIdeal : Cert.PrepareIdeal.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
      ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
      ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
      ∧ r.2.sem = fun _ => 0)

def quiescent_PrepareReferenceIdeal [hPrepareReferenceIdeal : Cert.PrepareReferenceIdeal.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2)
      ∧ r.2.mem ((c.tc : Thread Cert.PrepareReferenceIdeal.nD Cert.PrepareReferenceIdeal.τ).loc Cert.PrepareReferenceIdeal.main_arg3) = m ((c.tc : Thread Cert.PrepareReferenceIdeal.nD Cert.PrepareReferenceIdeal.τ).loc Cert.PrepareReferenceIdeal.main_arg3)
      ∧ r.2.mem ((c.tc : Thread Cert.PrepareReferenceIdeal.nD Cert.PrepareReferenceIdeal.τ).loc Cert.PrepareReferenceIdeal.main_arg4) = m ((c.tc : Thread Cert.PrepareReferenceIdeal.nD Cert.PrepareReferenceIdeal.τ).loc Cert.PrepareReferenceIdeal.main_arg4)
      ∧ r.2.mem ((c.tc : Thread Cert.PrepareReferenceIdeal.nD Cert.PrepareReferenceIdeal.τ).loc Cert.PrepareReferenceIdeal.main_arg5) = m ((c.tc : Thread Cert.PrepareReferenceIdeal.nD Cert.PrepareReferenceIdeal.τ).loc Cert.PrepareReferenceIdeal.main_arg5)
      ∧ r.2.mem ((c.tc : Thread Cert.PrepareReferenceIdeal.nD Cert.PrepareReferenceIdeal.τ).loc Cert.PrepareReferenceIdeal.main_arg6) = m ((c.tc : Thread Cert.PrepareReferenceIdeal.nD Cert.PrepareReferenceIdeal.τ).loc Cert.PrepareReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Prepare_PrepareIdeal : Prop :=
  True

def algebraic_PrepareIdeal_PrepareReferenceIdeal [hPrepareIdeal : Cert.PrepareIdeal.Facts] [hPrepareReferenceIdeal : Cert.PrepareReferenceIdeal.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.PrepareReferenceIdeal.nD Cert.PrepareReferenceIdeal.τ Cert.PrepareReferenceIdeal.sig) → Buf (Elt Ideal) ℓ) (g' : Dev Cert.PrepareReferenceIdeal.nD → PrngReg), Pre_PrepareIdeal m →
    (∀ c : Dev Cert.PrepareIdeal.nD,
      m ((c.tc : Thread Cert.PrepareIdeal.nD Cert.PrepareIdeal.τ).loc Cert.PrepareIdeal.main_arg0) = m' (((0 : Dev Cert.PrepareReferenceIdeal.nD).tc : Thread Cert.PrepareReferenceIdeal.nD Cert.PrepareReferenceIdeal.τ).loc Cert.PrepareReferenceIdeal.main_arg0)
      ∧ m ((c.tc : Thread Cert.PrepareIdeal.nD Cert.PrepareIdeal.τ).loc Cert.PrepareIdeal.main_arg1) = Layout.block ⟨2, ![2048, 128]⟩ ⟨2, ![2048, 2048]⟩ 1 16 c (m' (((0 : Dev Cert.PrepareReferenceIdeal.nD).tc : Thread Cert.PrepareReferenceIdeal.nD Cert.PrepareReferenceIdeal.τ).loc Cert.PrepareReferenceIdeal.main_arg1))
      ∧ m ((c.tc : Thread Cert.PrepareIdeal.nD Cert.PrepareIdeal.τ).loc Cert.PrepareIdeal.main_arg2) = Layout.block ⟨2, ![128, 2048]⟩ ⟨2, ![2048, 2048]⟩ 0 16 c (m' (((0 : Dev Cert.PrepareReferenceIdeal.nD).tc : Thread Cert.PrepareReferenceIdeal.nD Cert.PrepareReferenceIdeal.τ).loc Cert.PrepareReferenceIdeal.main_arg2))
      ∧ m ((c.tc : Thread Cert.PrepareIdeal.nD Cert.PrepareIdeal.τ).loc Cert.PrepareIdeal.main_arg3) = Layout.block ⟨2, ![128, 2048]⟩ ⟨2, ![2048, 2048]⟩ 0 16 c (m' (((0 : Dev Cert.PrepareReferenceIdeal.nD).tc : Thread Cert.PrepareReferenceIdeal.nD Cert.PrepareReferenceIdeal.τ).loc Cert.PrepareReferenceIdeal.main_arg3))
      ∧ m ((c.tc : Thread Cert.PrepareIdeal.nD Cert.PrepareIdeal.τ).loc Cert.PrepareIdeal.main_arg4) = Layout.block ⟨2, ![2048, 128]⟩ ⟨2, ![2048, 2048]⟩ 1 16 c (m' (((0 : Dev Cert.PrepareReferenceIdeal.nD).tc : Thread Cert.PrepareReferenceIdeal.nD Cert.PrepareReferenceIdeal.τ).loc Cert.PrepareReferenceIdeal.main_arg4))
      ∧ m ((c.tc : Thread Cert.PrepareIdeal.nD Cert.PrepareIdeal.τ).loc Cert.PrepareIdeal.main_arg5) = Layout.block ⟨2, ![2048, 32]⟩ ⟨2, ![2048, 512]⟩ 1 16 c (m' (((0 : Dev Cert.PrepareReferenceIdeal.nD).tc : Thread Cert.PrepareReferenceIdeal.nD Cert.PrepareReferenceIdeal.τ).loc Cert.PrepareReferenceIdeal.main_arg5))
      ∧ m ((c.tc : Thread Cert.PrepareIdeal.nD Cert.PrepareIdeal.τ).loc Cert.PrepareIdeal.main_arg6) = m' (((0 : Dev Cert.PrepareReferenceIdeal.nD).tc : Thread Cert.PrepareReferenceIdeal.nD Cert.PrepareReferenceIdeal.τ).loc Cert.PrepareReferenceIdeal.main_arg6)) →
    ∃ (v0 : Buf (Elt Ideal) (((0 : Dev Cert.PrepareReferenceIdeal.nD).tc : Thread Cert.PrepareReferenceIdeal.nD Cert.PrepareReferenceIdeal.τ).loc Cert.PrepareReferenceIdeal.main_v22)) (v1 : Buf (Elt Ideal) (((0 : Dev Cert.PrepareReferenceIdeal.nD).tc : Thread Cert.PrepareReferenceIdeal.nD Cert.PrepareReferenceIdeal.τ).loc Cert.PrepareReferenceIdeal.main_v23)) (v2 : Buf (Elt Ideal) (((0 : Dev Cert.PrepareReferenceIdeal.nD).tc : Thread Cert.PrepareReferenceIdeal.nD Cert.PrepareReferenceIdeal.τ).loc Cert.PrepareReferenceIdeal.main_v24)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v1_0) = Layout.block ⟨2, ![1024, 160]⟩ ⟨2, ![1024, 2560]⟩ 1 16 c v0
          ∧ r.2.mem ((c.tc : Thread Cert.PrepareIdeal.nD Cert.PrepareIdeal.τ).loc Cert.PrepareIdeal.main_v1_1) = Layout.block ⟨2, ![1024, 128]⟩ ⟨2, ![1024, 2048]⟩ 1 16 c v1
          ∧ r.2.mem ((c.tc : Thread Cert.PrepareIdeal.nD Cert.PrepareIdeal.τ).loc Cert.PrepareIdeal.main_v1_2) = Layout.block ⟨2, ![1024, 160]⟩ ⟨2, ![1024, 2560]⟩ 1 16 c v2
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
          ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
          ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
      ∧ θ_run (Cert.PrepareReferenceIdeal.defs (F := Ideal)) (onTc (τ := Cert.PrepareReferenceIdeal.τ) (Cert.PrepareReferenceIdeal.main (F := Ideal))) ⟨m', fun _ => 0, g'⟩ (fun r =>
          r.2.mem (((0 : Dev Cert.PrepareReferenceIdeal.nD).tc : Thread Cert.PrepareReferenceIdeal.nD Cert.PrepareReferenceIdeal.τ).loc Cert.PrepareReferenceIdeal.main_v22) = v0
          ∧ r.2.mem (((0 : Dev Cert.PrepareReferenceIdeal.nD).tc : Thread Cert.PrepareReferenceIdeal.nD Cert.PrepareReferenceIdeal.τ).loc Cert.PrepareReferenceIdeal.main_v23) = v1
          ∧ r.2.mem (((0 : Dev Cert.PrepareReferenceIdeal.nD).tc : Thread Cert.PrepareReferenceIdeal.nD Cert.PrepareReferenceIdeal.τ).loc Cert.PrepareReferenceIdeal.main_v24) = v2
          ∧ r.2.mem (((0 : Dev Cert.PrepareReferenceIdeal.nD).tc : Thread Cert.PrepareReferenceIdeal.nD Cert.PrepareReferenceIdeal.τ).loc Cert.PrepareReferenceIdeal.main_arg0) = m' (((0 : Dev Cert.PrepareReferenceIdeal.nD).tc : Thread Cert.PrepareReferenceIdeal.nD Cert.PrepareReferenceIdeal.τ).loc Cert.PrepareReferenceIdeal.main_arg0)
          ∧ r.2.mem (((0 : Dev Cert.PrepareReferenceIdeal.nD).tc : Thread Cert.PrepareReferenceIdeal.nD Cert.PrepareReferenceIdeal.τ).loc Cert.PrepareReferenceIdeal.main_arg1) = m' (((0 : Dev Cert.PrepareReferenceIdeal.nD).tc : Thread Cert.PrepareReferenceIdeal.nD Cert.PrepareReferenceIdeal.τ).loc Cert.PrepareReferenceIdeal.main_arg1)
          ∧ r.2.mem (((0 : Dev Cert.PrepareReferenceIdeal.nD).tc : Thread Cert.PrepareReferenceIdeal.nD Cert.PrepareReferenceIdeal.τ).loc Cert.PrepareReferenceIdeal.main_arg2) = m' (((0 : Dev Cert.PrepareReferenceIdeal.nD).tc : Thread Cert.PrepareReferenceIdeal.nD Cert.PrepareReferenceIdeal.τ).loc Cert.PrepareReferenceIdeal.main_arg2)
          ∧ r.2.mem (((0 : Dev Cert.PrepareReferenceIdeal.nD).tc : Thread Cert.PrepareReferenceIdeal.nD Cert.PrepareReferenceIdeal.τ).loc Cert.PrepareReferenceIdeal.main_arg3) = m' (((0 : Dev Cert.PrepareReferenceIdeal.nD).tc : Thread Cert.PrepareReferenceIdeal.nD Cert.PrepareReferenceIdeal.τ).loc Cert.PrepareReferenceIdeal.main_arg3)
          ∧ r.2.mem (((0 : Dev Cert.PrepareReferenceIdeal.nD).tc : Thread Cert.PrepareReferenceIdeal.nD Cert.PrepareReferenceIdeal.τ).loc Cert.PrepareReferenceIdeal.main_arg4) = m' (((0 : Dev Cert.PrepareReferenceIdeal.nD).tc : Thread Cert.PrepareReferenceIdeal.nD Cert.PrepareReferenceIdeal.τ).loc Cert.PrepareReferenceIdeal.main_arg4)
          ∧ r.2.mem (((0 : Dev Cert.PrepareReferenceIdeal.nD).tc : Thread Cert.PrepareReferenceIdeal.nD Cert.PrepareReferenceIdeal.τ).loc Cert.PrepareReferenceIdeal.main_arg5) = m' (((0 : Dev Cert.PrepareReferenceIdeal.nD).tc : Thread Cert.PrepareReferenceIdeal.nD Cert.PrepareReferenceIdeal.τ).loc Cert.PrepareReferenceIdeal.main_arg5)
          ∧ r.2.mem (((0 : Dev Cert.PrepareReferenceIdeal.nD).tc : Thread Cert.PrepareReferenceIdeal.nD Cert.PrepareReferenceIdeal.τ).loc Cert.PrepareReferenceIdeal.main_arg6) = m' (((0 : Dev Cert.PrepareReferenceIdeal.nD).tc : Thread Cert.PrepareReferenceIdeal.nD Cert.PrepareReferenceIdeal.τ).loc Cert.PrepareReferenceIdeal.main_arg6))

def Claim : Prop :=
  ∃ (hKernel : Cert.Kernel.Facts) (hKernelIdeal : Cert.KernelIdeal.Facts) (hReferenceIdeal : Cert.ReferenceIdeal.Facts) (hPrepare : Cert.Prepare.Facts) (hPrepareIdeal : Cert.PrepareIdeal.Facts) (hPrepareReferenceIdeal : Cert.PrepareReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prepare (hPrepare := hPrepare)
    ∧ quiescent_PrepareIdeal (hPrepareIdeal := hPrepareIdeal)
    ∧ quiescent_PrepareReferenceIdeal (hPrepareReferenceIdeal := hPrepareReferenceIdeal)
    ∧ preserves_Kernel_KernelIdeal
    ∧ algebraic_KernelIdeal_ReferenceIdeal (hKernelIdeal := hKernelIdeal) (hReferenceIdeal := hReferenceIdeal)
    ∧ preserves_Prepare_PrepareIdeal
    ∧ algebraic_PrepareIdeal_PrepareReferenceIdeal (hPrepareIdeal := hPrepareIdeal) (hPrepareReferenceIdeal := hPrepareReferenceIdeal)
-- ==== Kernel.lean ====
abbrev S1024x128 : Shape := ⟨2, ![1024, 128]⟩
abbrev S2048x2048 : Shape := ⟨2, ![2048, 2048]⟩
abbrev S1024x2048 : Shape := ⟨2, ![1024, 2048]⟩
abbrev S16x1024x128 : Shape := ⟨3, ![16, 1024, 128]⟩
abbrev S32 : Shape := ⟨1, ![32]⟩
abbrev S28 : Shape := ⟨1, ![28]⟩
abbrev S_ : Shape := ⟨0, ![]⟩
abbrev S1x1024x128 : Shape := ⟨3, ![1, 1024, 128]⟩
abbrev S1 : Shape := ⟨1, ![1]⟩
abbrev S1x256x128 : Shape := ⟨3, ![1, 256, 128]⟩
abbrev S256x128 : Shape := ⟨2, ![256, 128]⟩
abbrev S128x2048 : Shape := ⟨2, ![128, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1024x128, .bf16⟩
  | .hbm, ⟨1, _⟩ => ⟨S2048x2048, .bf16⟩
  | .hbm, ⟨2, _⟩ => ⟨S1024x2048, .f32⟩
  | .local _ .vmem, ⟨0, _⟩ => ⟨S1024x128, .bf16⟩
  | .local _ .vmem, ⟨1, _⟩ => ⟨S2048x2048, .bf16⟩
  | .local _ .vmem, ⟨2, _⟩ => ⟨S1024x2048, .f32⟩
  | .local _ .vmem, ⟨3, _⟩ => ⟨S16x1024x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier1 : Sem sig := 0

abbrev nD : Nat := 16
abbrev τ : Topo := Topo.v7x

variable {F : FTy → Type} [FloatOps F]

abbrev grid0 : Pipeline.Grid := .none

def k0_dev1 (d0 : Dev nD) : Nat :=
  let c0_i32_57 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_56 : BitVec 32 := 1#32
  let v118 : BitVec 32 := Scalar.muli v77 c1_i32_56
  let v119 : BitVec 32 := Scalar.addi c0_i32_57 v118
  v119.toNat
def k0_dev2 (d0 : Dev nD) : Nat :=
  let c0_i32_60 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_59 : BitVec 32 := 1#32
  let v120 : BitVec 32 := Scalar.muli v116 c1_i32_59
  let v121 : BitVec 32 := Scalar.addi c0_i32_60 v120
  v121.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v124 : Index := Scalar.indexCast v2
  let c0_63 : Index := 0#32
  let c0_64 : Index := 0#32
  ![v124.toNat, 0, 0]
def k0_off2 (d0 : Dev nD) (c0_i32_65 : BitVec 32) : Fin 3 → Nat :=
  let c4_i32_85 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v128 : BitVec 32 := Scalar.subi v38 c0_i32_65
  let c16_i32_66 : BitVec 32 := 16#32
  let c0_i32_67 : BitVec 32 := 0#32
  let v129 : BitVec 1 := Scalar.cmpi .eq c16_i32_66 c0_i32_67
  let c1_i32_68 : BitVec 32 := 1#32
  let v130 : BitVec 32 := Scalar.select v129 c1_i32_68 c16_i32_66
  let v131 : BitVec 32 := Scalar.remsi v128 v130
  let c0_i32_70 : BitVec 32 := 0#32
  let v133 : BitVec 1 := Scalar.cmpi .slt v131 c0_i32_70
  let c0_i32_71 : BitVec 32 := 0#32
  let v134 : BitVec 1 := Scalar.cmpi .slt v130 c0_i32_71
  let v135 : BitVec 1 := Scalar.xori v133 v134
  let c0_i32_69 : BitVec 32 := 0#32
  let v132 : BitVec 1 := Scalar.cmpi .ne v131 c0_i32_69
  let v136 : BitVec 1 := Scalar.andi v135 v132
  let v137 : BitVec 32 := Scalar.addi v131 v130
  let v138 : BitVec 32 := Scalar.select v136 v137 v131
  let c0_i32_73 : BitVec 32 := 0#32
  let v140 : BitVec 1 := Scalar.cmpi .sgt v138 c0_i32_73
  let v141 : BitVec 32 := Scalar.extui v140
  let c0_i32_74 : BitVec 32 := 0#32
  let v142 : BitVec 1 := Scalar.cmpi .slt v138 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v138 c4_i32_72
  let c0_i32_77 : BitVec 32 := 0#32
  let v152 : BitVec 1 := Scalar.cmpi .ne v151 c0_i32_77
  let v153 : BitVec 1 := Scalar.andi v150 v152
  let v139 : BitVec 32 := Scalar.divsi v138 c4_i32_72
  let c1_i32_78 : BitVec 32 := 1#32
  let v154 : BitVec 32 := Scalar.subi v139 c1_i32_78
  let v155 : BitVec 32 := Scalar.select v153 v154 v139
  let c0_i32_79 : BitVec 32 := 0#32
  let v156 : BitVec 1 := Scalar.cmpi .eq v155 c0_i32_79
  let c1_i32_80 : BitVec 32 := 1#32
  let v157 : BitVec 1 := Scalar.cmpi .eq v155 c1_i32_80
  let c7_i32_81 : BitVec 32 := 7#32
  let v158 : BitVec 32 := Scalar.subi c7_i32_81 v138
  let c2_i32_82 : BitVec 32 := 2#32
  let v159 : BitVec 1 := Scalar.cmpi .eq v155 c2_i32_82
  let c8_i32_83 : BitVec 32 := 8#32
  let v160 : BitVec 32 := Scalar.subi v138 c8_i32_83
  let c15_i32_84 : BitVec 32 := 15#32
  let v161 : BitVec 32 := Scalar.subi c15_i32_84 v138
  let v162 : BitVec 32 := Scalar.select v159 v160 v161
  let v163 : BitVec 32 := Scalar.select v157 v158 v162
  let v164 : BitVec 32 := Scalar.select v156 v138 v163
  let v165 : BitVec 32 := Scalar.muli c4_i32_85 v164
  let v166 : BitVec 32 := Scalar.addi v165 v155
  let c0_i32_90 : BitVec 32 := 0#32
  let c0_i32_91 : BitVec 32 := 0#32
  ![v166.toNat, 0, 0]
def k0_dev3 (d0 : Dev nD) : Nat :=
  let c0_i32_89 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_88 : BitVec 32 := 1#32
  let v167 : BitVec 32 := Scalar.muli v116 c1_i32_88
  let v168 : BitVec 32 := Scalar.addi c0_i32_89 v167
  v168.toNat
def k0_off3 (d0 : Dev nD) (c0_i32_94 : BitVec 32) : Fin 3 → Nat :=
  let c4_i32_114 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v177 : BitVec 32 := Scalar.addi v38 c0_i32_94
  let c16_i32_95 : BitVec 32 := 16#32
  let c0_i32_96 : BitVec 32 := 0#32
  let v178 : BitVec 1 := Scalar.cmpi .eq c16_i32_95 c0_i32_96
  let c1_i32_97 : BitVec 32 := 1#32
  let v179 : BitVec 32 := Scalar.select v178 c1_i32_97 c16_i32_95
  let v180 : BitVec 32 := Scalar.remsi v177 v179
  let c0_i32_99 : BitVec 32 := 0#32
  let v182 : BitVec 1 := Scalar.cmpi .slt v180 c0_i32_99
  let c0_i32_100 : BitVec 32 := 0#32
  let v183 : BitVec 1 := Scalar.cmpi .slt v179 c0_i32_100
  let v184 : BitVec 1 := Scalar.xori v182 v183
  let c0_i32_98 : BitVec 32 := 0#32
  let v181 : BitVec 1 := Scalar.cmpi .ne v180 c0_i32_98
  let v185 : BitVec 1 := Scalar.andi v184 v181
  let v186 : BitVec 32 := Scalar.addi v180 v179
  let v187 : BitVec 32 := Scalar.select v185 v186 v180
  let c0_i32_102 : BitVec 32 := 0#32
  let v189 : BitVec 1 := Scalar.cmpi .sgt v187 c0_i32_102
  let v190 : BitVec 32 := Scalar.extui v189
  let c0_i32_103 : BitVec 32 := 0#32
  let v191 : BitVec 1 := Scalar.cmpi .slt v187 c0_i32_103
  let v192 : BitVec 32 := Scalar.extui v191
  let v193 : BitVec 32 := Scalar.subi v190 v192
  let c4_i32_101 : BitVec 32 := 4#32
  let c0_i32_104 : BitVec 32 := 0#32
  let v194 : BitVec 1 := Scalar.cmpi .sgt c4_i32_101 c0_i32_104
  let v195 : BitVec 32 := Scalar.extui v194
  let c0_i32_105 : BitVec 32 := 0#32
  let v196 : BitVec 1 := Scalar.cmpi .slt c4_i32_101 c0_i32_105
  let v197 : BitVec 32 := Scalar.extui v196
  let v198 : BitVec 32 := Scalar.subi v195 v197
  let v199 : BitVec 1 := Scalar.cmpi .ne v193 v198
  let v200 : BitVec 32 := Scalar.remsi v187 c4_i32_101
  let c0_i32_106 : BitVec 32 := 0#32
  let v201 : BitVec 1 := Scalar.cmpi .ne v200 c0_i32_106
  let v202 : BitVec 1 := Scalar.andi v199 v201
  let v188 : BitVec 32 := Scalar.divsi v187 c4_i32_101
  let c1_i32_107 : BitVec 32 := 1#32
  let v203 : BitVec 32 := Scalar.subi v188 c1_i32_107
  let v204 : BitVec 32 := Scalar.select v202 v203 v188
  let c0_i32_108 : BitVec 32 := 0#32
  let v205 : BitVec 1 := Scalar.cmpi .eq v204 c0_i32_108
  let c1_i32_109 : BitVec 32 := 1#32
  let v206 : BitVec 1 := Scalar.cmpi .eq v204 c1_i32_109
  let c7_i32_110 : BitVec 32 := 7#32
  let v207 : BitVec 32 := Scalar.subi c7_i32_110 v187
  let c2_i32_111 : BitVec 32 := 2#32
  let v208 : BitVec 1 := Scalar.cmpi .eq v204 c2_i32_111
  let c8_i32_112 : BitVec 32 := 8#32
  let v209 : BitVec 32 := Scalar.subi v187 c8_i32_112
  let c15_i32_113 : BitVec 32 := 15#32
  let v210 : BitVec 32 := Scalar.subi c15_i32_113 v187
  let v211 : BitVec 32 := Scalar.select v208 v209 v210
  let v212 : BitVec 32 := Scalar.select v206 v207 v211
  let v213 : BitVec 32 := Scalar.select v205 v187 v212
  let v214 : BitVec 32 := Scalar.muli c4_i32_114 v213
  let v215 : BitVec 32 := Scalar.addi v214 v204
  let c0_i32_119 : BitVec 32 := 0#32
  let c0_i32_120 : BitVec 32 := 0#32
  ![v215.toNat, 0, 0]
def k0_dev4 (d0 : Dev nD) : Nat :=
  let c0_i32_118 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_117 : BitVec 32 := 1#32
  let v216 : BitVec 32 := Scalar.muli v77 c1_i32_117
  let v217 : BitVec 32 := Scalar.addi c0_i32_118 v216
  v217.toNat
def k0_off4 (d0 : Dev nD) (c0_i32_123 : BitVec 32) : Fin 3 → Nat :=
  let c4_i32_143 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v226 : BitVec 32 := Scalar.subi v38 c0_i32_123
  let c16_i32_124 : BitVec 32 := 16#32
  let c0_i32_125 : BitVec 32 := 0#32
  let v227 : BitVec 1 := Scalar.cmpi .eq c16_i32_124 c0_i32_125
  let c1_i32_126 : BitVec 32 := 1#32
  let v228 : BitVec 32 := Scalar.select v227 c1_i32_126 c16_i32_124
  let v229 : BitVec 32 := Scalar.remsi v226 v228
  let c0_i32_128 : BitVec 32 := 0#32
  let v231 : BitVec 1 := Scalar.cmpi .slt v229 c0_i32_128
  let c0_i32_129 : BitVec 32 := 0#32
  let v232 : BitVec 1 := Scalar.cmpi .slt v228 c0_i32_129
  let v233 : BitVec 1 := Scalar.xori v231 v232
  let c0_i32_127 : BitVec 32 := 0#32
  let v230 : BitVec 1 := Scalar.cmpi .ne v229 c0_i32_127
  let v234 : BitVec 1 := Scalar.andi v233 v230
  let v235 : BitVec 32 := Scalar.addi v229 v228
  let v236 : BitVec 32 := Scalar.select v234 v235 v229
  let c0_i32_131 : BitVec 32 := 0#32
  let v238 : BitVec 1 := Scalar.cmpi .sgt v236 c0_i32_131
  let v239 : BitVec 32 := Scalar.extui v238
  let c0_i32_132 : BitVec 32 := 0#32
  let v240 : BitVec 1 := Scalar.cmpi .slt v236 c0_i32_132
  let v241 : BitVec 32 := Scalar.extui v240
  let v242 : BitVec 32 := Scalar.subi v239 v241
  let c4_i32_130 : BitVec 32 := 4#32
  let c0_i32_133 : BitVec 32 := 0#32
  let v243 : BitVec 1 := Scalar.cmpi .sgt c4_i32_130 c0_i32_133
  let v244 : BitVec 32 := Scalar.extui v243
  let c0_i32_134 : BitVec 32 := 0#32
  let v245 : BitVec 1 := Scalar.cmpi .slt c4_i32_130 c0_i32_134
  let v246 : BitVec 32 := Scalar.extui v245
  let v247 : BitVec 32 := Scalar.subi v244 v246
  let v248 : BitVec 1 := Scalar.cmpi .ne v242 v247
  let v249 : BitVec 32 := Scalar.remsi v236 c4_i32_130
  let c0_i32_135 : BitVec 32 := 0#32
  let v250 : BitVec 1 := Scalar.cmpi .ne v249 c0_i32_135
  let v251 : BitVec 1 := Scalar.andi v248 v250
  let v237 : BitVec 32 := Scalar.divsi v236 c4_i32_130
  let c1_i32_136 : BitVec 32 := 1#32
  let v252 : BitVec 32 := Scalar.subi v237 c1_i32_136
  let v253 : BitVec 32 := Scalar.select v251 v252 v237
  let c0_i32_137 : BitVec 32 := 0#32
  let v254 : BitVec 1 := Scalar.cmpi .eq v253 c0_i32_137
  let c1_i32_138 : BitVec 32 := 1#32
  let v255 : BitVec 1 := Scalar.cmpi .eq v253 c1_i32_138
  let c7_i32_139 : BitVec 32 := 7#32
  let v256 : BitVec 32 := Scalar.subi c7_i32_139 v236
  let c2_i32_140 : BitVec 32 := 2#32
  let v257 : BitVec 1 := Scalar.cmpi .eq v253 c2_i32_140
  let c8_i32_141 : BitVec 32 := 8#32
  let v258 : BitVec 32 := Scalar.subi v236 c8_i32_141
  let c15_i32_142 : BitVec 32 := 15#32
  let v259 : BitVec 32 := Scalar.subi c15_i32_142 v236
  let v260 : BitVec 32 := Scalar.select v257 v258 v259
  let v261 : BitVec 32 := Scalar.select v255 v256 v260
  let v262 : BitVec 32 := Scalar.select v254 v236 v261
  let v263 : BitVec 32 := Scalar.muli c4_i32_143 v262
  let v264 : BitVec 32 := Scalar.addi v263 v253
  let c256_i32 : BitVec 32 := 256#32
  let c0_i32_148 : BitVec 32 := 0#32
  ![v264.toNat, 256, 0]
def k0_dev5 (d0 : Dev nD) : Nat :=
  let c0_i32_147 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_146 : BitVec 32 := 1#32
  let v265 : BitVec 32 := Scalar.muli v116 c1_i32_146
  let v266 : BitVec 32 := Scalar.addi c0_i32_147 v265
  v266.toNat
def k0_off5 (d0 : Dev nD) (c0_i32_151 : BitVec 32) : Fin 3 → Nat :=
  let c4_i32_171 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v275 : BitVec 32 := Scalar.addi v38 c0_i32_151
  let c16_i32_152 : BitVec 32 := 16#32
  let c0_i32_153 : BitVec 32 := 0#32
  let v276 : BitVec 1 := Scalar.cmpi .eq c16_i32_152 c0_i32_153
  let c1_i32_154 : BitVec 32 := 1#32
  let v277 : BitVec 32 := Scalar.select v276 c1_i32_154 c16_i32_152
  let v278 : BitVec 32 := Scalar.remsi v275 v277
  let c0_i32_156 : BitVec 32 := 0#32
  let v280 : BitVec 1 := Scalar.cmpi .slt v278 c0_i32_156
  let c0_i32_157 : BitVec 32 := 0#32
  let v281 : BitVec 1 := Scalar.cmpi .slt v277 c0_i32_157
  let v282 : BitVec 1 := Scalar.xori v280 v281
  let c0_i32_155 : BitVec 32 := 0#32
  let v279 : BitVec 1 := Scalar.cmpi .ne v278 c0_i32_155
  let v283 : BitVec 1 := Scalar.andi v282 v279
  let v284 : BitVec 32 := Scalar.addi v278 v277
  let v285 : BitVec 32 := Scalar.select v283 v284 v278
  let c0_i32_159 : BitVec 32 := 0#32
  let v287 : BitVec 1 := Scalar.cmpi .sgt v285 c0_i32_159
  let v288 : BitVec 32 := Scalar.extui v287
  let c0_i32_160 : BitVec 32 := 0#32
  let v289 : BitVec 1 := Scalar.cmpi .slt v285 c0_i32_160
  let v290 : BitVec 32 := Scalar.extui v289
  let v291 : BitVec 32 := Scalar.subi v288 v290
  let c4_i32_158 : BitVec 32 := 4#32
  let c0_i32_161 : BitVec 32 := 0#32
  let v292 : BitVec 1 := Scalar.cmpi .sgt c4_i32_158 c0_i32_161
  let v293 : BitVec 32 := Scalar.extui v292
  let c0_i32_162 : BitVec 32 := 0#32
  let v294 : BitVec 1 := Scalar.cmpi .slt c4_i32_158 c0_i32_162
  let v295 : BitVec 32 := Scalar.extui v294
  let v296 : BitVec 32 := Scalar.subi v293 v295
  let v297 : BitVec 1 := Scalar.cmpi .ne v291 v296
  let v298 : BitVec 32 := Scalar.remsi v285 c4_i32_158
  let c0_i32_163 : BitVec 32 := 0#32
  let v299 : BitVec 1 := Scalar.cmpi .ne v298 c0_i32_163
  let v300 : BitVec 1 := Scalar.andi v297 v299
  let v286 : BitVec 32 := Scalar.divsi v285 c4_i32_158
  let c1_i32_164 : BitVec 32 := 1#32
  let v301 : BitVec 32 := Scalar.subi v286 c1_i32_164
  let v302 : BitVec 32 := Scalar.select v300 v301 v286
  let c0_i32_165 : BitVec 32 := 0#32
  let v303 : BitVec 1 := Scalar.cmpi .eq v302 c0_i32_165
  let c1_i32_166 : BitVec 32 := 1#32
  let v304 : BitVec 1 := Scalar.cmpi .eq v302 c1_i32_166
  let c7_i32_167 : BitVec 32 := 7#32
  let v305 : BitVec 32 := Scalar.subi c7_i32_167 v285
  let c2_i32_168 : BitVec 32 := 2#32
  let v306 : BitVec 1 := Scalar.cmpi .eq v302 c2_i32_168
  let c8_i32_169 : BitVec 32 := 8#32
  let v307 : BitVec 32 := Scalar.subi v285 c8_i32_169
  let c15_i32_170 : BitVec 32 := 15#32
  let v308 : BitVec 32 := Scalar.subi c15_i32_170 v285
  let v309 : BitVec 32 := Scalar.select v306 v307 v308
  let v310 : BitVec 32 := Scalar.select v304 v305 v309
  let v311 : BitVec 32 := Scalar.select v303 v285 v310
  let v312 : BitVec 32 := Scalar.muli c4_i32_171 v311
  let v313 : BitVec 32 := Scalar.addi v312 v302
  let c256_i32_176 : BitVec 32 := 256#32
  let c0_i32_177 : BitVec 32 := 0#32
  ![v313.toNat, 256, 0]
def k0_dev6 (d0 : Dev nD) : Nat :=
  let c0_i32_175 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_174 : BitVec 32 := 1#32
  let v314 : BitVec 32 := Scalar.muli v77 c1_i32_174
  let v315 : BitVec 32 := Scalar.addi c0_i32_175 v314
  v315.toNat
def k0_off6 (d0 : Dev nD) (c0_i32_180 : BitVec 32) : Fin 3 → Nat :=
  let c4_i32_200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v324 : BitVec 32 := Scalar.subi v38 c0_i32_180
  let c16_i32_181 : BitVec 32 := 16#32
  let c0_i32_182 : BitVec 32 := 0#32
  let v325 : BitVec 1 := Scalar.cmpi .eq c16_i32_181 c0_i32_182
  let c1_i32_183 : BitVec 32 := 1#32
  let v326 : BitVec 32 := Scalar.select v325 c1_i32_183 c16_i32_181
  let v327 : BitVec 32 := Scalar.remsi v324 v326
  let c0_i32_185 : BitVec 32 := 0#32
  let v329 : BitVec 1 := Scalar.cmpi .slt v327 c0_i32_185
  let c0_i32_186 : BitVec 32 := 0#32
  let v330 : BitVec 1 := Scalar.cmpi .slt v326 c0_i32_186
  let v331 : BitVec 1 := Scalar.xori v329 v330
  let c0_i32_184 : BitVec 32 := 0#32
  let v328 : BitVec 1 := Scalar.cmpi .ne v327 c0_i32_184
  let v332 : BitVec 1 := Scalar.andi v331 v328
  let v333 : BitVec 32 := Scalar.addi v327 v326
  let v334 : BitVec 32 := Scalar.select v332 v333 v327
  let c0_i32_188 : BitVec 32 := 0#32
  let v336 : BitVec 1 := Scalar.cmpi .sgt v334 c0_i32_188
  let v337 : BitVec 32 := Scalar.extui v336
  let c0_i32_189 : BitVec 32 := 0#32
  let v338 : BitVec 1 := Scalar.cmpi .slt v334 c0_i32_189
  let v339 : BitVec 32 := Scalar.extui v338
  let v340 : BitVec 32 := Scalar.subi v337 v339
  let c4_i32_187 : BitVec 32 := 4#32
  let c0_i32_190 : BitVec 32 := 0#32
  let v341 : BitVec 1 := Scalar.cmpi .sgt c4_i32_187 c0_i32_190
  let v342 : BitVec 32 := Scalar.extui v341
  let c0_i32_191 : BitVec 32 := 0#32
  let v343 : BitVec 1 := Scalar.cmpi .slt c4_i32_187 c0_i32_191
  let v344 : BitVec 32 := Scalar.extui v343
  let v345 : BitVec 32 := Scalar.subi v342 v344
  let v346 : BitVec 1 := Scalar.cmpi .ne v340 v345
  let v347 : BitVec 32 := Scalar.remsi v334 c4_i32_187
  let c0_i32_192 : BitVec 32 := 0#32
  let v348 : BitVec 1 := Scalar.cmpi .ne v347 c0_i32_192
  let v349 : BitVec 1 := Scalar.andi v346 v348
  let v335 : BitVec 32 := Scalar.divsi v334 c4_i32_187
  let c1_i32_193 : BitVec 32 := 1#32
  let v350 : BitVec 32 := Scalar.subi v335 c1_i32_193
  let v351 : BitVec 32 := Scalar.select v349 v350 v335
  let c0_i32_194 : BitVec 32 := 0#32
  let v352 : BitVec 1 := Scalar.cmpi .eq v351 c0_i32_194
  let c1_i32_195 : BitVec 32 := 1#32
  let v353 : BitVec 1 := Scalar.cmpi .eq v351 c1_i32_195
  let c7_i32_196 : BitVec 32 := 7#32
  let v354 : BitVec 32 := Scalar.subi c7_i32_196 v334
  let c2_i32_197 : BitVec 32 := 2#32
  let v355 : BitVec 1 := Scalar.cmpi .eq v351 c2_i32_197
  let c8_i32_198 : BitVec 32 := 8#32
  let v356 : BitVec 32 := Scalar.subi v334 c8_i32_198
  let c15_i32_199 : BitVec 32 := 15#32
  let v357 : BitVec 32 := Scalar.subi c15_i32_199 v334
  let v358 : BitVec 32 := Scalar.select v355 v356 v357
  let v359 : BitVec 32 := Scalar.select v353 v354 v358
  let v360 : BitVec 32 := Scalar.select v352 v334 v359
  let v361 : BitVec 32 := Scalar.muli c4_i32_200 v360
  let v362 : BitVec 32 := Scalar.addi v361 v351
  let c512_i32 : BitVec 32 := 512#32
  let c0_i32_205 : BitVec 32 := 0#32
  ![v362.toNat, 512, 0]
def k0_dev7 (d0 : Dev nD) : Nat :=
  let c0_i32_204 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_203 : BitVec 32 := 1#32
  let v363 : BitVec 32 := Scalar.muli v116 c1_i32_203
  let v364 : BitVec 32 := Scalar.addi c0_i32_204 v363
  v364.toNat
def k0_off7 (d0 : Dev nD) (c0_i32_208 : BitVec 32) : Fin 3 → Nat :=
  let c4_i32_228 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v373 : BitVec 32 := Scalar.addi v38 c0_i32_208
  let c16_i32_209 : BitVec 32 := 16#32
  let c0_i32_210 : BitVec 32 := 0#32
  let v374 : BitVec 1 := Scalar.cmpi .eq c16_i32_209 c0_i32_210
  let c1_i32_211 : BitVec 32 := 1#32
  let v375 : BitVec 32 := Scalar.select v374 c1_i32_211 c16_i32_209
  let v376 : BitVec 32 := Scalar.remsi v373 v375
  let c0_i32_213 : BitVec 32 := 0#32
  let v378 : BitVec 1 := Scalar.cmpi .slt v376 c0_i32_213
  let c0_i32_214 : BitVec 32 := 0#32
  let v379 : BitVec 1 := Scalar.cmpi .slt v375 c0_i32_214
  let v380 : BitVec 1 := Scalar.xori v378 v379
  let c0_i32_212 : BitVec 32 := 0#32
  let v377 : BitVec 1 := Scalar.cmpi .ne v376 c0_i32_212
  let v381 : BitVec 1 := Scalar.andi v380 v377
  let v382 : BitVec 32 := Scalar.addi v376 v375
  let v383 : BitVec 32 := Scalar.select v381 v382 v376
  let c0_i32_216 : BitVec 32 := 0#32
  let v385 : BitVec 1 := Scalar.cmpi .sgt v383 c0_i32_216
  let v386 : BitVec 32 := Scalar.extui v385
  let c0_i32_217 : BitVec 32 := 0#32
  let v387 : BitVec 1 := Scalar.cmpi .slt v383 c0_i32_217
  let v388 : BitVec 32 := Scalar.extui v387
  let v389 : BitVec 32 := Scalar.subi v386 v388
  let c4_i32_215 : BitVec 32 := 4#32
  let c0_i32_218 : BitVec 32 := 0#32
  let v390 : BitVec 1 := Scalar.cmpi .sgt c4_i32_215 c0_i32_218
  let v391 : BitVec 32 := Scalar.extui v390
  let c0_i32_219 : BitVec 32 := 0#32
  let v392 : BitVec 1 := Scalar.cmpi .slt c4_i32_215 c0_i32_219
  let v393 : BitVec 32 := Scalar.extui v392
  let v394 : BitVec 32 := Scalar.subi v391 v393
  let v395 : BitVec 1 := Scalar.cmpi .ne v389 v394
  let v396 : BitVec 32 := Scalar.remsi v383 c4_i32_215
  let c0_i32_220 : BitVec 32 := 0#32
  let v397 : BitVec 1 := Scalar.cmpi .ne v396 c0_i32_220
  let v398 : BitVec 1 := Scalar.andi v395 v397
  let v384 : BitVec 32 := Scalar.divsi v383 c4_i32_215
  let c1_i32_221 : BitVec 32 := 1#32
  let v399 : BitVec 32 := Scalar.subi v384 c1_i32_221
  let v400 : BitVec 32 := Scalar.select v398 v399 v384
  let c0_i32_222 : BitVec 32 := 0#32
  let v401 : BitVec 1 := Scalar.cmpi .eq v400 c0_i32_222
  let c1_i32_223 : BitVec 32 := 1#32
  let v402 : BitVec 1 := Scalar.cmpi .eq v400 c1_i32_223
  let c7_i32_224 : BitVec 32 := 7#32
  let v403 : BitVec 32 := Scalar.subi c7_i32_224 v383
  let c2_i32_225 : BitVec 32 := 2#32
  let v404 : BitVec 1 := Scalar.cmpi .eq v400 c2_i32_225
  let c8_i32_226 : BitVec 32 := 8#32
  let v405 : BitVec 32 := Scalar.subi v383 c8_i32_226
  let c15_i32_227 : BitVec 32 := 15#32
  let v406 : BitVec 32 := Scalar.subi c15_i32_227 v383
  let v407 : BitVec 32 := Scalar.select v404 v405 v406
  let v408 : BitVec 32 := Scalar.select v402 v403 v407
  let v409 : BitVec 32 := Scalar.select v401 v383 v408
  let v410 : BitVec 32 := Scalar.muli c4_i32_228 v409
  let v411 : BitVec 32 := Scalar.addi v410 v400
  let c512_i32_233 : BitVec 32 := 512#32
  let c0_i32_234 : BitVec 32 := 0#32
  ![v411.toNat, 512, 0]
def k0_dev8 (d0 : Dev nD) : Nat :=
  let c0_i32_232 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_231 : BitVec 32 := 1#32
  let v412 : BitVec 32 := Scalar.muli v77 c1_i32_231
  let v413 : BitVec 32 := Scalar.addi c0_i32_232 v412
  v413.toNat
def k0_off8 (d0 : Dev nD) (c0_i32_237 : BitVec 32) : Fin 3 → Nat :=
  let c4_i32_257 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v422 : BitVec 32 := Scalar.subi v38 c0_i32_237
  let c16_i32_238 : BitVec 32 := 16#32
  let c0_i32_239 : BitVec 32 := 0#32
  let v423 : BitVec 1 := Scalar.cmpi .eq c16_i32_238 c0_i32_239
  let c1_i32_240 : BitVec 32 := 1#32
  let v424 : BitVec 32 := Scalar.select v423 c1_i32_240 c16_i32_238
  let v425 : BitVec 32 := Scalar.remsi v422 v424
  let c0_i32_242 : BitVec 32 := 0#32
  let v427 : BitVec 1 := Scalar.cmpi .slt v425 c0_i32_242
  let c0_i32_243 : BitVec 32 := 0#32
  let v428 : BitVec 1 := Scalar.cmpi .slt v424 c0_i32_243
  let v429 : BitVec 1 := Scalar.xori v427 v428
  let c0_i32_241 : BitVec 32 := 0#32
  let v426 : BitVec 1 := Scalar.cmpi .ne v425 c0_i32_241
  let v430 : BitVec 1 := Scalar.andi v429 v426
  let v431 : BitVec 32 := Scalar.addi v425 v424
  let v432 : BitVec 32 := Scalar.select v430 v431 v425
  let c0_i32_245 : BitVec 32 := 0#32
  let v434 : BitVec 1 := Scalar.cmpi .sgt v432 c0_i32_245
  let v435 : BitVec 32 := Scalar.extui v434
  let c0_i32_246 : BitVec 32 := 0#32
  let v436 : BitVec 1 := Scalar.cmpi .slt v432 c0_i32_246
  let v437 : BitVec 32 := Scalar.extui v436
  let v438 : BitVec 32 := Scalar.subi v435 v437
  let c4_i32_244 : BitVec 32 := 4#32
  let c0_i32_247 : BitVec 32 := 0#32
  let v439 : BitVec 1 := Scalar.cmpi .sgt c4_i32_244 c0_i32_247
  let v440 : BitVec 32 := Scalar.extui v439
  let c0_i32_248 : BitVec 32 := 0#32
  let v441 : BitVec 1 := Scalar.cmpi .slt c4_i32_244 c0_i32_248
  let v442 : BitVec 32 := Scalar.extui v441
  let v443 : BitVec 32 := Scalar.subi v440 v442
  let v444 : BitVec 1 := Scalar.cmpi .ne v438 v443
  let v445 : BitVec 32 := Scalar.remsi v432 c4_i32_244
  let c0_i32_249 : BitVec 32 := 0#32
  let v446 : BitVec 1 := Scalar.cmpi .ne v445 c0_i32_249
  let v447 : BitVec 1 := Scalar.andi v444 v446
  let v433 : BitVec 32 := Scalar.divsi v432 c4_i32_244
  let c1_i32_250 : BitVec 32 := 1#32
  let v448 : BitVec 32 := Scalar.subi v433 c1_i32_250
  let v449 : BitVec 32 := Scalar.select v447 v448 v433
  let c0_i32_251 : BitVec 32 := 0#32
  let v450 : BitVec 1 := Scalar.cmpi .eq v449 c0_i32_251
  let c1_i32_252 : BitVec 32 := 1#32
  let v451 : BitVec 1 := Scalar.cmpi .eq v449 c1_i32_252
  let c7_i32_253 : BitVec 32 := 7#32
  let v452 : BitVec 32 := Scalar.subi c7_i32_253 v432
  let c2_i32_254 : BitVec 32 := 2#32
  let v453 : BitVec 1 := Scalar.cmpi .eq v449 c2_i32_254
  let c8_i32_255 : BitVec 32 := 8#32
  let v454 : BitVec 32 := Scalar.subi v432 c8_i32_255
  let c15_i32_256 : BitVec 32 := 15#32
  let v455 : BitVec 32 := Scalar.subi c15_i32_256 v432
  let v456 : BitVec 32 := Scalar.select v453 v454 v455
  let v457 : BitVec 32 := Scalar.select v451 v452 v456
  let v458 : BitVec 32 := Scalar.select v450 v432 v457
  let v459 : BitVec 32 := Scalar.muli c4_i32_257 v458
  let v460 : BitVec 32 := Scalar.addi v459 v449
  let c768_i32 : BitVec 32 := 768#32
  let c0_i32_261 : BitVec 32 := 0#32
  ![v460.toNat, 768, 0]
def k0_dev9 (d0 : Dev nD) : Nat :=
  let c0_i32_260 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_259 : BitVec 32 := 1#32
  let v461 : BitVec 32 := Scalar.muli v116 c1_i32_259
  let v462 : BitVec 32 := Scalar.addi c0_i32_260 v461
  v462.toNat
def k0_off9 (d0 : Dev nD) (c0_i32_264 : BitVec 32) : Fin 3 → Nat :=
  let c4_i32_284 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v471 : BitVec 32 := Scalar.addi v38 c0_i32_264
  let c16_i32_265 : BitVec 32 := 16#32
  let c0_i32_266 : BitVec 32 := 0#32
  let v472 : BitVec 1 := Scalar.cmpi .eq c16_i32_265 c0_i32_266
  let c1_i32_267 : BitVec 32 := 1#32
  let v473 : BitVec 32 := Scalar.select v472 c1_i32_267 c16_i32_265
  let v474 : BitVec 32 := Scalar.remsi v471 v473
  let c0_i32_269 : BitVec 32 := 0#32
  let v476 : BitVec 1 := Scalar.cmpi .slt v474 c0_i32_269
  let c0_i32_270 : BitVec 32 := 0#32
  let v477 : BitVec 1 := Scalar.cmpi .slt v473 c0_i32_270
  let v478 : BitVec 1 := Scalar.xori v476 v477
  let c0_i32_268 : BitVec 32 := 0#32
  let v475 : BitVec 1 := Scalar.cmpi .ne v474 c0_i32_268
  let v479 : BitVec 1 := Scalar.andi v478 v475
  let v480 : BitVec 32 := Scalar.addi v474 v473
  let v481 : BitVec 32 := Scalar.select v479 v480 v474
  let c0_i32_272 : BitVec 32 := 0#32
  let v483 : BitVec 1 := Scalar.cmpi .sgt v481 c0_i32_272
  let v484 : BitVec 32 := Scalar.extui v483
  let c0_i32_273 : BitVec 32 := 0#32
  let v485 : BitVec 1 := Scalar.cmpi .slt v481 c0_i32_273
  let v486 : BitVec 32 := Scalar.extui v485
  let v487 : BitVec 32 := Scalar.subi v484 v486
  let c4_i32_271 : BitVec 32 := 4#32
  let c0_i32_274 : BitVec 32 := 0#32
  let v488 : BitVec 1 := Scalar.cmpi .sgt c4_i32_271 c0_i32_274
  let v489 : BitVec 32 := Scalar.extui v488
  let c0_i32_275 : BitVec 32 := 0#32
  let v490 : BitVec 1 := Scalar.cmpi .slt c4_i32_271 c0_i32_275
  let v491 : BitVec 32 := Scalar.extui v490
  let v492 : BitVec 32 := Scalar.subi v489 v491
  let v493 : BitVec 1 := Scalar.cmpi .ne v487 v492
  let v494 : BitVec 32 := Scalar.remsi v481 c4_i32_271
  let c0_i32_276 : BitVec 32 := 0#32
  let v495 : BitVec 1 := Scalar.cmpi .ne v494 c0_i32_276
  let v496 : BitVec 1 := Scalar.andi v493 v495
  let v482 : BitVec 32 := Scalar.divsi v481 c4_i32_271
  let c1_i32_277 : BitVec 32 := 1#32
  let v497 : BitVec 32 := Scalar.subi v482 c1_i32_277
  let v498 : BitVec 32 := Scalar.select v496 v497 v482
  let c0_i32_278 : BitVec 32 := 0#32
  let v499 : BitVec 1 := Scalar.cmpi .eq v498 c0_i32_278
  let c1_i32_279 : BitVec 32 := 1#32
  let v500 : BitVec 1 := Scalar.cmpi .eq v498 c1_i32_279
  let c7_i32_280 : BitVec 32 := 7#32
  let v501 : BitVec 32 := Scalar.subi c7_i32_280 v481
  let c2_i32_281 : BitVec 32 := 2#32
  let v502 : BitVec 1 := Scalar.cmpi .eq v498 c2_i32_281
  let c8_i32_282 : BitVec 32 := 8#32
  let v503 : BitVec 32 := Scalar.subi v481 c8_i32_282
  let c15_i32_283 : BitVec 32 := 15#32
  let v504 : BitVec 32 := Scalar.subi c15_i32_283 v481
  let v505 : BitVec 32 := Scalar.select v502 v503 v504
  let v506 : BitVec 32 := Scalar.select v500 v501 v505
  let v507 : BitVec 32 := Scalar.select v499 v481 v506
  let v508 : BitVec 32 := Scalar.muli c4_i32_284 v507
  let v509 : BitVec 32 := Scalar.addi v508 v498
  let c768_i32_289 : BitVec 32 := 768#32
  let c0_i32_290 : BitVec 32 := 0#32
  ![v509.toNat, 768, 0]
def k0_dev10 (d0 : Dev nD) : Nat :=
  let c0_i32_288 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_287 : BitVec 32 := 1#32
  let v510 : BitVec 32 := Scalar.muli v77 c1_i32_287
  let v511 : BitVec 32 := Scalar.addi c0_i32_288 v510
  v511.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v523 : BitVec 32 := Scalar.muli v2 c128_i32
  let v524 : Index := Scalar.indexCast v523
  let c0_295 : Index := 0#32
  ![v524.toNat, 0]
def k0_dev11 (d0 : Dev nD) : Nat :=
  let c0_i32_380 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_379 : BitVec 32 := 1#32
  let v662 : BitVec 32 := Scalar.muli v116 c1_i32_379
  let v663 : BitVec 32 := Scalar.addi c0_i32_380 v662
  v663.toNat
def k0_dev12 (d0 : Dev nD) : Nat :=
  let c0_i32_409 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_408 : BitVec 32 := 1#32
  let v711 : BitVec 32 := Scalar.muli v77 c1_i32_408
  let v712 : BitVec 32 := Scalar.addi c0_i32_409 v711
  v712.toNat
def k0_dev13 (d0 : Dev nD) : Nat :=
  let c0_i32_495 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_494 : BitVec 32 := 1#32
  let v854 : BitVec 32 := Scalar.muli v116 c1_i32_494
  let v855 : BitVec 32 := Scalar.addi c0_i32_495 v854
  v855.toNat
def k0_dev14 (d0 : Dev nD) : Nat :=
  let c0_i32_524 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_523 : BitVec 32 := 1#32
  let v903 : BitVec 32 := Scalar.muli v77 c1_i32_523
  let v904 : BitVec 32 := Scalar.addi c0_i32_524 v903
  v904.toNat
def k0_dev15 (d0 : Dev nD) : Nat :=
  let c0_i32_610 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_609 : BitVec 32 := 1#32
  let v1046 : BitVec 32 := Scalar.muli v116 c1_i32_609
  let v1047 : BitVec 32 := Scalar.addi c0_i32_610 v1046
  v1047.toNat
def k0_dev16 (d0 : Dev nD) : Nat :=
  let c0_i32_639 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_638 : BitVec 32 := 1#32
  let v1095 : BitVec 32 := Scalar.muli v77 c1_i32_638
  let v1096 : BitVec 32 := Scalar.addi c0_i32_639 v1095
  v1096.toNat
def k0_dev17 (d0 : Dev nD) : Nat :=
  let c0_i32_726 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_725 : BitVec 32 := 1#32
  let v1238 : BitVec 32 := Scalar.muli v116 c1_i32_725
  let v1239 : BitVec 32 := Scalar.addi c0_i32_726 v1238
  v1239.toNat
def k0_dev18 (d0 : Dev nD) : Nat :=
  let c0_i32_755 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_754 : BitVec 32 := 1#32
  let v1287 : BitVec 32 := Scalar.muli v77 c1_i32_754
  let v1288 : BitVec 32 := Scalar.addi c0_i32_755 v1287
  v1288.toNat
def k0_off11 (d0 : Dev nD) (c1_i32_760 : BitVec 32) : Fin 3 → Nat :=
  let c4_i32_780 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1297 : BitVec 32 := Scalar.subi v38 c1_i32_760
  let c16_i32_761 : BitVec 32 := 16#32
  let c0_i32_762 : BitVec 32 := 0#32
  let v1298 : BitVec 1 := Scalar.cmpi .eq c16_i32_761 c0_i32_762
  let c1_i32_763 : BitVec 32 := 1#32
  let v1299 : BitVec 32 := Scalar.select v1298 c1_i32_763 c16_i32_761
  let v1300 : BitVec 32 := Scalar.remsi v1297 v1299
  let c0_i32_765 : BitVec 32 := 0#32
  let v1302 : BitVec 1 := Scalar.cmpi .slt v1300 c0_i32_765
  let c0_i32_766 : BitVec 32 := 0#32
  let v1303 : BitVec 1 := Scalar.cmpi .slt v1299 c0_i32_766
  let v1304 : BitVec 1 := Scalar.xori v1302 v1303
  let c0_i32_764 : BitVec 32 := 0#32
  let v1301 : BitVec 1 := Scalar.cmpi .ne v1300 c0_i32_764
  let v1305 : BitVec 1 := Scalar.andi v1304 v1301
  let v1306 : BitVec 32 := Scalar.addi v1300 v1299
  let v1307 : BitVec 32 := Scalar.select v1305 v1306 v1300
  let c0_i32_768 : BitVec 32 := 0#32
  let v1309 : BitVec 1 := Scalar.cmpi .sgt v1307 c0_i32_768
  let v1310 : BitVec 32 := Scalar.extui v1309
  let c0_i32_769 : BitVec 32 := 0#32
  let v1311 : BitVec 1 := Scalar.cmpi .slt v1307 c0_i32_769
  let v1312 : BitVec 32 := Scalar.extui v1311
  let v1313 : BitVec 32 := Scalar.subi v1310 v1312
  let c4_i32_767 : BitVec 32 := 4#32
  let c0_i32_770 : BitVec 32 := 0#32
  let v1314 : BitVec 1 := Scalar.cmpi .sgt c4_i32_767 c0_i32_770
  let v1315 : BitVec 32 := Scalar.extui v1314
  let c0_i32_771 : BitVec 32 := 0#32
  let v1316 : BitVec 1 := Scalar.cmpi .slt c4_i32_767 c0_i32_771
  let v1317 : BitVec 32 := Scalar.extui v1316
  let v1318 : BitVec 32 := Scalar.subi v1315 v1317
  let v1319 : BitVec 1 := Scalar.cmpi .ne v1313 v1318
  let v1320 : BitVec 32 := Scalar.remsi v1307 c4_i32_767
  let c0_i32_772 : BitVec 32 := 0#32
  let v1321 : BitVec 1 := Scalar.cmpi .ne v1320 c0_i32_772
  let v1322 : BitVec 1 := Scalar.andi v1319 v1321
  let v1308 : BitVec 32 := Scalar.divsi v1307 c4_i32_767
  let c1_i32_773 : BitVec 32 := 1#32
  let v1323 : BitVec 32 := Scalar.subi v1308 c1_i32_773
  let v1324 : BitVec 32 := Scalar.select v1322 v1323 v1308
  let c0_i32_774 : BitVec 32 := 0#32
  let v1325 : BitVec 1 := Scalar.cmpi .eq v1324 c0_i32_774
  let c1_i32_775 : BitVec 32 := 1#32
  let v1326 : BitVec 1 := Scalar.cmpi .eq v1324 c1_i32_775
  let c7_i32_776 : BitVec 32 := 7#32
  let v1327 : BitVec 32 := Scalar.subi c7_i32_776 v1307
  let c2_i32_777 : BitVec 32 := 2#32
  let v1328 : BitVec 1 := Scalar.cmpi .eq v1324 c2_i32_777
  let c8_i32_778 : BitVec 32 := 8#32
  let v1329 : BitVec 32 := Scalar.subi v1307 c8_i32_778
  let c15_i32_779 : BitVec 32 := 15#32
  let v1330 : BitVec 32 := Scalar.subi c15_i32_779 v1307
  let v1331 : BitVec 32 := Scalar.select v1328 v1329 v1330
  let v1332 : BitVec 32 := Scalar.select v1326 v1327 v1331
  let v1333 : BitVec 32 := Scalar.select v1325 v1307 v1332
  let v1334 : BitVec 32 := Scalar.muli c4_i32_780 v1333
  let v1335 : BitVec 32 := Scalar.addi v1334 v1324
  let v1338 : Index := Scalar.indexCast v1335
  let c0_783 : Index := 0#32
  let c0_784 : Index := 0#32
  ![v1338.toNat, 0, 0]
def k0_off12 (d0 : Dev nD) (c1_i32_760 : BitVec 32) : Fin 2 → Nat :=
  let c4_i32_780 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1297 : BitVec 32 := Scalar.subi v38 c1_i32_760
  let c16_i32_761 : BitVec 32 := 16#32
  let c0_i32_762 : BitVec 32 := 0#32
  let v1298 : BitVec 1 := Scalar.cmpi .eq c16_i32_761 c0_i32_762
  let c1_i32_763 : BitVec 32 := 1#32
  let v1299 : BitVec 32 := Scalar.select v1298 c1_i32_763 c16_i32_761
  let v1300 : BitVec 32 := Scalar.remsi v1297 v1299
  let c0_i32_765 : BitVec 32 := 0#32
  let v1302 : BitVec 1 := Scalar.cmpi .slt v1300 c0_i32_765
  let c0_i32_766 : BitVec 32 := 0#32
  let v1303 : BitVec 1 := Scalar.cmpi .slt v1299 c0_i32_766
  let v1304 : BitVec 1 := Scalar.xori v1302 v1303
  let c0_i32_764 : BitVec 32 := 0#32
  let v1301 : BitVec 1 := Scalar.cmpi .ne v1300 c0_i32_764
  let v1305 : BitVec 1 := Scalar.andi v1304 v1301
  let v1306 : BitVec 32 := Scalar.addi v1300 v1299
  let v1307 : BitVec 32 := Scalar.select v1305 v1306 v1300
  let c0_i32_768 : BitVec 32 := 0#32
  let v1309 : BitVec 1 := Scalar.cmpi .sgt v1307 c0_i32_768
  let v1310 : BitVec 32 := Scalar.extui v1309
  let c0_i32_769 : BitVec 32 := 0#32
  let v1311 : BitVec 1 := Scalar.cmpi .slt v1307 c0_i32_769
  let v1312 : BitVec 32 := Scalar.extui v1311
  let v1313 : BitVec 32 := Scalar.subi v1310 v1312
  let c4_i32_767 : BitVec 32 := 4#32
  let c0_i32_770 : BitVec 32 := 0#32
  let v1314 : BitVec 1 := Scalar.cmpi .sgt c4_i32_767 c0_i32_770
  let v1315 : BitVec 32 := Scalar.extui v1314
  let c0_i32_771 : BitVec 32 := 0#32
  let v1316 : BitVec 1 := Scalar.cmpi .slt c4_i32_767 c0_i32_771
  let v1317 : BitVec 32 := Scalar.extui v1316
  let v1318 : BitVec 32 := Scalar.subi v1315 v1317
  let v1319 : BitVec 1 := Scalar.cmpi .ne v1313 v1318
  let v1320 : BitVec 32 := Scalar.remsi v1307 c4_i32_767
  let c0_i32_772 : BitVec 32 := 0#32
  let v1321 : BitVec 1 := Scalar.cmpi .ne v1320 c0_i32_772
  let v1322 : BitVec 1 := Scalar.andi v1319 v1321
  let v1308 : BitVec 32 := Scalar.divsi v1307 c4_i32_767
  let c1_i32_773 : BitVec 32 := 1#32
  let v1323 : BitVec 32 := Scalar.subi v1308 c1_i32_773
  let v1324 : BitVec 32 := Scalar.select v1322 v1323 v1308
  let c0_i32_774 : BitVec 32 := 0#32
  let v1325 : BitVec 1 := Scalar.cmpi .eq v1324 c0_i32_774
  let c1_i32_775 : BitVec 32 := 1#32
  let v1326 : BitVec 1 := Scalar.cmpi .eq v1324 c1_i32_775
  let c7_i32_776 : BitVec 32 := 7#32
  let v1327 : BitVec 32 := Scalar.subi c7_i32_776 v1307
  let c2_i32_777 : BitVec 32 := 2#32
  let v1328 : BitVec 1 := Scalar.cmpi .eq v1324 c2_i32_777
  let c8_i32_778 : BitVec 32 := 8#32
  let v1329 : BitVec 32 := Scalar.subi v1307 c8_i32_778
  let c15_i32_779 : BitVec 32 := 15#32
  let v1330 : BitVec 32 := Scalar.subi c15_i32_779 v1307
  let v1331 : BitVec 32 := Scalar.select v1328 v1329 v1330
  let v1332 : BitVec 32 := Scalar.select v1326 v1327 v1331
  let v1333 : BitVec 32 := Scalar.select v1325 v1307 v1332
  let v1334 : BitVec 32 := Scalar.muli c4_i32_780 v1333
  let v1335 : BitVec 32 := Scalar.addi v1334 v1324
  let c128_i32_785 : BitVec 32 := 128#32
  let v1341 : BitVec 32 := Scalar.muli v1335 c128_i32_785
  let v1342 : Index := Scalar.indexCast v1341
  let c0_786 : Index := 0#32
  ![v1342.toNat, 0]
def k0_off13 (d0 : Dev nD) (c1_i32_790 : BitVec 32) : Fin 3 → Nat :=
  let c4_i32_810 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1348 : BitVec 32 := Scalar.addi v38 c1_i32_790
  let c16_i32_791 : BitVec 32 := 16#32
  let c0_i32_792 : BitVec 32 := 0#32
  let v1349 : BitVec 1 := Scalar.cmpi .eq c16_i32_791 c0_i32_792
  let c1_i32_793 : BitVec 32 := 1#32
  let v1350 : BitVec 32 := Scalar.select v1349 c1_i32_793 c16_i32_791
  let v1351 : BitVec 32 := Scalar.remsi v1348 v1350
  let c0_i32_795 : BitVec 32 := 0#32
  let v1353 : BitVec 1 := Scalar.cmpi .slt v1351 c0_i32_795
  let c0_i32_796 : BitVec 32 := 0#32
  let v1354 : BitVec 1 := Scalar.cmpi .slt v1350 c0_i32_796
  let v1355 : BitVec 1 := Scalar.xori v1353 v1354
  let c0_i32_794 : BitVec 32 := 0#32
  let v1352 : BitVec 1 := Scalar.cmpi .ne v1351 c0_i32_794
  let v1356 : BitVec 1 := Scalar.andi v1355 v1352
  let v1357 : BitVec 32 := Scalar.addi v1351 v1350
  let v1358 : BitVec 32 := Scalar.select v1356 v1357 v1351
  let c0_i32_798 : BitVec 32 := 0#32
  let v1360 : BitVec 1 := Scalar.cmpi .sgt v1358 c0_i32_798
  let v1361 : BitVec 32 := Scalar.extui v1360
  let c0_i32_799 : BitVec 32 := 0#32
  let v1362 : BitVec 1 := Scalar.cmpi .slt v1358 c0_i32_799
  let v1363 : BitVec 32 := Scalar.extui v1362
  let v1364 : BitVec 32 := Scalar.subi v1361 v1363
  let c4_i32_797 : BitVec 32 := 4#32
  let c0_i32_800 : BitVec 32 := 0#32
  let v1365 : BitVec 1 := Scalar.cmpi .sgt c4_i32_797 c0_i32_800
  let v1366 : BitVec 32 := Scalar.extui v1365
  let c0_i32_801 : BitVec 32 := 0#32
  let v1367 : BitVec 1 := Scalar.cmpi .slt c4_i32_797 c0_i32_801
  let v1368 : BitVec 32 := Scalar.extui v1367
  let v1369 : BitVec 32 := Scalar.subi v1366 v1368
  let v1370 : BitVec 1 := Scalar.cmpi .ne v1364 v1369
  let v1371 : BitVec 32 := Scalar.remsi v1358 c4_i32_797
  let c0_i32_802 : BitVec 32 := 0#32
  let v1372 : BitVec 1 := Scalar.cmpi .ne v1371 c0_i32_802
  let v1373 : BitVec 1 := Scalar.andi v1370 v1372
  let v1359 : BitVec 32 := Scalar.divsi v1358 c4_i32_797
  let c1_i32_803 : BitVec 32 := 1#32
  let v1374 : BitVec 32 := Scalar.subi v1359 c1_i32_803
  let v1375 : BitVec 32 := Scalar.select v1373 v1374 v1359
  let c0_i32_804 : BitVec 32 := 0#32
  let v1376 : BitVec 1 := Scalar.cmpi .eq v1375 c0_i32_804
  let c1_i32_805 : BitVec 32 := 1#32
  let v1377 : BitVec 1 := Scalar.cmpi .eq v1375 c1_i32_805
  let c7_i32_806 : BitVec 32 := 7#32
  let v1378 : BitVec 32 := Scalar.subi c7_i32_806 v1358
  let c2_i32_807 : BitVec 32 := 2#32
  let v1379 : BitVec 1 := Scalar.cmpi .eq v1375 c2_i32_807
  let c8_i32_808 : BitVec 32 := 8#32
  let v1380 : BitVec 32 := Scalar.subi v1358 c8_i32_808
  let c15_i32_809 : BitVec 32 := 15#32
  let v1381 : BitVec 32 := Scalar.subi c15_i32_809 v1358
  let v1382 : BitVec 32 := Scalar.select v1379 v1380 v1381
  let v1383 : BitVec 32 := Scalar.select v1377 v1378 v1382
  let v1384 : BitVec 32 := Scalar.select v1376 v1358 v1383
  let v1385 : BitVec 32 := Scalar.muli c4_i32_810 v1384
  let v1386 : BitVec 32 := Scalar.addi v1385 v1375
  let v1389 : Index := Scalar.indexCast v1386
  let c0_813 : Index := 0#32
  let c0_814 : Index := 0#32
  ![v1389.toNat, 0, 0]
def k0_off14 (d0 : Dev nD) (c1_i32_790 : BitVec 32) : Fin 2 → Nat :=
  let c4_i32_810 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1348 : BitVec 32 := Scalar.addi v38 c1_i32_790
  let c16_i32_791 : BitVec 32 := 16#32
  let c0_i32_792 : BitVec 32 := 0#32
  let v1349 : BitVec 1 := Scalar.cmpi .eq c16_i32_791 c0_i32_792
  let c1_i32_793 : BitVec 32 := 1#32
  let v1350 : BitVec 32 := Scalar.select v1349 c1_i32_793 c16_i32_791
  let v1351 : BitVec 32 := Scalar.remsi v1348 v1350
  let c0_i32_795 : BitVec 32 := 0#32
  let v1353 : BitVec 1 := Scalar.cmpi .slt v1351 c0_i32_795
  let c0_i32_796 : BitVec 32 := 0#32
  let v1354 : BitVec 1 := Scalar.cmpi .slt v1350 c0_i32_796
  let v1355 : BitVec 1 := Scalar.xori v1353 v1354
  let c0_i32_794 : BitVec 32 := 0#32
  let v1352 : BitVec 1 := Scalar.cmpi .ne v1351 c0_i32_794
  let v1356 : BitVec 1 := Scalar.andi v1355 v1352
  let v1357 : BitVec 32 := Scalar.addi v1351 v1350
  let v1358 : BitVec 32 := Scalar.select v1356 v1357 v1351
  let c0_i32_798 : BitVec 32 := 0#32
  let v1360 : BitVec 1 := Scalar.cmpi .sgt v1358 c0_i32_798
  let v1361 : BitVec 32 := Scalar.extui v1360
  let c0_i32_799 : BitVec 32 := 0#32
  let v1362 : BitVec 1 := Scalar.cmpi .slt v1358 c0_i32_799
  let v1363 : BitVec 32 := Scalar.extui v1362
  let v1364 : BitVec 32 := Scalar.subi v1361 v1363
  let c4_i32_797 : BitVec 32 := 4#32
  let c0_i32_800 : BitVec 32 := 0#32
  let v1365 : BitVec 1 := Scalar.cmpi .sgt c4_i32_797 c0_i32_800
  let v1366 : BitVec 32 := Scalar.extui v1365
  let c0_i32_801 : BitVec 32 := 0#32
  let v1367 : BitVec 1 := Scalar.cmpi .slt c4_i32_797 c0_i32_801
  let v1368 : BitVec 32 := Scalar.extui v1367
  let v1369 : BitVec 32 := Scalar.subi v1366 v1368
  let v1370 : BitVec 1 := Scalar.cmpi .ne v1364 v1369
  let v1371 : BitVec 32 := Scalar.remsi v1358 c4_i32_797
  let c0_i32_802 : BitVec 32 := 0#32
  let v1372 : BitVec 1 := Scalar.cmpi .ne v1371 c0_i32_802
  let v1373 : BitVec 1 := Scalar.andi v1370 v1372
  let v1359 : BitVec 32 := Scalar.divsi v1358 c4_i32_797
  let c1_i32_803 : BitVec 32 := 1#32
  let v1374 : BitVec 32 := Scalar.subi v1359 c1_i32_803
  let v1375 : BitVec 32 := Scalar.select v1373 v1374 v1359
  let c0_i32_804 : BitVec 32 := 0#32
  let v1376 : BitVec 1 := Scalar.cmpi .eq v1375 c0_i32_804
  let c1_i32_805 : BitVec 32 := 1#32
  let v1377 : BitVec 1 := Scalar.cmpi .eq v1375 c1_i32_805
  let c7_i32_806 : BitVec 32 := 7#32
  let v1378 : BitVec 32 := Scalar.subi c7_i32_806 v1358
  let c2_i32_807 : BitVec 32 := 2#32
  let v1379 : BitVec 1 := Scalar.cmpi .eq v1375 c2_i32_807
  let c8_i32_808 : BitVec 32 := 8#32
  let v1380 : BitVec 32 := Scalar.subi v1358 c8_i32_808
  let c15_i32_809 : BitVec 32 := 15#32
  let v1381 : BitVec 32 := Scalar.subi c15_i32_809 v1358
  let v1382 : BitVec 32 := Scalar.select v1379 v1380 v1381
  let v1383 : BitVec 32 := Scalar.select v1377 v1378 v1382
  let v1384 : BitVec 32 := Scalar.select v1376 v1358 v1383
  let v1385 : BitVec 32 := Scalar.muli c4_i32_810 v1384
  let v1386 : BitVec 32 := Scalar.addi v1385 v1375
  let c128_i32_815 : BitVec 32 := 128#32
  let v1392 : BitVec 32 := Scalar.muli v1386 c128_i32_815
  let v1393 : Index := Scalar.indexCast v1392
  let c0_816 : Index := 0#32
  ![v1393.toNat, 0]
def k0_dev19 (d0 : Dev nD) : Nat :=
  let c0_i32_902 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_901 : BitVec 32 := 1#32
  let v1532 : BitVec 32 := Scalar.muli v116 c1_i32_901
  let v1533 : BitVec 32 := Scalar.addi c0_i32_902 v1532
  v1533.toNat
def k0_dev20 (d0 : Dev nD) : Nat :=
  let c0_i32_931 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_930 : BitVec 32 := 1#32
  let v1581 : BitVec 32 := Scalar.muli v77 c1_i32_930
  let v1582 : BitVec 32 := Scalar.addi c0_i32_931 v1581
  v1582.toNat
def k0_dev21 (d0 : Dev nD) : Nat :=
  let c0_i32_1017 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1016 : BitVec 32 := 1#32
  let v1724 : BitVec 32 := Scalar.muli v116 c1_i32_1016
  let v1725 : BitVec 32 := Scalar.addi c0_i32_1017 v1724
  v1725.toNat
def k0_dev22 (d0 : Dev nD) : Nat :=
  let c0_i32_1046 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1045 : BitVec 32 := 1#32
  let v1773 : BitVec 32 := Scalar.muli v77 c1_i32_1045
  let v1774 : BitVec 32 := Scalar.addi c0_i32_1046 v1773
  v1774.toNat
def k0_dev23 (d0 : Dev nD) : Nat :=
  let c0_i32_1132 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1131 : BitVec 32 := 1#32
  let v1916 : BitVec 32 := Scalar.muli v116 c1_i32_1131
  let v1917 : BitVec 32 := Scalar.addi c0_i32_1132 v1916
  v1917.toNat
def k0_dev24 (d0 : Dev nD) : Nat :=
  let c0_i32_1161 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1160 : BitVec 32 := 1#32
  let v1965 : BitVec 32 := Scalar.muli v77 c1_i32_1160
  let v1966 : BitVec 32 := Scalar.addi c0_i32_1161 v1965
  v1966.toNat
def k0_dev25 (d0 : Dev nD) : Nat :=
  let c0_i32_1247 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1246 : BitVec 32 := 1#32
  let v2108 : BitVec 32 := Scalar.muli v116 c1_i32_1246
  let v2109 : BitVec 32 := Scalar.addi c0_i32_1247 v2108
  v2109.toNat
def k0_dev26 (d0 : Dev nD) : Nat :=
  let c0_i32_1276 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1275 : BitVec 32 := 1#32
  let v2157 : BitVec 32 := Scalar.muli v77 c1_i32_1275
  let v2158 : BitVec 32 := Scalar.addi c0_i32_1276 v2157
  v2158.toNat
def k0_dev27 (d0 : Dev nD) : Nat :=
  let c0_i32_1422 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1421 : BitVec 32 := 1#32
  let v2402 : BitVec 32 := Scalar.muli v116 c1_i32_1421
  let v2403 : BitVec 32 := Scalar.addi c0_i32_1422 v2402
  v2403.toNat
def k0_dev28 (d0 : Dev nD) : Nat :=
  let c0_i32_1451 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1450 : BitVec 32 := 1#32
  let v2451 : BitVec 32 := Scalar.muli v77 c1_i32_1450
  let v2452 : BitVec 32 := Scalar.addi c0_i32_1451 v2451
  v2452.toNat
def k0_dev29 (d0 : Dev nD) : Nat :=
  let c0_i32_1537 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1536 : BitVec 32 := 1#32
  let v2594 : BitVec 32 := Scalar.muli v116 c1_i32_1536
  let v2595 : BitVec 32 := Scalar.addi c0_i32_1537 v2594
  v2595.toNat
def k0_dev30 (d0 : Dev nD) : Nat :=
  let c0_i32_1566 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1565 : BitVec 32 := 1#32
  let v2643 : BitVec 32 := Scalar.muli v77 c1_i32_1565
  let v2644 : BitVec 32 := Scalar.addi c0_i32_1566 v2643
  v2644.toNat
def k0_dev31 (d0 : Dev nD) : Nat :=
  let c0_i32_1652 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1651 : BitVec 32 := 1#32
  let v2786 : BitVec 32 := Scalar.muli v116 c1_i32_1651
  let v2787 : BitVec 32 := Scalar.addi c0_i32_1652 v2786
  v2787.toNat
def k0_dev32 (d0 : Dev nD) : Nat :=
  let c0_i32_1681 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1680 : BitVec 32 := 1#32
  let v2835 : BitVec 32 := Scalar.muli v77 c1_i32_1680
  let v2836 : BitVec 32 := Scalar.addi c0_i32_1681 v2835
  v2836.toNat
def k0_dev33 (d0 : Dev nD) : Nat :=
  let c0_i32_1768 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1767 : BitVec 32 := 1#32
  let v2978 : BitVec 32 := Scalar.muli v116 c1_i32_1767
  let v2979 : BitVec 32 := Scalar.addi c0_i32_1768 v2978
  v2979.toNat
def k0_dev34 (d0 : Dev nD) : Nat :=
  let c0_i32_1797 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1796 : BitVec 32 := 1#32
  let v3027 : BitVec 32 := Scalar.muli v77 c1_i32_1796
  let v3028 : BitVec 32 := Scalar.addi c0_i32_1797 v3027
  v3028.toNat
def k0_dev35 (d0 : Dev nD) : Nat :=
  let c0_i32_1944 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1943 : BitVec 32 := 1#32
  let v3272 : BitVec 32 := Scalar.muli v116 c1_i32_1943
  let v3273 : BitVec 32 := Scalar.addi c0_i32_1944 v3272
  v3273.toNat
def k0_dev36 (d0 : Dev nD) : Nat :=
  let c0_i32_1973 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1972 : BitVec 32 := 1#32
  let v3321 : BitVec 32 := Scalar.muli v77 c1_i32_1972
  let v3322 : BitVec 32 := Scalar.addi c0_i32_1973 v3321
  v3322.toNat
def k0_dev37 (d0 : Dev nD) : Nat :=
  let c0_i32_2059 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2058 : BitVec 32 := 1#32
  let v3464 : BitVec 32 := Scalar.muli v116 c1_i32_2058
  let v3465 : BitVec 32 := Scalar.addi c0_i32_2059 v3464
  v3465.toNat
def k0_dev38 (d0 : Dev nD) : Nat :=
  let c0_i32_2088 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2087 : BitVec 32 := 1#32
  let v3513 : BitVec 32 := Scalar.muli v77 c1_i32_2087
  let v3514 : BitVec 32 := Scalar.addi c0_i32_2088 v3513
  v3514.toNat
def k0_dev39 (d0 : Dev nD) : Nat :=
  let c0_i32_2174 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2173 : BitVec 32 := 1#32
  let v3656 : BitVec 32 := Scalar.muli v116 c1_i32_2173
  let v3657 : BitVec 32 := Scalar.addi c0_i32_2174 v3656
  v3657.toNat
def k0_dev40 (d0 : Dev nD) : Nat :=
  let c0_i32_2203 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2202 : BitVec 32 := 1#32
  let v3705 : BitVec 32 := Scalar.muli v77 c1_i32_2202
  let v3706 : BitVec 32 := Scalar.addi c0_i32_2203 v3705
  v3706.toNat
def k0_dev41 (d0 : Dev nD) : Nat :=
  let c0_i32_2289 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2288 : BitVec 32 := 1#32
  let v3848 : BitVec 32 := Scalar.muli v116 c1_i32_2288
  let v3849 : BitVec 32 := Scalar.addi c0_i32_2289 v3848
  v3849.toNat
def k0_dev42 (d0 : Dev nD) : Nat :=
  let c0_i32_2318 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2317 : BitVec 32 := 1#32
  let v3897 : BitVec 32 := Scalar.muli v77 c1_i32_2317
  let v3898 : BitVec 32 := Scalar.addi c0_i32_2318 v3897
  v3898.toNat
def k0_dev43 (d0 : Dev nD) : Nat :=
  let c0_i32_2464 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2463 : BitVec 32 := 1#32
  let v4142 : BitVec 32 := Scalar.muli v116 c1_i32_2463
  let v4143 : BitVec 32 := Scalar.addi c0_i32_2464 v4142
  v4143.toNat
def k0_dev44 (d0 : Dev nD) : Nat :=
  let c0_i32_2493 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2492 : BitVec 32 := 1#32
  let v4191 : BitVec 32 := Scalar.muli v77 c1_i32_2492
  let v4192 : BitVec 32 := Scalar.addi c0_i32_2493 v4191
  v4192.toNat
def k0_dev45 (d0 : Dev nD) : Nat :=
  let c0_i32_2579 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2578 : BitVec 32 := 1#32
  let v4334 : BitVec 32 := Scalar.muli v116 c1_i32_2578
  let v4335 : BitVec 32 := Scalar.addi c0_i32_2579 v4334
  v4335.toNat
def k0_dev46 (d0 : Dev nD) : Nat :=
  let c0_i32_2608 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2607 : BitVec 32 := 1#32
  let v4383 : BitVec 32 := Scalar.muli v77 c1_i32_2607
  let v4384 : BitVec 32 := Scalar.addi c0_i32_2608 v4383
  v4384.toNat
def k0_dev47 (d0 : Dev nD) : Nat :=
  let c0_i32_2694 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2693 : BitVec 32 := 1#32
  let v4526 : BitVec 32 := Scalar.muli v116 c1_i32_2693
  let v4527 : BitVec 32 := Scalar.addi c0_i32_2694 v4526
  v4527.toNat
def k0_dev48 (d0 : Dev nD) : Nat :=
  let c0_i32_2723 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2722 : BitVec 32 := 1#32
  let v4575 : BitVec 32 := Scalar.muli v77 c1_i32_2722
  let v4576 : BitVec 32 := Scalar.addi c0_i32_2723 v4575
  v4576.toNat
def k0_dev49 (d0 : Dev nD) : Nat :=
  let c0_i32_2809 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2808 : BitVec 32 := 1#32
  let v4718 : BitVec 32 := Scalar.muli v116 c1_i32_2808
  let v4719 : BitVec 32 := Scalar.addi c0_i32_2809 v4718
  v4719.toNat
def k0_dev50 (d0 : Dev nD) : Nat :=
  let c0_i32_2838 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2837 : BitVec 32 := 1#32
  let v4767 : BitVec 32 := Scalar.muli v77 c1_i32_2837
  let v4768 : BitVec 32 := Scalar.addi c0_i32_2838 v4767
  v4768.toNat
def k0_dev51 (d0 : Dev nD) : Nat :=
  let c0_i32_2984 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2983 : BitVec 32 := 1#32
  let v5012 : BitVec 32 := Scalar.muli v116 c1_i32_2983
  let v5013 : BitVec 32 := Scalar.addi c0_i32_2984 v5012
  v5013.toNat
def k0_dev52 (d0 : Dev nD) : Nat :=
  let c0_i32_3013 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3012 : BitVec 32 := 1#32
  let v5061 : BitVec 32 := Scalar.muli v77 c1_i32_3012
  let v5062 : BitVec 32 := Scalar.addi c0_i32_3013 v5061
  v5062.toNat
def k0_dev53 (d0 : Dev nD) : Nat :=
  let c0_i32_3099 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3098 : BitVec 32 := 1#32
  let v5204 : BitVec 32 := Scalar.muli v116 c1_i32_3098
  let v5205 : BitVec 32 := Scalar.addi c0_i32_3099 v5204
  v5205.toNat
def k0_dev54 (d0 : Dev nD) : Nat :=
  let c0_i32_3128 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3127 : BitVec 32 := 1#32
  let v5253 : BitVec 32 := Scalar.muli v77 c1_i32_3127
  let v5254 : BitVec 32 := Scalar.addi c0_i32_3128 v5253
  v5254.toNat
def k0_dev55 (d0 : Dev nD) : Nat :=
  let c0_i32_3214 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3213 : BitVec 32 := 1#32
  let v5396 : BitVec 32 := Scalar.muli v116 c1_i32_3213
  let v5397 : BitVec 32 := Scalar.addi c0_i32_3214 v5396
  v5397.toNat
def k0_dev56 (d0 : Dev nD) : Nat :=
  let c0_i32_3243 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3242 : BitVec 32 := 1#32
  let v5445 : BitVec 32 := Scalar.muli v77 c1_i32_3242
  let v5446 : BitVec 32 := Scalar.addi c0_i32_3243 v5445
  v5446.toNat
def k0_dev57 (d0 : Dev nD) : Nat :=
  let c0_i32_3329 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3328 : BitVec 32 := 1#32
  let v5588 : BitVec 32 := Scalar.muli v116 c1_i32_3328
  let v5589 : BitVec 32 := Scalar.addi c0_i32_3329 v5588
  v5589.toNat
def k0_dev58 (d0 : Dev nD) : Nat :=
  let c0_i32_3358 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3357 : BitVec 32 := 1#32
  let v5637 : BitVec 32 := Scalar.muli v77 c1_i32_3357
  let v5638 : BitVec 32 := Scalar.addi c0_i32_3358 v5637
  v5638.toNat
def k0_dev59 (d0 : Dev nD) : Nat :=
  let c0_i32_3475 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3474 : BitVec 32 := 1#32
  let v5835 : BitVec 32 := Scalar.muli v116 c1_i32_3474
  let v5836 : BitVec 32 := Scalar.addi c0_i32_3475 v5835
  v5836.toNat
def k0_dev60 (d0 : Dev nD) : Nat :=
  let c0_i32_3532 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3531 : BitVec 32 := 1#32
  let v5931 : BitVec 32 := Scalar.muli v116 c1_i32_3531
  let v5932 : BitVec 32 := Scalar.addi c0_i32_3532 v5931
  v5932.toNat
def k0_dev61 (d0 : Dev nD) : Nat :=
  let c0_i32_3589 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3588 : BitVec 32 := 1#32
  let v6027 : BitVec 32 := Scalar.muli v116 c1_i32_3588
  let v6028 : BitVec 32 := Scalar.addi c0_i32_3589 v6027
  v6028.toNat
def k0_dev62 (d0 : Dev nD) : Nat :=
  let c0_i32_3646 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3645 : BitVec 32 := 1#32
  let v6123 : BitVec 32 := Scalar.muli v116 c1_i32_3645
  let v6124 : BitVec 32 := Scalar.addi c0_i32_3646 v6123
  v6124.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S2048x2048, .f32⟩
  | .hbm, ⟨4, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Prepare.lean ====
abbrev S1024x2048 : Shape := ⟨2, ![1024, 2048]⟩
abbrev S2048x128 : Shape := ⟨2, ![2048, 128]⟩
abbrev S128x2048 : Shape := ⟨2, ![128, 2048]⟩
abbrev S2048x32 : Shape := ⟨2, ![2048, 32]⟩
abbrev S1024x160 : Shape := ⟨2, ![1024, 160]⟩
abbrev S1024x128 : Shape := ⟨2, ![1024, 128]⟩
abbrev S16x1024x128 : Shape := ⟨3, ![16, 1024, 128]⟩
abbrev S16x2x128x128 : Shape := ⟨4, ![16, 2, 128, 128]⟩
abbrev S2x1024x128 : Shape := ⟨3, ![2, 1024, 128]⟩
abbrev S16 : Shape := ⟨1, ![16]⟩
abbrev S32 : Shape := ⟨1, ![32]⟩
abbrev S28 : Shape := ⟨1, ![28]⟩
abbrev S_ : Shape := ⟨0, ![]⟩
abbrev S128x128 : Shape := ⟨2, ![128, 128]⟩
abbrev S1x1x128x128 : Shape := ⟨4, ![1, 1, 128, 128]⟩
abbrev S1x2x128x128 : Shape := ⟨4, ![1, 2, 128, 128]⟩
abbrev S2x128x128 : Shape := ⟨3, ![2, 128, 128]⟩
abbrev S1 : Shape := ⟨1, ![1]⟩
abbrev S1x1024x128 : Shape := ⟨3, ![1, 1024, 128]⟩
abbrev S1x256x128 : Shape := ⟨3, ![1, 256, 128]⟩
abbrev S256x128 : Shape := ⟨2, ![256, 128]⟩
abbrev S1024x32 : Shape := ⟨2, ![1024, 32]⟩

abbrev nBuf : Space → Nat
  | .hbm => 10
  | .vmem => 14
  | .smem => 0
  | _ => 0

abbrev bufTy : (tb : Table) → Fin (tcTables nBuf tb) → BufTy
  | .hbm, ⟨0, _⟩ => ⟨S1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x128, .bf16⟩
  | .hbm, ⟨5, _⟩ => ⟨S2048x32, .bf16⟩
  | .hbm, ⟨6, _⟩ => ⟨S2048x32, .bf16⟩
  | .hbm, ⟨7, _⟩ => ⟨S1024x160, .bf16⟩
  | .hbm, ⟨8, _⟩ => ⟨S1024x128, .bf16⟩
  | .hbm, ⟨9, _⟩ => ⟨S1024x160, .bf16⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x128, .bf16⟩
  | .local _ .vmem, ⟨5, _⟩ => ⟨S2048x32, .bf16⟩
  | .local _ .vmem, ⟨6, _⟩ => ⟨S2048x32, .bf16⟩
  | .local _ .vmem, ⟨7, _⟩ => ⟨S1024x160, .bf16⟩
  | .local _ .vmem, ⟨8, _⟩ => ⟨S1024x128, .bf16⟩
  | .local _ .vmem, ⟨9, _⟩ => ⟨S1024x160, .bf16⟩
  | .local _ .vmem, ⟨10, _⟩ => ⟨S16x1024x128, .bf16⟩
  | .local _ .vmem, ⟨11, _⟩ => ⟨S16x2x128x128, .bf16⟩
  | .local _ .vmem, ⟨12, _⟩ => ⟨S16x2x128x128, .bf16⟩
  | .local _ .vmem, ⟨13, _⟩ => ⟨S2x1024x128, .f32⟩
  | _, _ => ⟨S1024x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 162 → Bool
  | ⟨i, _⟩ => dmaSemScopedAt i

abbrev sig : RefSig :=
  (ofTc nBuf bufTy 1 162 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_55 : BitVec 32 := 1#32
  let v118 : BitVec 32 := Scalar.addi v2 c1_i32_55
  let c16_i32_56 : BitVec 32 := 16#32
  let c0_i32_57 : BitVec 32 := 0#32
  let v119 : BitVec 1 := Scalar.cmpi .eq c16_i32_56 c0_i32_57
  let c1_i32_58 : BitVec 32 := 1#32
  let v120 : BitVec 32 := Scalar.select v119 c1_i32_58 c16_i32_56
  let v121 : BitVec 32 := Scalar.remsi v118 v120
  let c0_i32_60 : BitVec 32 := 0#32
  let v123 : BitVec 1 := Scalar.cmpi .slt v121 c0_i32_60
  let c0_i32_61 : BitVec 32 := 0#32
  let v124 : BitVec 1 := Scalar.cmpi .slt v120 c0_i32_61
  let v125 : BitVec 1 := Scalar.xori v123 v124
  let c0_i32_59 : BitVec 32 := 0#32
  let v122 : BitVec 1 := Scalar.cmpi .ne v121 c0_i32_59
  let v126 : BitVec 1 := Scalar.andi v125 v122
  let v127 : BitVec 32 := Scalar.addi v121 v120
  let v128 : BitVec 32 := Scalar.select v126 v127 v121
  let c1_i32_63 : BitVec 32 := 1#32
  let v129 : BitVec 32 := Scalar.muli v128 c1_i32_63
  let v130 : BitVec 32 := Scalar.addi c0_i32_64 v129
  v130.toNat
def k0_dev2 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_65 : BitVec 32 := 2#32
  let v131 : BitVec 32 := Scalar.addi v2 c2_i32_65
  let c16_i32_66 : BitVec 32 := 16#32
  let c0_i32_67 : BitVec 32 := 0#32
  let v132 : BitVec 1 := Scalar.cmpi .eq c16_i32_66 c0_i32_67
  let c1_i32_68 : BitVec 32 := 1#32
  let v133 : BitVec 32 := Scalar.select v132 c1_i32_68 c16_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let c1_i32_73 : BitVec 32 := 1#32
  let v142 : BitVec 32 := Scalar.muli v141 c1_i32_73
  let v143 : BitVec 32 := Scalar.addi c0_i32_74 v142
  v143.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v144 : BitVec 32 := Scalar.addi v2 c3_i32
  let c16_i32_75 : BitVec 32 := 16#32
  let c0_i32_76 : BitVec 32 := 0#32
  let v145 : BitVec 1 := Scalar.cmpi .eq c16_i32_75 c0_i32_76
  let c1_i32_77 : BitVec 32 := 1#32
  let v146 : BitVec 32 := Scalar.select v145 c1_i32_77 c16_i32_75
  let v147 : BitVec 32 := Scalar.remsi v144 v146
  let c0_i32_79 : BitVec 32 := 0#32
  let v149 : BitVec 1 := Scalar.cmpi .slt v147 c0_i32_79
  let c0_i32_80 : BitVec 32 := 0#32
  let v150 : BitVec 1 := Scalar.cmpi .slt v146 c0_i32_80
  let v151 : BitVec 1 := Scalar.xori v149 v150
  let c0_i32_78 : BitVec 32 := 0#32
  let v148 : BitVec 1 := Scalar.cmpi .ne v147 c0_i32_78
  let v152 : BitVec 1 := Scalar.andi v151 v148
  let v153 : BitVec 32 := Scalar.addi v147 v146
  let v154 : BitVec 32 := Scalar.select v152 v153 v147
  let c1_i32_82 : BitVec 32 := 1#32
  let v155 : BitVec 32 := Scalar.muli v154 c1_i32_82
  let v156 : BitVec 32 := Scalar.addi c0_i32_83 v155
  v156.toNat
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v157 : BitVec 32 := Scalar.addi v2 c4_i32_84
  let c16_i32_85 : BitVec 32 := 16#32
  let c0_i32_86 : BitVec 32 := 0#32
  let v158 : BitVec 1 := Scalar.cmpi .eq c16_i32_85 c0_i32_86
  let c1_i32_87 : BitVec 32 := 1#32
  let v159 : BitVec 32 := Scalar.select v158 c1_i32_87 c16_i32_85
  let v160 : BitVec 32 := Scalar.remsi v157 v159
  let c0_i32_89 : BitVec 32 := 0#32
  let v162 : BitVec 1 := Scalar.cmpi .slt v160 c0_i32_89
  let c0_i32_90 : BitVec 32 := 0#32
  let v163 : BitVec 1 := Scalar.cmpi .slt v159 c0_i32_90
  let v164 : BitVec 1 := Scalar.xori v162 v163
  let c0_i32_88 : BitVec 32 := 0#32
  let v161 : BitVec 1 := Scalar.cmpi .ne v160 c0_i32_88
  let v165 : BitVec 1 := Scalar.andi v164 v161
  let v166 : BitVec 32 := Scalar.addi v160 v159
  let v167 : BitVec 32 := Scalar.select v165 v166 v160
  let c1_i32_92 : BitVec 32 := 1#32
  let v168 : BitVec 32 := Scalar.muli v167 c1_i32_92
  let v169 : BitVec 32 := Scalar.addi c0_i32_93 v168
  v169.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v170 : BitVec 32 := Scalar.addi v2 c5_i32
  let c16_i32_94 : BitVec 32 := 16#32
  let c0_i32_95 : BitVec 32 := 0#32
  let v171 : BitVec 1 := Scalar.cmpi .eq c16_i32_94 c0_i32_95
  let c1_i32_96 : BitVec 32 := 1#32
  let v172 : BitVec 32 := Scalar.select v171 c1_i32_96 c16_i32_94
  let v173 : BitVec 32 := Scalar.remsi v170 v172
  let c0_i32_98 : BitVec 32 := 0#32
  let v175 : BitVec 1 := Scalar.cmpi .slt v173 c0_i32_98
  let c0_i32_99 : BitVec 32 := 0#32
  let v176 : BitVec 1 := Scalar.cmpi .slt v172 c0_i32_99
  let v177 : BitVec 1 := Scalar.xori v175 v176
  let c0_i32_97 : BitVec 32 := 0#32
  let v174 : BitVec 1 := Scalar.cmpi .ne v173 c0_i32_97
  let v178 : BitVec 1 := Scalar.andi v177 v174
  let v179 : BitVec 32 := Scalar.addi v173 v172
  let v180 : BitVec 32 := Scalar.select v178 v179 v173
  let c1_i32_101 : BitVec 32 := 1#32
  let v181 : BitVec 32 := Scalar.muli v180 c1_i32_101
  let v182 : BitVec 32 := Scalar.addi c0_i32_102 v181
  v182.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v183 : BitVec 32 := Scalar.addi v2 c6_i32
  let c16_i32_103 : BitVec 32 := 16#32
  let c0_i32_104 : BitVec 32 := 0#32
  let v184 : BitVec 1 := Scalar.cmpi .eq c16_i32_103 c0_i32_104
  let c1_i32_105 : BitVec 32 := 1#32
  let v185 : BitVec 32 := Scalar.select v184 c1_i32_105 c16_i32_103
  let v186 : BitVec 32 := Scalar.remsi v183 v185
  let c0_i32_107 : BitVec 32 := 0#32
  let v188 : BitVec 1 := Scalar.cmpi .slt v186 c0_i32_107
  let c0_i32_108 : BitVec 32 := 0#32
  let v189 : BitVec 1 := Scalar.cmpi .slt v185 c0_i32_108
  let v190 : BitVec 1 := Scalar.xori v188 v189
  let c0_i32_106 : BitVec 32 := 0#32
  let v187 : BitVec 1 := Scalar.cmpi .ne v186 c0_i32_106
  let v191 : BitVec 1 := Scalar.andi v190 v187
  let v192 : BitVec 32 := Scalar.addi v186 v185
  let v193 : BitVec 32 := Scalar.select v191 v192 v186
  let c1_i32_110 : BitVec 32 := 1#32
  let v194 : BitVec 32 := Scalar.muli v193 c1_i32_110
  let v195 : BitVec 32 := Scalar.addi c0_i32_111 v194
  v195.toNat
def k0_dev7 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_112 : BitVec 32 := 7#32
  let v196 : BitVec 32 := Scalar.addi v2 c7_i32_112
  let c16_i32_113 : BitVec 32 := 16#32
  let c0_i32_114 : BitVec 32 := 0#32
  let v197 : BitVec 1 := Scalar.cmpi .eq c16_i32_113 c0_i32_114
  let c1_i32_115 : BitVec 32 := 1#32
  let v198 : BitVec 32 := Scalar.select v197 c1_i32_115 c16_i32_113
  let v199 : BitVec 32 := Scalar.remsi v196 v198
  let c0_i32_117 : BitVec 32 := 0#32
  let v201 : BitVec 1 := Scalar.cmpi .slt v199 c0_i32_117
  let c0_i32_118 : BitVec 32 := 0#32
  let v202 : BitVec 1 := Scalar.cmpi .slt v198 c0_i32_118
  let v203 : BitVec 1 := Scalar.xori v201 v202
  let c0_i32_116 : BitVec 32 := 0#32
  let v200 : BitVec 1 := Scalar.cmpi .ne v199 c0_i32_116
  let v204 : BitVec 1 := Scalar.andi v203 v200
  let v205 : BitVec 32 := Scalar.addi v199 v198
  let v206 : BitVec 32 := Scalar.select v204 v205 v199
  let c1_i32_120 : BitVec 32 := 1#32
  let v207 : BitVec 32 := Scalar.muli v206 c1_i32_120
  let v208 : BitVec 32 := Scalar.addi c0_i32_121 v207
  v208.toNat
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_122 : BitVec 32 := 8#32
  let v209 : BitVec 32 := Scalar.addi v2 c8_i32_122
  let c16_i32_123 : BitVec 32 := 16#32
  let c0_i32_124 : BitVec 32 := 0#32
  let v210 : BitVec 1 := Scalar.cmpi .eq c16_i32_123 c0_i32_124
  let c1_i32_125 : BitVec 32 := 1#32
  let v211 : BitVec 32 := Scalar.select v210 c1_i32_125 c16_i32_123
  let v212 : BitVec 32 := Scalar.remsi v209 v211
  let c0_i32_127 : BitVec 32 := 0#32
  let v214 : BitVec 1 := Scalar.cmpi .slt v212 c0_i32_127
  let c0_i32_128 : BitVec 32 := 0#32
  let v215 : BitVec 1 := Scalar.cmpi .slt v211 c0_i32_128
  let v216 : BitVec 1 := Scalar.xori v214 v215
  let c0_i32_126 : BitVec 32 := 0#32
  let v213 : BitVec 1 := Scalar.cmpi .ne v212 c0_i32_126
  let v217 : BitVec 1 := Scalar.andi v216 v213
  let v218 : BitVec 32 := Scalar.addi v212 v211
  let v219 : BitVec 32 := Scalar.select v217 v218 v212
  let c1_i32_130 : BitVec 32 := 1#32
  let v220 : BitVec 32 := Scalar.muli v219 c1_i32_130
  let v221 : BitVec 32 := Scalar.addi c0_i32_131 v220
  v221.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v222 : BitVec 32 := Scalar.addi v2 c9_i32
  let c16_i32_132 : BitVec 32 := 16#32
  let c0_i32_133 : BitVec 32 := 0#32
  let v223 : BitVec 1 := Scalar.cmpi .eq c16_i32_132 c0_i32_133
  let c1_i32_134 : BitVec 32 := 1#32
  let v224 : BitVec 32 := Scalar.select v223 c1_i32_134 c16_i32_132
  let v225 : BitVec 32 := Scalar.remsi v222 v224
  let c0_i32_136 : BitVec 32 := 0#32
  let v227 : BitVec 1 := Scalar.cmpi .slt v225 c0_i32_136
  let c0_i32_137 : BitVec 32 := 0#32
  let v228 : BitVec 1 := Scalar.cmpi .slt v224 c0_i32_137
  let v229 : BitVec 1 := Scalar.xori v227 v228
  let c0_i32_135 : BitVec 32 := 0#32
  let v226 : BitVec 1 := Scalar.cmpi .ne v225 c0_i32_135
  let v230 : BitVec 1 := Scalar.andi v229 v226
  let v231 : BitVec 32 := Scalar.addi v225 v224
  let v232 : BitVec 32 := Scalar.select v230 v231 v225
  let c1_i32_139 : BitVec 32 := 1#32
  let v233 : BitVec 32 := Scalar.muli v232 c1_i32_139
  let v234 : BitVec 32 := Scalar.addi c0_i32_140 v233
  v234.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v235 : BitVec 32 := Scalar.addi v2 c10_i32
  let c16_i32_141 : BitVec 32 := 16#32
  let c0_i32_142 : BitVec 32 := 0#32
  let v236 : BitVec 1 := Scalar.cmpi .eq c16_i32_141 c0_i32_142
  let c1_i32_143 : BitVec 32 := 1#32
  let v237 : BitVec 32 := Scalar.select v236 c1_i32_143 c16_i32_141
  let v238 : BitVec 32 := Scalar.remsi v235 v237
  let c0_i32_145 : BitVec 32 := 0#32
  let v240 : BitVec 1 := Scalar.cmpi .slt v238 c0_i32_145
  let c0_i32_146 : BitVec 32 := 0#32
  let v241 : BitVec 1 := Scalar.cmpi .slt v237 c0_i32_146
  let v242 : BitVec 1 := Scalar.xori v240 v241
  let c0_i32_144 : BitVec 32 := 0#32
  let v239 : BitVec 1 := Scalar.cmpi .ne v238 c0_i32_144
  let v243 : BitVec 1 := Scalar.andi v242 v239
  let v244 : BitVec 32 := Scalar.addi v238 v237
  let v245 : BitVec 32 := Scalar.select v243 v244 v238
  let c1_i32_148 : BitVec 32 := 1#32
  let v246 : BitVec 32 := Scalar.muli v245 c1_i32_148
  let v247 : BitVec 32 := Scalar.addi c0_i32_149 v246
  v247.toNat
def k0_dev11 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v248 : BitVec 32 := Scalar.addi v2 c11_i32
  let c16_i32_150 : BitVec 32 := 16#32
  let c0_i32_151 : BitVec 32 := 0#32
  let v249 : BitVec 1 := Scalar.cmpi .eq c16_i32_150 c0_i32_151
  let c1_i32_152 : BitVec 32 := 1#32
  let v250 : BitVec 32 := Scalar.select v249 c1_i32_152 c16_i32_150
  let v251 : BitVec 32 := Scalar.remsi v248 v250
  let c0_i32_154 : BitVec 32 := 0#32
  let v253 : BitVec 1 := Scalar.cmpi .slt v251 c0_i32_154
  let c0_i32_155 : BitVec 32 := 0#32
  let v254 : BitVec 1 := Scalar.cmpi .slt v250 c0_i32_155
  let v255 : BitVec 1 := Scalar.xori v253 v254
  let c0_i32_153 : BitVec 32 := 0#32
  let v252 : BitVec 1 := Scalar.cmpi .ne v251 c0_i32_153
  let v256 : BitVec 1 := Scalar.andi v255 v252
  let v257 : BitVec 32 := Scalar.addi v251 v250
  let v258 : BitVec 32 := Scalar.select v256 v257 v251
  let c1_i32_157 : BitVec 32 := 1#32
  let v259 : BitVec 32 := Scalar.muli v258 c1_i32_157
  let v260 : BitVec 32 := Scalar.addi c0_i32_158 v259
  v260.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v261 : BitVec 32 := Scalar.addi v2 c12_i32
  let c16_i32_159 : BitVec 32 := 16#32
  let c0_i32_160 : BitVec 32 := 0#32
  let v262 : BitVec 1 := Scalar.cmpi .eq c16_i32_159 c0_i32_160
  let c1_i32_161 : BitVec 32 := 1#32
  let v263 : BitVec 32 := Scalar.select v262 c1_i32_161 c16_i32_159
  let v264 : BitVec 32 := Scalar.remsi v261 v263
  let c0_i32_163 : BitVec 32 := 0#32
  let v266 : BitVec 1 := Scalar.cmpi .slt v264 c0_i32_163
  let c0_i32_164 : BitVec 32 := 0#32
  let v267 : BitVec 1 := Scalar.cmpi .slt v263 c0_i32_164
  let v268 : BitVec 1 := Scalar.xori v266 v267
  let c0_i32_162 : BitVec 32 := 0#32
  let v265 : BitVec 1 := Scalar.cmpi .ne v264 c0_i32_162
  let v269 : BitVec 1 := Scalar.andi v268 v265
  let v270 : BitVec 32 := Scalar.addi v264 v263
  let v271 : BitVec 32 := Scalar.select v269 v270 v264
  let c1_i32_166 : BitVec 32 := 1#32
  let v272 : BitVec 32 := Scalar.muli v271 c1_i32_166
  let v273 : BitVec 32 := Scalar.addi c0_i32_167 v272
  v273.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v274 : BitVec 32 := Scalar.addi v2 c13_i32
  let c16_i32_168 : BitVec 32 := 16#32
  let c0_i32_169 : BitVec 32 := 0#32
  let v275 : BitVec 1 := Scalar.cmpi .eq c16_i32_168 c0_i32_169
  let c1_i32_170 : BitVec 32 := 1#32
  let v276 : BitVec 32 := Scalar.select v275 c1_i32_170 c16_i32_168
  let v277 : BitVec 32 := Scalar.remsi v274 v276
  let c0_i32_172 : BitVec 32 := 0#32
  let v279 : BitVec 1 := Scalar.cmpi .slt v277 c0_i32_172
  let c0_i32_173 : BitVec 32 := 0#32
  let v280 : BitVec 1 := Scalar.cmpi .slt v276 c0_i32_173
  let v281 : BitVec 1 := Scalar.xori v279 v280
  let c0_i32_171 : BitVec 32 := 0#32
  let v278 : BitVec 1 := Scalar.cmpi .ne v277 c0_i32_171
  let v282 : BitVec 1 := Scalar.andi v281 v278
  let v283 : BitVec 32 := Scalar.addi v277 v276
  let v284 : BitVec 32 := Scalar.select v282 v283 v277
  let c1_i32_175 : BitVec 32 := 1#32
  let v285 : BitVec 32 := Scalar.muli v284 c1_i32_175
  let v286 : BitVec 32 := Scalar.addi c0_i32_176 v285
  v286.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v287 : BitVec 32 := Scalar.addi v2 c14_i32
  let c16_i32_177 : BitVec 32 := 16#32
  let c0_i32_178 : BitVec 32 := 0#32
  let v288 : BitVec 1 := Scalar.cmpi .eq c16_i32_177 c0_i32_178
  let c1_i32_179 : BitVec 32 := 1#32
  let v289 : BitVec 32 := Scalar.select v288 c1_i32_179 c16_i32_177
  let v290 : BitVec 32 := Scalar.remsi v287 v289
  let c0_i32_181 : BitVec 32 := 0#32
  let v292 : BitVec 1 := Scalar.cmpi .slt v290 c0_i32_181
  let c0_i32_182 : BitVec 32 := 0#32
  let v293 : BitVec 1 := Scalar.cmpi .slt v289 c0_i32_182
  let v294 : BitVec 1 := Scalar.xori v292 v293
  let c0_i32_180 : BitVec 32 := 0#32
  let v291 : BitVec 1 := Scalar.cmpi .ne v290 c0_i32_180
  let v295 : BitVec 1 := Scalar.andi v294 v291
  let v296 : BitVec 32 := Scalar.addi v290 v289
  let v297 : BitVec 32 := Scalar.select v295 v296 v290
  let c1_i32_184 : BitVec 32 := 1#32
  let v298 : BitVec 32 := Scalar.muli v297 c1_i32_184
  let v299 : BitVec 32 := Scalar.addi c0_i32_185 v298
  v299.toNat
def k0_dev15 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_186 : BitVec 32 := 15#32
  let v300 : BitVec 32 := Scalar.addi v2 c15_i32_186
  let c16_i32_187 : BitVec 32 := 16#32
  let c0_i32_188 : BitVec 32 := 0#32
  let v301 : BitVec 1 := Scalar.cmpi .eq c16_i32_187 c0_i32_188
  let c1_i32_189 : BitVec 32 := 1#32
  let v302 : BitVec 32 := Scalar.select v301 c1_i32_189 c16_i32_187
  let v303 : BitVec 32 := Scalar.remsi v300 v302
  let c0_i32_191 : BitVec 32 := 0#32
  let v305 : BitVec 1 := Scalar.cmpi .slt v303 c0_i32_191
  let c0_i32_192 : BitVec 32 := 0#32
  let v306 : BitVec 1 := Scalar.cmpi .slt v302 c0_i32_192
  let v307 : BitVec 1 := Scalar.xori v305 v306
  let c0_i32_190 : BitVec 32 := 0#32
  let v304 : BitVec 1 := Scalar.cmpi .ne v303 c0_i32_190
  let v308 : BitVec 1 := Scalar.andi v307 v304
  let v309 : BitVec 32 := Scalar.addi v303 v302
  let v310 : BitVec 32 := Scalar.select v308 v309 v303
  let c1_i32_194 : BitVec 32 := 1#32
  let v311 : BitVec 32 := Scalar.muli v310 c1_i32_194
  let v312 : BitVec 32 := Scalar.addi c0_i32_195 v311
  v312.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v473 : Index := Scalar.indexCast v2
  let c0_358 : Index := 0#32
  let c0_359 : Index := 0#32
  let c0_360 : Index := 0#32
  ![v473.toNat, 0, 0, 0]
def k0_off2 (d0 : Dev nD) (c1_i32_364 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v480 : BitVec 32 := Scalar.addi v2 c1_i32_364
  let c16_i32_365 : BitVec 32 := 16#32
  let c0_i32_366 : BitVec 32 := 0#32
  let v481 : BitVec 1 := Scalar.cmpi .eq c16_i32_365 c0_i32_366
  let c1_i32_367 : BitVec 32 := 1#32
  let v482 : BitVec 32 := Scalar.select v481 c1_i32_367 c16_i32_365
  let v483 : BitVec 32 := Scalar.remsi v480 v482
  let c0_i32_369 : BitVec 32 := 0#32
  let v485 : BitVec 1 := Scalar.cmpi .slt v483 c0_i32_369
  let c0_i32_370 : BitVec 32 := 0#32
  let v486 : BitVec 1 := Scalar.cmpi .slt v482 c0_i32_370
  let v487 : BitVec 1 := Scalar.xori v485 v486
  let c0_i32_368 : BitVec 32 := 0#32
  let v484 : BitVec 1 := Scalar.cmpi .ne v483 c0_i32_368
  let v488 : BitVec 1 := Scalar.andi v487 v484
  let v489 : BitVec 32 := Scalar.addi v483 v482
  let v490 : BitVec 32 := Scalar.select v488 v489 v483
  ![v490.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_373 : BitVec 32 := 0#32
  let c0_i32_374 : BitVec 32 := 0#32
  let c0_i32_375 : BitVec 32 := 0#32
  ![v2.toNat, 0, 0, 0]
def k0_off5 (d0 : Dev nD) (c1_i32_364 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v480 : BitVec 32 := Scalar.addi v2 c1_i32_364
  let c16_i32_365 : BitVec 32 := 16#32
  let c0_i32_366 : BitVec 32 := 0#32
  let v481 : BitVec 1 := Scalar.cmpi .eq c16_i32_365 c0_i32_366
  let c1_i32_367 : BitVec 32 := 1#32
  let v482 : BitVec 32 := Scalar.select v481 c1_i32_367 c16_i32_365
  let v483 : BitVec 32 := Scalar.remsi v480 v482
  let c0_i32_369 : BitVec 32 := 0#32
  let v485 : BitVec 1 := Scalar.cmpi .slt v483 c0_i32_369
  let c0_i32_370 : BitVec 32 := 0#32
  let v486 : BitVec 1 := Scalar.cmpi .slt v482 c0_i32_370
  let v487 : BitVec 1 := Scalar.xori v485 v486
  let c0_i32_368 : BitVec 32 := 0#32
  let v484 : BitVec 1 := Scalar.cmpi .ne v483 c0_i32_368
  let v488 : BitVec 1 := Scalar.andi v487 v484
  let v489 : BitVec 32 := Scalar.addi v483 v482
  let v490 : BitVec 32 := Scalar.select v488 v489 v483
  let c0_i32_376 : BitVec 32 := 0#32
  let c0_i32_377 : BitVec 32 := 0#32
  let c0_i32_378 : BitVec 32 := 0#32
  ![v490.toNat, 0, 0, 0]
def k0_dev16 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_364 : BitVec 32 := 1#32
  let v480 : BitVec 32 := Scalar.addi v2 c1_i32_364
  let c16_i32_365 : BitVec 32 := 16#32
  let c0_i32_366 : BitVec 32 := 0#32
  let v481 : BitVec 1 := Scalar.cmpi .eq c16_i32_365 c0_i32_366
  let c1_i32_367 : BitVec 32 := 1#32
  let v482 : BitVec 32 := Scalar.select v481 c1_i32_367 c16_i32_365
  let v483 : BitVec 32 := Scalar.remsi v480 v482
  let c0_i32_369 : BitVec 32 := 0#32
  let v485 : BitVec 1 := Scalar.cmpi .slt v483 c0_i32_369
  let c0_i32_370 : BitVec 32 := 0#32
  let v486 : BitVec 1 := Scalar.cmpi .slt v482 c0_i32_370
  let v487 : BitVec 1 := Scalar.xori v485 v486
  let c0_i32_368 : BitVec 32 := 0#32
  let v484 : BitVec 1 := Scalar.cmpi .ne v483 c0_i32_368
  let v488 : BitVec 1 := Scalar.andi v487 v484
  let v489 : BitVec 32 := Scalar.addi v483 v482
  let v490 : BitVec 32 := Scalar.select v488 v489 v483
  let c1_i32_371 : BitVec 32 := 1#32
  let v491 : BitVec 32 := Scalar.muli v490 c1_i32_371
  let v492 : BitVec 32 := Scalar.addi c0_i32_372 v491
  v492.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_379 : BitVec 32 := 2#32
  let v501 : BitVec 32 := Scalar.addi v2 c2_i32_379
  let c16_i32_380 : BitVec 32 := 16#32
  let c0_i32_381 : BitVec 32 := 0#32
  let v502 : BitVec 1 := Scalar.cmpi .eq c16_i32_380 c0_i32_381
  let c1_i32_382 : BitVec 32 := 1#32
  let v503 : BitVec 32 := Scalar.select v502 c1_i32_382 c16_i32_380
  let v504 : BitVec 32 := Scalar.remsi v501 v503
  let c0_i32_384 : BitVec 32 := 0#32
  let v506 : BitVec 1 := Scalar.cmpi .slt v504 c0_i32_384
  let c0_i32_385 : BitVec 32 := 0#32
  let v507 : BitVec 1 := Scalar.cmpi .slt v503 c0_i32_385
  let v508 : BitVec 1 := Scalar.xori v506 v507
  let c0_i32_383 : BitVec 32 := 0#32
  let v505 : BitVec 1 := Scalar.cmpi .ne v504 c0_i32_383
  let v509 : BitVec 1 := Scalar.andi v508 v505
  let v510 : BitVec 32 := Scalar.addi v504 v503
  let v511 : BitVec 32 := Scalar.select v509 v510 v504
  let c1_i32_386 : BitVec 32 := 1#32
  let v512 : BitVec 32 := Scalar.muli v511 c1_i32_386
  let v513 : BitVec 32 := Scalar.addi c0_i32_387 v512
  v513.toNat
def k0_dev18 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_394 : BitVec 32 := 3#32
  let v522 : BitVec 32 := Scalar.addi v2 c3_i32_394
  let c16_i32_395 : BitVec 32 := 16#32
  let c0_i32_396 : BitVec 32 := 0#32
  let v523 : BitVec 1 := Scalar.cmpi .eq c16_i32_395 c0_i32_396
  let c1_i32_397 : BitVec 32 := 1#32
  let v524 : BitVec 32 := Scalar.select v523 c1_i32_397 c16_i32_395
  let v525 : BitVec 32 := Scalar.remsi v522 v524
  let c0_i32_399 : BitVec 32 := 0#32
  let v527 : BitVec 1 := Scalar.cmpi .slt v525 c0_i32_399
  let c0_i32_400 : BitVec 32 := 0#32
  let v528 : BitVec 1 := Scalar.cmpi .slt v524 c0_i32_400
  let v529 : BitVec 1 := Scalar.xori v527 v528
  let c0_i32_398 : BitVec 32 := 0#32
  let v526 : BitVec 1 := Scalar.cmpi .ne v525 c0_i32_398
  let v530 : BitVec 1 := Scalar.andi v529 v526
  let v531 : BitVec 32 := Scalar.addi v525 v524
  let v532 : BitVec 32 := Scalar.select v530 v531 v525
  let c1_i32_401 : BitVec 32 := 1#32
  let v533 : BitVec 32 := Scalar.muli v532 c1_i32_401
  let v534 : BitVec 32 := Scalar.addi c0_i32_402 v533
  v534.toNat
def k0_dev19 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_409 : BitVec 32 := 4#32
  let v543 : BitVec 32 := Scalar.addi v2 c4_i32_409
  let c16_i32_410 : BitVec 32 := 16#32
  let c0_i32_411 : BitVec 32 := 0#32
  let v544 : BitVec 1 := Scalar.cmpi .eq c16_i32_410 c0_i32_411
  let c1_i32_412 : BitVec 32 := 1#32
  let v545 : BitVec 32 := Scalar.select v544 c1_i32_412 c16_i32_410
  let v546 : BitVec 32 := Scalar.remsi v543 v545
  let c0_i32_414 : BitVec 32 := 0#32
  let v548 : BitVec 1 := Scalar.cmpi .slt v546 c0_i32_414
  let c0_i32_415 : BitVec 32 := 0#32
  let v549 : BitVec 1 := Scalar.cmpi .slt v545 c0_i32_415
  let v550 : BitVec 1 := Scalar.xori v548 v549
  let c0_i32_413 : BitVec 32 := 0#32
  let v547 : BitVec 1 := Scalar.cmpi .ne v546 c0_i32_413
  let v551 : BitVec 1 := Scalar.andi v550 v547
  let v552 : BitVec 32 := Scalar.addi v546 v545
  let v553 : BitVec 32 := Scalar.select v551 v552 v546
  let c1_i32_416 : BitVec 32 := 1#32
  let v554 : BitVec 32 := Scalar.muli v553 c1_i32_416
  let v555 : BitVec 32 := Scalar.addi c0_i32_417 v554
  v555.toNat
def k0_dev20 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_424 : BitVec 32 := 5#32
  let v564 : BitVec 32 := Scalar.addi v2 c5_i32_424
  let c16_i32_425 : BitVec 32 := 16#32
  let c0_i32_426 : BitVec 32 := 0#32
  let v565 : BitVec 1 := Scalar.cmpi .eq c16_i32_425 c0_i32_426
  let c1_i32_427 : BitVec 32 := 1#32
  let v566 : BitVec 32 := Scalar.select v565 c1_i32_427 c16_i32_425
  let v567 : BitVec 32 := Scalar.remsi v564 v566
  let c0_i32_429 : BitVec 32 := 0#32
  let v569 : BitVec 1 := Scalar.cmpi .slt v567 c0_i32_429
  let c0_i32_430 : BitVec 32 := 0#32
  let v570 : BitVec 1 := Scalar.cmpi .slt v566 c0_i32_430
  let v571 : BitVec 1 := Scalar.xori v569 v570
  let c0_i32_428 : BitVec 32 := 0#32
  let v568 : BitVec 1 := Scalar.cmpi .ne v567 c0_i32_428
  let v572 : BitVec 1 := Scalar.andi v571 v568
  let v573 : BitVec 32 := Scalar.addi v567 v566
  let v574 : BitVec 32 := Scalar.select v572 v573 v567
  let c1_i32_431 : BitVec 32 := 1#32
  let v575 : BitVec 32 := Scalar.muli v574 c1_i32_431
  let v576 : BitVec 32 := Scalar.addi c0_i32_432 v575
  v576.toNat
def k0_dev21 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_439 : BitVec 32 := 6#32
  let v585 : BitVec 32 := Scalar.addi v2 c6_i32_439
  let c16_i32_440 : BitVec 32 := 16#32
  let c0_i32_441 : BitVec 32 := 0#32
  let v586 : BitVec 1 := Scalar.cmpi .eq c16_i32_440 c0_i32_441
  let c1_i32_442 : BitVec 32 := 1#32
  let v587 : BitVec 32 := Scalar.select v586 c1_i32_442 c16_i32_440
  let v588 : BitVec 32 := Scalar.remsi v585 v587
  let c0_i32_444 : BitVec 32 := 0#32
  let v590 : BitVec 1 := Scalar.cmpi .slt v588 c0_i32_444
  let c0_i32_445 : BitVec 32 := 0#32
  let v591 : BitVec 1 := Scalar.cmpi .slt v587 c0_i32_445
  let v592 : BitVec 1 := Scalar.xori v590 v591
  let c0_i32_443 : BitVec 32 := 0#32
  let v589 : BitVec 1 := Scalar.cmpi .ne v588 c0_i32_443
  let v593 : BitVec 1 := Scalar.andi v592 v589
  let v594 : BitVec 32 := Scalar.addi v588 v587
  let v595 : BitVec 32 := Scalar.select v593 v594 v588
  let c1_i32_446 : BitVec 32 := 1#32
  let v596 : BitVec 32 := Scalar.muli v595 c1_i32_446
  let v597 : BitVec 32 := Scalar.addi c0_i32_447 v596
  v597.toNat
def k0_dev22 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_454 : BitVec 32 := 7#32
  let v606 : BitVec 32 := Scalar.addi v2 c7_i32_454
  let c16_i32_455 : BitVec 32 := 16#32
  let c0_i32_456 : BitVec 32 := 0#32
  let v607 : BitVec 1 := Scalar.cmpi .eq c16_i32_455 c0_i32_456
  let c1_i32_457 : BitVec 32 := 1#32
  let v608 : BitVec 32 := Scalar.select v607 c1_i32_457 c16_i32_455
  let v609 : BitVec 32 := Scalar.remsi v606 v608
  let c0_i32_459 : BitVec 32 := 0#32
  let v611 : BitVec 1 := Scalar.cmpi .slt v609 c0_i32_459
  let c0_i32_460 : BitVec 32 := 0#32
  let v612 : BitVec 1 := Scalar.cmpi .slt v608 c0_i32_460
  let v613 : BitVec 1 := Scalar.xori v611 v612
  let c0_i32_458 : BitVec 32 := 0#32
  let v610 : BitVec 1 := Scalar.cmpi .ne v609 c0_i32_458
  let v614 : BitVec 1 := Scalar.andi v613 v610
  let v615 : BitVec 32 := Scalar.addi v609 v608
  let v616 : BitVec 32 := Scalar.select v614 v615 v609
  let c1_i32_461 : BitVec 32 := 1#32
  let v617 : BitVec 32 := Scalar.muli v616 c1_i32_461
  let v618 : BitVec 32 := Scalar.addi c0_i32_462 v617
  v618.toNat
def k0_dev23 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_469 : BitVec 32 := 8#32
  let v627 : BitVec 32 := Scalar.addi v2 c8_i32_469
  let c16_i32_470 : BitVec 32 := 16#32
  let c0_i32_471 : BitVec 32 := 0#32
  let v628 : BitVec 1 := Scalar.cmpi .eq c16_i32_470 c0_i32_471
  let c1_i32_472 : BitVec 32 := 1#32
  let v629 : BitVec 32 := Scalar.select v628 c1_i32_472 c16_i32_470
  let v630 : BitVec 32 := Scalar.remsi v627 v629
  let c0_i32_474 : BitVec 32 := 0#32
  let v632 : BitVec 1 := Scalar.cmpi .slt v630 c0_i32_474
  let c0_i32_475 : BitVec 32 := 0#32
  let v633 : BitVec 1 := Scalar.cmpi .slt v629 c0_i32_475
  let v634 : BitVec 1 := Scalar.xori v632 v633
  let c0_i32_473 : BitVec 32 := 0#32
  let v631 : BitVec 1 := Scalar.cmpi .ne v630 c0_i32_473
  let v635 : BitVec 1 := Scalar.andi v634 v631
  let v636 : BitVec 32 := Scalar.addi v630 v629
  let v637 : BitVec 32 := Scalar.select v635 v636 v630
  let c1_i32_476 : BitVec 32 := 1#32
  let v638 : BitVec 32 := Scalar.muli v637 c1_i32_476
  let v639 : BitVec 32 := Scalar.addi c0_i32_477 v638
  v639.toNat
def k0_dev24 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_484 : BitVec 32 := 9#32
  let v648 : BitVec 32 := Scalar.addi v2 c9_i32_484
  let c16_i32_485 : BitVec 32 := 16#32
  let c0_i32_486 : BitVec 32 := 0#32
  let v649 : BitVec 1 := Scalar.cmpi .eq c16_i32_485 c0_i32_486
  let c1_i32_487 : BitVec 32 := 1#32
  let v650 : BitVec 32 := Scalar.select v649 c1_i32_487 c16_i32_485
  let v651 : BitVec 32 := Scalar.remsi v648 v650
  let c0_i32_489 : BitVec 32 := 0#32
  let v653 : BitVec 1 := Scalar.cmpi .slt v651 c0_i32_489
  let c0_i32_490 : BitVec 32 := 0#32
  let v654 : BitVec 1 := Scalar.cmpi .slt v650 c0_i32_490
  let v655 : BitVec 1 := Scalar.xori v653 v654
  let c0_i32_488 : BitVec 32 := 0#32
  let v652 : BitVec 1 := Scalar.cmpi .ne v651 c0_i32_488
  let v656 : BitVec 1 := Scalar.andi v655 v652
  let v657 : BitVec 32 := Scalar.addi v651 v650
  let v658 : BitVec 32 := Scalar.select v656 v657 v651
  let c1_i32_491 : BitVec 32 := 1#32
  let v659 : BitVec 32 := Scalar.muli v658 c1_i32_491
  let v660 : BitVec 32 := Scalar.addi c0_i32_492 v659
  v660.toNat
def k0_dev25 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_499 : BitVec 32 := 10#32
  let v669 : BitVec 32 := Scalar.addi v2 c10_i32_499
  let c16_i32_500 : BitVec 32 := 16#32
  let c0_i32_501 : BitVec 32 := 0#32
  let v670 : BitVec 1 := Scalar.cmpi .eq c16_i32_500 c0_i32_501
  let c1_i32_502 : BitVec 32 := 1#32
  let v671 : BitVec 32 := Scalar.select v670 c1_i32_502 c16_i32_500
  let v672 : BitVec 32 := Scalar.remsi v669 v671
  let c0_i32_504 : BitVec 32 := 0#32
  let v674 : BitVec 1 := Scalar.cmpi .slt v672 c0_i32_504
  let c0_i32_505 : BitVec 32 := 0#32
  let v675 : BitVec 1 := Scalar.cmpi .slt v671 c0_i32_505
  let v676 : BitVec 1 := Scalar.xori v674 v675
  let c0_i32_503 : BitVec 32 := 0#32
  let v673 : BitVec 1 := Scalar.cmpi .ne v672 c0_i32_503
  let v677 : BitVec 1 := Scalar.andi v676 v673
  let v678 : BitVec 32 := Scalar.addi v672 v671
  let v679 : BitVec 32 := Scalar.select v677 v678 v672
  let c1_i32_506 : BitVec 32 := 1#32
  let v680 : BitVec 32 := Scalar.muli v679 c1_i32_506
  let v681 : BitVec 32 := Scalar.addi c0_i32_507 v680
  v681.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_514 : BitVec 32 := 11#32
  let v690 : BitVec 32 := Scalar.addi v2 c11_i32_514
  let c16_i32_515 : BitVec 32 := 16#32
  let c0_i32_516 : BitVec 32 := 0#32
  let v691 : BitVec 1 := Scalar.cmpi .eq c16_i32_515 c0_i32_516
  let c1_i32_517 : BitVec 32 := 1#32
  let v692 : BitVec 32 := Scalar.select v691 c1_i32_517 c16_i32_515
  let v693 : BitVec 32 := Scalar.remsi v690 v692
  let c0_i32_519 : BitVec 32 := 0#32
  let v695 : BitVec 1 := Scalar.cmpi .slt v693 c0_i32_519
  let c0_i32_520 : BitVec 32 := 0#32
  let v696 : BitVec 1 := Scalar.cmpi .slt v692 c0_i32_520
  let v697 : BitVec 1 := Scalar.xori v695 v696
  let c0_i32_518 : BitVec 32 := 0#32
  let v694 : BitVec 1 := Scalar.cmpi .ne v693 c0_i32_518
  let v698 : BitVec 1 := Scalar.andi v697 v694
  let v699 : BitVec 32 := Scalar.addi v693 v692
  let v700 : BitVec 32 := Scalar.select v698 v699 v693
  let c1_i32_521 : BitVec 32 := 1#32
  let v701 : BitVec 32 := Scalar.muli v700 c1_i32_521
  let v702 : BitVec 32 := Scalar.addi c0_i32_522 v701
  v702.toNat
def k0_dev27 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_529 : BitVec 32 := 12#32
  let v711 : BitVec 32 := Scalar.addi v2 c12_i32_529
  let c16_i32_530 : BitVec 32 := 16#32
  let c0_i32_531 : BitVec 32 := 0#32
  let v712 : BitVec 1 := Scalar.cmpi .eq c16_i32_530 c0_i32_531
  let c1_i32_532 : BitVec 32 := 1#32
  let v713 : BitVec 32 := Scalar.select v712 c1_i32_532 c16_i32_530
  let v714 : BitVec 32 := Scalar.remsi v711 v713
  let c0_i32_534 : BitVec 32 := 0#32
  let v716 : BitVec 1 := Scalar.cmpi .slt v714 c0_i32_534
  let c0_i32_535 : BitVec 32 := 0#32
  let v717 : BitVec 1 := Scalar.cmpi .slt v713 c0_i32_535
  let v718 : BitVec 1 := Scalar.xori v716 v717
  let c0_i32_533 : BitVec 32 := 0#32
  let v715 : BitVec 1 := Scalar.cmpi .ne v714 c0_i32_533
  let v719 : BitVec 1 := Scalar.andi v718 v715
  let v720 : BitVec 32 := Scalar.addi v714 v713
  let v721 : BitVec 32 := Scalar.select v719 v720 v714
  let c1_i32_536 : BitVec 32 := 1#32
  let v722 : BitVec 32 := Scalar.muli v721 c1_i32_536
  let v723 : BitVec 32 := Scalar.addi c0_i32_537 v722
  v723.toNat
def k0_dev28 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_544 : BitVec 32 := 13#32
  let v732 : BitVec 32 := Scalar.addi v2 c13_i32_544
  let c16_i32_545 : BitVec 32 := 16#32
  let c0_i32_546 : BitVec 32 := 0#32
  let v733 : BitVec 1 := Scalar.cmpi .eq c16_i32_545 c0_i32_546
  let c1_i32_547 : BitVec 32 := 1#32
  let v734 : BitVec 32 := Scalar.select v733 c1_i32_547 c16_i32_545
  let v735 : BitVec 32 := Scalar.remsi v732 v734
  let c0_i32_549 : BitVec 32 := 0#32
  let v737 : BitVec 1 := Scalar.cmpi .slt v735 c0_i32_549
  let c0_i32_550 : BitVec 32 := 0#32
  let v738 : BitVec 1 := Scalar.cmpi .slt v734 c0_i32_550
  let v739 : BitVec 1 := Scalar.xori v737 v738
  let c0_i32_548 : BitVec 32 := 0#32
  let v736 : BitVec 1 := Scalar.cmpi .ne v735 c0_i32_548
  let v740 : BitVec 1 := Scalar.andi v739 v736
  let v741 : BitVec 32 := Scalar.addi v735 v734
  let v742 : BitVec 32 := Scalar.select v740 v741 v735
  let c1_i32_551 : BitVec 32 := 1#32
  let v743 : BitVec 32 := Scalar.muli v742 c1_i32_551
  let v744 : BitVec 32 := Scalar.addi c0_i32_552 v743
  v744.toNat
def k0_dev29 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_559 : BitVec 32 := 14#32
  let v753 : BitVec 32 := Scalar.addi v2 c14_i32_559
  let c16_i32_560 : BitVec 32 := 16#32
  let c0_i32_561 : BitVec 32 := 0#32
  let v754 : BitVec 1 := Scalar.cmpi .eq c16_i32_560 c0_i32_561
  let c1_i32_562 : BitVec 32 := 1#32
  let v755 : BitVec 32 := Scalar.select v754 c1_i32_562 c16_i32_560
  let v756 : BitVec 32 := Scalar.remsi v753 v755
  let c0_i32_564 : BitVec 32 := 0#32
  let v758 : BitVec 1 := Scalar.cmpi .slt v756 c0_i32_564
  let c0_i32_565 : BitVec 32 := 0#32
  let v759 : BitVec 1 := Scalar.cmpi .slt v755 c0_i32_565
  let v760 : BitVec 1 := Scalar.xori v758 v759
  let c0_i32_563 : BitVec 32 := 0#32
  let v757 : BitVec 1 := Scalar.cmpi .ne v756 c0_i32_563
  let v761 : BitVec 1 := Scalar.andi v760 v757
  let v762 : BitVec 32 := Scalar.addi v756 v755
  let v763 : BitVec 32 := Scalar.select v761 v762 v756
  let c1_i32_566 : BitVec 32 := 1#32
  let v764 : BitVec 32 := Scalar.muli v763 c1_i32_566
  let v765 : BitVec 32 := Scalar.addi c0_i32_567 v764
  v765.toNat
def k0_dev30 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_574 : BitVec 32 := 15#32
  let v774 : BitVec 32 := Scalar.addi v2 c15_i32_574
  let c16_i32_575 : BitVec 32 := 16#32
  let c0_i32_576 : BitVec 32 := 0#32
  let v775 : BitVec 1 := Scalar.cmpi .eq c16_i32_575 c0_i32_576
  let c1_i32_577 : BitVec 32 := 1#32
  let v776 : BitVec 32 := Scalar.select v775 c1_i32_577 c16_i32_575
  let v777 : BitVec 32 := Scalar.remsi v774 v776
  let c0_i32_579 : BitVec 32 := 0#32
  let v779 : BitVec 1 := Scalar.cmpi .slt v777 c0_i32_579
  let c0_i32_580 : BitVec 32 := 0#32
  let v780 : BitVec 1 := Scalar.cmpi .slt v776 c0_i32_580
  let v781 : BitVec 1 := Scalar.xori v779 v780
  let c0_i32_578 : BitVec 32 := 0#32
  let v778 : BitVec 1 := Scalar.cmpi .ne v777 c0_i32_578
  let v782 : BitVec 1 := Scalar.andi v781 v778
  let v783 : BitVec 32 := Scalar.addi v777 v776
  let v784 : BitVec 32 := Scalar.select v782 v783 v777
  let c1_i32_581 : BitVec 32 := 1#32
  let v785 : BitVec 32 := Scalar.muli v784 c1_i32_581
  let v786 : BitVec 32 := Scalar.addi c0_i32_582 v785
  v786.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v801 : Index := Scalar.indexCast v2
  let c0_593 : Index := 0#32
  let c0_594 : Index := 0#32
  ![v801.toNat, 0, 0]
def k0_off7 (d0 : Dev nD) (c0_i32_595 : BitVec 32) : Fin 3 → Nat :=
  let c4_i32_615 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v805 : BitVec 32 := Scalar.subi v38 c0_i32_595
  let c16_i32_596 : BitVec 32 := 16#32
  let c0_i32_597 : BitVec 32 := 0#32
  let v806 : BitVec 1 := Scalar.cmpi .eq c16_i32_596 c0_i32_597
  let c1_i32_598 : BitVec 32 := 1#32
  let v807 : BitVec 32 := Scalar.select v806 c1_i32_598 c16_i32_596
  let v808 : BitVec 32 := Scalar.remsi v805 v807
  let c0_i32_600 : BitVec 32 := 0#32
  let v810 : BitVec 1 := Scalar.cmpi .slt v808 c0_i32_600
  let c0_i32_601 : BitVec 32 := 0#32
  let v811 : BitVec 1 := Scalar.cmpi .slt v807 c0_i32_601
  let v812 : BitVec 1 := Scalar.xori v810 v811
  let c0_i32_599 : BitVec 32 := 0#32
  let v809 : BitVec 1 := Scalar.cmpi .ne v808 c0_i32_599
  let v813 : BitVec 1 := Scalar.andi v812 v809
  let v814 : BitVec 32 := Scalar.addi v808 v807
  let v815 : BitVec 32 := Scalar.select v813 v814 v808
  let c0_i32_603 : BitVec 32 := 0#32
  let v817 : BitVec 1 := Scalar.cmpi .sgt v815 c0_i32_603
  let v818 : BitVec 32 := Scalar.extui v817
  let c0_i32_604 : BitVec 32 := 0#32
  let v819 : BitVec 1 := Scalar.cmpi .slt v815 c0_i32_604
  let v820 : BitVec 32 := Scalar.extui v819
  let v821 : BitVec 32 := Scalar.subi v818 v820
  let c4_i32_602 : BitVec 32 := 4#32
  let c0_i32_605 : BitVec 32 := 0#32
  let v822 : BitVec 1 := Scalar.cmpi .sgt c4_i32_602 c0_i32_605
  let v823 : BitVec 32 := Scalar.extui v822
  let c0_i32_606 : BitVec 32 := 0#32
  let v824 : BitVec 1 := Scalar.cmpi .slt c4_i32_602 c0_i32_606
  let v825 : BitVec 32 := Scalar.extui v824
  let v826 : BitVec 32 := Scalar.subi v823 v825
  let v827 : BitVec 1 := Scalar.cmpi .ne v821 v826
  let v828 : BitVec 32 := Scalar.remsi v815 c4_i32_602
  let c0_i32_607 : BitVec 32 := 0#32
  let v829 : BitVec 1 := Scalar.cmpi .ne v828 c0_i32_607
  let v830 : BitVec 1 := Scalar.andi v827 v829
  let v816 : BitVec 32 := Scalar.divsi v815 c4_i32_602
  let c1_i32_608 : BitVec 32 := 1#32
  let v831 : BitVec 32 := Scalar.subi v816 c1_i32_608
  let v832 : BitVec 32 := Scalar.select v830 v831 v816
  let c0_i32_609 : BitVec 32 := 0#32
  let v833 : BitVec 1 := Scalar.cmpi .eq v832 c0_i32_609
  let c1_i32_610 : BitVec 32 := 1#32
  let v834 : BitVec 1 := Scalar.cmpi .eq v832 c1_i32_610
  let c7_i32_611 : BitVec 32 := 7#32
  let v835 : BitVec 32 := Scalar.subi c7_i32_611 v815
  let c2_i32_612 : BitVec 32 := 2#32
  let v836 : BitVec 1 := Scalar.cmpi .eq v832 c2_i32_612
  let c8_i32_613 : BitVec 32 := 8#32
  let v837 : BitVec 32 := Scalar.subi v815 c8_i32_613
  let c15_i32_614 : BitVec 32 := 15#32
  let v838 : BitVec 32 := Scalar.subi c15_i32_614 v815
  let v839 : BitVec 32 := Scalar.select v836 v837 v838
  let v840 : BitVec 32 := Scalar.select v834 v835 v839
  let v841 : BitVec 32 := Scalar.select v833 v815 v840
  let v842 : BitVec 32 := Scalar.muli c4_i32_615 v841
  let v843 : BitVec 32 := Scalar.addi v842 v832
  let c0_i32_620 : BitVec 32 := 0#32
  let c0_i32_621 : BitVec 32 := 0#32
  ![v843.toNat, 0, 0]
def k0_dev31 (d0 : Dev nD) : Nat :=
  let c0_i32_619 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_618 : BitVec 32 := 1#32
  let v844 : BitVec 32 := Scalar.muli v116 c1_i32_618
  let v845 : BitVec 32 := Scalar.addi c0_i32_619 v844
  v845.toNat
def k0_off8 (d0 : Dev nD) (c0_i32_624 : BitVec 32) : Fin 3 → Nat :=
  let c4_i32_644 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v854 : BitVec 32 := Scalar.addi v38 c0_i32_624
  let c16_i32_625 : BitVec 32 := 16#32
  let c0_i32_626 : BitVec 32 := 0#32
  let v855 : BitVec 1 := Scalar.cmpi .eq c16_i32_625 c0_i32_626
  let c1_i32_627 : BitVec 32 := 1#32
  let v856 : BitVec 32 := Scalar.select v855 c1_i32_627 c16_i32_625
  let v857 : BitVec 32 := Scalar.remsi v854 v856
  let c0_i32_629 : BitVec 32 := 0#32
  let v859 : BitVec 1 := Scalar.cmpi .slt v857 c0_i32_629
  let c0_i32_630 : BitVec 32 := 0#32
  let v860 : BitVec 1 := Scalar.cmpi .slt v856 c0_i32_630
  let v861 : BitVec 1 := Scalar.xori v859 v860
  let c0_i32_628 : BitVec 32 := 0#32
  let v858 : BitVec 1 := Scalar.cmpi .ne v857 c0_i32_628
  let v862 : BitVec 1 := Scalar.andi v861 v858
  let v863 : BitVec 32 := Scalar.addi v857 v856
  let v864 : BitVec 32 := Scalar.select v862 v863 v857
  let c0_i32_632 : BitVec 32 := 0#32
  let v866 : BitVec 1 := Scalar.cmpi .sgt v864 c0_i32_632
  let v867 : BitVec 32 := Scalar.extui v866
  let c0_i32_633 : BitVec 32 := 0#32
  let v868 : BitVec 1 := Scalar.cmpi .slt v864 c0_i32_633
  let v869 : BitVec 32 := Scalar.extui v868
  let v870 : BitVec 32 := Scalar.subi v867 v869
  let c4_i32_631 : BitVec 32 := 4#32
  let c0_i32_634 : BitVec 32 := 0#32
  let v871 : BitVec 1 := Scalar.cmpi .sgt c4_i32_631 c0_i32_634
  let v872 : BitVec 32 := Scalar.extui v871
  let c0_i32_635 : BitVec 32 := 0#32
  let v873 : BitVec 1 := Scalar.cmpi .slt c4_i32_631 c0_i32_635
  let v874 : BitVec 32 := Scalar.extui v873
  let v875 : BitVec 32 := Scalar.subi v872 v874
  let v876 : BitVec 1 := Scalar.cmpi .ne v870 v875
  let v877 : BitVec 32 := Scalar.remsi v864 c4_i32_631
  let c0_i32_636 : BitVec 32 := 0#32
  let v878 : BitVec 1 := Scalar.cmpi .ne v877 c0_i32_636
  let v879 : BitVec 1 := Scalar.andi v876 v878
  let v865 : BitVec 32 := Scalar.divsi v864 c4_i32_631
  let c1_i32_637 : BitVec 32 := 1#32
  let v880 : BitVec 32 := Scalar.subi v865 c1_i32_637
  let v881 : BitVec 32 := Scalar.select v879 v880 v865
  let c0_i32_638 : BitVec 32 := 0#32
  let v882 : BitVec 1 := Scalar.cmpi .eq v881 c0_i32_638
  let c1_i32_639 : BitVec 32 := 1#32
  let v883 : BitVec 1 := Scalar.cmpi .eq v881 c1_i32_639
  let c7_i32_640 : BitVec 32 := 7#32
  let v884 : BitVec 32 := Scalar.subi c7_i32_640 v864
  let c2_i32_641 : BitVec 32 := 2#32
  let v885 : BitVec 1 := Scalar.cmpi .eq v881 c2_i32_641
  let c8_i32_642 : BitVec 32 := 8#32
  let v886 : BitVec 32 := Scalar.subi v864 c8_i32_642
  let c15_i32_643 : BitVec 32 := 15#32
  let v887 : BitVec 32 := Scalar.subi c15_i32_643 v864
  let v888 : BitVec 32 := Scalar.select v885 v886 v887
  let v889 : BitVec 32 := Scalar.select v883 v884 v888
  let v890 : BitVec 32 := Scalar.select v882 v864 v889
  let v891 : BitVec 32 := Scalar.muli c4_i32_644 v890
  let v892 : BitVec 32 := Scalar.addi v891 v881
  let c0_i32_649 : BitVec 32 := 0#32
  let c0_i32_650 : BitVec 32 := 0#32
  ![v892.toNat, 0, 0]
def k0_dev32 (d0 : Dev nD) : Nat :=
  let c0_i32_648 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_647 : BitVec 32 := 1#32
  let v893 : BitVec 32 := Scalar.muli v77 c1_i32_647
  let v894 : BitVec 32 := Scalar.addi c0_i32_648 v893
  v894.toNat
def k0_off9 (d0 : Dev nD) (c0_i32_653 : BitVec 32) : Fin 3 → Nat :=
  let c4_i32_673 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v903 : BitVec 32 := Scalar.subi v38 c0_i32_653
  let c16_i32_654 : BitVec 32 := 16#32
  let c0_i32_655 : BitVec 32 := 0#32
  let v904 : BitVec 1 := Scalar.cmpi .eq c16_i32_654 c0_i32_655
  let c1_i32_656 : BitVec 32 := 1#32
  let v905 : BitVec 32 := Scalar.select v904 c1_i32_656 c16_i32_654
  let v906 : BitVec 32 := Scalar.remsi v903 v905
  let c0_i32_658 : BitVec 32 := 0#32
  let v908 : BitVec 1 := Scalar.cmpi .slt v906 c0_i32_658
  let c0_i32_659 : BitVec 32 := 0#32
  let v909 : BitVec 1 := Scalar.cmpi .slt v905 c0_i32_659
  let v910 : BitVec 1 := Scalar.xori v908 v909
  let c0_i32_657 : BitVec 32 := 0#32
  let v907 : BitVec 1 := Scalar.cmpi .ne v906 c0_i32_657
  let v911 : BitVec 1 := Scalar.andi v910 v907
  let v912 : BitVec 32 := Scalar.addi v906 v905
  let v913 : BitVec 32 := Scalar.select v911 v912 v906
  let c0_i32_661 : BitVec 32 := 0#32
  let v915 : BitVec 1 := Scalar.cmpi .sgt v913 c0_i32_661
  let v916 : BitVec 32 := Scalar.extui v915
  let c0_i32_662 : BitVec 32 := 0#32
  let v917 : BitVec 1 := Scalar.cmpi .slt v913 c0_i32_662
  let v918 : BitVec 32 := Scalar.extui v917
  let v919 : BitVec 32 := Scalar.subi v916 v918
  let c4_i32_660 : BitVec 32 := 4#32
  let c0_i32_663 : BitVec 32 := 0#32
  let v920 : BitVec 1 := Scalar.cmpi .sgt c4_i32_660 c0_i32_663
  let v921 : BitVec 32 := Scalar.extui v920
  let c0_i32_664 : BitVec 32 := 0#32
  let v922 : BitVec 1 := Scalar.cmpi .slt c4_i32_660 c0_i32_664
  let v923 : BitVec 32 := Scalar.extui v922
  let v924 : BitVec 32 := Scalar.subi v921 v923
  let v925 : BitVec 1 := Scalar.cmpi .ne v919 v924
  let v926 : BitVec 32 := Scalar.remsi v913 c4_i32_660
  let c0_i32_665 : BitVec 32 := 0#32
  let v927 : BitVec 1 := Scalar.cmpi .ne v926 c0_i32_665
  let v928 : BitVec 1 := Scalar.andi v925 v927
  let v914 : BitVec 32 := Scalar.divsi v913 c4_i32_660
  let c1_i32_666 : BitVec 32 := 1#32
  let v929 : BitVec 32 := Scalar.subi v914 c1_i32_666
  let v930 : BitVec 32 := Scalar.select v928 v929 v914
  let c0_i32_667 : BitVec 32 := 0#32
  let v931 : BitVec 1 := Scalar.cmpi .eq v930 c0_i32_667
  let c1_i32_668 : BitVec 32 := 1#32
  let v932 : BitVec 1 := Scalar.cmpi .eq v930 c1_i32_668
  let c7_i32_669 : BitVec 32 := 7#32
  let v933 : BitVec 32 := Scalar.subi c7_i32_669 v913
  let c2_i32_670 : BitVec 32 := 2#32
  let v934 : BitVec 1 := Scalar.cmpi .eq v930 c2_i32_670
  let c8_i32_671 : BitVec 32 := 8#32
  let v935 : BitVec 32 := Scalar.subi v913 c8_i32_671
  let c15_i32_672 : BitVec 32 := 15#32
  let v936 : BitVec 32 := Scalar.subi c15_i32_672 v913
  let v937 : BitVec 32 := Scalar.select v934 v935 v936
  let v938 : BitVec 32 := Scalar.select v932 v933 v937
  let v939 : BitVec 32 := Scalar.select v931 v913 v938
  let v940 : BitVec 32 := Scalar.muli c4_i32_673 v939
  let v941 : BitVec 32 := Scalar.addi v940 v930
  let c256_i32 : BitVec 32 := 256#32
  let c0_i32_678 : BitVec 32 := 0#32
  ![v941.toNat, 256, 0]
def k0_dev33 (d0 : Dev nD) : Nat :=
  let c0_i32_677 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_676 : BitVec 32 := 1#32
  let v942 : BitVec 32 := Scalar.muli v116 c1_i32_676
  let v943 : BitVec 32 := Scalar.addi c0_i32_677 v942
  v943.toNat
def k0_off10 (d0 : Dev nD) (c0_i32_681 : BitVec 32) : Fin 3 → Nat :=
  let c4_i32_701 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v952 : BitVec 32 := Scalar.addi v38 c0_i32_681
  let c16_i32_682 : BitVec 32 := 16#32
  let c0_i32_683 : BitVec 32 := 0#32
  let v953 : BitVec 1 := Scalar.cmpi .eq c16_i32_682 c0_i32_683
  let c1_i32_684 : BitVec 32 := 1#32
  let v954 : BitVec 32 := Scalar.select v953 c1_i32_684 c16_i32_682
  let v955 : BitVec 32 := Scalar.remsi v952 v954
  let c0_i32_686 : BitVec 32 := 0#32
  let v957 : BitVec 1 := Scalar.cmpi .slt v955 c0_i32_686
  let c0_i32_687 : BitVec 32 := 0#32
  let v958 : BitVec 1 := Scalar.cmpi .slt v954 c0_i32_687
  let v959 : BitVec 1 := Scalar.xori v957 v958
  let c0_i32_685 : BitVec 32 := 0#32
  let v956 : BitVec 1 := Scalar.cmpi .ne v955 c0_i32_685
  let v960 : BitVec 1 := Scalar.andi v959 v956
  let v961 : BitVec 32 := Scalar.addi v955 v954
  let v962 : BitVec 32 := Scalar.select v960 v961 v955
  let c0_i32_689 : BitVec 32 := 0#32
  let v964 : BitVec 1 := Scalar.cmpi .sgt v962 c0_i32_689
  let v965 : BitVec 32 := Scalar.extui v964
  let c0_i32_690 : BitVec 32 := 0#32
  let v966 : BitVec 1 := Scalar.cmpi .slt v962 c0_i32_690
  let v967 : BitVec 32 := Scalar.extui v966
  let v968 : BitVec 32 := Scalar.subi v965 v967
  let c4_i32_688 : BitVec 32 := 4#32
  let c0_i32_691 : BitVec 32 := 0#32
  let v969 : BitVec 1 := Scalar.cmpi .sgt c4_i32_688 c0_i32_691
  let v970 : BitVec 32 := Scalar.extui v969
  let c0_i32_692 : BitVec 32 := 0#32
  let v971 : BitVec 1 := Scalar.cmpi .slt c4_i32_688 c0_i32_692
  let v972 : BitVec 32 := Scalar.extui v971
  let v973 : BitVec 32 := Scalar.subi v970 v972
  let v974 : BitVec 1 := Scalar.cmpi .ne v968 v973
  let v975 : BitVec 32 := Scalar.remsi v962 c4_i32_688
  let c0_i32_693 : BitVec 32 := 0#32
  let v976 : BitVec 1 := Scalar.cmpi .ne v975 c0_i32_693
  let v977 : BitVec 1 := Scalar.andi v974 v976
  let v963 : BitVec 32 := Scalar.divsi v962 c4_i32_688
  let c1_i32_694 : BitVec 32 := 1#32
  let v978 : BitVec 32 := Scalar.subi v963 c1_i32_694
  let v979 : BitVec 32 := Scalar.select v977 v978 v963
  let c0_i32_695 : BitVec 32 := 0#32
  let v980 : BitVec 1 := Scalar.cmpi .eq v979 c0_i32_695
  let c1_i32_696 : BitVec 32 := 1#32
  let v981 : BitVec 1 := Scalar.cmpi .eq v979 c1_i32_696
  let c7_i32_697 : BitVec 32 := 7#32
  let v982 : BitVec 32 := Scalar.subi c7_i32_697 v962
  let c2_i32_698 : BitVec 32 := 2#32
  let v983 : BitVec 1 := Scalar.cmpi .eq v979 c2_i32_698
  let c8_i32_699 : BitVec 32 := 8#32
  let v984 : BitVec 32 := Scalar.subi v962 c8_i32_699
  let c15_i32_700 : BitVec 32 := 15#32
  let v985 : BitVec 32 := Scalar.subi c15_i32_700 v962
  let v986 : BitVec 32 := Scalar.select v983 v984 v985
  let v987 : BitVec 32 := Scalar.select v981 v982 v986
  let v988 : BitVec 32 := Scalar.select v980 v962 v987
  let v989 : BitVec 32 := Scalar.muli c4_i32_701 v988
  let v990 : BitVec 32 := Scalar.addi v989 v979
  let c256_i32_706 : BitVec 32 := 256#32
  let c0_i32_707 : BitVec 32 := 0#32
  ![v990.toNat, 256, 0]
def k0_dev34 (d0 : Dev nD) : Nat :=
  let c0_i32_705 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_704 : BitVec 32 := 1#32
  let v991 : BitVec 32 := Scalar.muli v77 c1_i32_704
  let v992 : BitVec 32 := Scalar.addi c0_i32_705 v991
  v992.toNat
def k0_off11 (d0 : Dev nD) (c0_i32_710 : BitVec 32) : Fin 3 → Nat :=
  let c4_i32_730 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1001 : BitVec 32 := Scalar.subi v38 c0_i32_710
  let c16_i32_711 : BitVec 32 := 16#32
  let c0_i32_712 : BitVec 32 := 0#32
  let v1002 : BitVec 1 := Scalar.cmpi .eq c16_i32_711 c0_i32_712
  let c1_i32_713 : BitVec 32 := 1#32
  let v1003 : BitVec 32 := Scalar.select v1002 c1_i32_713 c16_i32_711
  let v1004 : BitVec 32 := Scalar.remsi v1001 v1003
  let c0_i32_715 : BitVec 32 := 0#32
  let v1006 : BitVec 1 := Scalar.cmpi .slt v1004 c0_i32_715
  let c0_i32_716 : BitVec 32 := 0#32
  let v1007 : BitVec 1 := Scalar.cmpi .slt v1003 c0_i32_716
  let v1008 : BitVec 1 := Scalar.xori v1006 v1007
  let c0_i32_714 : BitVec 32 := 0#32
  let v1005 : BitVec 1 := Scalar.cmpi .ne v1004 c0_i32_714
  let v1009 : BitVec 1 := Scalar.andi v1008 v1005
  let v1010 : BitVec 32 := Scalar.addi v1004 v1003
  let v1011 : BitVec 32 := Scalar.select v1009 v1010 v1004
  let c0_i32_718 : BitVec 32 := 0#32
  let v1013 : BitVec 1 := Scalar.cmpi .sgt v1011 c0_i32_718
  let v1014 : BitVec 32 := Scalar.extui v1013
  let c0_i32_719 : BitVec 32 := 0#32
  let v1015 : BitVec 1 := Scalar.cmpi .slt v1011 c0_i32_719
  let v1016 : BitVec 32 := Scalar.extui v1015
  let v1017 : BitVec 32 := Scalar.subi v1014 v1016
  let c4_i32_717 : BitVec 32 := 4#32
  let c0_i32_720 : BitVec 32 := 0#32
  let v1018 : BitVec 1 := Scalar.cmpi .sgt c4_i32_717 c0_i32_720
  let v1019 : BitVec 32 := Scalar.extui v1018
  let c0_i32_721 : BitVec 32 := 0#32
  let v1020 : BitVec 1 := Scalar.cmpi .slt c4_i32_717 c0_i32_721
  let v1021 : BitVec 32 := Scalar.extui v1020
  let v1022 : BitVec 32 := Scalar.subi v1019 v1021
  let v1023 : BitVec 1 := Scalar.cmpi .ne v1017 v1022
  let v1024 : BitVec 32 := Scalar.remsi v1011 c4_i32_717
  let c0_i32_722 : BitVec 32 := 0#32
  let v1025 : BitVec 1 := Scalar.cmpi .ne v1024 c0_i32_722
  let v1026 : BitVec 1 := Scalar.andi v1023 v1025
  let v1012 : BitVec 32 := Scalar.divsi v1011 c4_i32_717
  let c1_i32_723 : BitVec 32 := 1#32
  let v1027 : BitVec 32 := Scalar.subi v1012 c1_i32_723
  let v1028 : BitVec 32 := Scalar.select v1026 v1027 v1012
  let c0_i32_724 : BitVec 32 := 0#32
  let v1029 : BitVec 1 := Scalar.cmpi .eq v1028 c0_i32_724
  let c1_i32_725 : BitVec 32 := 1#32
  let v1030 : BitVec 1 := Scalar.cmpi .eq v1028 c1_i32_725
  let c7_i32_726 : BitVec 32 := 7#32
  let v1031 : BitVec 32 := Scalar.subi c7_i32_726 v1011
  let c2_i32_727 : BitVec 32 := 2#32
  let v1032 : BitVec 1 := Scalar.cmpi .eq v1028 c2_i32_727
  let c8_i32_728 : BitVec 32 := 8#32
  let v1033 : BitVec 32 := Scalar.subi v1011 c8_i32_728
  let c15_i32_729 : BitVec 32 := 15#32
  let v1034 : BitVec 32 := Scalar.subi c15_i32_729 v1011
  let v1035 : BitVec 32 := Scalar.select v1032 v1033 v1034
  let v1036 : BitVec 32 := Scalar.select v1030 v1031 v1035
  let v1037 : BitVec 32 := Scalar.select v1029 v1011 v1036
  let v1038 : BitVec 32 := Scalar.muli c4_i32_730 v1037
  let v1039 : BitVec 32 := Scalar.addi v1038 v1028
  let c512_i32 : BitVec 32 := 512#32
  let c0_i32_735 : BitVec 32 := 0#32
  ![v1039.toNat, 512, 0]
def k0_dev35 (d0 : Dev nD) : Nat :=
  let c0_i32_734 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_733 : BitVec 32 := 1#32
  let v1040 : BitVec 32 := Scalar.muli v116 c1_i32_733
  let v1041 : BitVec 32 := Scalar.addi c0_i32_734 v1040
  v1041.toNat
def k0_off12 (d0 : Dev nD) (c0_i32_738 : BitVec 32) : Fin 3 → Nat :=
  let c4_i32_758 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1050 : BitVec 32 := Scalar.addi v38 c0_i32_738
  let c16_i32_739 : BitVec 32 := 16#32
  let c0_i32_740 : BitVec 32 := 0#32
  let v1051 : BitVec 1 := Scalar.cmpi .eq c16_i32_739 c0_i32_740
  let c1_i32_741 : BitVec 32 := 1#32
  let v1052 : BitVec 32 := Scalar.select v1051 c1_i32_741 c16_i32_739
  let v1053 : BitVec 32 := Scalar.remsi v1050 v1052
  let c0_i32_743 : BitVec 32 := 0#32
  let v1055 : BitVec 1 := Scalar.cmpi .slt v1053 c0_i32_743
  let c0_i32_744 : BitVec 32 := 0#32
  let v1056 : BitVec 1 := Scalar.cmpi .slt v1052 c0_i32_744
  let v1057 : BitVec 1 := Scalar.xori v1055 v1056
  let c0_i32_742 : BitVec 32 := 0#32
  let v1054 : BitVec 1 := Scalar.cmpi .ne v1053 c0_i32_742
  let v1058 : BitVec 1 := Scalar.andi v1057 v1054
  let v1059 : BitVec 32 := Scalar.addi v1053 v1052
  let v1060 : BitVec 32 := Scalar.select v1058 v1059 v1053
  let c0_i32_746 : BitVec 32 := 0#32
  let v1062 : BitVec 1 := Scalar.cmpi .sgt v1060 c0_i32_746
  let v1063 : BitVec 32 := Scalar.extui v1062
  let c0_i32_747 : BitVec 32 := 0#32
  let v1064 : BitVec 1 := Scalar.cmpi .slt v1060 c0_i32_747
  let v1065 : BitVec 32 := Scalar.extui v1064
  let v1066 : BitVec 32 := Scalar.subi v1063 v1065
  let c4_i32_745 : BitVec 32 := 4#32
  let c0_i32_748 : BitVec 32 := 0#32
  let v1067 : BitVec 1 := Scalar.cmpi .sgt c4_i32_745 c0_i32_748
  let v1068 : BitVec 32 := Scalar.extui v1067
  let c0_i32_749 : BitVec 32 := 0#32
  let v1069 : BitVec 1 := Scalar.cmpi .slt c4_i32_745 c0_i32_749
  let v1070 : BitVec 32 := Scalar.extui v1069
  let v1071 : BitVec 32 := Scalar.subi v1068 v1070
  let v1072 : BitVec 1 := Scalar.cmpi .ne v1066 v1071
  let v1073 : BitVec 32 := Scalar.remsi v1060 c4_i32_745
  let c0_i32_750 : BitVec 32 := 0#32
  let v1074 : BitVec 1 := Scalar.cmpi .ne v1073 c0_i32_750
  let v1075 : BitVec 1 := Scalar.andi v1072 v1074
  let v1061 : BitVec 32 := Scalar.divsi v1060 c4_i32_745
  let c1_i32_751 : BitVec 32 := 1#32
  let v1076 : BitVec 32 := Scalar.subi v1061 c1_i32_751
  let v1077 : BitVec 32 := Scalar.select v1075 v1076 v1061
  let c0_i32_752 : BitVec 32 := 0#32
  let v1078 : BitVec 1 := Scalar.cmpi .eq v1077 c0_i32_752
  let c1_i32_753 : BitVec 32 := 1#32
  let v1079 : BitVec 1 := Scalar.cmpi .eq v1077 c1_i32_753
  let c7_i32_754 : BitVec 32 := 7#32
  let v1080 : BitVec 32 := Scalar.subi c7_i32_754 v1060
  let c2_i32_755 : BitVec 32 := 2#32
  let v1081 : BitVec 1 := Scalar.cmpi .eq v1077 c2_i32_755
  let c8_i32_756 : BitVec 32 := 8#32
  let v1082 : BitVec 32 := Scalar.subi v1060 c8_i32_756
  let c15_i32_757 : BitVec 32 := 15#32
  let v1083 : BitVec 32 := Scalar.subi c15_i32_757 v1060
  let v1084 : BitVec 32 := Scalar.select v1081 v1082 v1083
  let v1085 : BitVec 32 := Scalar.select v1079 v1080 v1084
  let v1086 : BitVec 32 := Scalar.select v1078 v1060 v1085
  let v1087 : BitVec 32 := Scalar.muli c4_i32_758 v1086
  let v1088 : BitVec 32 := Scalar.addi v1087 v1077
  let c512_i32_763 : BitVec 32 := 512#32
  let c0_i32_764 : BitVec 32 := 0#32
  ![v1088.toNat, 512, 0]
def k0_dev36 (d0 : Dev nD) : Nat :=
  let c0_i32_762 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_761 : BitVec 32 := 1#32
  let v1089 : BitVec 32 := Scalar.muli v77 c1_i32_761
  let v1090 : BitVec 32 := Scalar.addi c0_i32_762 v1089
  v1090.toNat
def k0_off13 (d0 : Dev nD) (c0_i32_767 : BitVec 32) : Fin 3 → Nat :=
  let c4_i32_787 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1099 : BitVec 32 := Scalar.subi v38 c0_i32_767
  let c16_i32_768 : BitVec 32 := 16#32
  let c0_i32_769 : BitVec 32 := 0#32
  let v1100 : BitVec 1 := Scalar.cmpi .eq c16_i32_768 c0_i32_769
  let c1_i32_770 : BitVec 32 := 1#32
  let v1101 : BitVec 32 := Scalar.select v1100 c1_i32_770 c16_i32_768
  let v1102 : BitVec 32 := Scalar.remsi v1099 v1101
  let c0_i32_772 : BitVec 32 := 0#32
  let v1104 : BitVec 1 := Scalar.cmpi .slt v1102 c0_i32_772
  let c0_i32_773 : BitVec 32 := 0#32
  let v1105 : BitVec 1 := Scalar.cmpi .slt v1101 c0_i32_773
  let v1106 : BitVec 1 := Scalar.xori v1104 v1105
  let c0_i32_771 : BitVec 32 := 0#32
  let v1103 : BitVec 1 := Scalar.cmpi .ne v1102 c0_i32_771
  let v1107 : BitVec 1 := Scalar.andi v1106 v1103
  let v1108 : BitVec 32 := Scalar.addi v1102 v1101
  let v1109 : BitVec 32 := Scalar.select v1107 v1108 v1102
  let c0_i32_775 : BitVec 32 := 0#32
  let v1111 : BitVec 1 := Scalar.cmpi .sgt v1109 c0_i32_775
  let v1112 : BitVec 32 := Scalar.extui v1111
  let c0_i32_776 : BitVec 32 := 0#32
  let v1113 : BitVec 1 := Scalar.cmpi .slt v1109 c0_i32_776
  let v1114 : BitVec 32 := Scalar.extui v1113
  let v1115 : BitVec 32 := Scalar.subi v1112 v1114
  let c4_i32_774 : BitVec 32 := 4#32
  let c0_i32_777 : BitVec 32 := 0#32
  let v1116 : BitVec 1 := Scalar.cmpi .sgt c4_i32_774 c0_i32_777
  let v1117 : BitVec 32 := Scalar.extui v1116
  let c0_i32_778 : BitVec 32 := 0#32
  let v1118 : BitVec 1 := Scalar.cmpi .slt c4_i32_774 c0_i32_778
  let v1119 : BitVec 32 := Scalar.extui v1118
  let v1120 : BitVec 32 := Scalar.subi v1117 v1119
  let v1121 : BitVec 1 := Scalar.cmpi .ne v1115 v1120
  let v1122 : BitVec 32 := Scalar.remsi v1109 c4_i32_774
  let c0_i32_779 : BitVec 32 := 0#32
  let v1123 : BitVec 1 := Scalar.cmpi .ne v1122 c0_i32_779
  let v1124 : BitVec 1 := Scalar.andi v1121 v1123
  let v1110 : BitVec 32 := Scalar.divsi v1109 c4_i32_774
  let c1_i32_780 : BitVec 32 := 1#32
  let v1125 : BitVec 32 := Scalar.subi v1110 c1_i32_780
  let v1126 : BitVec 32 := Scalar.select v1124 v1125 v1110
  let c0_i32_781 : BitVec 32 := 0#32
  let v1127 : BitVec 1 := Scalar.cmpi .eq v1126 c0_i32_781
  let c1_i32_782 : BitVec 32 := 1#32
  let v1128 : BitVec 1 := Scalar.cmpi .eq v1126 c1_i32_782
  let c7_i32_783 : BitVec 32 := 7#32
  let v1129 : BitVec 32 := Scalar.subi c7_i32_783 v1109
  let c2_i32_784 : BitVec 32 := 2#32
  let v1130 : BitVec 1 := Scalar.cmpi .eq v1126 c2_i32_784
  let c8_i32_785 : BitVec 32 := 8#32
  let v1131 : BitVec 32 := Scalar.subi v1109 c8_i32_785
  let c15_i32_786 : BitVec 32 := 15#32
  let v1132 : BitVec 32 := Scalar.subi c15_i32_786 v1109
  let v1133 : BitVec 32 := Scalar.select v1130 v1131 v1132
  let v1134 : BitVec 32 := Scalar.select v1128 v1129 v1133
  let v1135 : BitVec 32 := Scalar.select v1127 v1109 v1134
  let v1136 : BitVec 32 := Scalar.muli c4_i32_787 v1135
  let v1137 : BitVec 32 := Scalar.addi v1136 v1126
  let c768_i32 : BitVec 32 := 768#32
  let c0_i32_792 : BitVec 32 := 0#32
  ![v1137.toNat, 768, 0]
def k0_dev37 (d0 : Dev nD) : Nat :=
  let c0_i32_791 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_790 : BitVec 32 := 1#32
  let v1138 : BitVec 32 := Scalar.muli v116 c1_i32_790
  let v1139 : BitVec 32 := Scalar.addi c0_i32_791 v1138
  v1139.toNat
def k0_off14 (d0 : Dev nD) (c0_i32_795 : BitVec 32) : Fin 3 → Nat :=
  let c4_i32_815 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1148 : BitVec 32 := Scalar.addi v38 c0_i32_795
  let c16_i32_796 : BitVec 32 := 16#32
  let c0_i32_797 : BitVec 32 := 0#32
  let v1149 : BitVec 1 := Scalar.cmpi .eq c16_i32_796 c0_i32_797
  let c1_i32_798 : BitVec 32 := 1#32
  let v1150 : BitVec 32 := Scalar.select v1149 c1_i32_798 c16_i32_796
  let v1151 : BitVec 32 := Scalar.remsi v1148 v1150
  let c0_i32_800 : BitVec 32 := 0#32
  let v1153 : BitVec 1 := Scalar.cmpi .slt v1151 c0_i32_800
  let c0_i32_801 : BitVec 32 := 0#32
  let v1154 : BitVec 1 := Scalar.cmpi .slt v1150 c0_i32_801
  let v1155 : BitVec 1 := Scalar.xori v1153 v1154
  let c0_i32_799 : BitVec 32 := 0#32
  let v1152 : BitVec 1 := Scalar.cmpi .ne v1151 c0_i32_799
  let v1156 : BitVec 1 := Scalar.andi v1155 v1152
  let v1157 : BitVec 32 := Scalar.addi v1151 v1150
  let v1158 : BitVec 32 := Scalar.select v1156 v1157 v1151
  let c0_i32_803 : BitVec 32 := 0#32
  let v1160 : BitVec 1 := Scalar.cmpi .sgt v1158 c0_i32_803
  let v1161 : BitVec 32 := Scalar.extui v1160
  let c0_i32_804 : BitVec 32 := 0#32
  let v1162 : BitVec 1 := Scalar.cmpi .slt v1158 c0_i32_804
  let v1163 : BitVec 32 := Scalar.extui v1162
  let v1164 : BitVec 32 := Scalar.subi v1161 v1163
  let c4_i32_802 : BitVec 32 := 4#32
  let c0_i32_805 : BitVec 32 := 0#32
  let v1165 : BitVec 1 := Scalar.cmpi .sgt c4_i32_802 c0_i32_805
  let v1166 : BitVec 32 := Scalar.extui v1165
  let c0_i32_806 : BitVec 32 := 0#32
  let v1167 : BitVec 1 := Scalar.cmpi .slt c4_i32_802 c0_i32_806
  let v1168 : BitVec 32 := Scalar.extui v1167
  let v1169 : BitVec 32 := Scalar.subi v1166 v1168
  let v1170 : BitVec 1 := Scalar.cmpi .ne v1164 v1169
  let v1171 : BitVec 32 := Scalar.remsi v1158 c4_i32_802
  let c0_i32_807 : BitVec 32 := 0#32
  let v1172 : BitVec 1 := Scalar.cmpi .ne v1171 c0_i32_807
  let v1173 : BitVec 1 := Scalar.andi v1170 v1172
  let v1159 : BitVec 32 := Scalar.divsi v1158 c4_i32_802
  let c1_i32_808 : BitVec 32 := 1#32
  let v1174 : BitVec 32 := Scalar.subi v1159 c1_i32_808
  let v1175 : BitVec 32 := Scalar.select v1173 v1174 v1159
  let c0_i32_809 : BitVec 32 := 0#32
  let v1176 : BitVec 1 := Scalar.cmpi .eq v1175 c0_i32_809
  let c1_i32_810 : BitVec 32 := 1#32
  let v1177 : BitVec 1 := Scalar.cmpi .eq v1175 c1_i32_810
  let c7_i32_811 : BitVec 32 := 7#32
  let v1178 : BitVec 32 := Scalar.subi c7_i32_811 v1158
  let c2_i32_812 : BitVec 32 := 2#32
  let v1179 : BitVec 1 := Scalar.cmpi .eq v1175 c2_i32_812
  let c8_i32_813 : BitVec 32 := 8#32
  let v1180 : BitVec 32 := Scalar.subi v1158 c8_i32_813
  let c15_i32_814 : BitVec 32 := 15#32
  let v1181 : BitVec 32 := Scalar.subi c15_i32_814 v1158
  let v1182 : BitVec 32 := Scalar.select v1179 v1180 v1181
  let v1183 : BitVec 32 := Scalar.select v1177 v1178 v1182
  let v1184 : BitVec 32 := Scalar.select v1176 v1158 v1183
  let v1185 : BitVec 32 := Scalar.muli c4_i32_815 v1184
  let v1186 : BitVec 32 := Scalar.addi v1185 v1175
  let c768_i32_820 : BitVec 32 := 768#32
  let c0_i32_821 : BitVec 32 := 0#32
  ![v1186.toNat, 768, 0]
def k0_dev38 (d0 : Dev nD) : Nat :=
  let c0_i32_819 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_818 : BitVec 32 := 1#32
  let v1187 : BitVec 32 := Scalar.muli v77 c1_i32_818
  let v1188 : BitVec 32 := Scalar.addi c0_i32_819 v1187
  v1188.toNat
def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1200 : Index := Scalar.indexCast v2
  let c0_826 : Index := 0#32
  let c0_827 : Index := 0#32
  let c0_828 : Index := 0#32
  ![v1200.toNat, 0, 0, 0]
def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1210 : Index := Scalar.indexCast v2
  let c1_835 : Index := 1#32
  let c0_836 : Index := 0#32
  let c0_837 : Index := 0#32
  ![v1210.toNat, 1, 0, 0]
def k0_dev39 (d0 : Dev nD) : Nat :=
  let c0_i32_931 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_930 : BitVec 32 := 1#32
  let v1357 : BitVec 32 := Scalar.muli v116 c1_i32_930
  let v1358 : BitVec 32 := Scalar.addi c0_i32_931 v1357
  v1358.toNat
def k0_dev40 (d0 : Dev nD) : Nat :=
  let c0_i32_960 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_959 : BitVec 32 := 1#32
  let v1406 : BitVec 32 := Scalar.muli v77 c1_i32_959
  let v1407 : BitVec 32 := Scalar.addi c0_i32_960 v1406
  v1407.toNat
def k0_dev41 (d0 : Dev nD) : Nat :=
  let c0_i32_1047 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1046 : BitVec 32 := 1#32
  let v1549 : BitVec 32 := Scalar.muli v116 c1_i32_1046
  let v1550 : BitVec 32 := Scalar.addi c0_i32_1047 v1549
  v1550.toNat
def k0_dev42 (d0 : Dev nD) : Nat :=
  let c0_i32_1076 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1075 : BitVec 32 := 1#32
  let v1598 : BitVec 32 := Scalar.muli v77 c1_i32_1075
  let v1599 : BitVec 32 := Scalar.addi c0_i32_1076 v1598
  v1599.toNat
def k0_dev43 (d0 : Dev nD) : Nat :=
  let c0_i32_1163 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1162 : BitVec 32 := 1#32
  let v1741 : BitVec 32 := Scalar.muli v116 c1_i32_1162
  let v1742 : BitVec 32 := Scalar.addi c0_i32_1163 v1741
  v1742.toNat
def k0_dev44 (d0 : Dev nD) : Nat :=
  let c0_i32_1192 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1191 : BitVec 32 := 1#32
  let v1790 : BitVec 32 := Scalar.muli v77 c1_i32_1191
  let v1791 : BitVec 32 := Scalar.addi c0_i32_1192 v1790
  v1791.toNat
def k0_dev45 (d0 : Dev nD) : Nat :=
  let c0_i32_1279 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1278 : BitVec 32 := 1#32
  let v1933 : BitVec 32 := Scalar.muli v116 c1_i32_1278
  let v1934 : BitVec 32 := Scalar.addi c0_i32_1279 v1933
  v1934.toNat
def k0_dev46 (d0 : Dev nD) : Nat :=
  let c0_i32_1308 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1307 : BitVec 32 := 1#32
  let v1982 : BitVec 32 := Scalar.muli v77 c1_i32_1307
  let v1983 : BitVec 32 := Scalar.addi c0_i32_1308 v1982
  v1983.toNat
def k0_off17 (d0 : Dev nD) (c1_i32_1313 : BitVec 32) : Fin 1 → Nat :=
  let c4_i32_1333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1992 : BitVec 32 := Scalar.subi v38 c1_i32_1313
  let c16_i32_1314 : BitVec 32 := 16#32
  let c0_i32_1315 : BitVec 32 := 0#32
  let v1993 : BitVec 1 := Scalar.cmpi .eq c16_i32_1314 c0_i32_1315
  let c1_i32_1316 : BitVec 32 := 1#32
  let v1994 : BitVec 32 := Scalar.select v1993 c1_i32_1316 c16_i32_1314
  let v1995 : BitVec 32 := Scalar.remsi v1992 v1994
  let c0_i32_1318 : BitVec 32 := 0#32
  let v1997 : BitVec 1 := Scalar.cmpi .slt v1995 c0_i32_1318
  let c0_i32_1319 : BitVec 32 := 0#32
  let v1998 : BitVec 1 := Scalar.cmpi .slt v1994 c0_i32_1319
  let v1999 : BitVec 1 := Scalar.xori v1997 v1998
  let c0_i32_1317 : BitVec 32 := 0#32
  let v1996 : BitVec 1 := Scalar.cmpi .ne v1995 c0_i32_1317
  let v2000 : BitVec 1 := Scalar.andi v1999 v1996
  let v2001 : BitVec 32 := Scalar.addi v1995 v1994
  let v2002 : BitVec 32 := Scalar.select v2000 v2001 v1995
  let c0_i32_1321 : BitVec 32 := 0#32
  let v2004 : BitVec 1 := Scalar.cmpi .sgt v2002 c0_i32_1321
  let v2005 : BitVec 32 := Scalar.extui v2004
  let c0_i32_1322 : BitVec 32 := 0#32
  let v2006 : BitVec 1 := Scalar.cmpi .slt v2002 c0_i32_1322
  let v2007 : BitVec 32 := Scalar.extui v2006
  let v2008 : BitVec 32 := Scalar.subi v2005 v2007
  let c4_i32_1320 : BitVec 32 := 4#32
  let c0_i32_1323 : BitVec 32 := 0#32
  let v2009 : BitVec 1 := Scalar.cmpi .sgt c4_i32_1320 c0_i32_1323
  let v2010 : BitVec 32 := Scalar.extui v2009
  let c0_i32_1324 : BitVec 32 := 0#32
  let v2011 : BitVec 1 := Scalar.cmpi .slt c4_i32_1320 c0_i32_1324
  let v2012 : BitVec 32 := Scalar.extui v2011
  let v2013 : BitVec 32 := Scalar.subi v2010 v2012
  let v2014 : BitVec 1 := Scalar.cmpi .ne v2008 v2013
  let v2015 : BitVec 32 := Scalar.remsi v2002 c4_i32_1320
  let c0_i32_1325 : BitVec 32 := 0#32
  let v2016 : BitVec 1 := Scalar.cmpi .ne v2015 c0_i32_1325
  let v2017 : BitVec 1 := Scalar.andi v2014 v2016
  let v2003 : BitVec 32 := Scalar.divsi v2002 c4_i32_1320
  let c1_i32_1326 : BitVec 32 := 1#32
  let v2018 : BitVec 32 := Scalar.subi v2003 c1_i32_1326
  let v2019 : BitVec 32 := Scalar.select v2017 v2018 v2003
  let c0_i32_1327 : BitVec 32 := 0#32
  let v2020 : BitVec 1 := Scalar.cmpi .eq v2019 c0_i32_1327
  let c1_i32_1328 : BitVec 32 := 1#32
  let v2021 : BitVec 1 := Scalar.cmpi .eq v2019 c1_i32_1328
  let c7_i32_1329 : BitVec 32 := 7#32
  let v2022 : BitVec 32 := Scalar.subi c7_i32_1329 v2002
  let c2_i32_1330 : BitVec 32 := 2#32
  let v2023 : BitVec 1 := Scalar.cmpi .eq v2019 c2_i32_1330
  let c8_i32_1331 : BitVec 32 := 8#32
  let v2024 : BitVec 32 := Scalar.subi v2002 c8_i32_1331
  let c15_i32_1332 : BitVec 32 := 15#32
  let v2025 : BitVec 32 := Scalar.subi c15_i32_1332 v2002
  let v2026 : BitVec 32 := Scalar.select v2023 v2024 v2025
  let v2027 : BitVec 32 := Scalar.select v2021 v2022 v2026
  let v2028 : BitVec 32 := Scalar.select v2020 v2002 v2027
  let v2029 : BitVec 32 := Scalar.muli c4_i32_1333 v2028
  let v2030 : BitVec 32 := Scalar.addi v2029 v2019
  ![v2030.toNat]
def k0_off18 (d0 : Dev nD) (c1_i32_1313 : BitVec 32) : Fin 4 → Nat :=
  let c4_i32_1333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1992 : BitVec 32 := Scalar.subi v38 c1_i32_1313
  let c16_i32_1314 : BitVec 32 := 16#32
  let c0_i32_1315 : BitVec 32 := 0#32
  let v1993 : BitVec 1 := Scalar.cmpi .eq c16_i32_1314 c0_i32_1315
  let c1_i32_1316 : BitVec 32 := 1#32
  let v1994 : BitVec 32 := Scalar.select v1993 c1_i32_1316 c16_i32_1314
  let v1995 : BitVec 32 := Scalar.remsi v1992 v1994
  let c0_i32_1318 : BitVec 32 := 0#32
  let v1997 : BitVec 1 := Scalar.cmpi .slt v1995 c0_i32_1318
  let c0_i32_1319 : BitVec 32 := 0#32
  let v1998 : BitVec 1 := Scalar.cmpi .slt v1994 c0_i32_1319
  let v1999 : BitVec 1 := Scalar.xori v1997 v1998
  let c0_i32_1317 : BitVec 32 := 0#32
  let v1996 : BitVec 1 := Scalar.cmpi .ne v1995 c0_i32_1317
  let v2000 : BitVec 1 := Scalar.andi v1999 v1996
  let v2001 : BitVec 32 := Scalar.addi v1995 v1994
  let v2002 : BitVec 32 := Scalar.select v2000 v2001 v1995
  let c0_i32_1321 : BitVec 32 := 0#32
  let v2004 : BitVec 1 := Scalar.cmpi .sgt v2002 c0_i32_1321
  let v2005 : BitVec 32 := Scalar.extui v2004
  let c0_i32_1322 : BitVec 32 := 0#32
  let v2006 : BitVec 1 := Scalar.cmpi .slt v2002 c0_i32_1322
  let v2007 : BitVec 32 := Scalar.extui v2006
  let v2008 : BitVec 32 := Scalar.subi v2005 v2007
  let c4_i32_1320 : BitVec 32 := 4#32
  let c0_i32_1323 : BitVec 32 := 0#32
  let v2009 : BitVec 1 := Scalar.cmpi .sgt c4_i32_1320 c0_i32_1323
  let v2010 : BitVec 32 := Scalar.extui v2009
  let c0_i32_1324 : BitVec 32 := 0#32
  let v2011 : BitVec 1 := Scalar.cmpi .slt c4_i32_1320 c0_i32_1324
  let v2012 : BitVec 32 := Scalar.extui v2011
  let v2013 : BitVec 32 := Scalar.subi v2010 v2012
  let v2014 : BitVec 1 := Scalar.cmpi .ne v2008 v2013
  let v2015 : BitVec 32 := Scalar.remsi v2002 c4_i32_1320
  let c0_i32_1325 : BitVec 32 := 0#32
  let v2016 : BitVec 1 := Scalar.cmpi .ne v2015 c0_i32_1325
  let v2017 : BitVec 1 := Scalar.andi v2014 v2016
  let v2003 : BitVec 32 := Scalar.divsi v2002 c4_i32_1320
  let c1_i32_1326 : BitVec 32 := 1#32
  let v2018 : BitVec 32 := Scalar.subi v2003 c1_i32_1326
  let v2019 : BitVec 32 := Scalar.select v2017 v2018 v2003
  let c0_i32_1327 : BitVec 32 := 0#32
  let v2020 : BitVec 1 := Scalar.cmpi .eq v2019 c0_i32_1327
  let c1_i32_1328 : BitVec 32 := 1#32
  let v2021 : BitVec 1 := Scalar.cmpi .eq v2019 c1_i32_1328
  let c7_i32_1329 : BitVec 32 := 7#32
  let v2022 : BitVec 32 := Scalar.subi c7_i32_1329 v2002
  let c2_i32_1330 : BitVec 32 := 2#32
  let v2023 : BitVec 1 := Scalar.cmpi .eq v2019 c2_i32_1330
  let c8_i32_1331 : BitVec 32 := 8#32
  let v2024 : BitVec 32 := Scalar.subi v2002 c8_i32_1331
  let c15_i32_1332 : BitVec 32 := 15#32
  let v2025 : BitVec 32 := Scalar.subi c15_i32_1332 v2002
  let v2026 : BitVec 32 := Scalar.select v2023 v2024 v2025
  let v2027 : BitVec 32 := Scalar.select v2021 v2022 v2026
  let v2028 : BitVec 32 := Scalar.select v2020 v2002 v2027
  let v2029 : BitVec 32 := Scalar.muli c4_i32_1333 v2028
  let v2030 : BitVec 32 := Scalar.addi v2029 v2019
  let c0_i32_1336 : BitVec 32 := 0#32
  let c0_i32_1337 : BitVec 32 := 0#32
  let c0_i32_1338 : BitVec 32 := 0#32
  ![v2030.toNat, 0, 0, 0]
def k0_off19 (d0 : Dev nD) (c1_i32_1313 : BitVec 32) : Fin 3 → Nat :=
  let c4_i32_1333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1992 : BitVec 32 := Scalar.subi v38 c1_i32_1313
  let c16_i32_1314 : BitVec 32 := 16#32
  let c0_i32_1315 : BitVec 32 := 0#32
  let v1993 : BitVec 1 := Scalar.cmpi .eq c16_i32_1314 c0_i32_1315
  let c1_i32_1316 : BitVec 32 := 1#32
  let v1994 : BitVec 32 := Scalar.select v1993 c1_i32_1316 c16_i32_1314
  let v1995 : BitVec 32 := Scalar.remsi v1992 v1994
  let c0_i32_1318 : BitVec 32 := 0#32
  let v1997 : BitVec 1 := Scalar.cmpi .slt v1995 c0_i32_1318
  let c0_i32_1319 : BitVec 32 := 0#32
  let v1998 : BitVec 1 := Scalar.cmpi .slt v1994 c0_i32_1319
  let v1999 : BitVec 1 := Scalar.xori v1997 v1998
  let c0_i32_1317 : BitVec 32 := 0#32
  let v1996 : BitVec 1 := Scalar.cmpi .ne v1995 c0_i32_1317
  let v2000 : BitVec 1 := Scalar.andi v1999 v1996
  let v2001 : BitVec 32 := Scalar.addi v1995 v1994
  let v2002 : BitVec 32 := Scalar.select v2000 v2001 v1995
  let c0_i32_1321 : BitVec 32 := 0#32
  let v2004 : BitVec 1 := Scalar.cmpi .sgt v2002 c0_i32_1321
  let v2005 : BitVec 32 := Scalar.extui v2004
  let c0_i32_1322 : BitVec 32 := 0#32
  let v2006 : BitVec 1 := Scalar.cmpi .slt v2002 c0_i32_1322
  let v2007 : BitVec 32 := Scalar.extui v2006
  let v2008 : BitVec 32 := Scalar.subi v2005 v2007
  let c4_i32_1320 : BitVec 32 := 4#32
  let c0_i32_1323 : BitVec 32 := 0#32
  let v2009 : BitVec 1 := Scalar.cmpi .sgt c4_i32_1320 c0_i32_1323
  let v2010 : BitVec 32 := Scalar.extui v2009
  let c0_i32_1324 : BitVec 32 := 0#32
  let v2011 : BitVec 1 := Scalar.cmpi .slt c4_i32_1320 c0_i32_1324
  let v2012 : BitVec 32 := Scalar.extui v2011
  let v2013 : BitVec 32 := Scalar.subi v2010 v2012
  let v2014 : BitVec 1 := Scalar.cmpi .ne v2008 v2013
  let v2015 : BitVec 32 := Scalar.remsi v2002 c4_i32_1320
  let c0_i32_1325 : BitVec 32 := 0#32
  let v2016 : BitVec 1 := Scalar.cmpi .ne v2015 c0_i32_1325
  let v2017 : BitVec 1 := Scalar.andi v2014 v2016
  let v2003 : BitVec 32 := Scalar.divsi v2002 c4_i32_1320
  let c1_i32_1326 : BitVec 32 := 1#32
  let v2018 : BitVec 32 := Scalar.subi v2003 c1_i32_1326
  let v2019 : BitVec 32 := Scalar.select v2017 v2018 v2003
  let c0_i32_1327 : BitVec 32 := 0#32
  let v2020 : BitVec 1 := Scalar.cmpi .eq v2019 c0_i32_1327
  let c1_i32_1328 : BitVec 32 := 1#32
  let v2021 : BitVec 1 := Scalar.cmpi .eq v2019 c1_i32_1328
  let c7_i32_1329 : BitVec 32 := 7#32
  let v2022 : BitVec 32 := Scalar.subi c7_i32_1329 v2002
  let c2_i32_1330 : BitVec 32 := 2#32
  let v2023 : BitVec 1 := Scalar.cmpi .eq v2019 c2_i32_1330
  let c8_i32_1331 : BitVec 32 := 8#32
  let v2024 : BitVec 32 := Scalar.subi v2002 c8_i32_1331
  let c15_i32_1332 : BitVec 32 := 15#32
  let v2025 : BitVec 32 := Scalar.subi c15_i32_1332 v2002
  let v2026 : BitVec 32 := Scalar.select v2023 v2024 v2025
  let v2027 : BitVec 32 := Scalar.select v2021 v2022 v2026
  let v2028 : BitVec 32 := Scalar.select v2020 v2002 v2027
  let v2029 : BitVec 32 := Scalar.muli c4_i32_1333 v2028
  let v2030 : BitVec 32 := Scalar.addi v2029 v2019
  let v2041 : Index := Scalar.indexCast v2030
  let c0_1345 : Index := 0#32
  let c0_1346 : Index := 0#32
  ![v2041.toNat, 0, 0]
def k0_off20 (d0 : Dev nD) (c1_i32_1313 : BitVec 32) : Fin 4 → Nat :=
  let c4_i32_1333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1992 : BitVec 32 := Scalar.subi v38 c1_i32_1313
  let c16_i32_1314 : BitVec 32 := 16#32
  let c0_i32_1315 : BitVec 32 := 0#32
  let v1993 : BitVec 1 := Scalar.cmpi .eq c16_i32_1314 c0_i32_1315
  let c1_i32_1316 : BitVec 32 := 1#32
  let v1994 : BitVec 32 := Scalar.select v1993 c1_i32_1316 c16_i32_1314
  let v1995 : BitVec 32 := Scalar.remsi v1992 v1994
  let c0_i32_1318 : BitVec 32 := 0#32
  let v1997 : BitVec 1 := Scalar.cmpi .slt v1995 c0_i32_1318
  let c0_i32_1319 : BitVec 32 := 0#32
  let v1998 : BitVec 1 := Scalar.cmpi .slt v1994 c0_i32_1319
  let v1999 : BitVec 1 := Scalar.xori v1997 v1998
  let c0_i32_1317 : BitVec 32 := 0#32
  let v1996 : BitVec 1 := Scalar.cmpi .ne v1995 c0_i32_1317
  let v2000 : BitVec 1 := Scalar.andi v1999 v1996
  let v2001 : BitVec 32 := Scalar.addi v1995 v1994
  let v2002 : BitVec 32 := Scalar.select v2000 v2001 v1995
  let c0_i32_1321 : BitVec 32 := 0#32
  let v2004 : BitVec 1 := Scalar.cmpi .sgt v2002 c0_i32_1321
  let v2005 : BitVec 32 := Scalar.extui v2004
  let c0_i32_1322 : BitVec 32 := 0#32
  let v2006 : BitVec 1 := Scalar.cmpi .slt v2002 c0_i32_1322
  let v2007 : BitVec 32 := Scalar.extui v2006
  let v2008 : BitVec 32 := Scalar.subi v2005 v2007
  let c4_i32_1320 : BitVec 32 := 4#32
  let c0_i32_1323 : BitVec 32 := 0#32
  let v2009 : BitVec 1 := Scalar.cmpi .sgt c4_i32_1320 c0_i32_1323
  let v2010 : BitVec 32 := Scalar.extui v2009
  let c0_i32_1324 : BitVec 32 := 0#32
  let v2011 : BitVec 1 := Scalar.cmpi .slt c4_i32_1320 c0_i32_1324
  let v2012 : BitVec 32 := Scalar.extui v2011
  let v2013 : BitVec 32 := Scalar.subi v2010 v2012
  let v2014 : BitVec 1 := Scalar.cmpi .ne v2008 v2013
  let v2015 : BitVec 32 := Scalar.remsi v2002 c4_i32_1320
  let c0_i32_1325 : BitVec 32 := 0#32
  let v2016 : BitVec 1 := Scalar.cmpi .ne v2015 c0_i32_1325
  let v2017 : BitVec 1 := Scalar.andi v2014 v2016
  let v2003 : BitVec 32 := Scalar.divsi v2002 c4_i32_1320
  let c1_i32_1326 : BitVec 32 := 1#32
  let v2018 : BitVec 32 := Scalar.subi v2003 c1_i32_1326
  let v2019 : BitVec 32 := Scalar.select v2017 v2018 v2003
  let c0_i32_1327 : BitVec 32 := 0#32
  let v2020 : BitVec 1 := Scalar.cmpi .eq v2019 c0_i32_1327
  let c1_i32_1328 : BitVec 32 := 1#32
  let v2021 : BitVec 1 := Scalar.cmpi .eq v2019 c1_i32_1328
  let c7_i32_1329 : BitVec 32 := 7#32
  let v2022 : BitVec 32 := Scalar.subi c7_i32_1329 v2002
  let c2_i32_1330 : BitVec 32 := 2#32
  let v2023 : BitVec 1 := Scalar.cmpi .eq v2019 c2_i32_1330
  let c8_i32_1331 : BitVec 32 := 8#32
  let v2024 : BitVec 32 := Scalar.subi v2002 c8_i32_1331
  let c15_i32_1332 : BitVec 32 := 15#32
  let v2025 : BitVec 32 := Scalar.subi c15_i32_1332 v2002
  let v2026 : BitVec 32 := Scalar.select v2023 v2024 v2025
  let v2027 : BitVec 32 := Scalar.select v2021 v2022 v2026
  let v2028 : BitVec 32 := Scalar.select v2020 v2002 v2027
  let v2029 : BitVec 32 := Scalar.muli c4_i32_1333 v2028
  let v2030 : BitVec 32 := Scalar.addi v2029 v2019
  let v2044 : Index := Scalar.indexCast v2030
  let c0_1347 : Index := 0#32
  let c0_1348 : Index := 0#32
  let c0_1349 : Index := 0#32
  ![v2044.toNat, 0, 0, 0]
def k0_off21 (d0 : Dev nD) (c1_i32_1313 : BitVec 32) : Fin 4 → Nat :=
  let c4_i32_1333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v1992 : BitVec 32 := Scalar.subi v38 c1_i32_1313
  let c16_i32_1314 : BitVec 32 := 16#32
  let c0_i32_1315 : BitVec 32 := 0#32
  let v1993 : BitVec 1 := Scalar.cmpi .eq c16_i32_1314 c0_i32_1315
  let c1_i32_1316 : BitVec 32 := 1#32
  let v1994 : BitVec 32 := Scalar.select v1993 c1_i32_1316 c16_i32_1314
  let v1995 : BitVec 32 := Scalar.remsi v1992 v1994
  let c0_i32_1318 : BitVec 32 := 0#32
  let v1997 : BitVec 1 := Scalar.cmpi .slt v1995 c0_i32_1318
  let c0_i32_1319 : BitVec 32 := 0#32
  let v1998 : BitVec 1 := Scalar.cmpi .slt v1994 c0_i32_1319
  let v1999 : BitVec 1 := Scalar.xori v1997 v1998
  let c0_i32_1317 : BitVec 32 := 0#32
  let v1996 : BitVec 1 := Scalar.cmpi .ne v1995 c0_i32_1317
  let v2000 : BitVec 1 := Scalar.andi v1999 v1996
  let v2001 : BitVec 32 := Scalar.addi v1995 v1994
  let v2002 : BitVec 32 := Scalar.select v2000 v2001 v1995
  let c0_i32_1321 : BitVec 32 := 0#32
  let v2004 : BitVec 1 := Scalar.cmpi .sgt v2002 c0_i32_1321
  let v2005 : BitVec 32 := Scalar.extui v2004
  let c0_i32_1322 : BitVec 32 := 0#32
  let v2006 : BitVec 1 := Scalar.cmpi .slt v2002 c0_i32_1322
  let v2007 : BitVec 32 := Scalar.extui v2006
  let v2008 : BitVec 32 := Scalar.subi v2005 v2007
  let c4_i32_1320 : BitVec 32 := 4#32
  let c0_i32_1323 : BitVec 32 := 0#32
  let v2009 : BitVec 1 := Scalar.cmpi .sgt c4_i32_1320 c0_i32_1323
  let v2010 : BitVec 32 := Scalar.extui v2009
  let c0_i32_1324 : BitVec 32 := 0#32
  let v2011 : BitVec 1 := Scalar.cmpi .slt c4_i32_1320 c0_i32_1324
  let v2012 : BitVec 32 := Scalar.extui v2011
  let v2013 : BitVec 32 := Scalar.subi v2010 v2012
  let v2014 : BitVec 1 := Scalar.cmpi .ne v2008 v2013
  let v2015 : BitVec 32 := Scalar.remsi v2002 c4_i32_1320
  let c0_i32_1325 : BitVec 32 := 0#32
  let v2016 : BitVec 1 := Scalar.cmpi .ne v2015 c0_i32_1325
  let v2017 : BitVec 1 := Scalar.andi v2014 v2016
  let v2003 : BitVec 32 := Scalar.divsi v2002 c4_i32_1320
  let c1_i32_1326 : BitVec 32 := 1#32
  let v2018 : BitVec 32 := Scalar.subi v2003 c1_i32_1326
  let v2019 : BitVec 32 := Scalar.select v2017 v2018 v2003
  let c0_i32_1327 : BitVec 32 := 0#32
  let v2020 : BitVec 1 := Scalar.cmpi .eq v2019 c0_i32_1327
  let c1_i32_1328 : BitVec 32 := 1#32
  let v2021 : BitVec 1 := Scalar.cmpi .eq v2019 c1_i32_1328
  let c7_i32_1329 : BitVec 32 := 7#32
  let v2022 : BitVec 32 := Scalar.subi c7_i32_1329 v2002
  let c2_i32_1330 : BitVec 32 := 2#32
  let v2023 : BitVec 1 := Scalar.cmpi .eq v2019 c2_i32_1330
  let c8_i32_1331 : BitVec 32 := 8#32
  let v2024 : BitVec 32 := Scalar.subi v2002 c8_i32_1331
  let c15_i32_1332 : BitVec 32 := 15#32
  let v2025 : BitVec 32 := Scalar.subi c15_i32_1332 v2002
  let v2026 : BitVec 32 := Scalar.select v2023 v2024 v2025
  let v2027 : BitVec 32 := Scalar.select v2021 v2022 v2026
  let v2028 : BitVec 32 := Scalar.select v2020 v2002 v2027
  let v2029 : BitVec 32 := Scalar.muli c4_i32_1333 v2028
  let v2030 : BitVec 32 := Scalar.addi v2029 v2019
  let v2057 : Index := Scalar.indexCast v2030
  let c1_1359 : Index := 1#32
  let c0_1360 : Index := 0#32
  let c0_1361 : Index := 0#32
  ![v2057.toNat, 1, 0, 0]
def k0_off22 (d0 : Dev nD) (c1_i32_1380 : BitVec 32) : Fin 1 → Nat :=
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v2079 : BitVec 32 := Scalar.addi v38 c1_i32_1380
  let c16_i32_1381 : BitVec 32 := 16#32
  let c0_i32_1382 : BitVec 32 := 0#32
  let v2080 : BitVec 1 := Scalar.cmpi .eq c16_i32_1381 c0_i32_1382
  let c1_i32_1383 : BitVec 32 := 1#32
  let v2081 : BitVec 32 := Scalar.select v2080 c1_i32_1383 c16_i32_1381
  let v2082 : BitVec 32 := Scalar.remsi v2079 v2081
  let c0_i32_1385 : BitVec 32 := 0#32
  let v2084 : BitVec 1 := Scalar.cmpi .slt v2082 c0_i32_1385
  let c0_i32_1386 : BitVec 32 := 0#32
  let v2085 : BitVec 1 := Scalar.cmpi .slt v2081 c0_i32_1386
  let v2086 : BitVec 1 := Scalar.xori v2084 v2085
  let c0_i32_1384 : BitVec 32 := 0#32
  let v2083 : BitVec 1 := Scalar.cmpi .ne v2082 c0_i32_1384
  let v2087 : BitVec 1 := Scalar.andi v2086 v2083
  let v2088 : BitVec 32 := Scalar.addi v2082 v2081
  let v2089 : BitVec 32 := Scalar.select v2087 v2088 v2082
  let c0_i32_1388 : BitVec 32 := 0#32
  let v2091 : BitVec 1 := Scalar.cmpi .sgt v2089 c0_i32_1388
  let v2092 : BitVec 32 := Scalar.extui v2091
  let c0_i32_1389 : BitVec 32 := 0#32
  let v2093 : BitVec 1 := Scalar.cmpi .slt v2089 c0_i32_1389
  let v2094 : BitVec 32 := Scalar.extui v2093
  let v2095 : BitVec 32 := Scalar.subi v2092 v2094
  let c4_i32_1387 : BitVec 32 := 4#32
  let c0_i32_1390 : BitVec 32 := 0#32
  let v2096 : BitVec 1 := Scalar.cmpi .sgt c4_i32_1387 c0_i32_1390
  let v2097 : BitVec 32 := Scalar.extui v2096
  let c0_i32_1391 : BitVec 32 := 0#32
  let v2098 : BitVec 1 := Scalar.cmpi .slt c4_i32_1387 c0_i32_1391
  let v2099 : BitVec 32 := Scalar.extui v2098
  let v2100 : BitVec 32 := Scalar.subi v2097 v2099
  let v2101 : BitVec 1 := Scalar.cmpi .ne v2095 v2100
  let v2102 : BitVec 32 := Scalar.remsi v2089 c4_i32_1387
  let c0_i32_1392 : BitVec 32 := 0#32
  let v2103 : BitVec 1 := Scalar.cmpi .ne v2102 c0_i32_1392
  let v2104 : BitVec 1 := Scalar.andi v2101 v2103
  let v2090 : BitVec 32 := Scalar.divsi v2089 c4_i32_1387
  let c1_i32_1393 : BitVec 32 := 1#32
  let v2105 : BitVec 32 := Scalar.subi v2090 c1_i32_1393
  let v2106 : BitVec 32 := Scalar.select v2104 v2105 v2090
  let c0_i32_1394 : BitVec 32 := 0#32
  let v2107 : BitVec 1 := Scalar.cmpi .eq v2106 c0_i32_1394
  let c1_i32_1395 : BitVec 32 := 1#32
  let v2108 : BitVec 1 := Scalar.cmpi .eq v2106 c1_i32_1395
  let c7_i32_1396 : BitVec 32 := 7#32
  let v2109 : BitVec 32 := Scalar.subi c7_i32_1396 v2089
  let c2_i32_1397 : BitVec 32 := 2#32
  let v2110 : BitVec 1 := Scalar.cmpi .eq v2106 c2_i32_1397
  let c8_i32_1398 : BitVec 32 := 8#32
  let v2111 : BitVec 32 := Scalar.subi v2089 c8_i32_1398
  let c15_i32_1399 : BitVec 32 := 15#32
  let v2112 : BitVec 32 := Scalar.subi c15_i32_1399 v2089
  let v2113 : BitVec 32 := Scalar.select v2110 v2111 v2112
  let v2114 : BitVec 32 := Scalar.select v2108 v2109 v2113
  let v2115 : BitVec 32 := Scalar.select v2107 v2089 v2114
  let v2116 : BitVec 32 := Scalar.muli c4_i32_1400 v2115
  let v2117 : BitVec 32 := Scalar.addi v2116 v2106
  ![v2117.toNat]
def k0_off23 (d0 : Dev nD) (c1_i32_1380 : BitVec 32) : Fin 4 → Nat :=
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v2079 : BitVec 32 := Scalar.addi v38 c1_i32_1380
  let c16_i32_1381 : BitVec 32 := 16#32
  let c0_i32_1382 : BitVec 32 := 0#32
  let v2080 : BitVec 1 := Scalar.cmpi .eq c16_i32_1381 c0_i32_1382
  let c1_i32_1383 : BitVec 32 := 1#32
  let v2081 : BitVec 32 := Scalar.select v2080 c1_i32_1383 c16_i32_1381
  let v2082 : BitVec 32 := Scalar.remsi v2079 v2081
  let c0_i32_1385 : BitVec 32 := 0#32
  let v2084 : BitVec 1 := Scalar.cmpi .slt v2082 c0_i32_1385
  let c0_i32_1386 : BitVec 32 := 0#32
  let v2085 : BitVec 1 := Scalar.cmpi .slt v2081 c0_i32_1386
  let v2086 : BitVec 1 := Scalar.xori v2084 v2085
  let c0_i32_1384 : BitVec 32 := 0#32
  let v2083 : BitVec 1 := Scalar.cmpi .ne v2082 c0_i32_1384
  let v2087 : BitVec 1 := Scalar.andi v2086 v2083
  let v2088 : BitVec 32 := Scalar.addi v2082 v2081
  let v2089 : BitVec 32 := Scalar.select v2087 v2088 v2082
  let c0_i32_1388 : BitVec 32 := 0#32
  let v2091 : BitVec 1 := Scalar.cmpi .sgt v2089 c0_i32_1388
  let v2092 : BitVec 32 := Scalar.extui v2091
  let c0_i32_1389 : BitVec 32 := 0#32
  let v2093 : BitVec 1 := Scalar.cmpi .slt v2089 c0_i32_1389
  let v2094 : BitVec 32 := Scalar.extui v2093
  let v2095 : BitVec 32 := Scalar.subi v2092 v2094
  let c4_i32_1387 : BitVec 32 := 4#32
  let c0_i32_1390 : BitVec 32 := 0#32
  let v2096 : BitVec 1 := Scalar.cmpi .sgt c4_i32_1387 c0_i32_1390
  let v2097 : BitVec 32 := Scalar.extui v2096
  let c0_i32_1391 : BitVec 32 := 0#32
  let v2098 : BitVec 1 := Scalar.cmpi .slt c4_i32_1387 c0_i32_1391
  let v2099 : BitVec 32 := Scalar.extui v2098
  let v2100 : BitVec 32 := Scalar.subi v2097 v2099
  let v2101 : BitVec 1 := Scalar.cmpi .ne v2095 v2100
  let v2102 : BitVec 32 := Scalar.remsi v2089 c4_i32_1387
  let c0_i32_1392 : BitVec 32 := 0#32
  let v2103 : BitVec 1 := Scalar.cmpi .ne v2102 c0_i32_1392
  let v2104 : BitVec 1 := Scalar.andi v2101 v2103
  let v2090 : BitVec 32 := Scalar.divsi v2089 c4_i32_1387
  let c1_i32_1393 : BitVec 32 := 1#32
  let v2105 : BitVec 32 := Scalar.subi v2090 c1_i32_1393
  let v2106 : BitVec 32 := Scalar.select v2104 v2105 v2090
  let c0_i32_1394 : BitVec 32 := 0#32
  let v2107 : BitVec 1 := Scalar.cmpi .eq v2106 c0_i32_1394
  let c1_i32_1395 : BitVec 32 := 1#32
  let v2108 : BitVec 1 := Scalar.cmpi .eq v2106 c1_i32_1395
  let c7_i32_1396 : BitVec 32 := 7#32
  let v2109 : BitVec 32 := Scalar.subi c7_i32_1396 v2089
  let c2_i32_1397 : BitVec 32 := 2#32
  let v2110 : BitVec 1 := Scalar.cmpi .eq v2106 c2_i32_1397
  let c8_i32_1398 : BitVec 32 := 8#32
  let v2111 : BitVec 32 := Scalar.subi v2089 c8_i32_1398
  let c15_i32_1399 : BitVec 32 := 15#32
  let v2112 : BitVec 32 := Scalar.subi c15_i32_1399 v2089
  let v2113 : BitVec 32 := Scalar.select v2110 v2111 v2112
  let v2114 : BitVec 32 := Scalar.select v2108 v2109 v2113
  let v2115 : BitVec 32 := Scalar.select v2107 v2089 v2114
  let v2116 : BitVec 32 := Scalar.muli c4_i32_1400 v2115
  let v2117 : BitVec 32 := Scalar.addi v2116 v2106
  let c0_i32_1403 : BitVec 32 := 0#32
  let c0_i32_1404 : BitVec 32 := 0#32
  let c0_i32_1405 : BitVec 32 := 0#32
  ![v2117.toNat, 0, 0, 0]
def k0_off24 (d0 : Dev nD) (c1_i32_1380 : BitVec 32) : Fin 3 → Nat :=
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v2079 : BitVec 32 := Scalar.addi v38 c1_i32_1380
  let c16_i32_1381 : BitVec 32 := 16#32
  let c0_i32_1382 : BitVec 32 := 0#32
  let v2080 : BitVec 1 := Scalar.cmpi .eq c16_i32_1381 c0_i32_1382
  let c1_i32_1383 : BitVec 32 := 1#32
  let v2081 : BitVec 32 := Scalar.select v2080 c1_i32_1383 c16_i32_1381
  let v2082 : BitVec 32 := Scalar.remsi v2079 v2081
  let c0_i32_1385 : BitVec 32 := 0#32
  let v2084 : BitVec 1 := Scalar.cmpi .slt v2082 c0_i32_1385
  let c0_i32_1386 : BitVec 32 := 0#32
  let v2085 : BitVec 1 := Scalar.cmpi .slt v2081 c0_i32_1386
  let v2086 : BitVec 1 := Scalar.xori v2084 v2085
  let c0_i32_1384 : BitVec 32 := 0#32
  let v2083 : BitVec 1 := Scalar.cmpi .ne v2082 c0_i32_1384
  let v2087 : BitVec 1 := Scalar.andi v2086 v2083
  let v2088 : BitVec 32 := Scalar.addi v2082 v2081
  let v2089 : BitVec 32 := Scalar.select v2087 v2088 v2082
  let c0_i32_1388 : BitVec 32 := 0#32
  let v2091 : BitVec 1 := Scalar.cmpi .sgt v2089 c0_i32_1388
  let v2092 : BitVec 32 := Scalar.extui v2091
  let c0_i32_1389 : BitVec 32 := 0#32
  let v2093 : BitVec 1 := Scalar.cmpi .slt v2089 c0_i32_1389
  let v2094 : BitVec 32 := Scalar.extui v2093
  let v2095 : BitVec 32 := Scalar.subi v2092 v2094
  let c4_i32_1387 : BitVec 32 := 4#32
  let c0_i32_1390 : BitVec 32 := 0#32
  let v2096 : BitVec 1 := Scalar.cmpi .sgt c4_i32_1387 c0_i32_1390
  let v2097 : BitVec 32 := Scalar.extui v2096
  let c0_i32_1391 : BitVec 32 := 0#32
  let v2098 : BitVec 1 := Scalar.cmpi .slt c4_i32_1387 c0_i32_1391
  let v2099 : BitVec 32 := Scalar.extui v2098
  let v2100 : BitVec 32 := Scalar.subi v2097 v2099
  let v2101 : BitVec 1 := Scalar.cmpi .ne v2095 v2100
  let v2102 : BitVec 32 := Scalar.remsi v2089 c4_i32_1387
  let c0_i32_1392 : BitVec 32 := 0#32
  let v2103 : BitVec 1 := Scalar.cmpi .ne v2102 c0_i32_1392
  let v2104 : BitVec 1 := Scalar.andi v2101 v2103
  let v2090 : BitVec 32 := Scalar.divsi v2089 c4_i32_1387
  let c1_i32_1393 : BitVec 32 := 1#32
  let v2105 : BitVec 32 := Scalar.subi v2090 c1_i32_1393
  let v2106 : BitVec 32 := Scalar.select v2104 v2105 v2090
  let c0_i32_1394 : BitVec 32 := 0#32
  let v2107 : BitVec 1 := Scalar.cmpi .eq v2106 c0_i32_1394
  let c1_i32_1395 : BitVec 32 := 1#32
  let v2108 : BitVec 1 := Scalar.cmpi .eq v2106 c1_i32_1395
  let c7_i32_1396 : BitVec 32 := 7#32
  let v2109 : BitVec 32 := Scalar.subi c7_i32_1396 v2089
  let c2_i32_1397 : BitVec 32 := 2#32
  let v2110 : BitVec 1 := Scalar.cmpi .eq v2106 c2_i32_1397
  let c8_i32_1398 : BitVec 32 := 8#32
  let v2111 : BitVec 32 := Scalar.subi v2089 c8_i32_1398
  let c15_i32_1399 : BitVec 32 := 15#32
  let v2112 : BitVec 32 := Scalar.subi c15_i32_1399 v2089
  let v2113 : BitVec 32 := Scalar.select v2110 v2111 v2112
  let v2114 : BitVec 32 := Scalar.select v2108 v2109 v2113
  let v2115 : BitVec 32 := Scalar.select v2107 v2089 v2114
  let v2116 : BitVec 32 := Scalar.muli c4_i32_1400 v2115
  let v2117 : BitVec 32 := Scalar.addi v2116 v2106
  let v2128 : Index := Scalar.indexCast v2117
  let c0_1412 : Index := 0#32
  let c0_1413 : Index := 0#32
  ![v2128.toNat, 0, 0]
def k0_off25 (d0 : Dev nD) (c1_i32_1380 : BitVec 32) : Fin 4 → Nat :=
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v2079 : BitVec 32 := Scalar.addi v38 c1_i32_1380
  let c16_i32_1381 : BitVec 32 := 16#32
  let c0_i32_1382 : BitVec 32 := 0#32
  let v2080 : BitVec 1 := Scalar.cmpi .eq c16_i32_1381 c0_i32_1382
  let c1_i32_1383 : BitVec 32 := 1#32
  let v2081 : BitVec 32 := Scalar.select v2080 c1_i32_1383 c16_i32_1381
  let v2082 : BitVec 32 := Scalar.remsi v2079 v2081
  let c0_i32_1385 : BitVec 32 := 0#32
  let v2084 : BitVec 1 := Scalar.cmpi .slt v2082 c0_i32_1385
  let c0_i32_1386 : BitVec 32 := 0#32
  let v2085 : BitVec 1 := Scalar.cmpi .slt v2081 c0_i32_1386
  let v2086 : BitVec 1 := Scalar.xori v2084 v2085
  let c0_i32_1384 : BitVec 32 := 0#32
  let v2083 : BitVec 1 := Scalar.cmpi .ne v2082 c0_i32_1384
  let v2087 : BitVec 1 := Scalar.andi v2086 v2083
  let v2088 : BitVec 32 := Scalar.addi v2082 v2081
  let v2089 : BitVec 32 := Scalar.select v2087 v2088 v2082
  let c0_i32_1388 : BitVec 32 := 0#32
  let v2091 : BitVec 1 := Scalar.cmpi .sgt v2089 c0_i32_1388
  let v2092 : BitVec 32 := Scalar.extui v2091
  let c0_i32_1389 : BitVec 32 := 0#32
  let v2093 : BitVec 1 := Scalar.cmpi .slt v2089 c0_i32_1389
  let v2094 : BitVec 32 := Scalar.extui v2093
  let v2095 : BitVec 32 := Scalar.subi v2092 v2094
  let c4_i32_1387 : BitVec 32 := 4#32
  let c0_i32_1390 : BitVec 32 := 0#32
  let v2096 : BitVec 1 := Scalar.cmpi .sgt c4_i32_1387 c0_i32_1390
  let v2097 : BitVec 32 := Scalar.extui v2096
  let c0_i32_1391 : BitVec 32 := 0#32
  let v2098 : BitVec 1 := Scalar.cmpi .slt c4_i32_1387 c0_i32_1391
  let v2099 : BitVec 32 := Scalar.extui v2098
  let v2100 : BitVec 32 := Scalar.subi v2097 v2099
  let v2101 : BitVec 1 := Scalar.cmpi .ne v2095 v2100
  let v2102 : BitVec 32 := Scalar.remsi v2089 c4_i32_1387
  let c0_i32_1392 : BitVec 32 := 0#32
  let v2103 : BitVec 1 := Scalar.cmpi .ne v2102 c0_i32_1392
  let v2104 : BitVec 1 := Scalar.andi v2101 v2103
  let v2090 : BitVec 32 := Scalar.divsi v2089 c4_i32_1387
  let c1_i32_1393 : BitVec 32 := 1#32
  let v2105 : BitVec 32 := Scalar.subi v2090 c1_i32_1393
  let v2106 : BitVec 32 := Scalar.select v2104 v2105 v2090
  let c0_i32_1394 : BitVec 32 := 0#32
  let v2107 : BitVec 1 := Scalar.cmpi .eq v2106 c0_i32_1394
  let c1_i32_1395 : BitVec 32 := 1#32
  let v2108 : BitVec 1 := Scalar.cmpi .eq v2106 c1_i32_1395
  let c7_i32_1396 : BitVec 32 := 7#32
  let v2109 : BitVec 32 := Scalar.subi c7_i32_1396 v2089
  let c2_i32_1397 : BitVec 32 := 2#32
  let v2110 : BitVec 1 := Scalar.cmpi .eq v2106 c2_i32_1397
  let c8_i32_1398 : BitVec 32 := 8#32
  let v2111 : BitVec 32 := Scalar.subi v2089 c8_i32_1398
  let c15_i32_1399 : BitVec 32 := 15#32
  let v2112 : BitVec 32 := Scalar.subi c15_i32_1399 v2089
  let v2113 : BitVec 32 := Scalar.select v2110 v2111 v2112
  let v2114 : BitVec 32 := Scalar.select v2108 v2109 v2113
  let v2115 : BitVec 32 := Scalar.select v2107 v2089 v2114
  let v2116 : BitVec 32 := Scalar.muli c4_i32_1400 v2115
  let v2117 : BitVec 32 := Scalar.addi v2116 v2106
  let v2131 : Index := Scalar.indexCast v2117
  let c0_1414 : Index := 0#32
  let c0_1415 : Index := 0#32
  let c0_1416 : Index := 0#32
  ![v2131.toNat, 0, 0, 0]
def k0_off26 (d0 : Dev nD) (c1_i32_1380 : BitVec 32) : Fin 4 → Nat :=
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let v2079 : BitVec 32 := Scalar.addi v38 c1_i32_1380
  let c16_i32_1381 : BitVec 32 := 16#32
  let c0_i32_1382 : BitVec 32 := 0#32
  let v2080 : BitVec 1 := Scalar.cmpi .eq c16_i32_1381 c0_i32_1382
  let c1_i32_1383 : BitVec 32 := 1#32
  let v2081 : BitVec 32 := Scalar.select v2080 c1_i32_1383 c16_i32_1381
  let v2082 : BitVec 32 := Scalar.remsi v2079 v2081
  let c0_i32_1385 : BitVec 32 := 0#32
  let v2084 : BitVec 1 := Scalar.cmpi .slt v2082 c0_i32_1385
  let c0_i32_1386 : BitVec 32 := 0#32
  let v2085 : BitVec 1 := Scalar.cmpi .slt v2081 c0_i32_1386
  let v2086 : BitVec 1 := Scalar.xori v2084 v2085
  let c0_i32_1384 : BitVec 32 := 0#32
  let v2083 : BitVec 1 := Scalar.cmpi .ne v2082 c0_i32_1384
  let v2087 : BitVec 1 := Scalar.andi v2086 v2083
  let v2088 : BitVec 32 := Scalar.addi v2082 v2081
  let v2089 : BitVec 32 := Scalar.select v2087 v2088 v2082
  let c0_i32_1388 : BitVec 32 := 0#32
  let v2091 : BitVec 1 := Scalar.cmpi .sgt v2089 c0_i32_1388
  let v2092 : BitVec 32 := Scalar.extui v2091
  let c0_i32_1389 : BitVec 32 := 0#32
  let v2093 : BitVec 1 := Scalar.cmpi .slt v2089 c0_i32_1389
  let v2094 : BitVec 32 := Scalar.extui v2093
  let v2095 : BitVec 32 := Scalar.subi v2092 v2094
  let c4_i32_1387 : BitVec 32 := 4#32
  let c0_i32_1390 : BitVec 32 := 0#32
  let v2096 : BitVec 1 := Scalar.cmpi .sgt c4_i32_1387 c0_i32_1390
  let v2097 : BitVec 32 := Scalar.extui v2096
  let c0_i32_1391 : BitVec 32 := 0#32
  let v2098 : BitVec 1 := Scalar.cmpi .slt c4_i32_1387 c0_i32_1391
  let v2099 : BitVec 32 := Scalar.extui v2098
  let v2100 : BitVec 32 := Scalar.subi v2097 v2099
  let v2101 : BitVec 1 := Scalar.cmpi .ne v2095 v2100
  let v2102 : BitVec 32 := Scalar.remsi v2089 c4_i32_1387
  let c0_i32_1392 : BitVec 32 := 0#32
  let v2103 : BitVec 1 := Scalar.cmpi .ne v2102 c0_i32_1392
  let v2104 : BitVec 1 := Scalar.andi v2101 v2103
  let v2090 : BitVec 32 := Scalar.divsi v2089 c4_i32_1387
  let c1_i32_1393 : BitVec 32 := 1#32
  let v2105 : BitVec 32 := Scalar.subi v2090 c1_i32_1393
  let v2106 : BitVec 32 := Scalar.select v2104 v2105 v2090
  let c0_i32_1394 : BitVec 32 := 0#32
  let v2107 : BitVec 1 := Scalar.cmpi .eq v2106 c0_i32_1394
  let c1_i32_1395 : BitVec 32 := 1#32
  let v2108 : BitVec 1 := Scalar.cmpi .eq v2106 c1_i32_1395
  let c7_i32_1396 : BitVec 32 := 7#32
  let v2109 : BitVec 32 := Scalar.subi c7_i32_1396 v2089
  let c2_i32_1397 : BitVec 32 := 2#32
  let v2110 : BitVec 1 := Scalar.cmpi .eq v2106 c2_i32_1397
  let c8_i32_1398 : BitVec 32 := 8#32
  let v2111 : BitVec 32 := Scalar.subi v2089 c8_i32_1398
  let c15_i32_1399 : BitVec 32 := 15#32
  let v2112 : BitVec 32 := Scalar.subi c15_i32_1399 v2089
  let v2113 : BitVec 32 := Scalar.select v2110 v2111 v2112
  let v2114 : BitVec 32 := Scalar.select v2108 v2109 v2113
  let v2115 : BitVec 32 := Scalar.select v2107 v2089 v2114
  let v2116 : BitVec 32 := Scalar.muli c4_i32_1400 v2115
  let v2117 : BitVec 32 := Scalar.addi v2116 v2106
  let v2144 : Index := Scalar.indexCast v2117
  let c1_1426 : Index := 1#32
  let c0_1427 : Index := 0#32
  let c0_1428 : Index := 0#32
  ![v2144.toNat, 1, 0, 0]
def k0_dev47 (d0 : Dev nD) : Nat :=
  let c0_i32_1515 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1514 : BitVec 32 := 1#32
  let v2285 : BitVec 32 := Scalar.muli v116 c1_i32_1514
  let v2286 : BitVec 32 := Scalar.addi c0_i32_1515 v2285
  v2286.toNat
def k0_dev48 (d0 : Dev nD) : Nat :=
  let c0_i32_1544 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1543 : BitVec 32 := 1#32
  let v2334 : BitVec 32 := Scalar.muli v77 c1_i32_1543
  let v2335 : BitVec 32 := Scalar.addi c0_i32_1544 v2334
  v2335.toNat
def k0_dev49 (d0 : Dev nD) : Nat :=
  let c0_i32_1631 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1630 : BitVec 32 := 1#32
  let v2477 : BitVec 32 := Scalar.muli v116 c1_i32_1630
  let v2478 : BitVec 32 := Scalar.addi c0_i32_1631 v2477
  v2478.toNat
def k0_dev50 (d0 : Dev nD) : Nat :=
  let c0_i32_1660 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1659 : BitVec 32 := 1#32
  let v2526 : BitVec 32 := Scalar.muli v77 c1_i32_1659
  let v2527 : BitVec 32 := Scalar.addi c0_i32_1660 v2526
  v2527.toNat
def k0_dev51 (d0 : Dev nD) : Nat :=
  let c0_i32_1747 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1746 : BitVec 32 := 1#32
  let v2669 : BitVec 32 := Scalar.muli v116 c1_i32_1746
  let v2670 : BitVec 32 := Scalar.addi c0_i32_1747 v2669
  v2670.toNat
def k0_dev52 (d0 : Dev nD) : Nat :=
  let c0_i32_1776 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1775 : BitVec 32 := 1#32
  let v2718 : BitVec 32 := Scalar.muli v77 c1_i32_1775
  let v2719 : BitVec 32 := Scalar.addi c0_i32_1776 v2718
  v2719.toNat
def k0_dev53 (d0 : Dev nD) : Nat :=
  let c0_i32_1863 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_1862 : BitVec 32 := 1#32
  let v2861 : BitVec 32 := Scalar.muli v116 c1_i32_1862
  let v2862 : BitVec 32 := Scalar.addi c0_i32_1863 v2861
  v2862.toNat
def k0_dev54 (d0 : Dev nD) : Nat :=
  let c0_i32_1892 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_1891 : BitVec 32 := 1#32
  let v2910 : BitVec 32 := Scalar.muli v77 c1_i32_1891
  let v2911 : BitVec 32 := Scalar.addi c0_i32_1892 v2910
  v2911.toNat
def k0_dev55 (d0 : Dev nD) : Nat :=
  let c0_i32_2085 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2084 : BitVec 32 := 1#32
  let v3199 : BitVec 32 := Scalar.muli v116 c1_i32_2084
  let v3200 : BitVec 32 := Scalar.addi c0_i32_2085 v3199
  v3200.toNat
def k0_dev56 (d0 : Dev nD) : Nat :=
  let c0_i32_2114 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2113 : BitVec 32 := 1#32
  let v3248 : BitVec 32 := Scalar.muli v77 c1_i32_2113
  let v3249 : BitVec 32 := Scalar.addi c0_i32_2114 v3248
  v3249.toNat
def k0_dev57 (d0 : Dev nD) : Nat :=
  let c0_i32_2201 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2200 : BitVec 32 := 1#32
  let v3391 : BitVec 32 := Scalar.muli v116 c1_i32_2200
  let v3392 : BitVec 32 := Scalar.addi c0_i32_2201 v3391
  v3392.toNat
def k0_dev58 (d0 : Dev nD) : Nat :=
  let c0_i32_2230 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2229 : BitVec 32 := 1#32
  let v3440 : BitVec 32 := Scalar.muli v77 c1_i32_2229
  let v3441 : BitVec 32 := Scalar.addi c0_i32_2230 v3440
  v3441.toNat
def k0_dev59 (d0 : Dev nD) : Nat :=
  let c0_i32_2317 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2316 : BitVec 32 := 1#32
  let v3583 : BitVec 32 := Scalar.muli v116 c1_i32_2316
  let v3584 : BitVec 32 := Scalar.addi c0_i32_2317 v3583
  v3584.toNat
def k0_dev60 (d0 : Dev nD) : Nat :=
  let c0_i32_2346 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2345 : BitVec 32 := 1#32
  let v3632 : BitVec 32 := Scalar.muli v77 c1_i32_2345
  let v3633 : BitVec 32 := Scalar.addi c0_i32_2346 v3632
  v3633.toNat
def k0_dev61 (d0 : Dev nD) : Nat :=
  let c0_i32_2433 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2432 : BitVec 32 := 1#32
  let v3775 : BitVec 32 := Scalar.muli v116 c1_i32_2432
  let v3776 : BitVec 32 := Scalar.addi c0_i32_2433 v3775
  v3776.toNat
def k0_dev62 (d0 : Dev nD) : Nat :=
  let c0_i32_2462 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2461 : BitVec 32 := 1#32
  let v3824 : BitVec 32 := Scalar.muli v77 c1_i32_2461
  let v3825 : BitVec 32 := Scalar.addi c0_i32_2462 v3824
  v3825.toNat
def k0_dev63 (d0 : Dev nD) : Nat :=
  let c0_i32_2655 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2654 : BitVec 32 := 1#32
  let v4113 : BitVec 32 := Scalar.muli v116 c1_i32_2654
  let v4114 : BitVec 32 := Scalar.addi c0_i32_2655 v4113
  v4114.toNat
def k0_dev64 (d0 : Dev nD) : Nat :=
  let c0_i32_2684 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2683 : BitVec 32 := 1#32
  let v4162 : BitVec 32 := Scalar.muli v77 c1_i32_2683
  let v4163 : BitVec 32 := Scalar.addi c0_i32_2684 v4162
  v4163.toNat
def k0_dev65 (d0 : Dev nD) : Nat :=
  let c0_i32_2770 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2769 : BitVec 32 := 1#32
  let v4305 : BitVec 32 := Scalar.muli v116 c1_i32_2769
  let v4306 : BitVec 32 := Scalar.addi c0_i32_2770 v4305
  v4306.toNat
def k0_dev66 (d0 : Dev nD) : Nat :=
  let c0_i32_2799 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2798 : BitVec 32 := 1#32
  let v4354 : BitVec 32 := Scalar.muli v77 c1_i32_2798
  let v4355 : BitVec 32 := Scalar.addi c0_i32_2799 v4354
  v4355.toNat
def k0_dev67 (d0 : Dev nD) : Nat :=
  let c0_i32_2885 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2884 : BitVec 32 := 1#32
  let v4497 : BitVec 32 := Scalar.muli v116 c1_i32_2884
  let v4498 : BitVec 32 := Scalar.addi c0_i32_2885 v4497
  v4498.toNat
def k0_dev68 (d0 : Dev nD) : Nat :=
  let c0_i32_2914 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_2913 : BitVec 32 := 1#32
  let v4546 : BitVec 32 := Scalar.muli v77 c1_i32_2913
  let v4547 : BitVec 32 := Scalar.addi c0_i32_2914 v4546
  v4547.toNat
def k0_dev69 (d0 : Dev nD) : Nat :=
  let c0_i32_3000 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_2999 : BitVec 32 := 1#32
  let v4689 : BitVec 32 := Scalar.muli v116 c1_i32_2999
  let v4690 : BitVec 32 := Scalar.addi c0_i32_3000 v4689
  v4690.toNat
def k0_dev70 (d0 : Dev nD) : Nat :=
  let c0_i32_3029 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3028 : BitVec 32 := 1#32
  let v4738 : BitVec 32 := Scalar.muli v77 c1_i32_3028
  let v4739 : BitVec 32 := Scalar.addi c0_i32_3029 v4738
  v4739.toNat
def k0_dev71 (d0 : Dev nD) : Nat :=
  let c0_i32_3221 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3220 : BitVec 32 := 1#32
  let v5027 : BitVec 32 := Scalar.muli v116 c1_i32_3220
  let v5028 : BitVec 32 := Scalar.addi c0_i32_3221 v5027
  v5028.toNat
def k0_dev72 (d0 : Dev nD) : Nat :=
  let c0_i32_3250 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3249 : BitVec 32 := 1#32
  let v5076 : BitVec 32 := Scalar.muli v77 c1_i32_3249
  let v5077 : BitVec 32 := Scalar.addi c0_i32_3250 v5076
  v5077.toNat
def k0_dev73 (d0 : Dev nD) : Nat :=
  let c0_i32_3336 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3335 : BitVec 32 := 1#32
  let v5219 : BitVec 32 := Scalar.muli v116 c1_i32_3335
  let v5220 : BitVec 32 := Scalar.addi c0_i32_3336 v5219
  v5220.toNat
def k0_dev74 (d0 : Dev nD) : Nat :=
  let c0_i32_3365 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3364 : BitVec 32 := 1#32
  let v5268 : BitVec 32 := Scalar.muli v77 c1_i32_3364
  let v5269 : BitVec 32 := Scalar.addi c0_i32_3365 v5268
  v5269.toNat
def k0_dev75 (d0 : Dev nD) : Nat :=
  let c0_i32_3451 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3450 : BitVec 32 := 1#32
  let v5411 : BitVec 32 := Scalar.muli v116 c1_i32_3450
  let v5412 : BitVec 32 := Scalar.addi c0_i32_3451 v5411
  v5412.toNat
def k0_dev76 (d0 : Dev nD) : Nat :=
  let c0_i32_3480 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3479 : BitVec 32 := 1#32
  let v5460 : BitVec 32 := Scalar.muli v77 c1_i32_3479
  let v5461 : BitVec 32 := Scalar.addi c0_i32_3480 v5460
  v5461.toNat
def k0_dev77 (d0 : Dev nD) : Nat :=
  let c0_i32_3566 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3565 : BitVec 32 := 1#32
  let v5603 : BitVec 32 := Scalar.muli v116 c1_i32_3565
  let v5604 : BitVec 32 := Scalar.addi c0_i32_3566 v5603
  v5604.toNat
def k0_dev78 (d0 : Dev nD) : Nat :=
  let c0_i32_3595 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3594 : BitVec 32 := 1#32
  let v5652 : BitVec 32 := Scalar.muli v77 c1_i32_3594
  let v5653 : BitVec 32 := Scalar.addi c0_i32_3595 v5652
  v5653.toNat
def k0_dev79 (d0 : Dev nD) : Nat :=
  let c0_i32_3787 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3786 : BitVec 32 := 1#32
  let v5941 : BitVec 32 := Scalar.muli v116 c1_i32_3786
  let v5942 : BitVec 32 := Scalar.addi c0_i32_3787 v5941
  v5942.toNat
def k0_dev80 (d0 : Dev nD) : Nat :=
  let c0_i32_3816 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3815 : BitVec 32 := 1#32
  let v5990 : BitVec 32 := Scalar.muli v77 c1_i32_3815
  let v5991 : BitVec 32 := Scalar.addi c0_i32_3816 v5990
  v5991.toNat
def k0_dev81 (d0 : Dev nD) : Nat :=
  let c0_i32_3902 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_3901 : BitVec 32 := 1#32
  let v6133 : BitVec 32 := Scalar.muli v116 c1_i32_3901
  let v6134 : BitVec 32 := Scalar.addi c0_i32_3902 v6133
  v6134.toNat
def k0_dev82 (d0 : Dev nD) : Nat :=
  let c0_i32_3931 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_3930 : BitVec 32 := 1#32
  let v6182 : BitVec 32 := Scalar.muli v77 c1_i32_3930
  let v6183 : BitVec 32 := Scalar.addi c0_i32_3931 v6182
  v6183.toNat
def k0_dev83 (d0 : Dev nD) : Nat :=
  let c0_i32_4017 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4016 : BitVec 32 := 1#32
  let v6325 : BitVec 32 := Scalar.muli v116 c1_i32_4016
  let v6326 : BitVec 32 := Scalar.addi c0_i32_4017 v6325
  v6326.toNat
def k0_dev84 (d0 : Dev nD) : Nat :=
  let c0_i32_4046 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_4045 : BitVec 32 := 1#32
  let v6374 : BitVec 32 := Scalar.muli v77 c1_i32_4045
  let v6375 : BitVec 32 := Scalar.addi c0_i32_4046 v6374
  v6375.toNat
def k0_dev85 (d0 : Dev nD) : Nat :=
  let c0_i32_4132 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4131 : BitVec 32 := 1#32
  let v6517 : BitVec 32 := Scalar.muli v116 c1_i32_4131
  let v6518 : BitVec 32 := Scalar.addi c0_i32_4132 v6517
  v6518.toNat
def k0_dev86 (d0 : Dev nD) : Nat :=
  let c0_i32_4161 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_13 : BitVec 32 := 1#32
  let v39 : BitVec 32 := Scalar.subi v38 c1_i32_13
  let c16_i32_14 : BitVec 32 := 16#32
  let c0_i32_15 : BitVec 32 := 0#32
  let v40 : BitVec 1 := Scalar.cmpi .eq c16_i32_14 c0_i32_15
  let c1_i32_16 : BitVec 32 := 1#32
  let v41 : BitVec 32 := Scalar.select v40 c1_i32_16 c16_i32_14
  let v42 : BitVec 32 := Scalar.remsi v39 v41
  let c0_i32_18 : BitVec 32 := 0#32
  let v44 : BitVec 1 := Scalar.cmpi .slt v42 c0_i32_18
  let c0_i32_19 : BitVec 32 := 0#32
  let v45 : BitVec 1 := Scalar.cmpi .slt v41 c0_i32_19
  let v46 : BitVec 1 := Scalar.xori v44 v45
  let c0_i32_17 : BitVec 32 := 0#32
  let v43 : BitVec 1 := Scalar.cmpi .ne v42 c0_i32_17
  let v47 : BitVec 1 := Scalar.andi v46 v43
  let v48 : BitVec 32 := Scalar.addi v42 v41
  let v49 : BitVec 32 := Scalar.select v47 v48 v42
  let c0_i32_21 : BitVec 32 := 0#32
  let v51 : BitVec 1 := Scalar.cmpi .sgt v49 c0_i32_21
  let v52 : BitVec 32 := Scalar.extui v51
  let c0_i32_22 : BitVec 32 := 0#32
  let v53 : BitVec 1 := Scalar.cmpi .slt v49 c0_i32_22
  let v54 : BitVec 32 := Scalar.extui v53
  let v55 : BitVec 32 := Scalar.subi v52 v54
  let c4_i32_20 : BitVec 32 := 4#32
  let c0_i32_23 : BitVec 32 := 0#32
  let v56 : BitVec 1 := Scalar.cmpi .sgt c4_i32_20 c0_i32_23
  let v57 : BitVec 32 := Scalar.extui v56
  let c0_i32_24 : BitVec 32 := 0#32
  let v58 : BitVec 1 := Scalar.cmpi .slt c4_i32_20 c0_i32_24
  let v59 : BitVec 32 := Scalar.extui v58
  let v60 : BitVec 32 := Scalar.subi v57 v59
  let v61 : BitVec 1 := Scalar.cmpi .ne v55 v60
  let v62 : BitVec 32 := Scalar.remsi v49 c4_i32_20
  let c0_i32_25 : BitVec 32 := 0#32
  let v63 : BitVec 1 := Scalar.cmpi .ne v62 c0_i32_25
  let v64 : BitVec 1 := Scalar.andi v61 v63
  let v50 : BitVec 32 := Scalar.divsi v49 c4_i32_20
  let c1_i32_26 : BitVec 32 := 1#32
  let v65 : BitVec 32 := Scalar.subi v50 c1_i32_26
  let v66 : BitVec 32 := Scalar.select v64 v65 v50
  let c0_i32_27 : BitVec 32 := 0#32
  let v67 : BitVec 1 := Scalar.cmpi .eq v66 c0_i32_27
  let c1_i32_28 : BitVec 32 := 1#32
  let v68 : BitVec 1 := Scalar.cmpi .eq v66 c1_i32_28
  let c7_i32_29 : BitVec 32 := 7#32
  let v69 : BitVec 32 := Scalar.subi c7_i32_29 v49
  let c2_i32_30 : BitVec 32 := 2#32
  let v70 : BitVec 1 := Scalar.cmpi .eq v66 c2_i32_30
  let c8_i32_31 : BitVec 32 := 8#32
  let v71 : BitVec 32 := Scalar.subi v49 c8_i32_31
  let c15_i32_32 : BitVec 32 := 15#32
  let v72 : BitVec 32 := Scalar.subi c15_i32_32 v49
  let v73 : BitVec 32 := Scalar.select v70 v71 v72
  let v74 : BitVec 32 := Scalar.select v68 v69 v73
  let v75 : BitVec 32 := Scalar.select v67 v49 v74
  let v76 : BitVec 32 := Scalar.muli c4_i32_33 v75
  let v77 : BitVec 32 := Scalar.addi v76 v66
  let c1_i32_4160 : BitVec 32 := 1#32
  let v6566 : BitVec 32 := Scalar.muli v77 c1_i32_4160
  let v6567 : BitVec 32 := Scalar.addi c0_i32_4161 v6566
  v6567.toNat
def k0_dev87 (d0 : Dev nD) : Nat :=
  let c0_i32_4324 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4323 : BitVec 32 := 1#32
  let v6808 : BitVec 32 := Scalar.muli v116 c1_i32_4323
  let v6809 : BitVec 32 := Scalar.addi c0_i32_4324 v6808
  v6809.toNat
def k0_dev88 (d0 : Dev nD) : Nat :=
  let c0_i32_4381 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4380 : BitVec 32 := 1#32
  let v6904 : BitVec 32 := Scalar.muli v116 c1_i32_4380
  let v6905 : BitVec 32 := Scalar.addi c0_i32_4381 v6904
  v6905.toNat
def k0_dev89 (d0 : Dev nD) : Nat :=
  let c0_i32_4438 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4437 : BitVec 32 := 1#32
  let v7000 : BitVec 32 := Scalar.muli v116 c1_i32_4437
  let v7001 : BitVec 32 := Scalar.addi c0_i32_4438 v7000
  v7001.toNat
def k0_dev90 (d0 : Dev nD) : Nat :=
  let c0_i32_4495 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v30 : BitVec 1 := Scalar.cmpi .eq v12 c0_i32_11
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_12 : BitVec 32 := 1#32
  let v31 : BitVec 1 := Scalar.cmpi .eq v12 c1_i32_12
  let c7_i32 : BitVec 32 := 7#32
  let v32 : BitVec 32 := Scalar.subi c7_i32 v29
  let c2_i32 : BitVec 32 := 2#32
  let v33 : BitVec 1 := Scalar.cmpi .eq v12 c2_i32
  let c8_i32 : BitVec 32 := 8#32
  let v34 : BitVec 32 := Scalar.addi c8_i32 v29
  let c15_i32 : BitVec 32 := 15#32
  let v35 : BitVec 32 := Scalar.subi c15_i32 v29
  let v36 : BitVec 32 := Scalar.select v33 v34 v35
  let v37 : BitVec 32 := Scalar.select v31 v32 v36
  let v38 : BitVec 32 := Scalar.select v30 v29 v37
  let c1_i32_34 : BitVec 32 := 1#32
  let v78 : BitVec 32 := Scalar.addi v38 c1_i32_34
  let c16_i32_35 : BitVec 32 := 16#32
  let c0_i32_36 : BitVec 32 := 0#32
  let v79 : BitVec 1 := Scalar.cmpi .eq c16_i32_35 c0_i32_36
  let c1_i32_37 : BitVec 32 := 1#32
  let v80 : BitVec 32 := Scalar.select v79 c1_i32_37 c16_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c4_i32_41 : BitVec 32 := 4#32
  let c0_i32_44 : BitVec 32 := 0#32
  let v95 : BitVec 1 := Scalar.cmpi .sgt c4_i32_41 c0_i32_44
  let v96 : BitVec 32 := Scalar.extui v95
  let c0_i32_45 : BitVec 32 := 0#32
  let v97 : BitVec 1 := Scalar.cmpi .slt c4_i32_41 c0_i32_45
  let v98 : BitVec 32 := Scalar.extui v97
  let v99 : BitVec 32 := Scalar.subi v96 v98
  let v100 : BitVec 1 := Scalar.cmpi .ne v94 v99
  let v101 : BitVec 32 := Scalar.remsi v88 c4_i32_41
  let c0_i32_46 : BitVec 32 := 0#32
  let v102 : BitVec 1 := Scalar.cmpi .ne v101 c0_i32_46
  let v103 : BitVec 1 := Scalar.andi v100 v102
  let v89 : BitVec 32 := Scalar.divsi v88 c4_i32_41
  let c1_i32_47 : BitVec 32 := 1#32
  let v104 : BitVec 32 := Scalar.subi v89 c1_i32_47
  let v105 : BitVec 32 := Scalar.select v103 v104 v89
  let c0_i32_48 : BitVec 32 := 0#32
  let v106 : BitVec 1 := Scalar.cmpi .eq v105 c0_i32_48
  let c1_i32_49 : BitVec 32 := 1#32
  let v107 : BitVec 1 := Scalar.cmpi .eq v105 c1_i32_49
  let c7_i32_50 : BitVec 32 := 7#32
  let v108 : BitVec 32 := Scalar.subi c7_i32_50 v88
  let c2_i32_51 : BitVec 32 := 2#32
  let v109 : BitVec 1 := Scalar.cmpi .eq v105 c2_i32_51
  let c8_i32_52 : BitVec 32 := 8#32
  let v110 : BitVec 32 := Scalar.subi v88 c8_i32_52
  let c15_i32_53 : BitVec 32 := 15#32
  let v111 : BitVec 32 := Scalar.subi c15_i32_53 v88
  let v112 : BitVec 32 := Scalar.select v109 v110 v111
  let v113 : BitVec 32 := Scalar.select v107 v108 v112
  let v114 : BitVec 32 := Scalar.select v106 v88 v113
  let v115 : BitVec 32 := Scalar.muli c4_i32_54 v114
  let v116 : BitVec 32 := Scalar.addi v115 v105
  let c1_i32_4494 : BitVec 32 := 1#32
  let v7096 : BitVec 32 := Scalar.muli v116 c1_i32_4494
  let v7097 : BitVec 32 := Scalar.addi c0_i32_4495 v7096
  v7097.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x160 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== PrepareReferenceIdeal.lean ====
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S1024x16x128 : Shape := ⟨3, ![1024, 16, 128]⟩
abbrev S1024x512 : Shape := ⟨2, ![1024, 512]⟩
abbrev S1024x16x32 : Shape := ⟨3, ![1024, 16, 32]⟩
abbrev S1024x32 : Shape := ⟨2, ![1024, 32]⟩
abbrev S1024x1x32 : Shape := ⟨3, ![1024, 1, 32]⟩
abbrev S1024x16x160 : Shape := ⟨3, ![1024, 16, 160]⟩
abbrev S1024x2560 : Shape := ⟨2, ![1024, 2560]⟩

abbrev nBuf : Space → Nat
  | .hbm => 32
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S1024x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x512, .f32⟩
  | .hbm, ⟨13, _⟩ => ⟨S2048x32, .f32⟩
  | .hbm, ⟨14, _⟩ => ⟨S1024x2048, .f32⟩
  | .hbm, ⟨15, _⟩ => ⟨S1024x2048, .f32⟩
  | .hbm, ⟨16, _⟩ => ⟨S1024x16x128, .f32⟩
  | .hbm, ⟨17, _⟩ => ⟨S1024x2048, .f32⟩
  | .hbm, ⟨18, _⟩ => ⟨S1024x2048, .f32⟩
  | .hbm, ⟨19, _⟩ => ⟨S1024x16x128, .f32⟩
  | .hbm, ⟨20, _⟩ => ⟨S1024x512, .f32⟩
  | .hbm, ⟨21, _⟩ => ⟨S1024x16x32, .f32⟩
  | .hbm, ⟨22, _⟩ => ⟨S1024x32, .f32⟩
  | .hbm, ⟨23, _⟩ => ⟨S1024x1x32, .f32⟩
  | .hbm, ⟨24, _⟩ => ⟨S1024x16x32, .f32⟩
  | .hbm, ⟨25, _⟩ => ⟨S1024x16x160, .f32⟩
  | .hbm, ⟨26, _⟩ => ⟨S1024x2560, .f32⟩
  | .hbm, ⟨27, _⟩ => ⟨S1024x16x160, .f32⟩
  | .hbm, ⟨28, _⟩ => ⟨S1024x2560, .f32⟩
  | .hbm, ⟨29, _⟩ => ⟨S1024x2560, .bf16⟩
  | .hbm, ⟨30, _⟩ => ⟨S1024x2048, .bf16⟩
  | .hbm, ⟨31, _⟩ => ⟨S1024x2560, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Pipe.lean ====
/-
  One direction of the gather ring, over any launch: `n` copies, each of a quarter of a slot, from
  every device to its neighbour in that direction. Device `c` sends as copy `m` the quarter `m % 4` of
  the slot `slot c (m / 4)` into the same place of the neighbour's buffer; what arrives at `c` as copy
  `m` is the quarter that `c` sends on as copy `m + 4`. Every buffer holds, where it has been filled,
  the one gathered array `g`.
-/
module

public import Idealize.ShloMosaic.Lib.Rounds
public import Idealize.SL.BI.BigOpNat
public import Idealize.ShloMosaic.Lib.ViewIndex
public import Idealize.ShloMosaic.Lib.Ring
public import Idealize.ShloMosaic.Lib.Tactic
public import Idealize.ShloMosaic.Lib.Pipeline.Kit

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {U : Type} [URA U] {Λ : Labels}

local notation "𝕄" => MT nD τ sig Unit Val ℕ U ℕ

abbrev SB : Shape := ⟨3, ![16, 1024, 128]⟩
abbrev SQ : Shape := ⟨2, ![256, 128]⟩

/-- The place of quarter `h` of slot `k`. -/
abbrev qoff (k : Fin 16) (h : Fin 4) : Fin 3 → ℕ := ![k.val, 256 * h.val, 0]

theorem qoff_inb (k : Fin 16) (h : Fin 4) : ∀ a, qoff k h a + (![1, 256, 128] : Fin 3 → ℕ) a ≤ SB.size a := by
  revert k h; decide

/-- The rectangle of quarter `h` of slot `k`. -/
abbrev qrect (k : Fin 16) (h : Fin 4) : Rect SB := Rect.unit (s := SB) (qoff k h) ![1, 256, 128] (qoff_inb k h)

variable (M : Memref sig .tc .vmem SB .bf16)

/-- The elements of quarter `h` of slot `k`. -/
def qset (k : Fin 16) (h : Fin 4) : Finset M.view.ty.Idx := (M.view.slice (qrect k h)).set

/-- Quarter `h` of slot `k` of device `c`'s buffer, held at share `q` with contents `f`. -/
def piece (c : Dev nD) (k : Fin 16) (h : Fin 4) (q : PosShare TreeShare) (f : M.view.ty.Contents Val) : sProp 𝕄 :=
  M.view.loc (c : Thread nD τ) ↦[qset M k h]{q} f

instance piece_storable (c : Dev nD) (k : Fin 16) (h : Fin 4) (q) (f : M.view.ty.Contents Val) :
    BI.Storable (upEmb : UEmb _ 𝕄) (piece (U := U) (τ := τ) M c k h q f) := by unfold piece; infer_instance

/-- The two halves of the share of a quarter. -/
theorem piece_split (c : Dev nD) (k : Fin 16) (h : Fin 4) (q : PosShare TreeShare) (f : M.view.ty.Contents Val) :
    piece (U := U) (τ := τ) M c k h q f ⊣⊢ iprop(piece M c k h q.left f ∗ piece M c k h q.right f) :=
  pointsTo_share (PosShare.mem_left_op_right q)

/-- The quarter of a copy index. -/
abbrev hq (m : ℕ) : Fin 4 := ⟨m % 4, Nat.mod_lt _ (by decide)⟩

/-- One direction of the ring. -/
structure Dir (nD : ℕ) (sig : RefSig) where
  n : ℕ
  S : ℕ → DmaSem sig
  R : ℕ → DmaSem sig
  nx : Dev nD → Dev nD
  slot : Dev nD → ℕ → Fin 16
  hslot : ∀ c s, slot (nx c) (s + 1) = slot c s
  sh : ℕ → PosShare TreeShare
  sh4 : ∀ m, sh (m + 4) = fullShare.left

/-- The quarter as the program slices it. -/
abbrev qsub (M : Memref sig .tc .vmem SB .bf16) (off : Fin 3 → ℕ) (inb : ∀ a, off a + (![1, 256, 128] : Fin 3 → ℕ) a ≤ SB.size a)
    (hst : ∀ a, (Rect.unit (s := SB) off ![1, 256, 128] inb).stride a = 1) (hsq : (⟨3, ![1, 256, 128]⟩ : Shape).Squeezes SQ) :
    Memref sig .tc .vmem SQ .bf16 :=
  (M.slice (Rect.unit (s := SB) off ![1, 256, 128] inb) hst).squeeze SQ hsq

/-- The credit of one quarter's copy. -/
abbrev NQ (M : Memref sig .tc .vmem SB .bf16) : ℕ := (qsub M (qoff 0 0) (qoff_inb 0 0) (fun _ => rfl) (by decide)).view.dmaCredit

variable (ER : Emb (URounds (GSem nD τ sig) (Fin 16)) (MT nD τ sig Unit Val ℕ U ℕ))
variable (rd : Rounds.Schedule (GSem nD τ sig) (Fin 16) (MT nD τ sig Unit Val ℕ U ℕ))

namespace Dir

variable (D : Dir nD sig)

abbrev sCell (c : Dev nD) (m : ℕ) : GSem nD τ sig := ((c : Thread nD τ), .dma (D.S m))
abbrev rCell (c : Dev nD) (m : ℕ) : GSem nD τ sig := ((c : Thread nD τ), .dma (D.R m))

/-- The piece a device sends as copy `m`. -/
abbrev pc (c : Dev nD) (m : ℕ) (q : PosShare TreeShare) (f : M.view.ty.Contents Val) : sProp 𝕄 :=
  piece M c (D.slot c (m / 4)) (hq m) q f

/-- What the schedule says of this direction's cells, and that the persistent `I` holds them. -/
structure Ok (g : M.view.ty.Contents Val) (I : sProp 𝕄) : Prop where
  sd : ∀ (c : Dev nD) (m : ℕ), m < D.n → rd.duties (D.sCell c m) 0 = ({0} : Finset (Fin 16))
  rdu : ∀ (c : Dev nD) (m : ℕ), m < D.n → rd.duties (D.rCell c m) 0 = ({0} : Finset (Fin 16))
  later : ∀ (c : Dev nD) (m : ℕ), m < D.n → ∀ r, 0 + 1 ≤ r → rd.duties (D.rCell c m) r = (∅ : Finset (Fin 16))
  laterS : ∀ (c : Dev nD) (m : ℕ), m < D.n → ∀ r, 0 + 1 ≤ r → rd.duties (D.sCell c m) r = (∅ : Finset (Fin 16))
  su : ∀ (c : Dev nD) (m : ℕ), m < D.n → ¬ rd.unitless (D.sCell c m)
  ru : ∀ (c : Dev nD) (m : ℕ), m < D.n → ¬ rd.unitless (D.rCell c m)
  sa : ∀ (c : Dev nD) (m : ℕ), m < D.n → rd.amount (D.sCell c m) 0 0 = NQ M
  ra : ∀ (c : Dev nD) (m : ℕ), m < D.n → rd.amount (D.rCell c m) 0 0 = NQ M
  sP : ∀ (c : Dev nD) (m : ℕ), m < D.n → rd.payload (D.sCell c m) 0 0 = D.pc M c m (D.sh m) g
  rP : ∀ (c : Dev nD) (m : ℕ), m < D.n → rd.payload (D.rCell c m) 0 0 = D.pc M c (m + 4) fullShare g
  sI : ∀ (c : Dev nD) (m : ℕ), m < D.n → I ⊢ iprop(∃ κ, cellInv ER rd κ (D.sCell c m) ∗ reached ER (D.sCell c m) 0)
  rI : ∀ (c : Dev nD) (m : ℕ), m < D.n → I ⊢ iprop(∃ κ, cellInv ER rd κ (D.rCell c m) ∗ reached ER (D.rCell c m) 0)

/-- What device `c` holds of this direction when `w` copies have been waited for and `s` been started. -/
def half (g : M.view.ty.Contents Val) (c : Dev nD) (w s lo : ℕ) : sProp 𝕄 :=
  iprop(bigSep (Finset.Ico w D.n) (fun m => iprop(atPos ER (D.rCell c m) 0 (∅ : Finset (Fin 16)) 0 ∗ cred (tallyAt (D.rCell c m) () (NQ M))))
    ∗ bigSep (Finset.Ico s D.n) (fun m => iprop(dutyTok ER (D.sCell c m) 0 0 ∗ dutyTok ER (D.rCell (D.nx c) m) 0 0
        ∗ ∃ f, piece M (D.nx c) (D.slot c (m / 4)) (hq m) fullShare f))
    ∗ bigSep (Finset.Ico s (w + 4)) (fun m => D.pc M c m (D.sh m) g)
    ∗ bigSep (Finset.Ico lo (w + 4)) (fun m => D.pc M c m fullShare.right g)
    ∗ bigSep (Finset.Ico 0 s) (fun m => cred (tallyAt (D.sCell c m) () (NQ M)))
    ∗ bigSep (Finset.Ico 0 D.n) (fun m => atPos ER (D.sCell c m) 0 (∅ : Finset (Fin 16)) 0)
    ∗ bigSep (Finset.Ico 0 w) (fun m => semVal (D.rCell c m) 0))

variable {M ER rd D}
variable {defs : Defs nD τ sig Val Λ} (𝒱 : Variants)

theorem four (m : ℕ) : (m + 4) / 4 = m / 4 + 1 ∧ (m + 4) % 4 = m % 4 := by omega

theorem pc_next (c : Dev nD) (m : ℕ) (q) (f : M.view.ty.Contents Val) :
    (D.pc M (D.nx c) (m + 4) q f : sProp 𝕄) = piece M (D.nx c) (D.slot c (m / 4)) (hq m) q f := by
  show piece M (D.nx c) (D.slot (D.nx c) ((m + 4) / 4)) ⟨(m + 4) % 4, _⟩ q f = _
  simp only [(four m).1, (four m).2, D.hslot]

variable {α : Type} {Q : α → sProp (MT nD τ sig Unit Val ℕ U ℕ)} {g : M.view.ty.Contents Val} {I : sProp (MT nD τ sig Unit Val ℕ U ℕ)} [Persistent I]

/-- Writing what one quarter holds into the same quarter elsewhere. -/
theorem land (c : Dev nD) (k : Fin 16) (h : Fin 4) (f : M.view.ty.Contents Val) {inb hst hsq} :
    ((qsub M (qoff k h) inb hst hsq).view.loc (c : Thread nD τ) ↦[(qsub M (qoff k h) inb hst hsq).view.set]{fullShare}
        ((qsub M (qoff k h) inb hst hsq).view.write Val f ((qsub M (qoff k h) inb hst hsq).view.read Val g) Finset.univ) : sProp 𝕄)
      = piece M c k h fullShare g := by
  rw [View.write_read_eq_piecewise]
  have e : (qsub M (qoff k h) inb hst hsq).view.set = qset M k h := View.set_reshape _ _
  unfold piece
  rw [← e]
  exact pointsTo_congr fun i hi => Finset.piecewise_eq_of_mem _ _ _ (by exact hi)

theorem sub_pts (c : Dev nD) (k : Fin 16) (h : Fin 4) (q) (f : M.view.ty.Contents Val) {inb hst hsq} :
    ((qsub M (qoff k h) inb hst hsq).view.loc (c : Thread nD τ) ↦[(qsub M (qoff k h) inb hst hsq).view.set]{q} f : sProp 𝕄)
      = piece M c k h q f := by
  have e : (qsub M (qoff k h) inb hst hsq).view.set = qset M k h := View.set_reshape _ _
  unfold piece
  rw [← e]

/-- What the program still does at device `c`, for the assertion `Q`. -/
abbrev run (defs : Defs nD τ sig Val Λ) (c : Dev nD) (p : Prog (TpuEff nD τ sig Val Λ .tc) α) (Q : α → sProp 𝕄) : sProp 𝕄 :=
  wp frame (wpE defs 𝒱 (c : Thread nD τ) none) Set.univ p Q

/-- Copy `s` is started. -/
theorem start (hok : D.Ok M ER rd g I) (hr : ∀ c c' : Dev nD, τ.routes (c : Thread nD τ) (c' : Thread nD τ) = true)
    {c n : Dev nD} {w s lo : ℕ} (hs : s < D.n) (hw : s < w + 4) (hn : n = D.nx c)
    {off : Fin 3 → ℕ} (hoff : off = qoff (D.slot c (s / 4)) (hq s)) {inb hst hsq inb' hst' hsq'}
    {sS sR : DmaSem sig} (hS : sS = D.S s) (hR : sR = D.R s)
    {hsc : (qsub M off inb hst hsq : Memref sig (Dev.tc n : Thread nD τ).2.kind .vmem SQ .bf16).view.ref.isScScratch = false}
    {hsrc : (qsub M off inb' hst' hsq').view.WordExact} {hdst : (qsub M off inb hst hsq).view.WordExact}
    {hsem : DmaTarget.Typed .vmem (.dma sR) (.remote (Dev.tc n : Thread nD τ) (qsub M off inb hst hsq) (.dma sS) hsc)}
    {k : PUnit → Prog (TpuEff nD τ sig Val Λ .tc) α} {O₀ : CellTallies nD τ sig Unit} (O : CellTallies nD τ sig Unit)
    (hO : O₀ = O + tallyAt (D.rCell (D.nx c) s) () (NQ M)) {W : Waits sig Unit} :
    iprop(I ∗ D.half M ER g c w s lo ∗ (owes (c : Thread nD τ) O₀ W : sProp 𝕄))
      ⊢ iprop(((D.half M ER g c w (s + 1) lo ∗ (owes (c : Thread nD τ) O W : sProp 𝕄)) -∗ (run (U := U) 𝒱 defs c (k ⟨⟩) Q : sProp 𝕄))
          -∗ run (U := U) 𝒱 defs c
              (.op (.enqueueDma (qsub M off inb' hst' hsq') (.remote (Dev.tc n : Thread nD τ) (qsub M off inb hst hsq) (.dma sS) hsc)
                (.dma sR) hsrc hdst hsem) k) Q) := by
  subst hn hoff hS hR
  unfold half
  rw [bigSep_Ico_succ_bot hs, bigSep_Ico_succ_bot hw, bigSep_Ico_succ_top (Nat.zero_le s)]
  iintro ⟨#HI, ⟨Hw, ⟨⟨Ht1, Ht2, ⟨%f, Hd⟩⟩, Ht⟩, ⟨Hp, Hps⟩, Hr, Hc, Ha, Hz⟩, Ho⟩
  iintro Hk
  ihave HS := (hok.sI c s hs) $$ HI
  ihave HR := (hok.rI (D.nx c) s hs) $$ HI
  icases HS with ⟨%κ₁, #HIS, #HrS⟩
  icases HR with ⟨%κ₂, #HIR, #HrR⟩
  have key := Rounds.wp_send_pointsTo (defs := defs) 𝒱 ER rd (c : Thread nD τ) none (Γ := .empty) (Q := Q) (κ₁ := κ₁) (κ₂ := κ₂)
    (c' := (D.nx c : Thread nD τ))
    (src := qsub M (qoff (D.slot c (s / 4)) (hq s)) inb' hst' hsq') (dst := qsub M (qoff (D.slot c (s / 4)) (hq s)) inb hst hsq)
    (hsc := hsc) (hsrc := hsrc) (hdst := hdst) (hsem := hsem) (k := k) (q := D.sh s) (fs := g)
    (r₁ := 0) (r₂ := 0) (d₁ := 0) (d₂ := 0) (fd := f)
    (by rw [hok.sd c s hs]; exact Finset.mem_singleton_self _) (by rw [hok.rdu _ s hs]; exact Finset.mem_singleton_self _)
    () () (NQ M) rfl (hok.sa c s hs) (hok.ra _ s hs) O hO (W := W)
    (by rw [hok.sP c s hs, sub_pts])
    (by rw [hok.rP _ s hs, pc_next, land]) (Es := Set.univ) (hr _ _)
  rw [sub_pts, sub_pts] at key
  iapply key $$ [Hp Hd Ho Ht1 Ht2]
  · isplitr; · iexact HIS
    isplitr; · iexact HIR
    isplitl [Hp]; · iexact Hp
    isplitl [Hd]; · iexact Hd
    isplitl [Ho]; · iexact Ho
    isplitl [Ht1]; · iexact Ht1
    isplitr; · iexact HrS
    isplitl [Ht2]; · iexact Ht2
    iexact HrR
  iintro ⟨HcS, Ho⟩
  iapply Hk
  isplitr [Ho]
  · isplitl [Hw]; · iexact Hw
    isplitl [Ht]; · iexact Ht
    isplitl [Hps]; · iexact Hps
    isplitl [Hr]; · iexact Hr
    isplitl [Hc HcS]
    · isplitl [HcS]; · iexact HcS
      iexact Hc
    isplitl [Ha]; · iexact Ha
    iexact Hz
  iexact Ho

/-- Copy `w` of the arriving ones has been waited for. -/
theorem wait (hok : D.Ok M ER rd g I) {c : Dev nD} {w s lo : ℕ} (hw : w < D.n) (hs : s ≤ w + 4) (hlo : lo ≤ w + 4)
    {sR : DmaSem sig} (hR : sR = D.R w) {off : Fin 3 → ℕ} {inb hst hsq inb' hst' hsq'}
    {hsrc : (qsub M off inb' hst' hsq').view.WordExact} {hdst : (qsub M off inb hst hsq).view.WordExact}
    {k : PUnit → Prog (TpuEff nD τ sig Val Λ .tc) α} {O : CellTallies nD τ sig Unit} {W : Waits sig Unit}
    (hMay : (I : sProp 𝕄) ⊢ MayWait (c : Thread nD τ) (.dma (D.R w)) () O) :
    iprop(I ∗ D.half M ER g c w s lo ∗ (owes (c : Thread nD τ) O W : sProp 𝕄))
      ⊢ iprop(((D.half M ER g c (w + 1) s lo ∗ (owes (c : Thread nD τ) O (insert (.dma (D.R w), ()) W) : sProp 𝕄)) -∗ (run (U := U) 𝒱 defs c (k ⟨⟩) Q : sProp 𝕄))
          -∗ run (U := U) 𝒱 defs c
              (.op (.waitDma2 sR (qsub M off inb' hst' hsq') (qsub M off inb hst hsq) hsrc hdst) k) Q) := by
  subst hR
  unfold half
  rw [bigSep_Ico_succ_bot hw, show w + 1 + 4 = (w + 4) + 1 by omega, bigSep_Ico_succ_top hs, bigSep_Ico_succ_top hlo,
    bigSep_Ico_succ_top (Nat.zero_le w)]
  iintro ⟨#HI, ⟨⟨⟨Hat, Hcr⟩, Hw⟩, Ht, Hp, Hr, Hc, Ha, Hz⟩, Ho⟩
  iintro Hk
  ihave HR := (hok.rI c w hw) $$ HI
  icases HR with ⟨%κ, #HIR, #HrR⟩
  ihave HM := hMay $$ HI
  have hwE : ∀ K : PUnit → sProp 𝕄, wpE' defs 𝒱 (c : Thread nD τ) none .empty Set.univ
      (.waitDma2 (D.R w) (qsub M off inb' hst' hsq') (qsub M off inb hst hsq) hsrc hdst) K
      = waitSpec (c : Thread nD τ) Set.univ (.dma (D.R w)) (NQ M) K := fun K => rfl
  iapply (Rounds.wp_wait_rest_token (defs := defs) 𝒱 ER rd (c : Thread nD τ) none (Q := Q) (κ := κ)
    hwE (Set.mem_univ _) () (O := O) (W := W) (R := 0) (m := 0)
    (T := (∅ : Finset (Fin 16))) (k' := NQ M) (sm := .dma (D.R w))
    (by unfold Rounds.Schedule.expect Rounds.Schedule.amountOf; rw [hok.rdu c w hw, Finset.sum_singleton, hok.ra c w hw, Nat.zero_add]))
    $$ [Hat Hcr Ho HM]
  · isplitr; · iexact HIR
    isplitl [Hcr]; · iexact Hcr
    isplitl [Ho]; · iexact Ho
    isplitl [HM]; · iexact HM
    iexact Hat
  rw [hok.rdu c w hw, Finset.sdiff_empty, bigSep_singleton, hok.rP c w hw]
  iintro ⟨Ho, Hat, #Hre, Hpay⟩
  imod (Rounds.cell_close ER rd (Set.mem_univ κ) (hok.ru c w hw) (R := 0 + 1) (hok.later c w hw)) $$ [Hat] with Hzw
  · isplitr; · iexact HIR
    iexact Hat
  ihave Hpay := (piece_split M c _ _ fullShare g).1 $$ Hpay
  icases Hpay with ⟨Hp1, Hp2⟩
  iapply Hk
  isplitr [Ho]
  · isplitl [Hw]; · iexact Hw
    isplitl [Ht]; · iexact Ht
    isplitl [Hp Hp1]
    · isplitl [Hp1]; · rw [D.sh4 w]; iexact Hp1
      iexact Hp
    isplitl [Hr Hp2]
    · isplitl [Hp2]; · iexact Hp2
      iexact Hr
    isplitl [Hc]; · iexact Hc
    isplitl [Ha]; · iexact Ha
    isplitl [Hzw]; · iexact Hzw
    iexact Hz
  iexact Ho

end Dir

end Cert.Pipe
-- ==== Proof.Slots.lean ====
/-
  The sixteen slots of a gather buffer and their quarters: which elements they name, and how the
  buffer held whole is its quarters held one by one.
-/
module

public import proofs.«01_k».proof.Proof.Pipe

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {U : Type} [URA U] {Λ : Labels}

local notation "𝕄" => MT nD τ sig Unit Val ℕ U ℕ

/-! ## The elements -/

theorem mem_qrect (k : Fin 16) (h : Fin 4) (y : SB.Idx) :
    y ∈ (qrect k h).set ↔ (y 0).val = k.val ∧ (y 1).val / 256 = h.val := by
  refine (LoadRect.mem_set _).trans ?_
  have h0 : (y 0).val < 16 := (y 0).isLt
  have h1 : (y 1).val < 1024 := (y 1).isLt
  have h2 : (y 2).val < 128 := (y 2).isLt
  constructor
  · intro H
    obtain ⟨j0, hj0, e0⟩ := H 0
    obtain ⟨j1, hj1, e1⟩ := H 1
    have hj0' : j0 < 1 := hj0
    have hj1' : j1 < 256 := hj1
    have e0' : (y 0).val = k.val + 1 * j0 := e0
    have e1' : (y 1).val = 256 * h.val + 1 * j1 := e1
    omega
  · rintro ⟨e0, e1⟩ a
    match a with
    | 0 => exact ⟨0, (by decide : 0 < 1), (by show (y 0).val = k.val + 1 * 0; omega)⟩
    | 1 => exact ⟨(y 1).val % 256, (Nat.mod_lt _ (by decide) : (y 1).val % 256 < 256),
        (by show (y 1).val = 256 * h.val + 1 * ((y 1).val % 256); omega)⟩
    | 2 => exact ⟨(y 2).val, h2, (by show (y 2).val = 0 + 1 * (y 2).val; omega)⟩

/-- The place of slot `k`. -/
abbrev soff (k : Fin 16) : Fin 3 → ℕ := ![k.val, 0, 0]

theorem soff_inb (k : Fin 16) : ∀ a, soff k a + (![1, 1024, 128] : Fin 3 → ℕ) a ≤ SB.size a := by
  revert k; decide

abbrev srect (k : Fin 16) : Rect SB := Rect.unit (s := SB) (soff k) ![1, 1024, 128] (soff_inb k)

theorem mem_srect (k : Fin 16) (y : SB.Idx) : y ∈ (srect k).set ↔ (y 0).val = k.val := by
  refine (LoadRect.mem_set _).trans ?_
  have h0 : (y 0).val < 16 := (y 0).isLt
  have h1 : (y 1).val < 1024 := (y 1).isLt
  have h2 : (y 2).val < 128 := (y 2).isLt
  constructor
  · intro H
    obtain ⟨j0, hj0, e0⟩ := H 0
    have hj0' : j0 < 1 := hj0
    have e0' : (y 0).val = k.val + 1 * j0 := e0
    omega
  · rintro e0 a
    match a with
    | 0 => exact ⟨0, (by decide : 0 < 1), (by show (y 0).val = k.val + 1 * 0; omega)⟩
    | 1 => exact ⟨(y 1).val, h1, (by show (y 1).val = 0 + 1 * (y 1).val; omega)⟩
    | 2 => exact ⟨(y 2).val, h2, (by show (y 2).val = 0 + 1 * (y 2).val; omega)⟩

theorem srect_eq (k : Fin 16) : (srect k).set = Finset.univ.biUnion fun h => (qrect k h).set := by
  ext y
  simp only [Finset.mem_biUnion, Finset.mem_univ, true_and, mem_srect, mem_qrect]
  have h1 : (y 1).val < 1024 := (y 1).isLt
  exact ⟨fun e => ⟨⟨(y 1).val / 256, by omega⟩, e, rfl⟩, fun ⟨_, e, _⟩ => e⟩

theorem univ_eq : (Finset.univ : Finset SB.Idx) = Finset.univ.biUnion fun kh : Fin 16 × Fin 4 => (qrect kh.1 kh.2).set := by
  ext y
  simp only [Finset.mem_biUnion, Finset.mem_univ, true_and, mem_qrect, true_iff]
  have h1 : (y 1).val < 1024 := (y 1).isLt
  exact ⟨(y 0, ⟨(y 1).val / 256, by omega⟩), rfl, rfl⟩

theorem qrect_disj {k k' : Fin 16} {h h' : Fin 4} (hne : (k, h) ≠ (k', h')) : Disjoint (qrect k h).set (qrect k' h').set := by
  refine Finset.disjoint_left.mpr fun y hy hy' => hne ?_
  rw [mem_qrect] at hy hy'
  exact Prod.ext (Fin.ext (hy.1.symm.trans hy'.1)) (Fin.ext (hy.2.symm.trans hy'.2))

variable (M : Memref sig .tc .vmem SB .bf16)

/-- The elements of slot `k`. -/
def sset (k : Fin 16) : Finset M.view.ty.Idx := (M.view.slice (srect k)).set

theorem sset_eq (k : Fin 16) : sset M k = Finset.univ.biUnion fun h => qset M k h := by
  unfold sset qset
  rw [View.set_slice, srect_eq]
  ext y
  simp only [Finset.mem_biUnion, Finset.mem_univ, true_and, View.set_slice, Finset.mem_map]
  constructor
  · rintro ⟨a, ⟨h, ha⟩, rfl⟩; exact ⟨h, a, ha, rfl⟩
  · rintro ⟨h, a, ha, rfl⟩; exact ⟨a, ⟨h, ha⟩, rfl⟩

theorem set_eq : M.view.set = Finset.univ.biUnion fun kh : Fin 16 × Fin 4 => qset M kh.1 kh.2 := by
  unfold qset
  ext y
  simp only [Finset.mem_biUnion, Finset.mem_univ, true_and, View.set_slice, Finset.mem_map]
  constructor
  · intro hy
    obtain ⟨a, _, rfl⟩ := Finset.mem_map.mp hy
    have ha : a ∈ (Finset.univ : Finset SB.Idx) := Finset.mem_univ _
    rw [univ_eq] at ha
    obtain ⟨kh, _, hk⟩ := Finset.mem_biUnion.mp ha
    exact ⟨kh, a, hk, rfl⟩
  · rintro ⟨kh, a, ha, rfl⟩; exact Finset.mem_map.mpr ⟨a, Finset.mem_univ _, rfl⟩

theorem qset_disj {k k' : Fin 16} {h h' : Fin 4} (hne : (k, h) ≠ (k', h')) : Disjoint (qset M k h) (qset M k' h') :=
  View.disjoint_slice (qrect_disj hne)

/-- Slot `k` of device `c`'s buffer, held at share `q` with contents `f`. -/
def slotPts (c : Dev nD) (k : Fin 16) (q : PosShare TreeShare) (f : M.view.ty.Contents Val) : sProp 𝕄 :=
  M.view.loc (c : Thread nD τ) ↦[sset M k]{q} f

/-- A slot is its four quarters. -/
theorem slot_quarters (c : Dev nD) (k : Fin 16) (q) (f : M.view.ty.Contents Val) :
    (slotPts (U := U) (τ := τ) M c k q f) = bigSep (Finset.univ : Finset (Fin 4)) fun h => piece M c k h q f := by
  unfold slotPts piece
  rw [sset_eq]
  exact pointsTo_biUnion _ _ fun h _ h' _ hne => qset_disj M fun e => hne (Prod.ext_iff.mp e).2

/-- The buffer is its sixty-four quarters. -/
theorem all_quarters (c : Dev nD) (q) (f : M.view.ty.Contents Val) :
    (M.view.loc (c : Thread nD τ) ↦[M.view.set]{q} f : sProp 𝕄)
      = bigSep (Finset.univ : Finset (Fin 16 × Fin 4)) fun kh => piece M c kh.1 kh.2 q f := by
  unfold piece
  rw [set_eq]
  exact pointsTo_biUnion _ _ fun h _ h' _ hne => qset_disj M fun e => hne (Prod.ext (Prod.ext_iff.mp e).1 (Prod.ext_iff.mp e).2)

end Cert.Pipe
-- ==== Proof.Drain.lean ====
/-
  Reading a slot that has arrived while the ring runs, and the end of one direction: once every copy
  has been started and every arriving one waited for, the copies' own departures are waited for and
  the quarters they were read from come back.
-/
module

public import proofs.«01_k».proof.Proof.Slots

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {U : Type} [URA U] {Λ : Labels}

local notation "𝕄" => MT nD τ sig Unit Val ℕ U ℕ

/-- A run of naturals parted at a point. -/
theorem bigSep_part {a b c : ℕ} (hab : a ≤ b) (hbc : b ≤ c) (A : ℕ → sProp 𝕄) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl

/-- Four in a row. -/
theorem bigSep_four (a : ℕ) (A : ℕ → sProp 𝕄) :
    bigSep (Finset.Ico a (a + 4)) A = iprop(A a ∗ A (a + 1) ∗ A (a + 2) ∗ A (a + 3)) := by
  rw [bigSep_Ico_succ_bot (by omega), bigSep_Ico_succ_bot (by omega), bigSep_Ico_succ_bot (by omega),
    show a + 4 = a + 1 + 1 + 1 + 1 from rfl, bigSep_Ico_one]

namespace Dir

variable {M : Memref sig .tc .vmem SB .bf16} {D : Dir nD sig}
variable {ER : Emb (URounds (GSem nD τ sig) (Fin 16)) (MT nD τ sig Unit Val ℕ U ℕ)}
variable {rd : Rounds.Schedule (GSem nD τ sig) (Fin 16) (MT nD τ sig Unit Val ℕ U ℕ)}
variable {defs : Defs nD τ sig Val Λ} (𝒱 : Variants)
variable {α : Type} {Q : α → sProp (MT nD τ sig Unit Val ℕ U ℕ)} {g : M.view.ty.Contents Val} {I : sProp (MT nD τ sig Unit Val ℕ U ℕ)} [Persistent I]

/-- The four quarters of step `s` are its slot. -/
theorem four_slot (c : Dev nD) (s : ℕ) (q) (f : M.view.ty.Contents Val) :
    (bigSep (Finset.Ico (4 * s) (4 * s + 4)) fun m => D.pc M c m q f : sProp 𝕄) = slotPts M c (D.slot c s) q f := by
  rw [slot_quarters, bigSep_four, bigSep_univ_eq_bigSepL [(0 : Fin 4), 1, 2, 3] (by decide) (by decide), bigSepL_cons_cons,
    bigSepL_cons_cons, bigSepL_cons_cons, bigSepL_singleton]
  have h : ∀ j : Fin 4, D.pc M c (4 * s + j.val) q f = (piece M c (D.slot c s) j q f : sProp 𝕄) := fun j => by
    have e1 : (4 * s + j.val) / 4 = s := by have := j.isLt; omega
    have e2 : hq (4 * s + j.val) = j := Fin.ext (by show (4 * s + j.val) % 4 = j.val; have := j.isLt; omega)
    show piece M c (D.slot c ((4 * s + j.val) / 4)) (hq (4 * s + j.val)) q f = _
    rw [e1, e2]
  rw [← h 0, ← h 1, ← h 2, ← h 3]; rfl

/-- A slot that has arrived, lent to be read. -/
theorem peek {c : Dev nD} {w s lo t : ℕ} (hlo : lo ≤ 4 * t) (ht : 4 * t + 4 ≤ w + 4) :
    (D.half M ER g c w s lo : sProp 𝕄)
      ⊢ iprop(slotPts M c (D.slot c t) fullShare.right g ∗ (slotPts M c (D.slot c t) fullShare.right g -∗ D.half M ER g c w s lo)) := by
  unfold half
  rw [bigSep_part hlo (show 4 * t ≤ w + 4 by omega) (fun m => D.pc M c m fullShare.right g),
    bigSep_part (show 4 * t ≤ 4 * t + 4 by omega) ht (fun m => D.pc M c m fullShare.right g), four_slot]
  iintro ⟨H1, H2, H3, ⟨H4, H5, H6⟩, H7⟩
  isplitl [H5]; · iexact H5
  iintro H5
  isplitl [H1]; · iexact H1
  isplitl [H2]; · iexact H2
  isplitl [H3]; · iexact H3
  isplitr [H7]
  · isplitl [H4]; · iexact H4
    isplitl [H5]; · iexact H5
    iexact H6
  iexact H7

variable (M ER D) in
/-- What device `c` holds of a direction at its end, `v` departures waited for. -/
def drain (g : M.view.ty.Contents Val) (c : Dev nD) (v lo : ℕ) : sProp 𝕄 :=
  iprop(bigSep (Finset.Ico v D.n) (fun m => iprop(cred (tallyAt (D.sCell c m) () (NQ M)) ∗ atPos ER (D.sCell c m) 0 (∅ : Finset (Fin 16)) 0))
    ∗ bigSep (Finset.Ico 0 v) (fun m => D.pc M c m (D.sh m) g)
    ∗ bigSep (Finset.Ico 0 v) (fun m => semVal (D.sCell c m) 0)
    ∗ bigSep (Finset.Ico D.n (D.n + 4)) (fun m => D.pc M c m (D.sh m) g)
    ∗ bigSep (Finset.Ico lo (D.n + 4)) (fun m => D.pc M c m fullShare.right g)
    ∗ bigSep (Finset.Ico 0 D.n) (fun m => semVal (D.rCell c m) 0))

theorem drain_of_half {c : Dev nD} {lo : ℕ} : (D.half M ER g c D.n D.n lo : sProp 𝕄) ⊢ D.drain M ER g c 0 lo := by
  unfold half drain
  rw [bigSep_sep' (Finset.Ico 0 D.n), Finset.Ico_self, Finset.Ico_self, bigSep_empty, bigSep_empty, bigSep_empty, bigSep_empty]
  iintro ⟨H1, H2, H3, H4, H5, H6, H7⟩
  isplitl [H5 H6]
  · isplitl [H5]; · iexact H5
    iexact H6
  isplitl [H1]; · iexact H1
  isplitl [H2]; · iexact H2
  isplitl [H3]; · iexact H3
  isplitl [H4]; · iexact H4
  iexact H7

/-- The departure of copy `v` has been waited for. -/
theorem waitS (hok : D.Ok M ER rd g I) {c : Dev nD} {v lo : ℕ} (hv : v < D.n)
    {sS : DmaSem sig} (hS : sS = D.S v) {off : Fin 3 → ℕ} {inb hst hsq inb' hst' hsq'}
    {hsrc : (qsub M off inb' hst' hsq').view.WordExact} {hdst : (qsub M off inb hst hsq).view.WordExact}
    {k : PUnit → Prog (TpuEff nD τ sig Val Λ .tc) α} {W : Waits sig Unit} :
    iprop(I ∗ D.drain M ER g c v lo ∗ (owes (c : Thread nD τ) 0 W : sProp 𝕄))
      ⊢ iprop(((D.drain M ER g c (v + 1) lo ∗ (owes (c : Thread nD τ) 0 (insert (.dma (D.S v), ()) W) : sProp 𝕄)) -∗ (run (U := U) 𝒱 defs c (k ⟨⟩) Q : sProp 𝕄))
          -∗ run (U := U) 𝒱 defs c
              (.op (.waitDma2 sS (qsub M off inb' hst' hsq') (qsub M off inb hst hsq) hsrc hdst) k) Q) := by
  subst hS
  unfold drain
  rw [bigSep_Ico_succ_bot hv, bigSep_Ico_succ_top (Nat.zero_le v), bigSep_Ico_succ_top (Nat.zero_le v)]
  iintro ⟨#HI, ⟨⟨⟨Hcr, Hat⟩, Hw⟩, Hp, Hz, H⟩, Ho⟩
  iintro Hk
  ihave HR := (hok.sI c v hv) $$ HI
  icases HR with ⟨%κ, #HIR, #HrR⟩
  have hwE : ∀ K : PUnit → sProp 𝕄, wpE' defs 𝒱 (c : Thread nD τ) none .empty Set.univ
      (.waitDma2 (D.S v) (qsub M off inb' hst' hsq') (qsub M off inb hst hsq) hsrc hdst) K
      = waitSpec (c : Thread nD τ) Set.univ (.dma (D.S v)) (NQ M) K := fun K => rfl
  iapply (Rounds.wp_wait_rest_token (defs := defs) 𝒱 ER rd (c : Thread nD τ) none (Q := Q) (κ := κ)
    hwE (Set.mem_univ _) () (O := 0) (W := W) (R := 0) (m := 0)
    (T := (∅ : Finset (Fin 16))) (k' := NQ M) (sm := .dma (D.S v))
    (by unfold Rounds.Schedule.expect Rounds.Schedule.amountOf; rw [hok.sd c v hv, Finset.sum_singleton, hok.sa c v hv, Nat.zero_add]))
    $$ [Hat Hcr Ho]
  · isplitr; · iexact HIR
    isplitl [Hcr]; · iexact Hcr
    isplitl [Ho]; · iexact Ho
    isplitr; · rw [MayWait_zero]; iempintro
    iexact Hat
  rw [hok.sd c v hv, Finset.sdiff_empty, bigSep_singleton, hok.sP c v hv]
  iintro ⟨Ho, Hat, #Hre, Hpay⟩
  imod (Rounds.cell_close ER rd (Set.mem_univ κ) (hok.su c v hv) (R := 0 + 1) (hok.laterS c v hv)) $$ [Hat] with Hzw
  · isplitr; · iexact HIR
    iexact Hat
  iapply Hk
  isplitr [Ho]
  · isplitl [Hw]; · iexact Hw
    isplitl [Hp Hpay]
    · isplitl [Hpay]; · iexact Hpay
      iexact Hp
    isplitl [Hz Hzw]
    · isplitl [Hzw]; · iexact Hzw
      iexact Hz
    iexact H
  iexact Ho

end Dir

end Cert.Pipe
-- ==== Proof.Ring.lean ====
/-
  The ring of the sixteen devices and the two directions of the gather. The devices stand in the order
  0 4 8 12 13 9 5 1 2 6 10 14 15 11 7 3; `nxt` is the neighbour one place on, `prv` the one before.
-/
module

public import proofs.«01_k».proof.Proof.Drain

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The device at each place of the ring. -/
def place : Fin 16 → Fin 16 := ![0, 4, 8, 12, 13, 9, 5, 1, 2, 6, 10, 14, 15, 11, 7, 3]
/-- The place of each device. -/
def pos : Fin 16 → Fin 16 := ![0, 7, 8, 15, 1, 6, 9, 14, 2, 5, 10, 13, 3, 4, 11, 12]

/-- The device at place `n`, counted around. -/
def ringAt (n : ℕ) : Fin 16 := place ⟨n % 16, Nat.mod_lt _ (by decide)⟩

theorem pos_place (r : Fin 16) : pos (place r) = r := by revert r; decide
theorem place_pos (c : Fin 16) : place (pos c) = c := by revert c; decide

theorem pos_ringAt (n : ℕ) : (pos (ringAt n)).val = n % 16 := by unfold ringAt; rw [pos_place]

theorem ringAt_congr {a b : ℕ} (h : a % 16 = b % 16) : ringAt a = ringAt b := by
  unfold ringAt; congr 1; exact Fin.ext h

def nxt (c : Fin 16) : Fin 16 := ringAt ((pos c).val + 1)
def prv (c : Fin 16) : Fin 16 := ringAt ((pos c).val + 15)

theorem prv_nxt (c : Fin 16) : prv (nxt c) = c := by revert c; decide
theorem nxt_prv (c : Fin 16) : nxt (prv c) = c := by revert c; decide

/-- The slot `s` places before `c`. -/
def slotC (c : Fin 16) (s : ℕ) : Fin 16 := ringAt ((pos c).val + 15 * s)
/-- The slot `s` places after `c`. -/
def slotN (c : Fin 16) (s : ℕ) : Fin 16 := ringAt ((pos c).val + s)

theorem slotC_next (c : Fin 16) (s : ℕ) : slotC (nxt c) (s + 1) = slotC c s := by
  unfold slotC nxt; rw [pos_ringAt]; exact ringAt_congr (by omega)
theorem slotN_next (c : Fin 16) (s : ℕ) : slotN (prv c) (s + 1) = slotN c s := by
  unfold slotN prv; rw [pos_ringAt]; exact ringAt_congr (by omega)

theorem slotC_zero (c : Fin 16) : slotC c 0 = c := by revert c; decide
theorem slotN_zero (c : Fin 16) : slotN c 0 = c := by revert c; decide

variable {sig : RefSig}

/-- The share of a quarter lent to its copy: the own slot goes both ways, every other one way. -/
def shC (m : ℕ) : PosShare TreeShare := if m < 4 then fullShare.left.left else fullShare.left
def shN (m : ℕ) : PosShare TreeShare := if m < 4 then fullShare.left.right else fullShare.left

/-- The direction towards the next device: every quarter of eight slots. -/
def cw (S R : ℕ → DmaSem sig) : Dir 16 sig where
  n := 32
  S := S
  R := R
  nx := nxt
  slot := slotC
  hslot := slotC_next
  sh := shC
  sh4 m := if_neg (by omega)

/-- The direction towards the previous device: every quarter of seven slots. -/
def ccw (S R : ℕ → DmaSem sig) : Dir 16 sig where
  n := 28
  S := S
  R := R
  nx := prv
  slot := slotN
  hslot := slotN_next
  sh := shN
  sh4 m := if_neg (by omega)

/-! ## Every quarter is met once -/

abbrev idxC (c : Fin 16) (m : ℕ) : Fin 16 × Fin 4 := (slotC c (m / 4), hq m)
abbrev idxN (c : Fin 16) (m : ℕ) : Fin 16 × Fin 4 := (slotN c (m / 4), hq m)

theorem idx_cover (c : Fin 16) :
    (Finset.univ : Finset (Fin 16 × Fin 4)) = (Finset.Ico 0 36).image (idxC c) ∪ (Finset.Ico 4 32).image (idxN c) := by
  revert c; decide +kernel
theorem idx_disj (c : Fin 16) : Disjoint ((Finset.Ico 0 36).image (idxC c)) ((Finset.Ico 4 32).image (idxN c)) := by
  revert c; decide +kernel
theorem idxC_inj (c : Fin 16) : ∀ a ∈ Finset.Ico 0 36, ∀ b ∈ Finset.Ico 0 36, idxC c a = idxC c b → a = b := by
  revert c; decide +kernel
theorem idxN_inj (c : Fin 16) : ∀ a ∈ Finset.Ico 4 32, ∀ b ∈ Finset.Ico 4 32, idxN c a = idxN c b → a = b := by
  revert c; decide +kernel

theorem quarters_ring {𝕄 : Type} [URA 𝕄] (c : Fin 16) (A : Fin 16 × Fin 4 → sProp 𝕄) :
    bigSep Finset.univ A = iprop(bigSep (Finset.Ico 0 36) (fun m => A (idxC c m)) ∗ bigSep (Finset.Ico 4 32) (fun m => A (idxN c m))) := by
  rw [idx_cover c, bigSep_union (idx_disj c)]
  have h1 : bigSep ((Finset.Ico 0 36).image (idxC c)) A = bigSep (Finset.Ico 0 36) (fun m => A (idxC c m)) :=
    Finset.fold_image (fun a ha b hb => idxC_inj c a ha b hb)
  have h2 : bigSep ((Finset.Ico 4 32).image (idxN c)) A = bigSep (Finset.Ico 4 32) (fun m => A (idxN c m)) :=
    Finset.fold_image (fun a ha b hb => idxN_inj c a ha b hb)
  rw [h1, h2]; rfl

end Cert.Pipe
-- ==== Proof.Share.lean ====
/-
  How a device's buffer is shared out among the two directions of the ring, and how it is whole again
  at their end.
-/
module

public import proofs.«01_k».proof.Proof.Ring

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {τ : Topo} {sig : RefSig} {Val : EltTy → Type} {U : Type} [URA U]

local notation "𝕄" => MT 16 τ sig Unit Val ℕ U ℕ

variable (M : Memref sig .tc .vmem SB .bf16)
variable {ER : Emb (URounds (GSem 16 τ sig) (Fin 16)) (MT 16 τ sig Unit Val ℕ U ℕ)}

/-- Any contents of the piece device `c` is sent as copy `m - 4` of a direction. -/
abbrev anyPc (D : Dir 16 sig) (c : Dev 16) (m : ℕ) : sProp 𝕄 := iprop(∃ f : M.view.ty.Contents Val, D.pc M c m fullShare f)

theorem any_intro (D : Dir 16 sig) (c : Dev 16) (m : ℕ) (f : M.view.ty.Contents Val) :
    (D.pc M c m fullShare f : sProp 𝕄) ⊢ anyPc M D c m := by
  iintro H; iexists f; iexact H

/-- The landing pieces of a direction, on the device they are handed to: those it sends to. -/
def gift (D : Dir 16 sig) (c : Dev 16) : sProp 𝕄 :=
  bigSep (Finset.Ico 0 D.n) fun m => iprop(∃ f : M.view.ty.Contents Val, piece M (D.nx c) (D.slot c (m / 4)) (hq m) fullShare f)

theorem gift_eq (D : Dir 16 sig) (c : Dev 16) :
    (gift (U := U) (τ := τ) (Val := Val) M D c) = bigSep (Finset.Ico 4 (D.n + 4)) fun m => anyPc M D (D.nx c) m := by
  unfold gift
  have e : Finset.Ico 4 (D.n + 4) = (Finset.Ico 0 D.n).map (addRightEmbedding 4) := by
    ext x
    rw [Finset.mem_map]
    constructor
    · intro hx
      have h := Finset.mem_Ico.mp hx
      exact ⟨x - 4, Finset.mem_Ico.mpr ⟨by omega, by omega⟩, by show x - 4 + 4 = x; omega⟩
    · rintro ⟨a, ha, rfl⟩
      have h := Finset.mem_Ico.mp ha
      exact Finset.mem_Ico.mpr ⟨by show 4 ≤ a + 4; omega, by show a + 4 < D.n + 4; omega⟩
  rw [e, bigSep_map]
  refine bigSep_congr fun m _ => ?_
  show iprop(∃ f : M.view.ty.Contents Val, piece M (D.nx c) (D.slot c (m / 4)) (hq m) fullShare f)
    = iprop(∃ f : M.view.ty.Contents Val, D.pc M (D.nx c) (m + 4) fullShare f)
  simp only [Dir.pc_next]

variable (S R S' R' : ℕ → DmaSem sig)

theorem cw_slot0 (c : Dev 16) (q) (f : M.view.ty.Contents Val) :
    (bigSep (Finset.Ico 0 4) fun m => (cw S R).pc M c m q f : sProp 𝕄) = slotPts M c c q f := by
  have h := Dir.four_slot (U := U) (τ := τ) (M := M) (D := cw S R) c 0 q f
  rw [show (cw S R).slot c 0 = c from slotC_zero c] at h
  exact h

theorem cw_sh (m : ℕ) : (cw S R).sh m = shC m := rfl

/-- The buffer shared out before the start: the own slot, and the pieces either neighbour may write. -/
theorem handOut (c : Dev 16) (f : M.view.ty.Contents Val) :
    (M.view.loc (c : Thread 16 τ) ↦[M.view.set]{fullShare} f : sProp 𝕄)
      ⊢ iprop(slotPts M c c fullShare f ∗ gift M (cw S R) (prv c) ∗ gift M (ccw S' R') (nxt c)) := by
  rw [all_quarters, quarters_ring c, bigSep_part (show 0 ≤ 4 by decide) (show 4 ≤ 36 by decide), gift_eq, gift_eq,
    ← cw_slot0 M S R c fullShare f]
  have hC : (bigSep (Finset.Ico 4 36) fun m => piece M c (idxC c m).1 (idxC c m).2 fullShare f : sProp 𝕄)
      ⊢ bigSep (Finset.Ico 4 ((cw S R).n + 4)) fun m => anyPc M (cw S R) ((cw S R).nx (prv c)) m :=
    bigSep_mono fun m _ => by
      rw [show (cw S R).nx (prv c) = c from nxt_prv c]
      exact any_intro M (cw S R) c m f
  have hN : (bigSep (Finset.Ico 4 32) fun m => piece M c (idxN c m).1 (idxN c m).2 fullShare f : sProp 𝕄)
      ⊢ bigSep (Finset.Ico 4 ((ccw S' R').n + 4)) fun m => anyPc M (ccw S' R') ((ccw S' R').nx (nxt c)) m :=
    bigSep_mono fun m _ => by
      rw [show (ccw S' R').nx (nxt c) = c from prv_nxt c]
      exact any_intro M (ccw S' R') c m f
  iintro ⟨⟨H0, HC⟩, HN⟩
  isplitl [H0]; · iexact H0
  isplitl [HC]; · iapply hC $$ HC
  iapply hN $$ HN

/-- The own slot, once filled, lent both ways. -/
theorem ownShare (c : Dev 16) (g : M.view.ty.Contents Val) :
    (slotPts (U := U) (τ := τ) M c c fullShare g)
      ⊣⊢ iprop((bigSep (Finset.Ico 0 4) fun m => (cw S R).pc M c m ((cw S R).sh m) g)
        ∗ (bigSep (Finset.Ico 0 4) fun m => (cw S R).pc M c m fullShare.right g)
        ∗ (bigSep (Finset.Ico 0 4) fun m => (ccw S' R').pc M c m ((ccw S' R').sh m) g)) := by
  rw [← cw_slot0 M S R c fullShare g, ← bigSep_sep', ← bigSep_sep']
  have h : ∀ m ∈ Finset.Ico 0 4, ((cw S R).pc M c m fullShare g : sProp 𝕄)
      ⊣⊢ iprop((cw S R).pc M c m ((cw S R).sh m) g ∗ (cw S R).pc M c m fullShare.right g ∗ (ccw S' R').pc M c m ((ccw S' R').sh m) g) := by
    intro m hm
    have hm4 : m < 4 := (Finset.mem_Ico.mp hm).2
    have e0 : m / 4 = 0 := by omega
    have eC : (cw S R).slot c (m / 4) = c := by rw [e0]; exact slotC_zero c
    have eN : (ccw S' R').slot c (m / 4) = c := by rw [e0]; exact slotN_zero c
    have eS : (cw S R).sh m = fullShare.left.left := if_pos hm4
    have eS' : (ccw S' R').sh m = fullShare.left.right := if_pos hm4
    unfold Dir.pc
    rw [eC, eN, eS, eS']
    constructor
    · iintro H
      ihave H := (piece_split M c _ _ fullShare g).1 $$ H
      icases H with ⟨HL, HR⟩
      ihave H := (piece_split M c _ _ fullShare.left g).1 $$ HL
      icases H with ⟨HL, HM⟩
      isplitl [HL]; · iexact HL
      isplitl [HR]; · iexact HR
      iexact HM
    · iintro ⟨HL, HR, HM⟩
      iapply (piece_split M c _ _ fullShare g).2
      isplitr [HR]
      · iapply (piece_split M c _ _ fullShare.left g).2
        isplitl [HL]; · iexact HL
        iexact HM
      iexact HR
  exact ⟨bigSep_mono fun m hm => (h m hm).1, bigSep_mono fun m hm => (h m hm).2⟩

/-- A later piece is its two halves. -/
theorem laterJoin (D : Dir 16 sig) (c : Dev 16) (g : M.view.ty.Contents Val) (b : ℕ) :
    iprop((bigSep (Finset.Ico 4 b) fun m => D.pc M c m (D.sh m) g) ∗ (bigSep (Finset.Ico 4 b) fun m => D.pc M c m fullShare.right g))
      ⊢ (bigSep (Finset.Ico 4 b) fun m => D.pc M c m fullShare g : sProp 𝕄) := by
  rw [← bigSep_sep']
  refine bigSep_mono fun m hm => ?_
  have hm4 : 4 ≤ m := (Finset.mem_Ico.mp hm).1
  have e : D.sh m = fullShare.left := by
    obtain ⟨k, rfl⟩ := Nat.exists_eq_add_of_le' hm4
    exact D.sh4 k
  rw [e]
  exact (piece_split M c _ _ fullShare g).2

/-- At the end of both directions the buffer is whole and holds the gathered array. -/
theorem whole_again (c : Dev 16) (g : M.view.ty.Contents Val) :
    iprop((cw S R).drain M ER g c 32 0 ∗ (ccw S' R').drain M ER g c 28 4)
      ⊢ iprop((M.view.loc (c : Thread 16 τ) ↦[M.view.set]{fullShare} g)
        ∗ (bigSep (Finset.Ico 0 32) fun m => semVal ((cw S R).sCell c m) 0) ∗ (bigSep (Finset.Ico 0 32) fun m => semVal ((cw S R).rCell c m) 0)
        ∗ (bigSep (Finset.Ico 0 28) fun m => semVal ((ccw S' R').sCell c m) 0)
        ∗ (bigSep (Finset.Ico 0 28) fun m => semVal ((ccw S' R').rCell c m) 0)) := by
  unfold Dir.drain
  show iprop((_ ∗ bigSep (Finset.Ico 0 32) (fun m => (cw S R).pc M c m ((cw S R).sh m) g) ∗ _ ∗ bigSep (Finset.Ico 32 36) _ ∗ bigSep (Finset.Ico 0 36) _ ∗ _)
    ∗ (_ ∗ bigSep (Finset.Ico 0 28) (fun m => (ccw S' R').pc M c m ((ccw S' R').sh m) g) ∗ _ ∗ bigSep (Finset.Ico 28 32) _ ∗ bigSep (Finset.Ico 4 32) _ ∗ _)) ⊢ _
  rw [all_quarters, quarters_ring c, bigSep_part (show 0 ≤ 4 by decide) (show 4 ≤ 36 by decide) (fun m => piece M c (idxC c m).1 (idxC c m).2 fullShare g)]
  iintro ⟨⟨He, HA, HzS, HB, HR, HzR⟩, ⟨He', HA', HzS', HB', HR', HzR'⟩⟩
  ihave H := (Entails.of_eq (bigSep_part (show 0 ≤ 32 by decide) (show 32 ≤ 36 by decide) (fun m => (cw S R).pc M c m ((cw S R).sh m) g)).symm) $$ [HA HB]
  · isplitl [HA]; · iexact HA
    iexact HB
  ihave H := (Entails.of_eq (bigSep_part (show 0 ≤ 4 by decide) (show 4 ≤ 36 by decide) (fun m => (cw S R).pc M c m ((cw S R).sh m) g))) $$ H
  icases H with ⟨HC0, HC1⟩
  ihave HR := (Entails.of_eq (bigSep_part (show 0 ≤ 4 by decide) (show 4 ≤ 36 by decide) (fun m => (cw S R).pc M c m fullShare.right g))) $$ HR
  icases HR with ⟨HR0, HR1⟩
  ihave H := (Entails.of_eq (bigSep_part (show 0 ≤ 28 by decide) (show 28 ≤ 32 by decide) (fun m => (ccw S' R').pc M c m ((ccw S' R').sh m) g)).symm) $$ [HA' HB']
  · isplitl [HA']; · iexact HA'
    iexact HB'
  ihave H := (Entails.of_eq (bigSep_part (show 0 ≤ 4 by decide) (show 4 ≤ 32 by decide) (fun m => (ccw S' R').pc M c m ((ccw S' R').sh m) g))) $$ H
  icases H with ⟨HN0, HN1⟩
  isplitl [HC0 HR0 HN0 HC1 HR1 HN1 HR']
  · isplitr [HN1 HR']
    · isplitl [HC0 HR0 HN0]
      · ihave H := (ownShare M S R S' R' c g).2 $$ [HC0 HR0 HN0]
        · isplitl [HC0]; · iexact HC0
          isplitl [HR0]; · iexact HR0
          iexact HN0
        ihave H := (Entails.of_eq (cw_slot0 M S R c fullShare g).symm) $$ H
        iexact H
      · iapply (laterJoin M (cw S R) c g 36)
        isplitl [HC1]; · iexact HC1
        iexact HR1
    · iapply (laterJoin M (ccw S' R') c g 32)
      isplitl [HN1]; · iexact HN1
      iexact HR'
  isplitl [HzS]; · iexact HzS
  isplitl [HzR]; · iexact HzR
  isplitl [HzS']; · iexact HzS'
  iexact HzR'

end Cert.Pipe
-- ==== Proof.Both.lean ====
/-
  The two directions of the ring together, as one state of a device that each copy, each wait and each
  reading of a slot changes in one place. `X` is whatever else the device holds.
-/
module

public import proofs.«01_k».proof.Proof.Share

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {τ : Topo} {sig : RefSig} {Val : EltTy → Type} {U : Type} [URA U] {Λ : Labels}

local notation "𝕄" => MT 16 τ sig Unit Val ℕ U ℕ

/-- What is still owed to the neighbour of a direction when `s` copies have been started. -/
def Dir.owed (τ : Topo) (M : Memref sig .tc .vmem SB .bf16) (D : Dir 16 sig) (c : Dev 16) (s : ℕ) : CellTallies 16 τ sig Unit :=
  ∑ m ∈ Finset.Ico s D.n, tallyAt (D.rCell (D.nx c) m) () (NQ M)

theorem Dir.owed_step {M : Memref sig .tc .vmem SB .bf16} {D : Dir 16 sig} {c : Dev 16} {s : ℕ} (hs : s < D.n) :
    D.owed τ M c s = D.owed τ M c (s + 1) + tallyAt (D.rCell (D.nx c) s) () (NQ M) := by
  unfold Dir.owed
  have e : Finset.Ico s D.n = insert s (Finset.Ico (s + 1) D.n) := by
    ext x; rw [Finset.mem_insert, Finset.mem_Ico, Finset.mem_Ico]; omega
  rw [e, Finset.sum_insert (by rw [Finset.mem_Ico]; omega), add_comm]

theorem Dir.owed_end {M : Memref sig .tc .vmem SB .bf16} {D : Dir 16 sig} {c : Dev 16} : D.owed τ M c D.n = 0 := by
  unfold Dir.owed; rw [Finset.Ico_self, Finset.sum_empty]

theorem Dir.owed_pos {M : Memref sig .tc .vmem SB .bf16} {D : Dir 16 sig} {c : Dev 16} {s : ℕ} {g : GSem 16 τ sig} {u : Unit}
    (h : 0 < D.owed τ M c s g u) : ∃ m, s ≤ m ∧ m < D.n ∧ g = D.rCell (D.nx c) m := by
  unfold Dir.owed at h
  rw [Finset.sum_apply, Finsupp.finset_sum_apply] at h
  obtain ⟨m, hm, hne⟩ := Finset.exists_ne_zero_of_sum_ne_zero (Nat.pos_iff_ne_zero.mp h)
  have hI := Finset.mem_Ico.mp hm
  refine ⟨m, hI.1, hI.2, ?_⟩
  by_contra hg
  exact hne (by rw [tallyAt_apply, if_neg fun h => hg h.1])

/-- The levels of a direction's arrivals: the later the copy, the higher. -/
structure Dir.Lev (τ : Topo) (D : Dir 16 sig) (L : GSem 16 τ sig → Finset Unit) (lv : GSem 16 τ sig → Unit → ℕ) : Prop where
  mem : ∀ (c : Dev 16) (sm : SemLoc sig), () ∈ L ((c : Thread 16 τ), sm)
  lvl : ∀ (c : Dev 16) (m : ℕ), m < D.n → lv (D.rCell c m) () = 2 + m

variable {M : Memref sig .tc .vmem SB .bf16}
variable {ER : Emb (URounds (GSem 16 τ sig) (Fin 16)) (MT 16 τ sig Unit Val ℕ U ℕ)}
variable {rd : Rounds.Schedule (GSem 16 τ sig) (Fin 16) (MT 16 τ sig Unit Val ℕ U ℕ)}
variable {defs : Defs 16 τ sig Val Λ} {𝒱 : Variants}
variable {α : Type} {Q : α → sProp (MT 16 τ sig Unit Val ℕ U ℕ)} {g : M.view.ty.Contents Val} {I : sProp (MT 16 τ sig Unit Val ℕ U ℕ)} [Persistent I]
variable {L : GSem 16 τ sig → Finset Unit} {lv : GSem 16 τ sig → Unit → ℕ}
variable {C N : Dir 16 sig} {X : sProp (MT 16 τ sig Unit Val ℕ U ℕ)}

/-- A wait for a semaphore at level `b` is allowed while every copy still owed lies higher. -/
theorem may_wait (hI : I ⊢ levAts L lv) (hC : C.Lev τ L lv) (hN : N.Lev τ L lv) {c : Dev 16} {sm : SemLoc sig} {b sc sn : ℕ}
    (hb : lv ((c : Thread 16 τ), sm) () = b) (h1 : b < 2 + sc) (h2 : b < 2 + sn ∨ N.n ≤ sn) :
    (I : sProp 𝕄) ⊢ MayWait (c : Thread 16 τ) sm () (C.owed τ M c sc + N.owed τ M c sn) := by
  have hpos : ∀ (g : GSem 16 τ sig) (u : Unit), 0 < (C.owed τ M c sc + N.owed τ M c sn) g u →
      (∃ m, sc ≤ m ∧ m < C.n ∧ g = C.rCell (C.nx c) m) ∨ (∃ m, sn ≤ m ∧ m < N.n ∧ g = N.rCell (N.nx c) m) := by
    intro g u hg
    rw [Pi.add_apply, Finsupp.add_apply] at hg
    rcases Nat.eq_zero_or_pos (C.owed τ M c sc g u) with h0 | h0
    · rw [h0, Nat.zero_add] at hg; exact Or.inr (Dir.owed_pos hg)
    · exact Or.inl (Dir.owed_pos h0)
  refine hI.trans (MayOwe.of_cut (L := L) (lev := lv) b (fun p hp => ?_) (fun g u hg => ?_) (fun p hp => ?_) (fun g u hg => ?_))
  · rw [Finset.mem_singleton.mp hp]; exact hC.mem c _
  · rcases hpos g u hg with ⟨m, _, _, rfl⟩ | ⟨m, _, _, rfl⟩
    · exact hC.mem _ _
    · exact hN.mem _ _
  · rw [Finset.mem_singleton.mp hp]; exact le_of_eq hb
  · rcases hpos g u hg with ⟨m, h3, h4, rfl⟩ | ⟨m, h3, h4, rfl⟩
    · rw [show lv (C.rCell (C.nx c) m) u = 2 + m from hC.lvl _ m h4]; omega
    · rw [show lv (N.rCell (N.nx c) m) u = 2 + m from hN.lvl _ m h4]; omega

variable (M ER g I C N) in
/-- Device `c` with `wc`, `wn` arrivals waited for and `sc`, `sn` copies started of the two directions. -/
def St (c : Dev 16) (wc sc wn sn : ℕ) (X : sProp (MT 16 τ sig Unit Val ℕ U ℕ)) : sProp 𝕄 :=
  iprop(I ∗ C.half M ER g c wc sc 0 ∗ N.half M ER g c wn sn 4
    ∗ (∃ W, (owes (c : Thread 16 τ) (C.owed τ M c sc + N.owed τ M c sn) W : sProp 𝕄)) ∗ X)

variable (M ER g I C N) in
/-- Device `c` with `vc`, `vn` departures waited for, nothing owed. -/
def Dr (c : Dev 16) (vc vn : ℕ) (X : sProp (MT 16 τ sig Unit Val ℕ U ℕ)) : sProp 𝕄 :=
  iprop(I ∗ C.drain M ER g c vc 0 ∗ N.drain M ER g c vn 4
    ∗ (∃ W, (owes (c : Thread 16 τ) 0 W : sProp 𝕄)) ∗ X)

/-- A part of a program, then the rest. -/
theorem run_seq {β : Type} {c : Dev 16} {P R : sProp (MT 16 τ sig Unit Val ℕ U ℕ)} {p : Prog (TpuEff 16 τ sig Val Λ .tc) β}
    {k : β → Prog (TpuEff 16 τ sig Val Λ .tc) α}
    (h1 : P ⊢ (Dir.run (U := U) 𝒱 defs c p (fun _ => R) : sProp 𝕄)) (h2 : ∀ a, R ⊢ (Dir.run (U := U) 𝒱 defs c (k a) Q : sProp 𝕄)) :
    P ⊢ (Dir.run (U := U) 𝒱 defs c (p >>= k) Q : sProp 𝕄) := by
  show P ⊢ wp frame (wpE defs 𝒱 (c : Thread 16 τ) none) Set.univ (p >>= k) Q
  rw [wp_bind]
  exact h1.trans (wp_mono _ _ _ fun a => h2 a)

/-- The same, something known of the part's result. -/
theorem run_seq_eq {β : Type} {c : Dev 16} {P R : sProp (MT 16 τ sig Unit Val ℕ U ℕ)} {p : Prog (TpuEff 16 τ sig Val Λ .tc) β}
    {k : β → Prog (TpuEff 16 τ sig Val Λ .tc) α} {good : β → Prop}
    (h1 : P ⊢ (Dir.run (U := U) 𝒱 defs c p (fun a => iprop(⌜good a⌝ ∗ R)) : sProp 𝕄))
    (h2 : ∀ a, good a → R ⊢ (Dir.run (U := U) 𝒱 defs c (k a) Q : sProp 𝕄)) :
    P ⊢ (Dir.run (U := U) 𝒱 defs c (p >>= k) Q : sProp 𝕄) := by
  show P ⊢ wp frame (wpE defs 𝒱 (c : Thread 16 τ) none) Set.univ (p >>= k) Q
  rw [wp_bind]
  refine h1.trans (wp_mono _ _ _ fun a => ?_)
  iintro ⟨%h, H⟩
  iapply (h2 a h) $$ H

theorem run_pure {c : Dev 16} {P : sProp (MT 16 τ sig Unit Val ℕ U ℕ)} {a : α} (h : P ⊢ Q a) :
    P ⊢ (Dir.run (U := U) 𝒱 defs c (pure a) Q : sProp 𝕄) := by
  show P ⊢ wp frame (wpE defs 𝒱 (c : Thread 16 τ) none) Set.univ (.ret a) Q
  rw [wp_ret]
  exact h.trans fupd_intro

variable {c n : Dev 16} {wc sc wn sn : ℕ} {k : PUnit → Prog (TpuEff 16 τ sig Val Λ .tc) α}

/-- A copy of the first direction is started. -/
theorem St.startC (hok : C.Ok M ER rd g I) (hr : ∀ c c' : Dev 16, τ.routes (c : Thread 16 τ) (c' : Thread 16 τ) = true)
    (hs : sc < C.n) (hw : sc < wc + 4) (hn : n = C.nx c)
    {off : Fin 3 → ℕ} (hoff : off = qoff (C.slot c (sc / 4)) (hq sc)) {inb hst hsq inb' hst' hsq'}
    {sS sR : DmaSem sig} (hS : sS = C.S sc) (hR : sR = C.R sc)
    {hsc : (qsub M off inb hst hsq : Memref sig (Dev.tc n : Thread 16 τ).2.kind .vmem SQ .bf16).view.ref.isScScratch = false}
    {hsrc : (qsub M off inb' hst' hsq').view.WordExact} {hdst : (qsub M off inb hst hsq).view.WordExact}
    {hsem : DmaTarget.Typed .vmem (.dma sR) (.remote (Dev.tc n : Thread 16 τ) (qsub M off inb hst hsq) (.dma sS) hsc)}
    (h : St M ER g I C N c wc (sc + 1) wn sn X ⊢ (Dir.run (U := U) 𝒱 defs c (k ⟨⟩) Q : sProp 𝕄)) :
    St M ER g I C N c wc sc wn sn X ⊢ (Dir.run (U := U) 𝒱 defs c
      (Prog.lift (.enqueueDma (qsub M off inb' hst' hsq') (.remote (Dev.tc n : Thread 16 τ) (qsub M off inb hst hsq) (.dma sS) hsc)
                (.dma sR) hsrc hdst hsem) >>= k) Q : sProp 𝕄) := by
  show _ ⊢ Dir.run (U := U) 𝒱 defs c (.op (.enqueueDma (qsub M off inb' hst' hsq') (.remote (Dev.tc n : Thread 16 τ) (qsub M off inb hst hsq) (.dma sS) hsc)
                (.dma sR) hsrc hdst hsem) k) Q
  have hO : C.owed τ M c sc + N.owed τ M c sn = C.owed τ M c (sc + 1) + N.owed τ M c sn + tallyAt (C.rCell (C.nx c) sc) () (NQ M) := by
    rw [Dir.owed_step hs]; exact add_right_comm _ _ _
  unfold St at h ⊢
  iintro ⟨#HI, HC, HN, ⟨%W, Ho⟩, HX⟩
  iapply (Dir.start 𝒱 hok hr hs hw hn hoff hS hR (C.owed τ M c (sc + 1) + N.owed τ M c sn) hO (W := W)) $$ [HC Ho]
  · isplitr; · iexact HI
    isplitl [HC]; · iexact HC
    iexact Ho
  iintro ⟨HC, Ho⟩
  iapply h
  isplitr; · iexact HI
  isplitl [HC]; · iexact HC
  isplitl [HN]; · iexact HN
  isplitl [Ho]; · iexists W; iexact Ho
  iexact HX

/-- A copy of the second direction is started. -/
theorem St.startN (hok : N.Ok M ER rd g I) (hr : ∀ c c' : Dev 16, τ.routes (c : Thread 16 τ) (c' : Thread 16 τ) = true)
    (hs : sn < N.n) (hw : sn < wn + 4) (hn : n = N.nx c)
    {off : Fin 3 → ℕ} (hoff : off = qoff (N.slot c (sn / 4)) (hq sn)) {inb hst hsq inb' hst' hsq'}
    {sS sR : DmaSem sig} (hS : sS = N.S sn) (hR : sR = N.R sn)
    {hsc : (qsub M off inb hst hsq : Memref sig (Dev.tc n : Thread 16 τ).2.kind .vmem SQ .bf16).view.ref.isScScratch = false}
    {hsrc : (qsub M off inb' hst' hsq').view.WordExact} {hdst : (qsub M off inb hst hsq).view.WordExact}
    {hsem : DmaTarget.Typed .vmem (.dma sR) (.remote (Dev.tc n : Thread 16 τ) (qsub M off inb hst hsq) (.dma sS) hsc)}
    (h : St M ER g I C N c wc sc wn (sn + 1) X ⊢ (Dir.run (U := U) 𝒱 defs c (k ⟨⟩) Q : sProp 𝕄)) :
    St M ER g I C N c wc sc wn sn X ⊢ (Dir.run (U := U) 𝒱 defs c
      (Prog.lift (.enqueueDma (qsub M off inb' hst' hsq') (.remote (Dev.tc n : Thread 16 τ) (qsub M off inb hst hsq) (.dma sS) hsc)
                (.dma sR) hsrc hdst hsem) >>= k) Q : sProp 𝕄) := by
  show _ ⊢ Dir.run (U := U) 𝒱 defs c (.op (.enqueueDma (qsub M off inb' hst' hsq') (.remote (Dev.tc n : Thread 16 τ) (qsub M off inb hst hsq) (.dma sS) hsc)
                (.dma sR) hsrc hdst hsem) k) Q
  have hO : C.owed τ M c sc + N.owed τ M c sn = C.owed τ M c sc + N.owed τ M c (sn + 1) + tallyAt (N.rCell (N.nx c) sn) () (NQ M) := by
    rw [Dir.owed_step hs]; exact (add_assoc _ _ _).symm
  unfold St at h ⊢
  iintro ⟨#HI, HC, HN, ⟨%W, Ho⟩, HX⟩
  iapply (Dir.start 𝒱 hok hr hs hw hn hoff hS hR (C.owed τ M c sc + N.owed τ M c (sn + 1)) hO (W := W)) $$ [HN Ho]
  · isplitr; · iexact HI
    isplitl [HN]; · iexact HN
    iexact Ho
  iintro ⟨HN, Ho⟩
  iapply h
  isplitr; · iexact HI
  isplitl [HC]; · iexact HC
  isplitl [HN]; · iexact HN
  isplitl [Ho]; · iexists W; iexact Ho
  iexact HX

/-- An arrival of the first direction is waited for. -/
theorem St.waitC (hok : C.Ok M ER rd g I) (hI : I ⊢ levAts L lv) (hC : C.Lev τ L lv) (hN : N.Lev τ L lv)
    (hw : wc < C.n) (hs : sc ≤ wc + 4) (h1 : wc < sc) (h2 : wc < sn ∨ N.n ≤ sn)
    {sR : DmaSem sig} (hR : sR = C.R wc) {off : Fin 3 → ℕ} {inb hst hsq inb' hst' hsq'}
    {hsrc : (qsub M off inb' hst' hsq').view.WordExact} {hdst : (qsub M off inb hst hsq).view.WordExact}
    (h : St M ER g I C N c (wc + 1) sc wn sn X ⊢ (Dir.run (U := U) 𝒱 defs c (k ⟨⟩) Q : sProp 𝕄)) :
    St M ER g I C N c wc sc wn sn X ⊢ (Dir.run (U := U) 𝒱 defs c
      (Prog.lift (.waitDma2 sR (qsub M off inb' hst' hsq') (qsub M off inb hst hsq) hsrc hdst) >>= k) Q : sProp 𝕄) := by
  show _ ⊢ Dir.run (U := U) 𝒱 defs c (.op (.waitDma2 sR (qsub M off inb' hst' hsq') (qsub M off inb hst hsq) hsrc hdst) k) Q
  have hM := may_wait (M := M) hI hC hN (c := c) (sm := .dma (C.R wc)) (sc := sc) (sn := sn) (hC.lvl c wc hw) (by omega) (by omega)
  unfold St at h ⊢
  iintro ⟨#HI, HC, HN, ⟨%W, Ho⟩, HX⟩
  iapply (Dir.wait 𝒱 hok hw hs (Nat.zero_le _) hR hM (W := W)) $$ [HC Ho]
  · isplitr; · iexact HI
    isplitl [HC]; · iexact HC
    iexact Ho
  iintro ⟨HC, Ho⟩
  iapply h
  isplitr; · iexact HI
  isplitl [HC]; · iexact HC
  isplitl [HN]; · iexact HN
  isplitl [Ho]; · iexists _; iexact Ho
  iexact HX

/-- An arrival of the second direction is waited for. -/
theorem St.waitN (hok : N.Ok M ER rd g I) (hI : I ⊢ levAts L lv) (hC : C.Lev τ L lv) (hN : N.Lev τ L lv)
    (hw : wn < N.n) (hs : sn ≤ wn + 4) (h1 : wn < sc) (h2 : wn < sn ∨ N.n ≤ sn)
    {sR : DmaSem sig} (hR : sR = N.R wn) {off : Fin 3 → ℕ} {inb hst hsq inb' hst' hsq'}
    {hsrc : (qsub M off inb' hst' hsq').view.WordExact} {hdst : (qsub M off inb hst hsq).view.WordExact}
    (h : St M ER g I C N c wc sc (wn + 1) sn X ⊢ (Dir.run (U := U) 𝒱 defs c (k ⟨⟩) Q : sProp 𝕄)) :
    St M ER g I C N c wc sc wn sn X ⊢ (Dir.run (U := U) 𝒱 defs c
      (Prog.lift (.waitDma2 sR (qsub M off inb' hst' hsq') (qsub M off inb hst hsq) hsrc hdst) >>= k) Q : sProp 𝕄) := by
  show _ ⊢ Dir.run (U := U) 𝒱 defs c (.op (.waitDma2 sR (qsub M off inb' hst' hsq') (qsub M off inb hst hsq) hsrc hdst) k) Q
  have hM := may_wait (M := M) hI hC hN (c := c) (sm := .dma (N.R wn)) (sc := sc) (sn := sn) (hN.lvl c wn hw) (by omega) (by omega)
  unfold St at h ⊢
  iintro ⟨#HI, HC, HN, ⟨%W, Ho⟩, HX⟩
  iapply (Dir.wait 𝒱 hok hw hs (Nat.le_add_left _ _) hR hM (W := W)) $$ [HN Ho]
  · isplitr; · iexact HI
    isplitl [HN]; · iexact HN
    iexact Ho
  iintro ⟨HN, Ho⟩
  iapply h
  isplitr; · iexact HI
  isplitl [HC]; · iexact HC
  isplitl [HN]; · iexact HN
  isplitl [Ho]; · iexists _; iexact Ho
  iexact HX

/-- Every copy has been started and every arrival waited for. -/
theorem Dr.of_St : St M ER g I C N c C.n C.n N.n N.n X ⊢ Dr M ER g I C N c 0 0 X := by
  unfold St Dr
  rw [Dir.owed_end, Dir.owed_end, add_zero]
  iintro ⟨HI, HC, HN, Ho, HX⟩
  isplitl [HI]; · iexact HI
  isplitl [HC]; · iapply (Dir.drain_of_half (lo := 0)) $$ HC
  isplitl [HN]; · iapply (Dir.drain_of_half (lo := 4)) $$ HN
  isplitl [Ho]; · iexact Ho
  iexact HX

/-- A departure of the first direction is waited for. -/
theorem Dr.waitC {vc vn : ℕ} (hok : C.Ok M ER rd g I) (hv : vc < C.n)
    {sS : DmaSem sig} (hS : sS = C.S vc) {off : Fin 3 → ℕ} {inb hst hsq inb' hst' hsq'}
    {hsrc : (qsub M off inb' hst' hsq').view.WordExact} {hdst : (qsub M off inb hst hsq).view.WordExact}
    (h : Dr M ER g I C N c (vc + 1) vn X ⊢ (Dir.run (U := U) 𝒱 defs c (k ⟨⟩) Q : sProp 𝕄)) :
    Dr M ER g I C N c vc vn X ⊢ (Dir.run (U := U) 𝒱 defs c
      (Prog.lift (.waitDma2 sS (qsub M off inb' hst' hsq') (qsub M off inb hst hsq) hsrc hdst) >>= k) Q : sProp 𝕄) := by
  show _ ⊢ Dir.run (U := U) 𝒱 defs c (.op (.waitDma2 sS (qsub M off inb' hst' hsq') (qsub M off inb hst hsq) hsrc hdst) k) Q
  unfold Dr at h ⊢
  iintro ⟨#HI, HC, HN, ⟨%W, Ho⟩, HX⟩
  iapply (Dir.waitS 𝒱 hok hv hS (W := W)) $$ [HC Ho]
  · isplitr; · iexact HI
    isplitl [HC]; · iexact HC
    iexact Ho
  iintro ⟨HC, Ho⟩
  iapply h
  isplitr; · iexact HI
  isplitl [HC]; · iexact HC
  isplitl [HN]; · iexact HN
  isplitl [Ho]; · iexists _; iexact Ho
  iexact HX

/-- A departure of the second direction is waited for. -/
theorem Dr.waitN {vc vn : ℕ} (hok : N.Ok M ER rd g I) (hv : vn < N.n)
    {sS : DmaSem sig} (hS : sS = N.S vn) {off : Fin 3 → ℕ} {inb hst hsq inb' hst' hsq'}
    {hsrc : (qsub M off inb' hst' hsq').view.WordExact} {hdst : (qsub M off inb hst hsq).view.WordExact}
    (h : Dr M ER g I C N c vc (vn + 1) X ⊢ (Dir.run (U := U) 𝒱 defs c (k ⟨⟩) Q : sProp 𝕄)) :
    Dr M ER g I C N c vc vn X ⊢ (Dir.run (U := U) 𝒱 defs c
      (Prog.lift (.waitDma2 sS (qsub M off inb' hst' hsq') (qsub M off inb hst hsq) hsrc hdst) >>= k) Q : sProp 𝕄) := by
  show _ ⊢ Dir.run (U := U) 𝒱 defs c (.op (.waitDma2 sS (qsub M off inb' hst' hsq') (qsub M off inb hst hsq) hsrc hdst) k) Q
  unfold Dr at h ⊢
  iintro ⟨#HI, HC, HN, ⟨%W, Ho⟩, HX⟩
  iapply (Dir.waitS 𝒱 hok hv hS (W := W)) $$ [HN Ho]
  · isplitr; · iexact HI
    isplitl [HN]; · iexact HN
    iexact Ho
  iintro ⟨HN, Ho⟩
  iapply h
  isplitr; · iexact HI
  isplitl [HC]; · iexact HC
  isplitl [HN]; · iexact HN
  isplitl [Ho]; · iexists _; iexact Ho
  iexact HX

/-! ## Reading a slot that has arrived, and what else the device holds -/

/-- The elements of a slot read as a block. -/
abbrev slotV (g : M.view.ty.Contents Val) (k : Fin 16) : (⟨3, ![1, 1024, 128]⟩ : Shape).Idx → Val .bf16 :=
  M.view.readAt Val (srect k).toLoadRect g

theorem load_slot {P : sProp (MT 16 τ sig Unit Val ℕ U ℕ)} {q : PosShare TreeShare} {k₀ : Fin 16}
    {off : Fin 3 → ℕ} (hoff : off = soff k₀) {inb : ∀ a, off a + (![1, 1024, 128] : Fin 3 → ℕ) a ≤ SB.size a}
    {hl} {k : _ → Prog (TpuEff 16 τ sig Val Λ .tc) α}
    (hP : P ⊢ iprop(slotPts M c k₀ q g ∗ (slotPts M c k₀ q g -∗ P)))
    (h : P ⊢ (Dir.run (U := U) 𝒱 defs c (k (slotV g k₀)) Q : sProp 𝕄)) :
    P ⊢ (Dir.run (U := U) 𝒱 defs c (Prog.lift (.load M (Rect.unit (s := SB) off ![1, 1024, 128] inb).toLoadRect hl) >>= k) Q : sProp 𝕄) := by
  subst hoff
  unfold slotPts at hP
  have key := wp_load (defs := defs) 𝒱 (c : Thread 16 τ) none Set.univ (m := M) (r := (srect k₀).toLoadRect) (hl := hl) (k := k) (Γ := .empty) (Q := Q) (S := sset M k₀) (q := q) (f := g)
    (by show M.view.setOn (srect k₀).set ⊆ sset M k₀; unfold sset; rw [View.set_slice]; exact Finset.Subset.refl _)
  iintro H
  ihave H := hP $$ H
  icases H with ⟨Hs, Hb⟩
  iapply key $$ Hs
  iintro Hs
  iapply h
  iapply Hb $$ Hs

theorem St.loadC (t : ℕ) (ht : 4 * t + 4 ≤ wc + 4)
    {off : Fin 3 → ℕ} (hoff : off = soff (C.slot c t)) {inb : ∀ a, off a + (![1, 1024, 128] : Fin 3 → ℕ) a ≤ SB.size a}
    {hl} {k : _ → Prog (TpuEff 16 τ sig Val Λ .tc) α}
    (h : St M ER g I C N c wc sc wn sn X ⊢ (Dir.run (U := U) 𝒱 defs c (k (slotV g (C.slot c t))) Q : sProp 𝕄)) :
    St M ER g I C N c wc sc wn sn X
      ⊢ (Dir.run (U := U) 𝒱 defs c (Prog.lift (.load M (Rect.unit (s := SB) off ![1, 1024, 128] inb).toLoadRect hl) >>= k) Q : sProp 𝕄) := by
  refine load_slot (q := fullShare.right) hoff ?_ h
  unfold St
  iintro ⟨HI, HC, HR⟩
  ihave HC := (Dir.peek (D := C) (Nat.zero_le (4 * t)) ht) $$ HC
  icases HC with ⟨Hs, Hb⟩
  isplitl [Hs]; · iexact Hs
  iintro Hs
  isplitl [HI]; · iexact HI
  isplitl [Hs Hb]; · iapply Hb $$ Hs
  iexact HR

theorem St.loadN (t : ℕ) (ht0 : 4 ≤ 4 * t) (ht : 4 * t + 4 ≤ wn + 4)
    {off : Fin 3 → ℕ} (hoff : off = soff (N.slot c t)) {inb : ∀ a, off a + (![1, 1024, 128] : Fin 3 → ℕ) a ≤ SB.size a}
    {hl} {k : _ → Prog (TpuEff 16 τ sig Val Λ .tc) α}
    (h : St M ER g I C N c wc sc wn sn X ⊢ (Dir.run (U := U) 𝒱 defs c (k (slotV g (N.slot c t))) Q : sProp 𝕄)) :
    St M ER g I C N c wc sc wn sn X
      ⊢ (Dir.run (U := U) 𝒱 defs c (Prog.lift (.load M (Rect.unit (s := SB) off ![1, 1024, 128] inb).toLoadRect hl) >>= k) Q : sProp 𝕄) := by
  refine load_slot (q := fullShare.right) hoff ?_ h
  unfold St
  iintro ⟨HI, HC, HN, HR⟩
  ihave HN := (Dir.peek (D := N) ht0 ht) $$ HN
  icases HN with ⟨Hs, Hb⟩
  isplitl [Hs]; · iexact Hs
  iintro Hs
  isplitl [HI]; · iexact HI
  isplitl [HC]; · iexact HC
  isplitl [Hs Hb]; · iapply Hb $$ Hs
  iexact HR

/-- What else the device holds, to the front. -/
theorem St.frame {c : Dev 16} {X Y : sProp (MT 16 τ sig Unit Val ℕ U ℕ)} :
    St M ER g I C N c wc sc wn sn X ⊢ iprop(X ∗ (Y -∗ St M ER g I C N c wc sc wn sn Y)) := by
  unfold St
  iintro ⟨HI, HC, HN, Ho, HX⟩
  isplitl [HX]; · iexact HX
  iintro HY
  isplitl [HI]; · iexact HI
  isplitl [HC]; · iexact HC
  isplitl [HN]; · iexact HN
  isplitl [Ho]; · iexact Ho
  iexact HY

end Cert.Pipe
-- ==== Proof.Sched.lean ====
/-
  The semaphores of the gather, what each of its cells is paid with, and the levels of its waits.
-/
module

public import proofs.«01_k».proof.Proof.Both
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The gather buffer. -/
abbrev slM : Memref sig .tc .vmem SB .bf16 := Memref.whole cc0_scratch0

/-! ## The semaphores -/

/-- The barrier semaphore. -/
abbrev barS : Sem sig := (SemArray.scalar (sig.barrier 1 rfl) : Sems sig S_).sem

/-- The DMA semaphore of a number. -/
def dsem (i : ℕ) : DmaSem sig := if h : i < 123 then (⟨i, h⟩ : Fin 123) else (⟨0, by decide⟩ : Fin 123)

theorem dsem_val {i : ℕ} (h : i < 123) : (dsem i).val = i := by unfold dsem; rw [dif_pos h]
theorem dsem_inj {i j : ℕ} (hi : i < 123) (hj : j < 123) (h : dsem i = dsem j) : i = j := by
  rw [← dsem_val hi, ← dsem_val hj, h]

/-- The two directions of the gather, departures and arrivals. -/
abbrev dC : Dir 16 sig := cw (fun m => dsem (3 + m)) (fun m => dsem (35 + m))
abbrev dN : Dir 16 sig := ccw (fun m => dsem (67 + m)) (fun m => dsem (95 + m))

/-- The semaphores of a device, the barrier first. -/
def csem (k : Fin 121) : SemLoc sig := if k.val = 0 then .reg barS else .dma (dsem (2 + k.val))
abbrev kcell (ck : Dev nD × Fin 121) : GSem nD τ sig := ((ck.1 : Thread nD τ), csem ck.2)
abbrev barCell (c : Dev nD) : GSem nD τ sig := ((c : Thread nD τ), .reg barS)

/-- The semaphores scoped to the launch. -/
abbrev osem (k : Fin 120) : SemLoc sig := .dma (⟨3 + k.val, by have := k.isLt; omega⟩ : Fin 123)

abbrev NN : ℕ := NQ slM
theorem NN_pos : 0 < NN := View.dmaCredit_pos _ (by decide)

/-! ## The schedule -/

variable (g : slM.view.ty.Contents (Elt F))

/-- What a DMA semaphore's round hands over. -/
def dmaPay (c : Dev nD) (i : ℕ) : sProp 𝕄 :=
  if i < 3 then iprop(emp)
  else if i < 35 then dC.pc slM c (i - 3) (dC.sh (i - 3)) g
  else if i < 67 then dC.pc slM c (i - 35 + 4) fullShare g
  else if i < 95 then dN.pc slM c (i - 67) (dN.sh (i - 67)) g
  else dN.pc slM c (i - 95 + 4) fullShare g

/-- What the barrier's round hands over: the pieces of either neighbour this device will write. -/
def barPay (c : Dev nD) (d : Fin 16) : sProp 𝕄 :=
  if d = 0 then gift slM dC c else if d = 1 then gift slM dN c else iprop(emp)

instance gift_storable (D : Dir 16 sig) (c : Dev nD) : BI.Storable (upEmb : UEmb _ 𝕄) (gift slM D c) := by
  unfold gift; infer_instance
instance dmaPay_storable (c : Dev nD) (i : ℕ) : BI.Storable (upEmb : UEmb _ 𝕄) (dmaPay g c i) := by
  unfold dmaPay Dir.pc; (repeat' split) <;> infer_instance
instance barPay_storable (c : Dev nD) (d : Fin 16) : BI.Storable (upEmb : UEmb _ 𝕄) (barPay (F := F) c d) := by
  unfold barPay; (repeat' split) <;> infer_instance

/-- The payers of a semaphore's one round. -/
def duty : SemLoc sig → Finset (Fin 16)
  | .reg s => if s = barS then {0, 1} else ∅
  | .dma q => if 3 ≤ q.val then {0} else ∅

def rd : Rounds.Schedule (GSem nD τ sig) (Fin 16) 𝕄 where
  duties x r := if r = 0 ∧ x.1.2 = .tc then duty x.2 else ∅
  unitless _ := False
  amount x _ _ := match x.2 with | .reg _ => 1 | .dma _ => NN
  payload x _ d := match x.2 with | .reg _ => barPay x.1.1 d | .dma q => dmaPay g x.1.1 q.val
  amount_pos x _ _ _ := by
    match x with
    | (_, .reg _) => exact Nat.one_pos
    | (_, .dma _) => exact NN_pos

instance rd_storable (x : GSem nD τ sig) (r : ℕ) (d : Fin 16) :
    BI.Storable (upEmb : UEmb _ 𝕄) ((rd (F := F) g).payload x r d) := by
  match x with
  | (t, .reg _) => exact barPay_storable _ _
  | (t, .dma q) => exact dmaPay_storable _ _ _

theorem duties_later (x : GSem nD τ sig) : ∀ r, 0 + 1 ≤ r → (rd (F := F) g).duties x r = ∅ :=
  fun r hr => if_neg fun h => by omega

theorem duties_dma (c : Dev nD) {i : ℕ} (h3 : 3 ≤ i) (hi : i < 123) : (rd (F := F) g).duties ((c : Thread nD τ), .dma (dsem i)) 0 = {0} := by
  have e : (rd (F := F) g).duties ((c : Thread nD τ), .dma (dsem i)) 0 = duty (.dma (dsem i)) := by dsimp only [rd]; exact if_pos ⟨rfl, rfl⟩
  rw [e]; dsimp only [duty]; rw [dsem_val hi, if_pos h3]

theorem duties_bar (c : Dev nD) : (rd (F := F) g).duties (barCell c) 0 = {0, 1} := by
  have e : (rd (F := F) g).duties (barCell c) 0 = duty (.reg barS) := by dsimp only [rd]; exact if_pos ⟨rfl, rfl⟩
  rw [e]; dsimp only [duty]; rw [if_pos rfl]

theorem payload_dma (c : Dev nD) {i : ℕ} (hi : i < 123) (r : ℕ) (d : Fin 16) :
    (rd (F := F) g).payload ((c : Thread nD τ), .dma (dsem i)) r d = dmaPay g c i := by
  show dmaPay g c (dsem i).val = _
  rw [dsem_val hi]

theorem expect_bar (c : Dev nD) : (rd (F := F) g).expect (barCell c) 0 = 2 := by
  unfold Schedule.expect Schedule.amountOf
  rw [duties_bar]; rfl

/-- The rest of the barrier's round, no duty taken. -/
theorem rest_bar (c : Dev nD) :
    bigSep ((rd (F := F) g).duties (barCell c) 0 \ ∅) (fun d => (rd (F := F) g).payload (barCell c) 0 d) = iprop(gift slM dC c ∗ gift slM dN c) := by
  rw [Finset.sdiff_empty, duties_bar, bigSep_eq_bigSepL_of_eq [(0 : Fin 16), 1] (by decide) (by decide), bigSepL_cons_cons, bigSepL_singleton]
  rfl

/-! ## What every device knows of the cells -/

def L (x : GSem nD τ sig) : Finset Unit := if x.1.2 = .tc then {()} else ∅
/-- Barriers at 1; the arrivals of copy `m` at `2 + m`; everything else at 0. -/
def slv : SemLoc sig → ℕ
  | .reg _ => 1
  | .dma q => if q.val < 35 then 0 else if q.val < 67 then 2 + (q.val - 35) else if q.val < 95 then 0 else 2 + (q.val - 95)
def lv (x : GSem nD τ sig) (_ : Unit) : ℕ := slv x.2

theorem L_of_ne (x : GSem nD τ sig) (h : x.1.2 ≠ .tc) : L x = ∅ := if_neg h
theorem L_tc (c : Dev nD) (sm : SemLoc sig) : L ((c : Thread nD τ), sm) = {()} := if_pos rfl

theorem levC : dC.Lev τ L lv where
  mem c sm := by rw [L_tc]; exact Finset.mem_singleton_self _
  lvl c m hm := by
    have hm' : m < 32 := hm
    show slv (.dma (dsem (35 + m))) = _
    dsimp only [slv]
    rw [dsem_val (by omega), if_neg (by omega), if_pos (by omega)]; omega

theorem levN : dN.Lev τ L lv where
  mem c sm := by rw [L_tc]; exact Finset.mem_singleton_self _
  lvl c m hm := by
    have hm' : m < 28 := hm
    show slv (.dma (dsem (95 + m))) = _
    dsimp only [slv]
    rw [dsem_val (by omega), if_neg (by omega), if_neg (by omega), if_neg (by omega)]; omega

/-- The invariants of all cells, at the names `K`, and that each has reached its round. -/
def records (K : Dev nD × Fin 121 → ℕ) : sProp 𝕄 :=
  iprop((bigSep Finset.univ fun ck : Dev nD × Fin 121 => cellInv ER (rd g) (K ck) (kcell ck))
    ∗ bigSep Finset.univ fun ck : Dev nD × Fin 121 => reached ER (kcell ck) 0)

instance records_persistent (K : Dev nD × Fin 121 → ℕ) : BI.Persistent (records g K) := by unfold records; infer_instance

/-- What every device knows. -/
def II (K : Dev nD × Fin 121 → ℕ) : sProp 𝕄 := iprop(records g K ∗ levAts L lv)

instance II_persistent (K : Dev nD × Fin 121 → ℕ) : BI.Persistent (II g K) := by unfold II; infer_instance

variable (K : Dev nD × Fin 121 → ℕ)

theorem II_lev : II g K ⊢ levAts L lv := by unfold II; iintro ⟨-, H⟩; iexact H

theorem rec_at (ck : Dev nD × Fin 121) : II g K ⊢ iprop(∃ κ, cellInv ER (rd g) κ (kcell ck) ∗ reached ER (kcell ck) 0) := by
  unfold II records
  have h1 : (bigSep Finset.univ fun ck : Dev nD × Fin 121 => (cellInv ER (rd g) (K ck) (kcell ck) : sProp 𝕄)) ⊢ cellInv ER (rd g) (K ck) (kcell ck) :=
    bigSep_elim (Finset.mem_univ ck)
  have h2 : (bigSep Finset.univ fun ck : Dev nD × Fin 121 => (reached ER (kcell ck) 0 : sProp 𝕄)) ⊢ reached ER (kcell ck) 0 :=
    bigSep_elim (Finset.mem_univ ck)
  iintro ⟨⟨#HI, #HR⟩, -⟩
  iexists (K ck)
  isplitr; · iapply h1; iexact HI
  iapply h2; iexact HR

theorem rec_dma (c : Dev nD) {i : ℕ} (h3 : 3 ≤ i) (hi : i < 123) :
    II g K ⊢ iprop(∃ κ, cellInv ER (rd g) κ ((c : Thread nD τ), .dma (dsem i)) ∗ reached ER ((c : Thread nD τ), .dma (dsem i)) 0) := by
  have h := rec_at g K (c, (⟨i - 2, by omega⟩ : Fin 121))
  have e : kcell (c, (⟨i - 2, by omega⟩ : Fin 121)) = ((c : Thread nD τ), .dma (dsem i)) := by
    show ((c : Thread nD τ), csem ⟨i - 2, _⟩) = _
    unfold csem
    rw [if_neg (by show i - 2 ≠ 0; omega)]
    show ((c : Thread nD τ), SemLoc.dma (dsem (2 + (i - 2)))) = _
    rw [show 2 + (i - 2) = i by omega]
  rw [e] at h; exact h

theorem rec_bar (c : Dev nD) : II g K ⊢ iprop(∃ κ, cellInv ER (rd g) κ (barCell c) ∗ reached ER (barCell c) 0) :=
  rec_at g K (c, 0)

theorem okC : dC.Ok slM ER (rd g) g (II g K) where
  sd c m hm := by have hm' : m < 32 := hm; exact duties_dma g c (by omega) (by omega)
  rdu c m hm := by have hm' : m < 32 := hm; exact duties_dma g c (by omega) (by omega)
  later c m hm := duties_later g _
  laterS c m hm := duties_later g _
  su c m hm h := h
  ru c m hm h := h
  sa c m hm := rfl
  ra c m hm := rfl
  sP c m hm := by
    have hm' : m < 32 := hm
    refine (payload_dma g c (by omega) 0 0).trans ?_
    unfold dmaPay
    rw [if_neg (by omega), if_pos (by omega), Nat.add_sub_cancel_left]
  rP c m hm := by
    have hm' : m < 32 := hm
    refine (payload_dma g c (by omega) 0 0).trans ?_
    unfold dmaPay
    rw [if_neg (by omega), if_neg (by omega), if_pos (by omega), Nat.add_sub_cancel_left]
  sI c m hm := by have hm' : m < 32 := hm; exact rec_dma g K c (by omega) (by omega)
  rI c m hm := by have hm' : m < 32 := hm; exact rec_dma g K c (by omega) (by omega)

theorem okN : dN.Ok slM ER (rd g) g (II g K) where
  sd c m hm := by have hm' : m < 28 := hm; exact duties_dma g c (by omega) (by omega)
  rdu c m hm := by have hm' : m < 28 := hm; exact duties_dma g c (by omega) (by omega)
  later c m hm := duties_later g _
  laterS c m hm := duties_later g _
  su c m hm h := h
  ru c m hm h := h
  sa c m hm := rfl
  ra c m hm := rfl
  sP c m hm := by
    have hm' : m < 28 := hm
    refine (payload_dma g c (by omega) 0 0).trans ?_
    unfold dmaPay
    rw [if_neg (by omega), if_neg (by omega), if_neg (by omega), if_pos (by omega), Nat.add_sub_cancel_left]
  rP c m hm := by
    have hm' : m < 28 := hm
    refine (payload_dma g c (by omega) 0 0).trans ?_
    unfold dmaPay
    rw [if_neg (by omega), if_neg (by omega), if_neg (by omega), if_neg (by omega), Nat.add_sub_cancel_left]
  sI c m hm := by have hm' : m < 28 := hm; exact rec_dma g K c (by omega) (by omega)
  rI c m hm := by have hm' : m < 28 := hm; exact rec_dma g K c (by omega) (by omega)

/-! ## What a device owes at launch -/

/-- The arrivals of every copy it makes at either neighbour; -/
def O₂ (c : Dev nD) : CellTallies nD τ sig Unit := dC.owed τ slM c 0 + dN.owed τ slM c 0
/-- and a unit to either neighbour's barrier, the previous one's paid first. -/
def O₁ (c : Dev nD) : CellTallies nD τ sig Unit := O₂ c + tallyAt (barCell (nxt c)) () 1
def O₀ (c : Dev nD) : CellTallies nD τ sig Unit := O₁ c + tallyAt (barCell (prv c)) () 1

theorem O₂_pos {c : Dev nD} {x : GSem nD τ sig} {u : Unit} (h : 0 < O₂ c x u) : 2 ≤ lv x u ∧ x.1.2 = .tc := by
  unfold O₂ at h
  rw [Pi.add_apply, Finsupp.add_apply] at h
  rcases Nat.eq_zero_or_pos (dC.owed τ slM c 0 x u) with h0 | h0
  · rw [h0, Nat.zero_add] at h
    obtain ⟨m, -, h2, rfl⟩ := Dir.owed_pos h
    exact ⟨by rw [show lv (dN.rCell (dN.nx c) m) u = 2 + m from levN.lvl _ m h2]; omega, rfl⟩
  · obtain ⟨m, -, h2, rfl⟩ := Dir.owed_pos h0
    exact ⟨by rw [show lv (dC.rCell (dC.nx c) m) u = 2 + m from levC.lvl _ m h2]; omega, rfl⟩

theorem O₀_pos {c : Dev nD} {x : GSem nD τ sig} {u : Unit} (h : 0 < O₀ c x u) : 1 ≤ lv x u ∧ x.1.2 = .tc := by
  by_cases h2 : 0 < O₂ c x u
  · have := O₂_pos h2; exact ⟨by omega, this.2⟩
  unfold O₀ O₁ at h
  rw [Pi.add_apply, Finsupp.add_apply, Pi.add_apply, Finsupp.add_apply, tallyAt_apply, tallyAt_apply] at h
  by_cases e1 : x = barCell (nxt c)
  · subst e1; exact ⟨le_of_eq rfl, rfl⟩
  by_cases e2 : x = barCell (prv c)
  · subst e2; exact ⟨le_of_eq rfl, rfl⟩
  rw [if_neg (fun h => e1 h.1), if_neg (fun h => e2 h.1)] at h
  omega

theorem mem_L {x : GSem nD τ sig} {u : Unit} (h : x.1.2 = .tc) : u ∈ L x := by
  unfold L; rw [if_pos h]; exact Finset.mem_singleton_self _

/-- A wait at level `b` while only cells above it are owed. -/
theorem mayWait_cut {O : CellTallies nD τ sig Unit} (c : Dev nD) (sm : SemLoc sig) (b : ℕ) (hb : slv sm ≤ b)
    (hO : ∀ (x : GSem nD τ sig) (u : Unit), 0 < O x u → b + 1 ≤ lv x u ∧ x.1.2 = .tc) :
    (levAts L lv : sProp 𝕄) ⊢ MayWait (c : Thread nD τ) sm () O :=
  MayOwe.of_cut (L := L) (lev := lv) b (fun p hp => by rw [Finset.mem_singleton.mp hp]; exact mem_L rfl)
    (fun x u hx => mem_L (hO x u hx).2)
    (fun p hp => by rw [Finset.mem_singleton.mp hp]; exact hb)
    (fun x u hx => (hO x u hx).1)

/-- A staging semaphore may be waited for at the launch. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · exact mayWait_cut c _ 0 (by dsimp only [slv]; rw [if_pos hq]) fun x u hx => O₀_pos hx
  · rw [MayWait_zero]; iintro -; iempintro

/-- The barrier may be waited for while only arrivals are owed. -/
theorem mayWait_bar (c : Dev nD) : (levAts L lv : sProp 𝕄) ⊢ MayWait (c : Thread nD τ) (.reg barS) () (O₂ c) :=
  mayWait_cut c _ 1 (le_of_eq rfl) fun x u hx => O₂_pos hx

end Cert.AgProof
-- ==== Proof.Steps.lean ====
/-
  The steps of the gather's body at a device: each copy started, each wait, each load and store, from
  the state before it to the state after it.
-/
module

public import proofs.«01_k».proof.Proof.Sched

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev wM : Memref sig .tc .vmem S2048x2048 .bf16 := Memref.whole cc0_stg1_0
abbrev oM : Memref sig .tc .vmem S1024x2048 .f32 := Memref.whole cc0_stg2_0

/-- The slot read as the `n`-th: which way it came, and how many steps. -/
def ordT (n : ℕ) : Bool × ℕ :=
  if n = 0 then (true, 0) else if n = 14 then (true, 8) else if n = 15 then (false, 7)
  else if n % 2 = 1 then (true, (n + 1) / 2) else (false, n / 2)

def ord (c : Dev nD) (n : ℕ) : Fin 16 := if (ordT n).1 then slotC c (ordT n).2 else slotN c (ordT n).2

/-- The `n`-th slot has arrived. -/
def avail (n wc wn : ℕ) : Prop :=
  if (ordT n).1 then 4 * (ordT n).2 ≤ wc else 1 ≤ (ordT n).2 ∧ 4 * (ordT n).2 ≤ wn

instance (n wc wn : ℕ) : Decidable (avail n wc wn) := by unfold avail; infer_instance

abbrev roff (k : Fin 16) : Fin 2 → ℕ := ![128 * k.val, 0]
theorem roff_inb (k : Fin 16) : ∀ a, roff k a + (![128, 2048] : Fin 2 → ℕ) a ≤ S2048x2048.size a := by
  revert k; decide
abbrev rrect (k : Fin 16) : Rect S2048x2048 := Rect.unit (s := S2048x2048) (roff k) ![128, 2048] (roff_inb k)

/-- The rows of the weights that slot `k` meets. -/
abbrev rowsV (w : (cc0_stg1_0 : Ref sig .tc).ty.Contents (Elt F)) (k : Fin 16) : Vec F S128x2048 .bf16 :=
  wM.view.readAt (Elt F) (rrect k).toLoadRect w

variable (g : slM.view.ty.Contents (Elt F)) (K : Dev nD × Fin 121 → ℕ)
variable (w : (cc0_stg1_0 : Ref sig .tc).ty.Contents (Elt F)) (f0 : (cc0_stg2_0 : Ref sig .tc).ty.Contents (Elt F))
variable (Y : sProp (MT nD τ sig Unit (Elt F) ℕ UU ℕ)) (c : Dev nD)

/-- The output after `n` slots. -/
def acc : ℕ → (cc0_stg2_0 : Ref sig .tc).ty.Contents (Elt F)
  | 0 => f0
  | 1 => k0_pay2 (slotV (M := slM) g (ord c 0)) (rowsV w (ord c 0))
  | n + 2 => k0_pay3 (acc (n + 1)) (slotV (M := slM) g (ord c (n + 1))) (rowsV w (ord c (n + 1)))

/-- The weights, staged; the output, staged; what else is kept. -/
def XX (n : ℕ) : sProp 𝕄 :=
  iprop(Y ∗ (((c : Thread nD τ).loc cc0_stg1_0) ↦{fullShare} w) ∗ (((c : Thread nD τ).loc cc0_stg2_0) ↦{fullShare} acc g w f0 c n))

/-- The device in the ring, `n` slots summed. -/
def SS (wc sc wn sn n : ℕ) : sProp 𝕄 := St slM ER g (II g K) dC dN c wc sc wn sn (XX g w f0 Y c n)

/-- The device after the ring, departures waited for. -/
def DD (vc vn : ℕ) (X : sProp (MT nD τ sig Unit (Elt F) ℕ UU ℕ)) : sProp 𝕄 := Dr slM ER g (II g K) dC dN c vc vn X

variable {g K w f0 Y c} {α : Type} {Q : α → sProp (MT nD τ sig Unit (Elt F) ℕ UU ℕ)}

/-- What the program still does. -/
abbrev go (c : Dev nD) (p : Prog (TpuEff nD τ sig (Elt F) Λ₀ .tc) α) (Q : α → sProp (MT nD τ sig Unit (Elt F) ℕ UU ℕ)) : sProp 𝕄 :=
  Dir.run (U := UU) 𝒱₀ (defs₀ (F := F)) c p Q

variable {wc sc wn sn n vc vn : ℕ} {k : PUnit → Prog (TpuEff nD τ sig (Elt F) Λ₀ .tc) α}

theorem routes_all (a b : Dev nD) : τ.routes (a : Thread nD τ) (b : Thread nD τ) = true := by routes

theorem startC (hs : sc < 32) (hw : sc < wc + 4) {dv : Dev nD} (hn : dv = nxt c)
    {off : Fin 3 → ℕ} (hoff : off = qoff (slotC c (sc / 4)) (hq sc)) {inb hst hsq inb' hst' hsq'}
    {sS sR : DmaSem sig} (hS : sS = dsem (3 + sc)) (hR : sR = dsem (35 + sc))
    {hsc : (qsub slM (off) inb hst hsq : Memref sig (Dev.tc dv : Thread nD τ).2.kind .vmem SQ .bf16).view.ref.isScScratch = false}
    {hsrc : (qsub slM (off) inb' hst' hsq').view.WordExact} {hdst : (qsub slM (off) inb hst hsq).view.WordExact}
    {hsem : DmaTarget.Typed .vmem (.dma sR) (.remote (Dev.tc dv : Thread nD τ) (qsub slM (off) inb hst hsq) (.dma sS) hsc)}
    (h : SS g K w f0 Y c wc (sc + 1) wn sn n ⊢ go c (k ⟨⟩) Q) :
    SS g K w f0 Y c wc sc wn sn n ⊢ go c
      (Prog.lift (.enqueueDma (qsub slM (off) inb' hst' hsq') (.remote (Dev.tc dv : Thread nD τ) (qsub slM (off) inb hst hsq) (.dma sS) hsc)
                (.dma sR) hsrc hdst hsem) >>= k) Q :=
  St.startC (okC (F := F) g K) routes_all hs hw hn hoff hS hR h

theorem startN (hs : sn < 28) (hw : sn < wn + 4) {dv : Dev nD} (hn : dv = prv c)
    {off : Fin 3 → ℕ} (hoff : off = qoff (slotN c (sn / 4)) (hq sn)) {inb hst hsq inb' hst' hsq'}
    {sS sR : DmaSem sig} (hS : sS = dsem (67 + sn)) (hR : sR = dsem (95 + sn))
    {hsc : (qsub slM (off) inb hst hsq : Memref sig (Dev.tc dv : Thread nD τ).2.kind .vmem SQ .bf16).view.ref.isScScratch = false}
    {hsrc : (qsub slM (off) inb' hst' hsq').view.WordExact} {hdst : (qsub slM (off) inb hst hsq).view.WordExact}
    {hsem : DmaTarget.Typed .vmem (.dma sR) (.remote (Dev.tc dv : Thread nD τ) (qsub slM (off) inb hst hsq) (.dma sS) hsc)}
    (h : SS g K w f0 Y c wc sc wn (sn + 1) n ⊢ go c (k ⟨⟩) Q) :
    SS g K w f0 Y c wc sc wn sn n ⊢ go c
      (Prog.lift (.enqueueDma (qsub slM (off) inb' hst' hsq') (.remote (Dev.tc dv : Thread nD τ) (qsub slM (off) inb hst hsq) (.dma sS) hsc)
                (.dma sR) hsrc hdst hsem) >>= k) Q :=
  St.startN (okN (F := F) g K) routes_all hs hw hn hoff hS hR h

theorem waitC {sR : DmaSem sig} (hR : sR = dsem (35 + wc)) (hw : wc < 32) (hs : sc ≤ wc + 4) (h1 : wc < sc) (h2 : wc < sn ∨ 28 ≤ sn)
    {off : Fin 3 → ℕ} {inb hst hsq inb' hst' hsq'}
    {hsrc : (qsub slM off inb' hst' hsq').view.WordExact} {hdst : (qsub slM off inb hst hsq).view.WordExact}
    (h : SS g K w f0 Y c (wc + 1) sc wn sn n ⊢ go c (k ⟨⟩) Q) :
    SS g K w f0 Y c wc sc wn sn n ⊢ go c
      (Prog.lift (.waitDma2 sR (qsub slM off inb' hst' hsq') (qsub slM off inb hst hsq) hsrc hdst) >>= k) Q :=
  St.waitC (okC (F := F) g K) (II_lev (F := F) g K) levC levN hw hs h1 h2 hR h

theorem waitN {sR : DmaSem sig} (hR : sR = dsem (95 + wn)) (hw : wn < 28) (hs : sn ≤ wn + 4) (h1 : wn < sc) (h2 : wn < sn ∨ 28 ≤ sn)
    {off : Fin 3 → ℕ} {inb hst hsq inb' hst' hsq'}
    {hsrc : (qsub slM off inb' hst' hsq').view.WordExact} {hdst : (qsub slM off inb hst hsq).view.WordExact}
    (h : SS g K w f0 Y c wc sc (wn + 1) sn n ⊢ go c (k ⟨⟩) Q) :
    SS g K w f0 Y c wc sc wn sn n ⊢ go c
      (Prog.lift (.waitDma2 sR (qsub slM off inb' hst' hsq') (qsub slM off inb hst hsq) hsrc hdst) >>= k) Q :=
  St.waitN (okN (F := F) g K) (II_lev (F := F) g K) levC levN hw hs h1 h2 hR h

theorem departC {X : sProp (MT nD τ sig Unit (Elt F) ℕ UU ℕ)} {sS : DmaSem sig} (hS : sS = dsem (3 + vc)) (hv : vc < 32)
    {off : Fin 3 → ℕ} {inb hst hsq inb' hst' hsq'}
    {hsrc : (qsub slM off inb' hst' hsq').view.WordExact} {hdst : (qsub slM off inb hst hsq).view.WordExact}
    (h : DD g K c (vc + 1) vn X ⊢ go c (k ⟨⟩) Q) :
    DD g K c vc vn X ⊢ go c
      (Prog.lift (.waitDma2 sS (qsub slM off inb' hst' hsq') (qsub slM off inb hst hsq) hsrc hdst) >>= k) Q :=
  Dr.waitC (okC (F := F) g K) hv hS h

theorem departN {X : sProp (MT nD τ sig Unit (Elt F) ℕ UU ℕ)} {sS : DmaSem sig} (hS : sS = dsem (67 + vn)) (hv : vn < 28)
    {off : Fin 3 → ℕ} {inb hst hsq inb' hst' hsq'}
    {hsrc : (qsub slM off inb' hst' hsq').view.WordExact} {hdst : (qsub slM off inb hst hsq).view.WordExact}
    (h : DD g K c vc (vn + 1) X ⊢ go c (k ⟨⟩) Q) :
    DD g K c vc vn X ⊢ go c
      (Prog.lift (.waitDma2 sS (qsub slM off inb' hst' hsq') (qsub slM off inb hst hsq) hsrc hdst) >>= k) Q :=
  Dr.waitN (okN (F := F) g K) hv hS h

/-- After the last arrival only departures are waited for. -/
theorem toDepart {p : Prog (TpuEff nD τ sig (Elt F) Λ₀ .tc) α} (h1 : wc = 32) (h2 : sc = 32) (h3 : wn = 28) (h4 : sn = 28)
    (h : DD g K c 0 0 (XX g w f0 Y c n) ⊢ go c p Q) : SS g K w f0 Y c wc sc wn sn n ⊢ go c p Q := by
  subst h1 h2 h3 h4
  exact (Dr.of_St (M := slM) (C := dC) (N := dN)).trans h

/-- The `n`-th slot is read. -/
theorem loadSlot {off : Fin 3 → ℕ} (hoff : off = soff (ord c n)) (hav : avail n wc wn)
    {inb : ∀ a, off a + (![1, 1024, 128] : Fin 3 → ℕ) a ≤ SB.size a} {hl}
    {k : _ → Prog (TpuEff nD τ sig (Elt F) Λ₀ .tc) α}
    (h : SS g K w f0 Y c wc sc wn sn n ⊢ go c (k (slotV g (ord c n))) Q) :
    SS g K w f0 Y c wc sc wn sn n ⊢ go c (Prog.lift (.load slM (Rect.unit (s := SB) (off) ![1, 1024, 128] inb).toLoadRect hl) >>= k) Q := by
  have ho := hoff
  unfold avail at hav
  unfold ord at ho h
  by_cases hb : (ordT n).1 = true
  · rw [if_pos hb] at hav
    simp only [if_pos hb] at ho h
    exact St.loadC (ordT n).2 (by omega) ho h
  · rw [if_neg hb] at hav
    simp only [if_neg hb] at ho h
    exact St.loadN (ordT n).2 (by omega) (by omega) ho h

/-- The rows of the weights for the `n`-th slot are read. -/
theorem loadRows {off : Fin 2 → ℕ} (hoff : off = roff (ord c n))
    {inb : ∀ a, off a + (![128, 2048] : Fin 2 → ℕ) a ≤ S2048x2048.size a} {hl}
    {k : Vec F S128x2048 .bf16 → Prog (TpuEff nD τ sig (Elt F) Λ₀ .tc) α}
    (h : SS g K w f0 Y c wc sc wn sn n ⊢ go c (k (rowsV w (ord c n))) Q) :
    SS g K w f0 Y c wc sc wn sn n ⊢ go c (Prog.lift (.load wM (Rect.unit (s := S2048x2048) (off) ![128, 2048] inb).toLoadRect hl) >>= k) Q := by
  subst hoff
  have key := wp_load (defs := defs₀ (F := F)) 𝒱₀ (c : Thread nD τ) none (Γ := .empty) Set.univ (m := wM) (r := (rrect (ord c n)).toLoadRect)
    (hl := hl) (k := k) (Q := Q) (S := Finset.univ) (q := fullShare) (f := w) (Finset.subset_univ _)
  unfold SS XX at h ⊢
  iintro H
  ihave H := (St.frame (Y := iprop(Y ∗ (((c : Thread nD τ).loc cc0_stg1_0) ↦{fullShare} w) ∗ (((c : Thread nD τ).loc cc0_stg2_0) ↦{fullShare} acc g w f0 c n)))) $$ H
  icases H with ⟨⟨HY, Hw, Ho⟩, Hb⟩
  iapply key $$ Hw
  iintro Hw
  iapply h
  iapply Hb
  isplitl [HY]; · iexact HY
  isplitl [Hw]; · iexact Hw
  iexact Ho

theorem hz : (![0, 0] : Fin 2 → Nat) = fun _ => 0 := funext fun a => by fin_cases a <;> rfl

/-- The output is read. -/
theorem loadOut {inb : ∀ a, (![0, 0] : Fin 2 → ℕ) a + S1024x2048.size a ≤ S1024x2048.size a} {hl}
    {k : Vec F S1024x2048 .f32 → Prog (TpuEff nD τ sig (Elt F) Λ₀ .tc) α}
    (h : SS g K w f0 Y c wc sc wn sn n ⊢ go c (k (acc g w f0 c n)) Q) :
    SS g K w f0 Y c wc sc wn sn n ⊢ go c (Prog.lift (.load oM (Rect.unit (s := S1024x2048) ![0, 0] S1024x2048.size inb).toLoadRect hl) >>= k) Q := by
  have key := wp_load (defs := defs₀ (F := F)) 𝒱₀ (c : Thread nD τ) none (Γ := .empty) Set.univ (m := oM)
    (r := (Rect.unit (s := S1024x2048) ![0, 0] S1024x2048.size inb).toLoadRect)
    (hl := hl) (k := k) (Q := Q) (S := Finset.univ) (q := fullShare) (f := acc g w f0 c n) (Finset.subset_univ _)
  have e : oM.view.readAt (Elt F) (Rect.unit (s := S1024x2048) ![0, 0] S1024x2048.size inb).toLoadRect (acc g w f0 c n) = acc g w f0 c n :=
    Memref.readAt_unit_zero (Elt F) cc0_stg2_0 hz _ _
  rw [e] at key
  unfold SS XX at h ⊢
  iintro H
  ihave H := (St.frame (Y := iprop(Y ∗ (((c : Thread nD τ).loc cc0_stg1_0) ↦{fullShare} w) ∗ (((c : Thread nD τ).loc cc0_stg2_0) ↦{fullShare} acc g w f0 c n)))) $$ H
  icases H with ⟨⟨HY, Hw, Ho⟩, Hb⟩
  iapply key $$ Ho
  iintro Ho
  iapply h
  iapply Hb
  isplitl [HY]; · iexact HY
  isplitl [Hw]; · iexact Hw
  iexact Ho

/-- The output is stored with one more slot in it. -/
theorem storeOut {v : Vec F S1024x2048 .f32} (hv : v = acc g w f0 c (n + 1))
    {inb : ∀ a, (![0, 0] : Fin 2 → ℕ) a + S1024x2048.size a ≤ S1024x2048.size a} {hx hm}
    (h : SS g K w f0 Y c wc sc wn sn (n + 1) ⊢ go c (k ⟨⟩) Q) :
    SS g K w f0 Y c wc sc wn sn n ⊢ go c (Prog.lift (.store oM (Rect.unit (s := S1024x2048) ![0, 0] S1024x2048.size inb) v Finset.univ hx hm) >>= k) Q := by
  subst hv
  have key := wp_store (defs := defs₀ (F := F)) 𝒱₀ (c : Thread nD τ) none (Γ := .empty) Set.univ (m := oM)
    (r := Rect.unit (s := S1024x2048) ![0, 0] S1024x2048.size inb) (w := acc g w f0 c (n + 1)) (Mk := Finset.univ) (hx := hx) (hm := hm)
    (k := k) (Q := Q) (S := Finset.univ) (f := acc g w f0 c n) (Finset.subset_univ _)
  have e : (oM.access (Rect.unit (s := S1024x2048) ![0, 0] S1024x2048.size inb)).write (Elt F) (acc g w f0 c n) (acc g w f0 c (n + 1)) Finset.univ
      = acc g w f0 c (n + 1) := Memref.write_access_unit_zero_univ (Elt F) cc0_stg2_0 hz _ _ _
  rw [e] at key
  unfold SS at h ⊢
  unfold XX at h ⊢
  iintro H
  ihave H := (St.frame (Y := iprop(Y ∗ (((c : Thread nD τ).loc cc0_stg1_0) ↦{fullShare} w) ∗ (((c : Thread nD τ).loc cc0_stg2_0) ↦{fullShare} acc g w f0 c (n + 1))))) $$ H
  icases H with ⟨⟨HY, Hw, Ho⟩, Hb⟩
  iapply key $$ Ho
  iintro Ho
  iapply h
  iapply Hb
  isplitl [HY]; · iexact HY
  isplitl [Hw]; · iexact Hw
  iexact Ho

/-- A part of the program, then the rest. -/
theorem part {β : Type} {P R : sProp (MT nD τ sig Unit (Elt F) ℕ UU ℕ)} {p : Prog (TpuEff nD τ sig (Elt F) Λ₀ .tc) β}
    {k : β → Prog (TpuEff nD τ sig (Elt F) Λ₀ .tc) α}
    (h1 : P ⊢ go c p (fun _ => R)) (h2 : ∀ a, R ⊢ go c (k a) Q) : P ⊢ go c (p >>= k) Q := run_seq h1 h2

theorem partEq {β : Type} {P R : sProp (MT nD τ sig Unit (Elt F) ℕ UU ℕ)} {p : Prog (TpuEff nD τ sig (Elt F) Λ₀ .tc) β}
    {k : β → Prog (TpuEff nD τ sig (Elt F) Λ₀ .tc) α} (good : β → Prop)
    (h1 : P ⊢ go c p (fun a => iprop(⌜good a⌝ ∗ R))) (h2 : ∀ a, good a → R ⊢ go c (k a) Q) : P ⊢ go c (p >>= k) Q := run_seq_eq h1 h2

theorem done {P : sProp (MT nD τ sig Unit (Elt F) ℕ UU ℕ)} {a : α} (h : P ⊢ Q a) : P ⊢ go c (pure a) Q := run_pure h

/-- A part ends with what it holds. -/
theorem stop {P : sProp (MT nD τ sig Unit (Elt F) ℕ UU ℕ)} {a : α} : P ⊢ go c (pure a) (fun _ => P) :=
  run_pure (by iintro H; iexact H)

/-- A part ends with what it holds, and a fact of what it returns. -/
theorem doneEq {P : sProp (MT nD τ sig Unit (Elt F) ℕ UU ℕ)} {a : α} {good : α → Prop} (h : good a) :
    P ⊢ go c (pure a) (fun a => iprop(⌜good a⌝ ∗ P)) :=
  run_pure (by iintro H; isplitr; · ipureintro; exact h
               iexact H)

end Cert.AgProof
-- ==== Proof.Open.lean ====
/-
  The opening of the gather's body at a device: either neighbour's barrier signalled with the pieces it
  may write, the own barrier waited for, and the own block stored in its slot.
-/
module

public import proofs.«01_k».proof.Proof.Steps
public import proofs.«01_k».proof.Proof.Gen.KernelIdeal.Skeleton

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S1024x128 .bf16 := Memref.whole cc0_stg0_0

/-- What a device is given of one direction at launch. -/
def linear (D : Dir 16 sig) (c : Dev nD) : sProp 𝕄 :=
  iprop(bigSep (Finset.Ico 0 D.n) (fun m => iprop(atPos ER (D.rCell c m) 0 (∅ : Finset (Fin 16)) 0 ∗ cred (tallyAt (D.rCell c m) () NN)))
    ∗ bigSep (Finset.Ico 0 D.n) (fun m => iprop(dutyTok ER (D.sCell c m) 0 (0 : Fin 16) ∗ dutyTok ER (D.rCell (D.nx c) m) 0 (0 : Fin 16)))
    ∗ bigSep (Finset.Ico 0 D.n) (fun m => atPos ER (D.sCell c m) 0 (∅ : Finset (Fin 16)) 0))

theorem assoc_out (A B C : sProp 𝕄) : iprop((A ∗ B) ∗ C) ⊢ iprop(A ∗ B ∗ C) := by
  iintro ⟨⟨HA, HB⟩, HC⟩
  isplitl [HA]; · iexact HA
  isplitl [HB]; · iexact HB
  iexact HC

/-- With the pieces of the neighbour and the own slot, a direction may start. -/
theorem half_intro (g : slM.view.ty.Contents (Elt F)) (D : Dir 16 sig) (c : Dev nD) (lo : ℕ) :
    iprop(linear D c ∗ gift slM D c ∗ bigSep (Finset.Ico 0 4) (fun m => D.pc slM c m (D.sh m) g)
        ∗ bigSep (Finset.Ico lo 4) (fun m => D.pc slM c m fullShare.right g))
      ⊢ (D.half slM ER g c 0 0 lo : sProp 𝕄) := by
  have h : iprop((bigSep (Finset.Ico 0 D.n) fun m => iprop(dutyTok ER (D.sCell c m) 0 (0 : Fin 16) ∗ dutyTok ER (D.rCell (D.nx c) m) 0 (0 : Fin 16)))
        ∗ bigSep (Finset.Ico 0 D.n) fun m => iprop(∃ f : slM.view.ty.Contents (Elt F), piece slM (D.nx c) (D.slot c (m / 4)) (hq m) fullShare f))
      ⊢ (bigSep (Finset.Ico 0 D.n) fun m => iprop(dutyTok ER (D.sCell c m) 0 (0 : Fin 16) ∗ dutyTok ER (D.rCell (D.nx c) m) 0 (0 : Fin 16)
        ∗ ∃ f : slM.view.ty.Contents (Elt F), piece slM (D.nx c) (D.slot c (m / 4)) (hq m) fullShare f) : sProp 𝕄) := by
    rw [← bigSep_sep']
    refine bigSep_mono fun m hm => ?_
    exact assoc_out _ _ _
  unfold linear gift Dir.half
  rw [Finset.Ico_self, bigSep_empty, bigSep_empty]
  iintro ⟨⟨H1, H2, H3⟩, H4, H5, H6⟩
  isplitl [H1]; · iexact H1
  isplitl [H2 H4]
  · iapply h
    isplitl [H2]; · iexact H2
    iexact H4
  isplitl [H5]; · iexact H5
  isplitl [H6]; · iexact H6
  isplitr; · iempintro
  isplitl [H3]; · iexact H3
  iempintro

variable (g : slM.view.ty.Contents (Elt F)) (K : Dev nD × Fin 121 → ℕ)
variable (X : (cc0_stg0_0 : Ref sig .tc).ty.Contents (Elt F))
variable (w : (cc0_stg1_0 : Ref sig .tc).ty.Contents (Elt F)) (f0 : (cc0_stg2_0 : Ref sig .tc).ty.Contents (Elt F)) (c : Dev nD)

/-- What is kept through the ring: the staged block, the closed barrier. -/
def kept : sProp 𝕄 := iprop((((c : Thread nD τ).loc cc0_stg0_0) ↦{fullShare} X) ∗ semVal (barCell c) 0)

/-- What a device starts from. -/
def opening : sProp 𝕄 :=
  iprop(II g K ∗ linear dC c ∗ linear dN c
    ∗ (atPos ER (barCell c) 0 (∅ : Finset (Fin 16)) 0 ∗ cred (tallyAt (barCell c) () 2)
      ∗ dutyTok ER (barCell (prv c)) 0 (0 : Fin 16) ∗ dutyTok ER (barCell (nxt c)) 0 (1 : Fin 16))
    ∗ (∃ W, (owes (c : Thread nD τ) (O₀ c) W : sProp 𝕄))
    ∗ (∃ f, slM.view.loc (c : Thread nD τ) ↦[slM.view.set]{fullShare} f)
    ∗ (((c : Thread nD τ).loc cc0_stg0_0) ↦{fullShare} X)
    ∗ (((c : Thread nD τ).loc cc0_stg1_0) ↦{fullShare} w) ∗ (((c : Thread nD τ).loc cc0_stg2_0) ↦{fullShare} f0))

variable {g K X w f0 c}

/-- The own slot once the block is stored in it. -/
theorem stored (v : Vec F S1x1024x128 .bf16) (hv : v = slotV (M := slM) g c) (f : slM.view.ty.Contents (Elt F)) :
    (slM.view.loc (c : Thread nD τ) ↦[sset slM c]{fullShare} (slM.access (srect c)).write (Elt F) f v Finset.univ : sProp 𝕄)
      = slotPts slM c c fullShare g := by
  subst hv
  have e : (slM.access (srect c)).write (Elt F) f ((slM.access (srect c)).read (Elt F) g) Finset.univ = _ := View.write_read_eq_piecewise _ _ _
  unfold slotPts
  refine pointsTo_congr fun i hi => ?_
  refine (congrFun e i).trans ?_
  exact Finset.piecewise_eq_of_mem _ _ _ hi

variable {α : Type} {Q : α → sProp (MT nD τ sig Unit (Elt F) ℕ UU ℕ)}

/-- The whole opening. -/
theorem openRun {n1 n2 : Dev nD} (hn1 : n1 = prv c) (hn2 : n2 = nxt c) {off : Fin 3 → ℕ} (hoff : off = soff c)
    {inb0 : ∀ a, (![0, 0] : Fin 2 → ℕ) a + S1024x128.size a ≤ S1024x128.size a} {hl0}
    {inb inb' : ∀ a, off a + (![1, 1024, 128] : Fin 3 → ℕ) a ≤ SB.size a} {hl hx hm}
    (hX : k0_pay1 X = slotV (M := slM) g c) {k : PUnit → Prog (TpuEff nD τ sig (Elt F) Λ₀ .tc) α}
    (h : SS g K w f0 (kept X c) c 0 0 0 0 0 ⊢ go c (k ⟨⟩) Q) :
    opening g K X w f0 c ⊢ go c (do
      semSignalWord n1 barS 1#32
      semSignalWord n2 barS 1#32
      semWaitWord barS 2#32
      let v ← Prog.lift (.load xM (Rect.unit (s := S1024x128) ![0, 0] S1024x128.size inb0).toLoadRect hl0)
      let _ ← Prog.lift (.load slM (Rect.unit (s := SB) off ![1, 1024, 128] inb).toLoadRect hl)
      let u ← Prog.lift (.store slM (Rect.unit (s := SB) off ![1, 1024, 128] inb') (k0_pay1 v) Finset.univ hx hm)
      k u) Q := by
  subst hn1 hn2 hoff
  simp only [go, Dir.run, semSignalWord, semWaitWord, Prog.lift, Prog.bind_op, Prog.bind_ret, Prog.pure_eq_ret]
  have hb0 : (0 : Fin 16) ∈ (rd (F := F) g).duties (barCell (prv c)) 0 := by rw [duties_bar]; decide
  have hb1 : (1 : Fin 16) ∈ (rd (F := F) g).duties (barCell (nxt c)) 0 := by rw [duties_bar]; decide
  have hp0 : gift slM dC (prv c) ⊢ (rd (F := F) g).payload (barCell (prv c)) 0 0 :=
    Entails.of_eq (show gift slM dC (prv c) = barPay (prv c) 0 from (if_pos rfl).symm)
  have hp1 : gift slM dN (nxt c) ⊢ (rd (F := F) g).payload (barCell (nxt c)) 0 1 :=
    Entails.of_eq (show gift slM dN (nxt c) = barPay (nxt c) 1 from ((if_neg (by decide)).trans (if_pos rfl)).symm)
  have hload := fun kk => wp_load (defs := defs₀ (F := F)) 𝒱₀ (c : Thread nD τ) none (Γ := .empty) Set.univ (m := xM)
    (r := (Rect.unit (s := S1024x128) ![0, 0] S1024x128.size inb0).toLoadRect)
    (hl := hl0) (k := kk) (Q := Q) (S := Finset.univ) (q := fullShare) (f := X) (Finset.subset_univ _)
  have e : xM.view.readAt (Elt F) (Rect.unit (s := S1024x128) ![0, 0] S1024x128.size inb0).toLoadRect X = X :=
    Memref.readAt_unit_zero (Elt F) cc0_stg0_0 hz _ _
  rw [e] at hload
  have hslot := fun kk f => wp_load (defs := defs₀ (F := F)) 𝒱₀ (c : Thread nD τ) none (Γ := .empty) Set.univ (m := slM)
    (r := (srect c).toLoadRect) (hl := hl) (k := kk) (Q := Q) (S := sset slM c) (q := fullShare) (f := f)
    (by show slM.view.setOn (srect c).set ⊆ sset slM c; unfold sset; rw [View.set_slice]; exact Finset.Subset.refl _)
  have hstore := fun kk f => wp_store (defs := defs₀ (F := F)) 𝒱₀ (c : Thread nD τ) none (Γ := .empty) Set.univ (m := slM)
    (r := srect c) (w := k0_pay1 X) (Mk := Finset.univ) (hx := hx) (hm := hm)
    (k := kk) (Q := Q) (S := sset slM c) (f := f) (Finset.Subset.refl _)
  simp only [fun f => stored (c := c) (k0_pay1 X) hX f] at hstore
  unfold opening
  iintro ⟨#HI, HC, HN, ⟨Hat, Hcr, Ht0, Ht1⟩, ⟨%W, HO⟩, ⟨%f, Hs⟩, Hx, Hw, Ho⟩
  ihave H := (handOut slM (fun m => dsem (3 + m)) (fun m => dsem (35 + m)) (fun m => dsem (67 + m)) (fun m => dsem (95 + m)) c f) $$ Hs
  icases H with ⟨Hs, HgC, HgN⟩
  ihave H := (rec_bar g K c) $$ HI
  icases H with ⟨%κ, #Hb, -⟩
  ihave H := (rec_bar g K (prv c)) $$ HI
  icases H with ⟨%κp, #Hbp, #Hrp⟩
  ihave H := (rec_bar g K (nxt c)) $$ HI
  icases H with ⟨%κn, #Hbn, #Hrn⟩
  -- either neighbour's barrier
  iapply (Rounds.wp_signal 𝒱₀ ER (rd g) (c : Thread nD τ) none (dst := (prv c : Thread nD τ)) (κ := κp)
      (d := 0) hb0 (show 1 = _ from rfl) () (O₁ c) rfl) $$ [HO Ht0 HgC]
  · isplitr; · iexact Hbp
    isplitl [HO]; · iexact HO
    isplitl [Ht0]; · iexact Ht0
    isplitl [HgC]; · iapply hp0; iexact HgC
    iexact Hrp
  iintro HO
  iapply (Rounds.wp_signal 𝒱₀ ER (rd g) (c : Thread nD τ) none (dst := (nxt c : Thread nD τ)) (κ := κn)
      (d := 1) hb1 (show 1 = _ from rfl) () (O₂ c) rfl) $$ [HO Ht1 HgN]
  · isplitr; · iexact Hbn
    isplitl [HO]; · iexact HO
    isplitl [Ht1]; · iexact Ht1
    isplitl [HgN]; · iapply hp1; iexact HgN
    iexact Hrn
  iintro HO
  -- the own barrier
  iapply (Rounds.wp_wait_rest_token 𝒱₀ ER (rd g) (c : Thread nD τ) none (κ := κ)
      (wpE_semWait_eq 𝒱₀ (c : Thread nD τ) none Set.univ) (Set.mem_univ _) () (O := O₂ c) (W := W) (R := 0) (m := 0) (T := ∅)
      (by rw [expect_bar]; decide)) $$ [Hcr HO Hat]
  · isplitr; · iexact Hb
    isplitl [Hcr]; · iexact Hcr
    isplitl [HO]; · iexact HO
    isplitr; · iapply (mayWait_bar c); iapply (II_lev g K); iexact HI
    iexact Hat
  iintro ⟨HO, Hat, -, Hpay⟩
  ihave Hp := (Entails.of_eq (rest_bar g c)) $$ Hpay
  icases Hp with ⟨HgC, HgN⟩
  imod (Rounds.cell_close ER (rd g) (Set.mem_univ κ) (fun h => h) (R := 0 + 1) (duties_later g (barCell c))) $$ [Hat] with Hz
  · isplitr; · iexact Hb
    iexact Hat
  -- the own block
  iapply (hload _) $$ Hx; iintro Hx
  ihave Hs := (Entails.of_eq (show slotPts slM c c fullShare f = _ from rfl)) $$ Hs
  unfold slotPts
  iapply (hslot _ f) $$ Hs; iintro Hs
  iapply (hstore _ f) $$ Hs; iintro Hs
  ihave H := (ownShare slM (fun m => dsem (3 + m)) (fun m => dsem (35 + m)) (fun m => dsem (67 + m)) (fun m => dsem (95 + m)) c g).1 $$ Hs
  icases H with ⟨HA, HB, HD⟩
  iapply h
  unfold SS St
  isplitr; · iexact HI
  isplitl [HC HgC HA HB]
  · iapply (half_intro g dC c 0)
    isplitl [HC]; · iexact HC
    isplitl [HgC]; · iexact HgC
    isplitl [HA]; · iexact HA
    iexact HB
  isplitl [HN HgN HD]
  · iapply (half_intro g dN c 4)
    isplitl [HN]; · iexact HN
    isplitl [HgN]; · iexact HgN
    isplitl [HD]; · iexact HD
    rw [Finset.Ico_self, bigSep_empty]; iempintro
  isplitl [HO]
  · iexists _; iexact HO
  unfold XX kept
  isplitl [Hx Hz]
  · isplitl [Hx]; · iexact Hx
    iexact Hz
  isplitl [Hw]; · iexact Hw
  iexact Ho

end Cert.AgProof
-- ==== Proof.Deal.lean ====
/-
  What the launch deals to every device: the invariants of all cells, the positions and the tokens of the
  duties each device pays, and the credit of its waits.
-/
module

public import proofs.«01_k».proof.Proof.Open

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores of a device, sorted -/

/-- A separating product over a range, counted from zero. -/
theorem shift (B : ℕ → sProp (MT nD τ sig Unit (Elt F) ℕ UU ℕ)) (a n : ℕ) :
    (bigSep (Finset.Ico a (a + n)) B : sProp 𝕄) = bigSep (Finset.Ico 0 n) fun m => B (a + m) := by
  have e : Finset.Ico a (a + n) = (Finset.Ico 0 n).map (addLeftEmbedding a) := by
    ext x
    rw [Finset.mem_map]
    constructor
    · intro hx
      have h := Finset.mem_Ico.mp hx
      exact ⟨x - a, Finset.mem_Ico.mpr ⟨by omega, by omega⟩, by show a + (x - a) = x; omega⟩
    · rintro ⟨y, hy, rfl⟩
      have h := Finset.mem_Ico.mp hy
      exact Finset.mem_Ico.mpr ⟨by show a ≤ a + y; omega, by show a + y < a + n; omega⟩
  rw [e, bigSep_map]; rfl

/-- A separating product over the first numbers. -/
theorem overFin (n : ℕ) (B : ℕ → sProp (MT nD τ sig Unit (Elt F) ℕ UU ℕ)) :
    (bigSep Finset.univ (fun k : Fin n => B k.val) : sProp 𝕄) = bigSep (Finset.Ico 0 n) B := by
  have e : Finset.Ico 0 n = (Finset.univ : Finset (Fin n)).map Fin.valEmbedding := by
    ext x
    rw [Finset.mem_map]
    constructor
    · intro hx
      exact ⟨⟨x, (Finset.mem_Ico.mp hx).2⟩, Finset.mem_univ _, rfl⟩
    · rintro ⟨y, -, rfl⟩
      exact Finset.mem_Ico.mpr ⟨Nat.zero_le _, y.isLt⟩
  rw [e, bigSep_map]; rfl

/-- The copies' semaphores: departures and arrivals of the two directions. -/
def fourKinds (A : SemLoc sig → sProp (MT nD τ sig Unit (Elt F) ℕ UU ℕ)) : sProp 𝕄 :=
  iprop((bigSep (Finset.Ico 0 32) fun m => A (.dma (dsem (3 + m)))) ∗ (bigSep (Finset.Ico 0 32) fun m => A (.dma (dsem (35 + m))))
    ∗ (bigSep (Finset.Ico 0 28) fun m => A (.dma (dsem (67 + m)))) ∗ (bigSep (Finset.Ico 0 28) fun m => A (.dma (dsem (95 + m)))))

theorem kinds_eq (A : SemLoc sig → sProp (MT nD τ sig Unit (Elt F) ℕ UU ℕ)) :
    (bigSep (Finset.Ico 0 120) fun m => A (.dma (dsem (3 + m)))) = fourKinds A := by
  unfold fourKinds
  rw [bigSep_part (show 0 ≤ 32 by decide) (show 32 ≤ 120 by decide), bigSep_part (show 32 ≤ 64 by decide) (show 64 ≤ 120 by decide),
    bigSep_part (show 64 ≤ 92 by decide) (show 92 ≤ 120 by decide),
    show (bigSep (Finset.Ico 32 64) fun m => A (.dma (dsem (3 + m)))) = _ from shift _ 32 32,
    show (bigSep (Finset.Ico 64 92) fun m => A (.dma (dsem (3 + m)))) = _ from shift _ 64 28,
    show (bigSep (Finset.Ico 92 120) fun m => A (.dma (dsem (3 + m)))) = _ from shift _ 92 28]
  simp only [← Nat.add_assoc]

/-- All of a device's semaphores: the barrier, then the copies'. -/
theorem cells_split (A : SemLoc sig → sProp (MT nD τ sig Unit (Elt F) ℕ UU ℕ)) :
    (bigSep Finset.univ (fun k : Fin 121 => A (csem k)) : sProp 𝕄) = iprop(A (.reg barS) ∗ fourKinds A) := by
  have h := overFin 121 (fun i => A (if i = 0 then .reg barS else .dma (dsem (2 + i))))
  refine h.trans ?_
  rw [bigSep_part (show 0 ≤ 1 by decide) (show 1 ≤ 121 by decide), bigSep_Ico_one, ← kinds_eq,
    show (bigSep (Finset.Ico 1 121) fun i => A (if i = 0 then .reg barS else .dma (dsem (2 + i)))) = _ from shift _ 1 120]
  refine congrArg₂ _ rfl (bigSep_congr fun m _ => ?_)
  rw [if_neg (by omega), ← Nat.add_assoc]

theorem osem_eq (k : Fin 120) : osem k = .dma (dsem (3 + k.val)) := by
  have hk := k.isLt
  unfold osem
  refine congrArg SemLoc.dma (Fin.ext ?_)
  rw [dsem_val (by omega)]

/-- The launch's own semaphores are the copies'. -/
theorem ownSems0_eq (c : Dev nD) : (Pipeline.ownSems0 (Ix := Unit) (Name := ℕ) (U := UU) (Lvl := ℕ) (Val := Elt F) (τ := τ) osem c : sProp 𝕄)
    = fourKinds fun s => semVal ((c : Thread nD τ), s) 0 := by
  rw [← kinds_eq]
  unfold Pipeline.ownSems0
  refine Eq.trans (bigSep_congr fun k _ => ?_) (overFin 120 fun m => semVal ((c : Thread nD τ), .dma (dsem (3 + m))) 0)
  rw [osem_eq]

/-- The barrier is the one semaphore outlasting the launch. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 121 => semVal (kcell (c, k)) 0 : sProp 𝕄) := by
  rw [ownSems0_eq, unscopedSems0_eq, cells_split fun s => semVal ((c : Thread nD τ), s) 0]
  iintro ⟨HA, HB⟩
  isplitl [HB]; · iexact HB
  iexact HA

theorem csem_injective : Function.Injective csem := by
  intro k k' h
  have hk := k.isLt
  have hk' := k'.isLt
  unfold csem at h
  by_cases h0 : k.val = 0 <;> by_cases h0' : k'.val = 0
  · exact Fin.ext (by omega)
  · rw [if_pos h0, if_neg h0'] at h; cases h
  · rw [if_neg h0, if_pos h0'] at h; cases h
  · rw [if_neg h0, if_neg h0'] at h
    have := dsem_inj (by omega) (by omega) (SemLoc.dma.inj h)
    exact Fin.ext (by omega)

theorem kcell_injective : Function.Injective (kcell : Dev nD × Fin 121 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the gather, on every device. -/
def allCells : Finset (GSem nD τ sig) := Finset.univ.map ⟨kcell, kcell_injective⟩

/-- The first duty of every cell, and the second of a barrier. -/
def tokA (ck : Dev nD × Fin 121) : GSem nD τ sig × ℕ × Fin 16 := (kcell ck, 0, 0)
def tokB (c : Dev nD) : GSem nD τ sig × ℕ × Fin 16 := (barCell c, 0, 1)
theorem tokA_injective : Function.Injective tokA := fun a b h => kcell_injective (congrArg Prod.fst h)
theorem tokB_injective : Function.Injective tokB := fun a b h => by
  have := congrArg (fun x : GSem nD τ sig × ℕ × Fin 16 => x.1.1.1) h; exact this
def toksA : Finset (GSem nD τ sig × ℕ × Fin 16) := Finset.univ.map ⟨tokA, tokA_injective⟩
def toksB : Finset (GSem nD τ sig × ℕ × Fin 16) := Finset.univ.map ⟨tokB, tokB_injective⟩
theorem toks_disj : Disjoint toksA toksB := by
  rw [Finset.disjoint_left]
  intro x hx hx'
  obtain ⟨a, -, rfl⟩ := Finset.mem_map.mp hx
  obtain ⟨b, -, h⟩ := Finset.mem_map.mp hx'
  have : (1 : Fin 16) = 0 := congrArg (fun x : GSem nD τ sig × ℕ × Fin 16 => x.2.2) h
  exact absurd this (by decide)

def u₀ : UU :=
  (initOf (Pipeline.cells cfgs cellOf_inj) (Pipeline.launchToks cfgs cellOf_inj), initOf allCells (toksA ∪ toksB))

variable (g : slM.view.ty.Contents (Elt F))

/-- The tokens of a device's own cells. -/
def toks (c : Dev nD) : sProp 𝕄 :=
  iprop((bigSep Finset.univ fun k : Fin 121 => dutyTok ER (kcell (c, k)) 0 (0 : Fin 16)) ∗ dutyTok ER (barCell c) 0 (1 : Fin 16))

/-- What each device is given of the ghost state. -/
def G (c : Dev nD) : sProp 𝕄 :=
  iprop((bigSep Finset.univ fun k : Fin 121 => roundState ER (rd g) (kcell (c, k)) 0)
    ∗ (bigSep Finset.univ fun k : Fin 121 => iprop(atPos ER (kcell (c, k)) 0 (∅ : Finset (Fin 16)) 0 ∗ reached ER (kcell (c, k)) 0)) ∗ toks c)

theorem fund_cells : BI.own (ER (initOf allCells (toksA ∪ toksB))) ⊢ (|==> bigSep Finset.univ (G g) : sProp 𝕄) := by
  have hX (Φ : GSem nD τ sig → sProp 𝕄) : bigSep allCells Φ = bigSep Finset.univ fun c : Dev nD => bigSep Finset.univ fun k : Fin 121 => Φ (kcell (c, k)) := by
    unfold allCells; rw [bigSep_map, bigSep_univ_prod]; rfl
  have hT : bigSep (toksA ∪ toksB) (fun x => (dutyTok ER x.1 x.2.1 x.2.2 : sProp 𝕄)) = bigSep Finset.univ fun c : Dev nD => toks c := by
    rw [bigSep_union toks_disj]
    unfold toksA toksB toks
    rw [bigSep_sep', bigSep_map, bigSep_map, bigSep_univ_prod]; rfl
  iintro HX
  imod (Rounds.fund ER (rd g) allCells (toksA ∪ toksB)) $$ HX with ⟨Hst, Hr, Hat, Htok⟩
  imodintro
  ihave Hst' := (Entails.of_eq (hX fun x => roundState ER (rd g) x 0)) $$ Hst
  ihave Hat' := (Entails.of_eq (hX fun x => atPos ER x 0 ∅ 0)) $$ Hat
  ihave Hr' := (Entails.of_eq (hX fun x => reached ER x 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G g c)
      ⊢ |={Set.univ}=> iprop((bigSep Finset.univ fun k => iprop(∃ κ : ℕ, cellInv ER (rd g) κ (kcell (c, k))))
          ∗ (bigSep Finset.univ fun k => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 121 => semVal (kcell (c, k)) 0) ∗ bigSep Finset.univ fun k : Fin 121 => roundState ER (rd g) (kcell (c, k)) 0)
      ⊢ (|={Set.univ}=> bigSep Finset.univ fun k => iprop(∃ κ : ℕ, cellInv ER (rd g) κ (kcell (c, k))) : sProp 𝕄) from by
        rw [← bigSep_sep']
        exact (bigSep_mono fun k _ => (Rounds.body_intro ER (rd g) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks (c : Dev nD) : sProp 𝕄 :=
  iprop(dutyTok ER (barCell (prv c)) 0 (0 : Fin 16) ∗ dutyTok ER (barCell (nxt c)) 0 (1 : Fin 16)
    ∗ (bigSep (Finset.Ico 0 32) fun m => dutyTok ER (dC.sCell c m) 0 (0 : Fin 16)) ∗ (bigSep (Finset.Ico 0 32) fun m => dutyTok ER (dC.rCell (nxt c) m) 0 (0 : Fin 16))
    ∗ (bigSep (Finset.Ico 0 28) fun m => dutyTok ER (dN.sCell c m) 0 (0 : Fin 16)) ∗ (bigSep (Finset.Ico 0 28) fun m => dutyTok ER (dN.rCell (prv c) m) 0 (0 : Fin 16)))

def ring : Dev nD ≃ Dev nD := ⟨nxt, prv, prv_nxt, nxt_prv⟩

/-- The tokens dealt to those who pay: a barrier's to either neighbour, an arrival's to the sender. -/
theorem toks_around : (bigSep Finset.univ fun c : Dev nD => (toks c : sProp 𝕄)) ⊢ bigSep Finset.univ fun c : Dev nD => payToks c := by
  have e (c : Dev nD) : (toks c : sProp 𝕄) = iprop((dutyTok ER (barCell c) 0 (0 : Fin 16)
      ∗ ((bigSep (Finset.Ico 0 32) fun m => dutyTok ER (dC.sCell c m) 0 (0 : Fin 16)) ∗ (bigSep (Finset.Ico 0 32) fun m => dutyTok ER (dC.rCell c m) 0 (0 : Fin 16))
      ∗ (bigSep (Finset.Ico 0 28) fun m => dutyTok ER (dN.sCell c m) 0 (0 : Fin 16)) ∗ (bigSep (Finset.Ico 0 28) fun m => dutyTok ER (dN.rCell c m) 0 (0 : Fin 16))))
      ∗ dutyTok ER (barCell c) 0 (1 : Fin 16)) := by
    unfold toks
    rw [show (bigSep Finset.univ fun k : Fin 121 => (dutyTok ER (kcell (c, k)) 0 (0 : Fin 16) : sProp 𝕄)) = _ from
      cells_split fun s => dutyTok ER ((c : Thread nD τ), s) 0 (0 : Fin 16)]
    rfl
  rw [bigSep_congr fun c _ => e c]
  unfold payToks
  simp only [bigSep_sep']
  rw [bigSep_univ_equiv ring.symm (fun c : Dev nD => (dutyTok ER (barCell c) 0 (0 : Fin 16) : sProp 𝕄)),
    bigSep_univ_equiv ring (fun c : Dev nD => (dutyTok ER (barCell c) 0 (1 : Fin 16) : sProp 𝕄)),
    bigSep_univ_equiv ring (fun c : Dev nD => (bigSep (Finset.Ico 0 32) fun m => dutyTok ER (dC.rCell c m) 0 (0 : Fin 16) : sProp 𝕄)),
    bigSep_univ_equiv ring.symm (fun c : Dev nD => (bigSep (Finset.Ico 0 28) fun m => dutyTok ER (dN.rCell c m) 0 (0 : Fin 16) : sProp 𝕄))]
  iintro ⟨⟨H0, HCs, HCr, HNs, HNr⟩, H1⟩
  isplitl [H0]; · iexact H0
  isplitl [H1]; · iexact H1
  isplitl [HCs]; · iexact HCs
  isplitl [HCr]; · iexact HCr
  isplitl [HNs]; · iexact HNs
  iexact HNr

/-- What stays with a device: its positions and the tokens it pays with. -/
def held (c : Dev nD) : sProp 𝕄 :=
  iprop((bigSep Finset.univ fun k : Fin 121 => atPos ER (kcell (c, k)) 0 (∅ : Finset (Fin 16)) 0) ∗ payToks c)

/-- What a device has when all cells are shared. -/
def G' (c : Dev nD) : sProp 𝕄 := iprop(∃ K, records g K ∗ held c)

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : (iprop(R ∗ bigSep S Φ) : sProp 𝕄) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd g) κ (kcell (c, k))))
          ∗ (bigSep Finset.univ fun k => iprop(atPos ER (kcell (c, k)) 0 (∅ : Finset (Fin 16)) 0 ∗ reached ER (kcell (c, k)) 0)) ∗ toks c) : sProp 𝕄)
      ⊢ bigSep Finset.univ (G' g) := by
  rw [bigSep_sep', bigSep_sep', ← bigSep_univ_prod (fun ck : Dev nD × Fin 121 => iprop(∃ κ : ℕ, cellInv ER (rd g) κ (kcell ck))),
    bigSep_congr (s := Finset.univ) (fun (c : Dev nD) _ => bigSep_sep' Finset.univ (fun k : Fin 121 => (atPos ER (kcell (c, k)) 0 ∅ 0 : sProp 𝕄)) (fun k => reached ER (kcell (c, k)) 0)),
    bigSep_sep', ← bigSep_univ_prod (fun ck : Dev nD × Fin 121 => (reached ER (kcell ck) 0 : sProp 𝕄))]
  iintro ⟨HI, ⟨Hat, #HR⟩, Htok⟩
  ihave HK := (BI.bigSep_exists_pi Finset.univ (fun (ck : Dev nD × Fin 121) (κ : ℕ) => (cellInv ER (rd g) κ (kcell ck) : sProp 𝕄))) $$ HI
  icases HK with ⟨%K, #HI⟩
  ihave Htk := (toks_around (F := F)) $$ Htok
  have hG (c : Dev nD) : iprop(records g K ∗ held c) ⊢ G' g c := by
    unfold G'; iintro H; iexists K; iexact H
  iapply (bigSep_with_persistent (R := records g K) fun c _ => hG c)
  isplitr
  · unfold records; isplitl; · iexact HI
    iexact HR
  · unfold held
    rw [bigSep_sep']
    isplitl [Hat]; · iexact Hat
    iexact Htk

/-- All semaphores of all devices shared at once. -/
theorem glob : (bigSep Finset.univ fun c => iprop(Pipeline.ownSems0 (Ix := Unit) (Name := ℕ) (U := UU) (Lvl := ℕ) (Val := Elt F) (τ := τ) osem c ∗ unscopedSems0 c ∗ G g c) : sProp 𝕄)
    ⊢ |={Set.univ}=> bigSep Finset.univ (G' g) :=
  ((bigSep_mono fun c _ => core_alloc g c).trans (bigSep_fupd _ _)).trans (BI.fupd_mono (regroup g))

/-- The positions and the tokens, sorted by direction. -/
theorem held_sort (c : Dev nD) :
    (held c : sProp 𝕄) ⊢ iprop((atPos ER (barCell c) 0 (∅ : Finset (Fin 16)) 0 ∗ dutyTok ER (barCell (prv c)) 0 (0 : Fin 16) ∗ dutyTok ER (barCell (nxt c)) 0 (1 : Fin 16))
      ∗ ((bigSep (Finset.Ico 0 32) fun m => atPos ER (dC.rCell c m) 0 (∅ : Finset (Fin 16)) 0)
        ∗ (bigSep (Finset.Ico 0 32) fun m => iprop(dutyTok ER (dC.sCell c m) 0 (0 : Fin 16) ∗ dutyTok ER (dC.rCell (nxt c) m) 0 (0 : Fin 16)))
        ∗ (bigSep (Finset.Ico 0 32) fun m => atPos ER (dC.sCell c m) 0 (∅ : Finset (Fin 16)) 0))
      ∗ ((bigSep (Finset.Ico 0 28) fun m => atPos ER (dN.rCell c m) 0 (∅ : Finset (Fin 16)) 0)
        ∗ (bigSep (Finset.Ico 0 28) fun m => iprop(dutyTok ER (dN.sCell c m) 0 (0 : Fin 16) ∗ dutyTok ER (dN.rCell (prv c) m) 0 (0 : Fin 16)))
        ∗ (bigSep (Finset.Ico 0 28) fun m => atPos ER (dN.sCell c m) 0 (∅ : Finset (Fin 16)) 0))) := by
  unfold held payToks
  rw [show (bigSep Finset.univ fun k : Fin 121 => (atPos ER (kcell (c, k)) 0 (∅ : Finset (Fin 16)) 0 : sProp 𝕄)) = _ from
    cells_split fun s => atPos ER ((c : Thread nD τ), s) 0 (∅ : Finset (Fin 16)) 0, bigSep_sep', bigSep_sep']
  unfold fourKinds
  iintro ⟨⟨HB, HCs, HCr, HNs, HNr⟩, Ht0, Ht1, HTCs, HTCr, HTNs, HTNr⟩
  isplitl [HB Ht0 Ht1]
  · isplitl [HB]; · iexact HB
    isplitl [Ht0]; · iexact Ht0
    iexact Ht1
  isplitl [HCs HCr HTCs HTCr]
  · isplitl [HCr]; · iexact HCr
    isplitl [HTCs HTCr]
    · isplitl [HTCs]; · iexact HTCs
      iexact HTCr
    iexact HCs
  isplitl [HNr]; · iexact HNr
  isplitl [HTNs HTNr]
  · isplitl [HTNs]; · iexact HTNs
    iexact HTNr
  iexact HNs

/-! ## The credit of the waits -/

theorem owed_at (D : Dir 16 sig) (d : Dev nD) (x : GSem nD τ sig) :
    D.owed τ slM d 0 x () = ∑ m ∈ Finset.Ico 0 D.n, if x = D.rCell (D.nx d) m then NN else 0 := by
  unfold Dir.owed
  rw [Finset.sum_apply, Finsupp.finset_sum_apply]
  refine Finset.sum_congr rfl fun m _ => ?_
  rw [tallyAt_apply]
  by_cases h : x = D.rCell (D.nx d) m
  · rw [if_pos ⟨h, rfl⟩, if_pos h]
  · rw [if_neg (fun h' => h h'.1), if_neg h]

theorem owed_none (D : Dir 16 sig) (d : Dev nD) (x : GSem nD τ sig) (h : ∀ m < D.n, x ≠ D.rCell (D.nx d) m) : D.owed τ slM d 0 x () = 0 := by
  rw [owed_at]
  exact Finset.sum_eq_zero fun m hm => if_neg (h m (Finset.mem_Ico.mp hm).2)

theorem owed_one (D : Dir 16 sig) (hinj : ∀ a < D.n, ∀ b < D.n, D.R a = D.R b → a = b) (d c : Dev nD) (m : ℕ) (hm : m < D.n) :
    D.owed τ slM d 0 (D.rCell c m) () = if D.nx d = c then NN else 0 := by
  by_cases h : D.nx d = c
  · subst h
    rw [owed_at, if_pos rfl, Finset.sum_eq_single m]
    · exact if_pos rfl
    · intro b hb hne
      exact if_neg fun h => hne (hinj b (Finset.mem_Ico.mp hb).2 m hm (SemLoc.dma.inj (congrArg Prod.snd h)).symm)
    · intro h; exact absurd (Finset.mem_Ico.mpr ⟨Nat.zero_le _, hm⟩) h
  · rw [if_neg h]
    exact owed_none D d _ fun m' _ h' => h (congrArg (fun g : GSem nD τ sig => g.1.1) h').symm

theorem nxt_eq (d c : Dev nD) : (nxt d = c) = (d = prv c) :=
  propext ⟨fun h => by rw [← h, prv_nxt], fun h => by rw [h, nxt_prv]⟩
theorem prv_eq (d c : Dev nD) : (prv d = c) = (d = nxt c) :=
  propext ⟨fun h => by rw [← h, nxt_prv], fun h => by rw [h, prv_nxt]⟩

theorem tally_bar_dma (d c : Dev nD) (q : DmaSem sig) : (tallyAt (barCell d) () 1 : CellTallies nD τ sig Unit) ((c : Thread nD τ), .dma q) () = 0 := by
  rw [tallyAt_apply]
  exact if_neg fun h => by have := congrArg Prod.snd h.1; cases this

theorem tally_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg h]
    exact if_neg fun h' => h (congrArg (fun g : GSem nD τ sig => g.1.1) h'.1).symm

theorem O₀_apply (d : Dev nD) (x : GSem nD τ sig) : O₀ d x () = dC.owed τ slM d 0 x () + dN.owed τ slM d 0 x ()
    + (tallyAt (barCell (nxt d)) () 1 : CellTallies nD τ sig Unit) x () + (tallyAt (barCell (prv d)) () 1 : CellTallies nD τ sig Unit) x () := rfl

theorem owed_bar (d c : Dev nD) : O₀ d (barCell c) () = (if d = prv c then 1 else 0) + (if d = nxt c then 1 else 0) := by
  rw [O₀_apply, owed_none dC d _ (fun m _ h => by have := congrArg Prod.snd h; cases this),
    owed_none dN d _ (fun m _ h => by have := congrArg Prod.snd h; cases this), tally_bar, tally_bar, Nat.zero_add]
  simp only [nxt_eq, prv_eq]
  first | done | rw [Nat.zero_add]

theorem owed_recvC (d c : Dev nD) (m : ℕ) (hm : m < 32) : O₀ d (dC.rCell c m) () = if d = prv c then NN else 0 := by
  have h2 : dN.owed τ slM d 0 (dC.rCell c m) () = 0 := owed_none dN d _ fun m' hm' h => by
    have hm'' : m' < 28 := hm'
    have := dsem_inj (by omega) (by omega) (SemLoc.dma.inj (congrArg Prod.snd h) : dsem (35 + m) = dsem (95 + m'))
    omega
  have h1 : dC.owed τ slM d 0 (dC.rCell c m) () = if nxt d = c then NN else 0 := owed_one dC (fun a ha b hb h => by
    have ha' : a < 32 := ha
    have hb' : b < 32 := hb
    have := dsem_inj (by omega) (by omega) (h : dsem (35 + a) = dsem (35 + b))
    omega) d c m hm
  rw [O₀_apply, h1, h2, tally_bar_dma, tally_bar_dma, Nat.add_zero]
  simp only [nxt_eq]

theorem owed_recvN (d c : Dev nD) (m : ℕ) (hm : m < 28) : O₀ d (dN.rCell c m) () = if d = nxt c then NN else 0 := by
  have h2 : dC.owed τ slM d 0 (dN.rCell c m) () = 0 := owed_none dC d _ fun m' hm' h => by
    have hm'' : m' < 32 := hm'
    have := dsem_inj (by omega) (by omega) (SemLoc.dma.inj (congrArg Prod.snd h) : dsem (95 + m) = dsem (35 + m'))
    omega
  have h1 : dN.owed τ slM d 0 (dN.rCell c m) () = if prv d = c then NN else 0 := owed_one dN (fun a ha b hb h => by
    have ha' : a < 28 := ha
    have hb' : b < 28 := hb
    have := dsem_inj (by omega) (by omega) (h : dsem (95 + a) = dsem (95 + b))
    omega) d c m hm
  rw [O₀_apply, h1, h2, tally_bar_dma, tally_bar_dma, Nat.add_zero, Nat.zero_add]
  simp only [prv_eq]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_one (x : GSem nD τ sig) (e : Dev nD) (h : ∀ d, O₀ d x () = if d = e then NN else 0) :
    tallyOn x (launchCredit (Pipeline.owing O₀) 0 x) = (tallyAt x () NN : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => NN,
    if_pos (Finset.mem_univ _)]

/-- The credit a device waits with. -/
theorem creds (c : Dev nD) :
    (Pipeline.launchCred O₀ c : sProp 𝕄) ⊢ iprop(cred (tallyAt (barCell c) () 2)
      ∗ (bigSep (Finset.Ico 0 32) fun m => cred (tallyAt (dC.rCell c m) () NN)) ∗ (bigSep (Finset.Ico 0 28) fun m => cred (tallyAt (dN.rCell c m) () NN))) := by
  have hC : (bigSep (Finset.Ico 0 32) fun m => (cred (tallyOn (dC.rCell c m) (launchCredit (Pipeline.owing O₀) 0 (dC.rCell c m))) : sProp 𝕄))
      = bigSep (Finset.Ico 0 32) fun m => cred (tallyAt (dC.rCell c m) () NN) :=
    bigSep_congr fun m hm => by rw [launch_one _ (prv c) fun d => owed_recvC d c m (Finset.mem_Ico.mp hm).2]
  have hN : (bigSep (Finset.Ico 0 28) fun m => (cred (tallyOn (dN.rCell c m) (launchCredit (Pipeline.owing O₀) 0 (dN.rCell c m))) : sProp 𝕄))
      = bigSep (Finset.Ico 0 28) fun m => cred (tallyAt (dN.rCell c m) () NN) :=
    bigSep_congr fun m hm => by rw [launch_one _ (nxt c) fun d => owed_recvN d c m (Finset.mem_Ico.mp hm).2]
  rw [← hC, ← hN, ← launch_bar]
  unfold Pipeline.launchCred
  refine (bigSep_subset (Finset.subset_univ (Finset.univ.map ⟨csem, csem_injective⟩))).trans ?_
  rw [bigSep_map]
  refine (Entails.of_eq (cells_split fun s => (cred (tallyOn ((c : Thread nD τ), s) (launchCredit (Pipeline.owing O₀) 0 ((c : Thread nD τ), s))) : sProp 𝕄))).trans ?_
  unfold fourKinds
  iintro ⟨HB, -, HC, -, HN⟩
  isplitl [HB]; · iexact HB
  isplitl [HC]; · iexact HC
  iexact HN

end Cert.AgProof
-- ==== Proof.WalkFirst.lean ====
/-
  The first third of the ring at a device, its opening included.
-/
module

public import proofs.«01_k».proof.Proof.Open
public import proofs.«01_k».proof.Proof.Gen.KernelIdeal.Skeleton

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {g : slM.view.ty.Contents (Elt F)} {K : Dev nD × Fin 121 → ℕ}
variable {w : (cc0_stg1_0 : Ref sig .tc).ty.Contents (Elt F)} {f0 : (cc0_stg2_0 : Ref sig .tc).ty.Contents (Elt F)}
variable {Y : sProp (MT nD τ sig Unit (Elt F) ℕ UU ℕ)} {c : Dev nD}

variable {X : (cc0_stg0_0 : Ref sig .tc).ty.Contents (Elt F)}

/-- From the opening to the fifth slot. -/
theorem walk_first (h0 : xM.IsWhole) (h1 : wM.IsWhole) (h2 : oM.IsWhole) (h3 : slM.IsWhole) (hX : k0_pay1 X = slotV (M := slM) g c) :
    opening g K X w f0 c ⊢ go c (k0_part195 (F := F) xM h0 wM h1 oM h2 slM h3 cc0_scratch1 cc0_scratch2 cc0_scratch3 cc0_scratch4)
      fun a => iprop(⌜c = a.1⌝ ∗ SS g K w f0 (kept X c) c 8 12 8 12 4) := by
  simp only [k0_part195_eq_skeleton]
  delta k0_part195_skel
  refine partEq (R := opening g K X w f0 c) (fun a => c = a.1) ?_ (fun a ha => ?_)
  · simp only [k0_part1_eq_skeleton]
    delta k0_part1_skel
    simp only [go, Dir.run, Prog.lift, Prog.bind_op, Prog.bind_ret, wp_deviceId]
    exact doneEq rfl
  obtain ⟨d0, r⟩ := a
  dsimp only at ha
  subst ha
  iterate 2
    apply part
    · simp only [k0_part2_eq_skeleton, k0_part3_eq_skeleton]
      delta k0_part2_skel k0_part3_skel
      exact stop
    intro a
  apply part
  · simp only [k0_part4_eq_skeleton]
    delta k0_part4_skel
    (refine openRun ?_ ?_ ?_ hX ?_) <;> [(generalize c = d; revert d; decide +kernel); (generalize c = d; revert d; decide +kernel); (generalize c = d; revert d; decide +kernel); exact stop]
  intro a
  iterate 56
    apply part
    · simp only [k0_part5_eq_skeleton, k0_part6_eq_skeleton, k0_part7_eq_skeleton, k0_part8_eq_skeleton, k0_part9_eq_skeleton,
        k0_part10_eq_skeleton, k0_part11_eq_skeleton, k0_part12_eq_skeleton, k0_part13_eq_skeleton, k0_part14_eq_skeleton,
        k0_part15_eq_skeleton, k0_part16_eq_skeleton, k0_part17_eq_skeleton, k0_part18_eq_skeleton, k0_part19_eq_skeleton,
        k0_part20_eq_skeleton, k0_part21_eq_skeleton, k0_part22_eq_skeleton, k0_part23_eq_skeleton, k0_part24_eq_skeleton,
        k0_part25_eq_skeleton, k0_part26_eq_skeleton, k0_part27_eq_skeleton, k0_part28_eq_skeleton, k0_part29_eq_skeleton,
        k0_part30_eq_skeleton, k0_part31_eq_skeleton, k0_part32_eq_skeleton, k0_part33_eq_skeleton, k0_part34_eq_skeleton,
        k0_part35_eq_skeleton, k0_part36_eq_skeleton, k0_part37_eq_skeleton, k0_part38_eq_skeleton, k0_part39_eq_skeleton,
        k0_part40_eq_skeleton, k0_part41_eq_skeleton, k0_part42_eq_skeleton, k0_part43_eq_skeleton, k0_part44_eq_skeleton,
        k0_part45_eq_skeleton, k0_part46_eq_skeleton, k0_part47_eq_skeleton, k0_part48_eq_skeleton, k0_part49_eq_skeleton,
        k0_part50_eq_skeleton, k0_part51_eq_skeleton, k0_part52_eq_skeleton, k0_part53_eq_skeleton, k0_part54_eq_skeleton,
        k0_part55_eq_skeleton, k0_part56_eq_skeleton, k0_part57_eq_skeleton, k0_part58_eq_skeleton, k0_part59_eq_skeleton,
        k0_part60_eq_skeleton]
      delta k0_part5_skel k0_part6_skel k0_part7_skel k0_part8_skel k0_part9_skel k0_part10_skel k0_part11_skel k0_part12_skel
        k0_part13_skel k0_part14_skel k0_part15_skel k0_part16_skel k0_part17_skel k0_part18_skel k0_part19_skel
        k0_part20_skel k0_part21_skel k0_part22_skel k0_part23_skel k0_part24_skel k0_part25_skel k0_part26_skel
        k0_part27_skel k0_part28_skel k0_part29_skel k0_part30_skel k0_part31_skel k0_part32_skel k0_part33_skel
        k0_part34_skel k0_part35_skel k0_part36_skel k0_part37_skel k0_part38_skel k0_part39_skel k0_part40_skel
        k0_part41_skel k0_part42_skel k0_part43_skel k0_part44_skel k0_part45_skel k0_part46_skel k0_part47_skel
        k0_part48_skel k0_part49_skel k0_part50_skel k0_part51_skel k0_part52_skel k0_part53_skel k0_part54_skel
        k0_part55_skel k0_part56_skel k0_part57_skel k0_part58_skel k0_part59_skel k0_part60_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | with_reducible refine loadOut ?_
        | (with_reducible refine loadSlot ?_ ?_ ?_) <;> [(generalize c = d; revert d; decide +kernel); decide; skip]
        | (with_reducible refine loadRows ?_ ?_) <;> [(generalize c = d; revert d; decide +kernel); skip]
        | (with_reducible refine storeOut ?_ ?_) <;> [rfl; skip]
        | exact stop
    intro a
  exact doneEq rfl

end Cert.AgProof
-- ==== Proof.WalkMid.lean ====
/-
  The middle third of the ring at a device.
-/
module

public import proofs.«01_k».proof.Proof.Steps
public import proofs.«01_k».proof.Proof.Gen.KernelIdeal.Skeleton

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {g : slM.view.ty.Contents (Elt F)} {K : Dev nD × Fin 121 → ℕ}
variable {w : (cc0_stg1_0 : Ref sig .tc).ty.Contents (Elt F)} {f0 : (cc0_stg2_0 : Ref sig .tc).ty.Contents (Elt F)}
variable {Y : sProp (MT nD τ sig Unit (Elt F) ℕ UU ℕ)} {c : Dev nD}

theorem walk_mid (xM : Memref sig .tc .vmem S1024x128 .bf16) (h0 : xM.IsWhole) (h1 : wM.IsWhole) (h2 : oM.IsWhole) (h3 : slM.IsWhole)
    (v38 v77 v116 v : BitVec 32) :
    SS g K w f0 Y c 8 12 8 12 4 ⊢ go c (k0_part196 (F := F) xM h0 wM h1 oM h2 slM h3 cc0_scratch1 cc0_scratch2 cc0_scratch3 cc0_scratch4 c v38 v77 v116 v)
      fun _ => SS g K w f0 Y c 18 22 18 22 9 := by
  simp only [k0_part196_eq_skeleton]
  delta k0_part196_skel
  iterate 60
    first
      | apply partEq (β := FVec F S1024x2048 .f32) (fun a => a = acc g w f0 c 8)
      | apply part
    · simp only [k0_part61_eq_skeleton, k0_part62_eq_skeleton, k0_part63_eq_skeleton, k0_part64_eq_skeleton, k0_part65_eq_skeleton,
        k0_part66_eq_skeleton, k0_part67_eq_skeleton, k0_part68_eq_skeleton, k0_part69_eq_skeleton, k0_part70_eq_skeleton,
        k0_part71_eq_skeleton, k0_part72_eq_skeleton, k0_part73_eq_skeleton, k0_part74_eq_skeleton, k0_part75_eq_skeleton,
        k0_part76_eq_skeleton, k0_part77_eq_skeleton, k0_part78_eq_skeleton, k0_part79_eq_skeleton, k0_part80_eq_skeleton,
        k0_part81_eq_skeleton, k0_part82_eq_skeleton, k0_part83_eq_skeleton, k0_part84_eq_skeleton, k0_part85_eq_skeleton,
        k0_part86_eq_skeleton, k0_part87_eq_skeleton, k0_part88_eq_skeleton, k0_part89_eq_skeleton, k0_part90_eq_skeleton,
        k0_part91_eq_skeleton, k0_part92_eq_skeleton, k0_part93_eq_skeleton, k0_part94_eq_skeleton, k0_part95_eq_skeleton,
        k0_part96_eq_skeleton, k0_part97_eq_skeleton, k0_part98_eq_skeleton, k0_part99_eq_skeleton, k0_part100_eq_skeleton,
        k0_part101_eq_skeleton, k0_part102_eq_skeleton, k0_part103_eq_skeleton, k0_part104_eq_skeleton, k0_part105_eq_skeleton,
        k0_part106_eq_skeleton, k0_part107_eq_skeleton, k0_part108_eq_skeleton, k0_part109_eq_skeleton, k0_part110_eq_skeleton,
        k0_part111_eq_skeleton, k0_part112_eq_skeleton, k0_part113_eq_skeleton, k0_part114_eq_skeleton, k0_part115_eq_skeleton,
        k0_part116_eq_skeleton, k0_part117_eq_skeleton, k0_part118_eq_skeleton, k0_part119_eq_skeleton, k0_part120_eq_skeleton]
      delta k0_part61_skel k0_part62_skel k0_part63_skel k0_part64_skel k0_part65_skel k0_part66_skel k0_part67_skel
        k0_part68_skel k0_part69_skel k0_part70_skel k0_part71_skel k0_part72_skel k0_part73_skel k0_part74_skel
        k0_part75_skel k0_part76_skel k0_part77_skel k0_part78_skel k0_part79_skel k0_part80_skel k0_part81_skel
        k0_part82_skel k0_part83_skel k0_part84_skel k0_part85_skel k0_part86_skel k0_part87_skel k0_part88_skel
        k0_part89_skel k0_part90_skel k0_part91_skel k0_part92_skel k0_part93_skel k0_part94_skel k0_part95_skel
        k0_part96_skel k0_part97_skel k0_part98_skel k0_part99_skel k0_part100_skel k0_part101_skel k0_part102_skel
        k0_part103_skel k0_part104_skel k0_part105_skel k0_part106_skel k0_part107_skel k0_part108_skel k0_part109_skel
        k0_part110_skel k0_part111_skel k0_part112_skel k0_part113_skel k0_part114_skel k0_part115_skel k0_part116_skel
        k0_part117_skel k0_part118_skel k0_part119_skel k0_part120_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | with_reducible refine loadOut ?_
        | (with_reducible refine loadSlot ?_ ?_ ?_) <;> [(generalize c = d; revert d; decide +kernel); decide; skip]
        | (with_reducible refine loadRows ?_ ?_) <;> [(generalize c = d; revert d; decide +kernel); skip]
        | (with_reducible refine storeOut ?_ ?_) <;> [rfl; skip]
        | exact stop
        | exact doneEq rfl
    intro a
    try (intro ha; subst ha)
  exact stop

end Cert.AgProof
-- ==== Proof.WalkLast.lean ====
/-
  The last third of the ring at a device.
-/
module

public import proofs.«01_k».proof.Proof.Steps
public import proofs.«01_k».proof.Proof.Gen.KernelIdeal.Skeleton

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {g : slM.view.ty.Contents (Elt F)} {K : Dev nD × Fin 121 → ℕ}
variable {w : (cc0_stg1_0 : Ref sig .tc).ty.Contents (Elt F)} {f0 : (cc0_stg2_0 : Ref sig .tc).ty.Contents (Elt F)}
variable {Y : sProp (MT nD τ sig Unit (Elt F) ℕ UU ℕ)} {c : Dev nD}

theorem walk_last (xM : Memref sig .tc .vmem S1024x128 .bf16) (h0 : xM.IsWhole) (h1 : wM.IsWhole) (h2 : oM.IsWhole) (h3 : slM.IsWhole)
    (v38 v77 v116 : BitVec 32) :
    SS g K w f0 Y c 18 22 18 22 9 ⊢ go c (k0_part197 (F := F) xM h0 wM h1 oM h2 slM h3 cc0_scratch1 cc0_scratch2 cc0_scratch3 cc0_scratch4 c v38 v77 v116)
      fun a => iprop(⌜a.2 = k0_pay21 (acc g w f0 c 15)⌝ ∗ SS g K w f0 Y c 32 32 28 28 15) := by
  simp only [k0_part197_eq_skeleton]
  delta k0_part197_skel
  iterate 60
    first
      | apply partEq (β := Σ' (v5687 : FVec F S1024x2048 .f32) (v5690 : FVec F S1024x128 .bf16), FVec F S128x2048 .bf16)
          (fun a => a = ⟨k0_pay13 (acc g w f0 c 11), k0_pay14 (slotV g (ord c 11)), k0_pay15 (rowsV w (ord c 11))⟩)
      | apply partEq (β := Σ' (v6171 : BitVec 32), FVec F S1024x2048 .f32) (fun a => a.2 = k0_pay18 (acc g w f0 c _))
      | apply part
    · simp only [k0_part121_eq_skeleton, k0_part122_eq_skeleton, k0_part123_eq_skeleton, k0_part124_eq_skeleton, k0_part125_eq_skeleton,
        k0_part126_eq_skeleton, k0_part127_eq_skeleton, k0_part128_eq_skeleton, k0_part129_eq_skeleton, k0_part130_eq_skeleton,
        k0_part131_eq_skeleton, k0_part132_eq_skeleton, k0_part133_eq_skeleton, k0_part134_eq_skeleton, k0_part135_eq_skeleton,
        k0_part136_eq_skeleton, k0_part137_eq_skeleton, k0_part138_eq_skeleton, k0_part139_eq_skeleton, k0_part140_eq_skeleton,
        k0_part141_eq_skeleton, k0_part142_eq_skeleton, k0_part143_eq_skeleton, k0_part144_eq_skeleton, k0_part145_eq_skeleton,
        k0_part146_eq_skeleton, k0_part147_eq_skeleton, k0_part148_eq_skeleton, k0_part149_eq_skeleton, k0_part150_eq_skeleton,
        k0_part151_eq_skeleton, k0_part152_eq_skeleton, k0_part153_eq_skeleton, k0_part154_eq_skeleton, k0_part155_eq_skeleton,
        k0_part156_eq_skeleton, k0_part157_eq_skeleton, k0_part158_eq_skeleton, k0_part159_eq_skeleton, k0_part160_eq_skeleton,
        k0_part161_eq_skeleton, k0_part162_eq_skeleton, k0_part163_eq_skeleton, k0_part164_eq_skeleton, k0_part165_eq_skeleton,
        k0_part166_eq_skeleton, k0_part167_eq_skeleton, k0_part168_eq_skeleton, k0_part169_eq_skeleton, k0_part170_eq_skeleton,
        k0_part171_eq_skeleton, k0_part172_eq_skeleton, k0_part173_eq_skeleton, k0_part174_eq_skeleton, k0_part175_eq_skeleton,
        k0_part176_eq_skeleton, k0_part177_eq_skeleton, k0_part178_eq_skeleton, k0_part179_eq_skeleton, k0_part180_eq_skeleton]
      delta k0_part121_skel k0_part122_skel k0_part123_skel k0_part124_skel k0_part125_skel k0_part126_skel k0_part127_skel
        k0_part128_skel k0_part129_skel k0_part130_skel k0_part131_skel k0_part132_skel k0_part133_skel k0_part134_skel
        k0_part135_skel k0_part136_skel k0_part137_skel k0_part138_skel k0_part139_skel k0_part140_skel k0_part141_skel
        k0_part142_skel k0_part143_skel k0_part144_skel k0_part145_skel k0_part146_skel k0_part147_skel k0_part148_skel
        k0_part149_skel k0_part150_skel k0_part151_skel k0_part152_skel k0_part153_skel k0_part154_skel k0_part155_skel
        k0_part156_skel k0_part157_skel k0_part158_skel k0_part159_skel k0_part160_skel k0_part161_skel k0_part162_skel
        k0_part163_skel k0_part164_skel k0_part165_skel k0_part166_skel k0_part167_skel k0_part168_skel k0_part169_skel
        k0_part170_skel k0_part171_skel k0_part172_skel k0_part173_skel k0_part174_skel k0_part175_skel k0_part176_skel
        k0_part177_skel k0_part178_skel k0_part179_skel k0_part180_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | with_reducible refine loadOut ?_
        | (with_reducible refine loadSlot ?_ ?_ ?_) <;> [(generalize c = d; revert d; decide +kernel); decide; skip]
        | (with_reducible refine loadRows ?_ ?_) <;> [(generalize c = d; revert d; decide +kernel); skip]
        | (with_reducible refine storeOut ?_ ?_) <;> [rfl; skip]
        | exact stop
        | exact doneEq rfl
    intro a
    try (intro ha; first | subst ha | (obtain ⟨a1, a2⟩ := a; dsimp only at ha; subst ha))
  exact doneEq rfl

end Cert.AgProof
-- ==== Proof.WalkTail.lean ====
/-
  The whole body at a device.
-/
module

public import proofs.«01_k».proof.Proof.WalkFirst
public import proofs.«01_k».proof.Proof.WalkMid
public import proofs.«01_k».proof.Proof.WalkLast
public import proofs.«01_k».proof.Proof.Gen.KernelIdeal.Skeleton

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {g : slM.view.ty.Contents (Elt F)} {K : Dev nD × Fin 121 → ℕ}
variable {w : (cc0_stg1_0 : Ref sig .tc).ty.Contents (Elt F)} {f0 : (cc0_stg2_0 : Ref sig .tc).ty.Contents (Elt F)}
variable {Y : sProp (MT nD τ sig Unit (Elt F) ℕ UU ℕ)} {c : Dev nD}

variable {X : (cc0_stg0_0 : Ref sig .tc).ty.Contents (Elt F)}

/-- The whole body: every slot summed, every departure waited for. -/
theorem walk (h0 : xM.IsWhole) (h1 : wM.IsWhole) (h2 : oM.IsWhole) (h3 : slM.IsWhole) (hX : k0_pay1 X = slotV (M := slM) g c) :
    opening g K X w f0 c ⊢ go c (cc0__ag_body (F := F) xM h0 wM h1 oM h2 slM h3 cc0_scratch1 cc0_scratch2 cc0_scratch3 cc0_scratch4)
      fun _ => DD g K c 32 28 (XX g w f0 (kept X c) c 16) := by
  simp only [cc0__ag_body_eq_skeleton]
  delta cc0__ag_body_skel
  refine partEq (fun a => c = a.1) (walk_first h0 h1 h2 h3 hX) (fun a ha => ?_)
  obtain ⟨d0, r⟩ := a
  dsimp only at ha
  subst ha
  refine part (walk_mid _ h0 h1 h2 h3 _ _ _ _) (fun a => ?_)
  refine partEq (fun a => a.2 = k0_pay21 (acc g w f0 c 15)) (walk_last _ h0 h1 h2 h3 _ _ _) (fun a ha => ?_)
  obtain ⟨a1, a2⟩ := a
  dsimp only at ha
  subst ha
  iterate 14
    apply part
    · simp only [k0_part181_eq_skeleton, k0_part182_eq_skeleton, k0_part183_eq_skeleton, k0_part184_eq_skeleton, k0_part185_eq_skeleton,
        k0_part186_eq_skeleton, k0_part187_eq_skeleton, k0_part188_eq_skeleton, k0_part189_eq_skeleton, k0_part190_eq_skeleton,
        k0_part191_eq_skeleton, k0_part192_eq_skeleton, k0_part193_eq_skeleton, k0_part194_eq_skeleton]
      delta k0_part181_skel k0_part182_skel k0_part183_skel k0_part184_skel k0_part185_skel k0_part186_skel k0_part187_skel
        k0_part188_skel k0_part189_skel k0_part190_skel k0_part191_skel k0_part192_skel k0_part193_skel k0_part194_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | with_reducible refine loadOut ?_
        | (with_reducible refine loadSlot ?_ ?_ ?_) <;> [(generalize c = d; revert d; decide +kernel); decide; skip]
        | (with_reducible refine loadRows ?_ ?_) <;> [(generalize c = d; revert d; decide +kernel); skip]
        | (with_reducible refine storeOut ?_ ?_) <;> [rfl; skip]
        | (with_reducible refine departC ?_ ?_ ?_) <;> [rfl; decide; skip]
        | (with_reducible refine departN ?_ ?_ ?_) <;> [rfl; decide; skip]
        | exact stop
        | (refine toDepart ?_ ?_ ?_ ?_ ?_) <;> [rfl; rfl; rfl; rfl; skip]
    intro a
  repeat first
    | (with_reducible refine departC ?_ ?_ ?_) <;> [rfl; decide; skip]
    | exact stop

end Cert.AgProof
-- ==== Proof.Run.lean ====
/-
  The run of the gather: on every device the body from what the launch deals to the output, and what every
  device's arrays hold when all have returned.
-/
module

public import proofs.«01_k».proof.Proof.Deal
public import proofs.«01_k».proof.Proof.WalkTail
public import proofs.«01_k».proof.Proof.Gen.KernelIdeal.Points
public import Idealize.ShloMosaic.Lib.Pipeline.CollectiveSegs
public import Idealize.ShloMosaic.Lib.Pointwise

@[expose] public section

set_option maxRecDepth 20000

noncomputable section

namespace Cert.AgProof

open Cert.KernelIdeal Cert.KernelIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- The staged block, and the staged weights, of a device. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The gathered array: slot `k` holds the block of device `k`. -/
def gath : slM.view.ty.Contents (Elt F) := fun i => k0_pay1 (xstg m ρ (i 0)) (ix3 0 (i 1) (i 2))

/-- The stored block is the device's slot of the gathered array. -/
theorem own_slot (c : Dev nD) : k0_pay1 (xstg m ρ c) = slotV (M := slM) (gath m ρ) c := by
  funext y
  obtain ⟨u, a, b, rfl⟩ : ∃ (u : Fin 1) (a : Fin 1024) (b : Fin 128), y = ix3 u a b := ⟨y 0, y 1, y 2, eq_ix3 y⟩
  have hu : u = 0 := Subsingleton.elim _ _
  subst hu
  have e : (srect c).toLoadRect.idx (ix3 0 a b) = ix3 c a b := by
    funext x
    fin_cases x <;> refine Fin.ext ?_
    · show c.val + 1 * 0 = c.val; omega
    · show 0 + 1 * a.val = a.val; omega
    · show 0 + 1 * b.val = b.val; omega
  show _ = gath m ρ ((srect c).toLoadRect.idx (ix3 0 a b))
  rw [e]
  rfl

/-- The output of a device. -/
def outAt (c : Dev nD) : (cc0_stg2_0 : Ref sig .tc).ty.Contents (Elt F) :=
  acc (gath m ρ) (wstg m ρ c) (fun _ => default) c 16

theorem acc_any (g : slM.view.ty.Contents (Elt F)) (w) (f f' : (cc0_stg2_0 : Ref sig .tc).ty.Contents (Elt F)) (c : Dev nD) (n : ℕ) :
    acc g w f c (n + 1) = acc g w f' c (n + 1) := by
  induction n with
  | zero => rfl
  | succ n ih => show k0_pay3 (acc g w f c (n + 1)) _ _ = k0_pay3 (acc g w f' c (n + 1)) _ _; rw [ih]

/-! ## Before and after the body -/

/-- What a device's body starts from. -/
def start (c : Dev nD) : sProp 𝕄 :=
  iprop(G' (gath m ρ) c ∗ (cred (tallyAt (barCell c) () 2)
      ∗ (bigSep (Finset.Ico 0 32) fun m => cred (tallyAt (dC.rCell c m) () NN)) ∗ (bigSep (Finset.Ico 0 28) fun m => cred (tallyAt (dN.rCell c m) () NN)))
    ∗ levAts L lv)

def Φ₀ (c : Dev nD) : sProp 𝕄 := iprop(start m ρ c ∗ ∃ f, slM.view.loc (c : Thread nD τ) ↦[slM.view.set]{fullShare} f)
/-- After the body: the gathered array, and every semaphore at zero. -/
def Φ₁ (c : Dev nD) : sProp 𝕄 :=
  iprop((slM.view.loc (c : Thread nD τ) ↦[slM.view.set]{fullShare} gath m ρ) ∗ (fourKinds fun s => semVal ((c : Thread nD τ), s) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c) ∗ stg c cc0_stg2_0 (outAt m ρ c))

/-- The launch's share and the staged arrays are the opening of the body. -/
theorem to_opening (c : Dev nD) : (bodyPre m ρ c : sProp 𝕄) ⊢ iprop(∃ K f0, opening (gath m ρ) K (xstg m ρ c) (wstg m ρ c) f0 c) := by
  unfold bodyPre Φ₀ start G' Dat.owesAt Pipeline.owesWithin
  iintro ⟨⟨⟨⟨%K, #HR, Hh⟩, ⟨HcB, HcC, HcN⟩, #Hlev⟩, Hs⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  ihave H := (held_sort (F := F) c) $$ Hh
  icases H with ⟨⟨HB, Ht0, Ht1⟩, ⟨HCr, HCt, HCs⟩, ⟨HNr, HNt, HNs⟩⟩
  iexists K
  iexists g2
  unfold opening II linear
  isplitr
  · isplitr; · iexact HR
    iexact Hlev
  isplitl [HCr HcC HCt HCs]
  · isplitl [HCr HcC]
    · iapply (Entails.of_eq (bigSep_sep' _ _ _).symm)
      isplitl [HCr]; · iexact HCr
      iexact HcC
    isplitl [HCt]; · iexact HCt
    iexact HCs
  isplitl [HNr HcN HNt HNs]
  · isplitl [HNr HcN]
    · iapply (Entails.of_eq (bigSep_sep' _ _ _).symm)
      isplitl [HNr]; · iexact HNr
      iexact HcN
    isplitl [HNt]; · iexact HNt
    iexact HNs
  isplitl [HB HcB Ht0 Ht1]
  · isplitl [HB]; · iexact HB
    isplitl [HcB]; · iexact HcB
    isplitl [Ht0]; · iexact Ht0
    iexact Ht1
  isplitl [HO]; · iexists W; iexact HO
  isplitl [Hs]; · iexact Hs
  isplitl [Hx]; · iexact Hx
  isplitl [Hw]; · iexact Hw
  iexact Ho

/-- The end of the body is what the launch takes back. -/
theorem of_end (K : Dev nD × Fin 121 → ℕ) (f0) (c : Dev nD) :
    DD (gath m ρ) K c 32 28 (XX (gath m ρ) (wstg m ρ c) f0 (kept (xstg m ρ c) c) c 16) ⊢ bodyPost m ρ c := by
  have hf : acc (gath m ρ) (wstg m ρ c) f0 c 16 = outAt m ρ c := acc_any _ _ _ _ _ 15
  unfold DD Dr XX kept bodyPost Φ₁ fourKinds Dat.owesAt Pipeline.owesWithin
  rw [hf]
  iintro ⟨-, HC, HN, ⟨%W, HO⟩, ⟨Hx, Hz⟩, Hw, Ho⟩
  ihave H := (whole_again slM (fun m => dsem (3 + m)) (fun m => dsem (35 + m)) (fun m => dsem (67 + m)) (fun m => dsem (95 + m)) c (gath m ρ)) $$ [HC HN]
  · isplitl [HC]; · iexact HC
    iexact HN
  icases H with ⟨Hs, H1, H2, H3, H4⟩
  isplitl [Hs H1 H2 H3 H4 Hz]
  · isplitl [Hs]; · iexact Hs
    isplitr [Hz]
    · isplitl [H1]; · iexact H1
      isplitl [H2]; · iexact H2
      isplitl [H3]; · iexact H3
      iexact H4
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body of a device. -/
theorem sound_body (c : Dev nD) :
    bodyPre m ρ c ⊢ wp frame (wpE (defs₀ (F := F)) 𝒱₀ c none) Set.univ
      (cc0__ag_body xM (Memref.isWhole_whole _) wM (Memref.isWhole_whole _) oM (Memref.isWhole_whole _) slM (Memref.isWhole_whole _)
        cc0_scratch1 cc0_scratch2 cc0_scratch3 cc0_scratch4) (fun _ => bodyPost m ρ c) := by
  have h (K f0) : opening (gath m ρ) K (xstg m ρ c) (wstg m ρ c) f0 c ⊢ wp frame (wpE (defs₀ (F := F)) 𝒱₀ c none) Set.univ
      (cc0__ag_body xM (Memref.isWhole_whole _) wM (Memref.isWhole_whole _) oM (Memref.isWhole_whole _) slM (Memref.isWhole_whole _)
        cc0_scratch1 cc0_scratch2 cc0_scratch3 cc0_scratch4) (fun _ => bodyPost m ρ c) :=
    (walk (Memref.isWhole_whole _) (Memref.isWhole_whole _) (Memref.isWhole_whole _) (Memref.isWhole_whole _) (own_slot m ρ c)).trans
      (wp_mono _ _ _ fun _ => of_end m ρ K f0 c)
  iintro H
  ihave H := (to_opening m ρ c) $$ H
  icases H with ⟨%K, %f0, H⟩
  iapply (h K f0) $$ H

/-- The obligation of the launch on each device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (gath m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_set : slM.view.set = Finset.univ := View.set_whole _

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scr_set]; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  rw [scr_set]
  iintro ⟨Hr, HA, HzB⟩
  isplitl [HzB]; · iexact HzB
  isplitl [HA]; · iexact HA
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The sixteen devices run to the end, every array at what was computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (gath m ρ)) (G' := G' (gath m ρ)) (u₀ := u₀)
    (hu₀ := by
      unfold u₀
      iintro Hu
      ihave H := (ownU_pair _ _) $$ Hu
      icases H with ⟨HP, HX⟩
      imod (fund_cells (gath m ρ)) $$ HX with HG
      imodintro
      isplitl [HP] <;> iassumption)
    (hglob := glob (gath m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged block, and the staged weights, are the argument arrays. -/
theorem xstg_eq (c : Dev nD) : xstg m ρ c = m ((c : Thread nD τ).loc main_arg0) :=
  Memref.read_access_unit_zero (Elt F) main_arg0 (off := fun a => win0_0.kind.off (win0_0.index (0 : Fin 1) a) (win0_0.size a)) (funext fun a => Nat.zero_mul _) _ _
theorem wstg_eq (c : Dev nD) : wstg m ρ c = m ((c : Thread nD τ).loc main_arg1) :=
  Memref.read_access_unit_zero (Elt F) main_arg1 (off := fun a => win0_1.kind.off (win0_1.index (0 : Fin 1) a) (win0_1.size a)) (funext fun a => Nat.zero_mul _) _ _

/-- The output of a device is in its result array. -/
theorem finalA_out (c : Dev nD) : finalA m ρ c (2 : Fin 3) = outAt m ρ c := by
  unfold finalA
  show (dats (F := F) m ρ 0 c).arrAt (2 : Fin 3) ((t0_0 : Fin cfg0.N).val + 1) = _
  rw [(dats (F := F) m ρ 0 c).arrAt_succ, if_pos (flush0_2 t0_0)]
  exact Memref.write_access_unit_zero_univ (Elt F) main_v1 (off := fun a => win0_2.kind.off (win0_2.index (0 : Fin 1) a) (win0_2.size a)) (funext fun a => Nat.zero_mul _) _ _ _

/-- The arguments are what they were. -/
theorem finalA_arg0 (c : Dev nD) : finalA m ρ c (0 : Fin 3) = m ((c : Thread nD τ).loc main_arg0) :=
  (dats (F := F) m ρ 0 c).arrAt_in (0 : Fin 3) rfl _
theorem finalA_arg1 (c : Dev nD) : finalA m ρ c (1 : Fin 3) = m ((c : Thread nD τ).loc main_arg1) :=
  (dats (F := F) m ρ 0 c).arrAt_in (1 : Fin 3) rfl _

end Cert.AgProof
-- ==== Proof.Value.lean ====
/-
  The value: what a device's output holds is the product of the whole gathered array with the weights.
-/
module

public import proofs.«01_k».proof.Proof.Run
public import proofs.«01_k».proof.Proof.Gen.ReferenceIdeal.Run

@[expose] public section

set_option maxRecDepth 20000

noncomputable section

namespace Cert.AgProof

open Cert.KernelIdeal Cert.KernelIdeal.Gen Cert.Pipe

open Idealize.ShloMosaic
open Idealize.ShloMosaic.TcCoe

/-- The slots in the order the body takes them are all sixteen, each once. -/
theorem ord_bijective (c : Dev nD) : Function.Bijective fun i : Fin 16 => ord c i.val :=
  Finite.injective_iff_bijective.mp ((by decide +kernel : ∀ c : Dev nD, Function.Injective fun i : Fin 16 => ord c i.val) c)

/-- A slot of the gathered array, read at an index. -/
theorem slotV_apply {F : FTy → Type} [FloatOps F] (g : slM.view.ty.Contents (Elt F)) (k : Fin 16) (a : Fin 1024) (b : Fin 128) :
    slotV (M := slM) g k (ix3 0 a b) = g (ix3 k a b) := by
  have e : (srect k).toLoadRect.idx (ix3 0 a b) = ix3 k a b := by
    funext x
    fin_cases x <;> refine Fin.ext ?_
    · show k.val + 1 * 0 = k.val; omega
    · show 0 + 1 * a.val = a.val; omega
    · show 0 + 1 * b.val = b.val; omega
  show g ((srect k).toLoadRect.idx (ix3 0 a b)) = _
  rw [e]

/-- Row `b` of the weights that slot `k` meets is row `128 k + b` of the weights. -/
theorem row_lt (k : Fin 16) (b : Fin 128) : b.val + 128 * k.val < 2048 := by have := k.isLt; have := b.isLt; omega

theorem rowsV_apply {F : FTy → Type} [FloatOps F] (w : (cc0_stg1_0 : Ref sig .tc).ty.Contents (Elt F)) (k : Fin 16) (b : Fin 128) (l : Fin 2048) :
    rowsV w k (ix2 b l) = w (ix2 (n0 := 2048) (n1 := 2048) ⟨b.val + 128 * k.val, row_lt k b⟩ l) := by
  have e : (rrect k).toLoadRect.idx (ix2 b l) = ix2 (n0 := 2048) (n1 := 2048) ⟨b.val + 128 * k.val, row_lt k b⟩ l := by
    funext x
    fin_cases x <;> refine Fin.ext ?_
    · show 128 * k.val + 1 * b.val = b.val + 128 * k.val; omega
    · show 0 + 1 * l.val = l.val; omega
  show w ((rrect k).toLoadRect.idx (ix2 b l)) = _
  rw [e]

/-- The product of one slot with its rows of the weights; -/
theorem pay2_apply (v : Vec Ideal S1x1024x128 .bf16) (q : Vec Ideal S128x2048 .bf16) (r : Fin 1024) (l : Fin 2048) :
    k0_pay2 v q (ix2 r l) = ∑ b : Fin 128, v (ix3 0 r b) * q (ix2 b l) := by
  pointwise [k0_pay2]

/-- and added to what is there. -/
theorem pay3_apply (s : Vec Ideal S1024x2048 .f32) (v : Vec Ideal S1x1024x128 .bf16) (q : Vec Ideal S128x2048 .bf16) (r : Fin 1024) (l : Fin 2048) :
    k0_pay3 s v q (ix2 r l) = s (ix2 r l) + ∑ b : Fin 128, v (ix3 0 r b) * q (ix2 b l) := by
  pointwise [k0_pay3]

/-- The share of slot `k` in the output. -/
def slotSum (g : S16x1024x128.Idx → EReal) (w : S2048x2048.Idx → EReal) (r : Fin 1024) (l : Fin 2048) (k : Fin 16) : EReal :=
  ∑ b : Fin 128, g (ix3 k r b) * w (ix2 ⟨b.val + 128 * k.val, row_lt k b⟩ l)

/-- After `n + 1` slots the output holds the sum of their shares. -/
theorem acc_apply (g : slM.view.ty.Contents (Elt Ideal)) (w : (cc0_stg1_0 : Ref sig .tc).ty.Contents (Elt Ideal)) (f) (c : Dev nD) (r : Fin 1024) (l : Fin 2048) (n : ℕ) :
    acc (F := Ideal) g w f c (n + 1) (ix2 r l) = (∑ i ∈ Finset.range (n + 1), slotSum g w r l (ord c i) : EReal) := by
  induction n with
  | zero =>
    rw [Finset.sum_range_one]
    refine (pay2_apply _ _ r l).trans (Finset.sum_congr rfl fun b _ => ?_)
    rw [slotV_apply, rowsV_apply]
  | succ n ih =>
    rw [Finset.sum_range_succ, ← ih]
    refine (pay3_apply _ _ _ r l).trans (congrArg _ (Finset.sum_congr rfl fun b _ => ?_))
    rw [slotV_apply, rowsV_apply]

/-- A sum over 2048 positions, cut in sixteen. -/
theorem sum_cut (f : Fin 2048 → EReal) : ∑ q, f q = ∑ k : Fin 16, ∑ b : Fin 128, f ⟨b.val + 128 * k.val, row_lt k b⟩ := by
  rw [← Fintype.sum_prod_type' fun (k : Fin 16) (b : Fin 128) => f ⟨b.val + 128 * k.val, row_lt k b⟩]
  exact (Equiv.sum_comp (finProdFinEquiv (m := 16) (n := 128)) f).symm

/-- The reference's result. -/
def refOut (X : FVec Ideal Cert.ReferenceIdeal.S1024x2048 .bf16) (W : FVec Ideal Cert.ReferenceIdeal.S2048x2048 .bf16) :
    FVec Ideal Cert.ReferenceIdeal.S1024x2048 .f32 :=
  Host.dotGeneral Cert.ReferenceIdeal.dot_S1024x2048_S2048x2048_S1024x2048_1_0_0_1_n_n none
    (extf .f32 X Cert.ReferenceIdeal.Gen.bitsLt_bf16_f32) (extf .f32 W Cert.ReferenceIdeal.Gen.bitsLt_bf16_f32)

/-- It is the sum of the products. -/
theorem refOut_apply (X W) (r : Fin 1024) (l : Fin 2048) : refOut X W (ix2 r l) = ∑ q : Fin 2048, X (ix2 r q) * W (ix2 q l) := by
  pointwise [refOut]

/-- Where each device's argument is its block of columns of `X`, and its weights are `W`, its output is the reference's result. -/
theorem value (m : (ℓ : Loc nD τ sig) → Buf (Elt Ideal) ℓ) (ρ : Dev nD → PrngReg)
    (X : FVec Ideal Cert.ReferenceIdeal.S1024x2048 .bf16) (W : FVec Ideal Cert.ReferenceIdeal.S2048x2048 .bf16)
    (hX : ∀ c : Dev nD, m ((c : Thread nD τ).loc main_arg0) = Layout.block ⟨2, ![1024, 128]⟩ ⟨2, ![1024, 2048]⟩ 1 16 c X)
    (hW : ∀ c : Dev nD, m ((c : Thread nD τ).loc main_arg1) = W) (c : Dev nD) :
    outAt m ρ c = refOut X W := by
  have hg (k : Fin 16) (r : Fin 1024) (b : Fin 128) : gath m ρ (ix3 k r b) = X (ix2 r ⟨b.val + 128 * k.val, row_lt k b⟩) := by
    have h1 : gath m ρ (ix3 k r b) = xstg m ρ k (ix2 r b) := by
      show k0_pay1 (xstg m ρ k) (ix3 0 r b) = _
      pointwise [k0_pay1]
    rw [h1, xstg_eq, hX k]
    show X _ = X _
    congr 1
    funext x
    fin_cases x <;> refine Fin.ext ?_
    · rfl
    · show k.val * 128 + b.val = b.val + 128 * k.val; omega
  funext y
  obtain ⟨r, l, rfl⟩ : ∃ (r : Fin 1024) (l : Fin 2048), y = ix2 r l := ⟨y 0, y 1, eq_ix2 y⟩
  refine (acc_apply _ _ _ c r l 15).trans ?_
  rw [refOut_apply, sum_cut, Finset.sum_range]
  rw [(ord_bijective c).sum_comp (fun k => slotSum (gath m ρ) (wstg m ρ c) r l k)]
  have h (k : Fin 16) : slotSum (gath m ρ) (wstg m ρ c) r l k
      = ∑ b : Fin 128, X (ix2 r ⟨b.val + 128 * k.val, row_lt k b⟩) * W (ix2 ⟨b.val + 128 * k.val, row_lt k b⟩ l) := by
    unfold slotSum
    rw [wstg_eq, hW c]
    simp only [hg]
  simp only [h]

end Cert.AgProof
-- ==== Proof.Text.lean ====
/-
  The two programs have one text: the kernel read over its words is the kernel read in exact arithmetic, at the words.
-/
module

public import proofs.«01_k».proof.Proof.Gen.Kernel
public import proofs.«01_k».proof.Proof.Gen.KernelIdeal
public import proofs.«01_k».proof.Defs

@[expose] public section

set_option maxRecDepth 100000

noncomputable section

namespace Cert.AgProof

open Idealize.ShloMosaic Idealize.SL.Sem

/-- The body is the same; -/
theorem body_eq : Cert.Kernel.cc0__ag_body (F := Bits) = Cert.KernelIdeal.cc0__ag_body (F := Bits) := rfl

/-- so are the kernels' tables, -/
theorem defs₀_eq : Cert.Kernel.defs₀ (F := Bits) = Cert.KernelIdeal.defs₀ (F := Bits) := by
  refine congrArg Defs.onTc (funext fun l => funext fun x => ?_)
  match l, x with
  | ⟨0, _⟩, ⟨t, s⟩ =>
    exact congrFun (congrFun (congrFun (congrFun (congrFun (congrFun (congrFun (congrFun (congrFun (congrFun (congrFun (congrFun body_eq _) _) _) _) _) _) _) _) _) _) _) _

/-- and the programs' tables. -/
theorem defs_eq : Cert.Kernel.defs (F := Bits) = Cert.KernelIdeal.defs (F := Bits) :=
  congrArg (Pipeline.defs Cert.KernelIdeal.pcfgs) defs₀_eq

/-- The programs are the same. -/
theorem main_eq : Cert.Kernel.main (F := Bits) = Cert.KernelIdeal.main (F := Bits) := rfl

end Cert.AgProof
-- ==== Proof.Swap.lean ====
/-
  The exchange of blocks between every two devices, over any launch: a buffer of sixteen slots on every
  device, its slots held one by one, and the offsets by which a device meets the others.
-/
module

public import proofs.«01_k».proof.Proof.Both
public import Idealize.SL.ProofMode.BigOp

@[expose] public section

noncomputable section

namespace Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {U : Type} [URA U]

local notation "𝕄" => MT nD τ sig Unit Val ℕ U ℕ

abbrev SW : Shape := ⟨4, ![16, 2, 128, 128]⟩
abbrev SH : Shape := ⟨3, ![2, 128, 128]⟩

/-- The place of slot `k`. -/
abbrev woff (k : Fin 16) : Fin 4 → ℕ := ![k.val, 0, 0, 0]

theorem woff_inb (k : Fin 16) : ∀ a, woff k a + (![1, 2, 128, 128] : Fin 4 → ℕ) a ≤ SW.size a := by
  revert k; decide

abbrev wrect (k : Fin 16) : Rect SW := Rect.unit (s := SW) (woff k) ![1, 2, 128, 128] (woff_inb k)

theorem mem_wrect (k : Fin 16) (y : SW.Idx) : y ∈ (wrect k).set ↔ (y 0).val = k.val := by
  refine (LoadRect.mem_set _).trans ?_
  have h0 : (y 0).val < 16 := (y 0).isLt
  have h1 : (y 1).val < 2 := (y 1).isLt
  have h2 : (y 2).val < 128 := (y 2).isLt
  have h3 : (y 3).val < 128 := (y 3).isLt
  constructor
  · intro H
    obtain ⟨j0, hj0, e0⟩ := H 0
    have hj0' : j0 < 1 := hj0
    have e0' : (y 0).val = k.val + 1 * j0 := e0
    omega
  · rintro e0 a
    match a with
    | 0 => exact ⟨0, (by decide : 0 < 1), (by show (y 0).val = k.val + 1 * 0; omega)⟩
    | 1 => exact ⟨(y 1).val, h1, (by show (y 1).val = 0 + 1 * (y 1).val; omega)⟩
    | 2 => exact ⟨(y 2).val, h2, (by show (y 2).val = 0 + 1 * (y 2).val; omega)⟩
    | 3 => exact ⟨(y 3).val, h3, (by show (y 3).val = 0 + 1 * (y 3).val; omega)⟩

/-- The place of half `h` of slot `k`. -/
abbrev boff (k : Fin 16) (h : Fin 2) : Fin 4 → ℕ := ![k.val, h.val, 0, 0]

theorem boff_inb (k : Fin 16) (h : Fin 2) : ∀ a, boff k h a + (![1, 1, 128, 128] : Fin 4 → ℕ) a ≤ SW.size a := by
  revert k h; decide

abbrev brect (k : Fin 16) (h : Fin 2) : Rect SW := Rect.unit (s := SW) (boff k h) ![1, 1, 128, 128] (boff_inb k h)

theorem mem_brect (k : Fin 16) (h : Fin 2) (y : SW.Idx) : y ∈ (brect k h).set ↔ (y 0).val = k.val ∧ (y 1).val = h.val := by
  refine (LoadRect.mem_set _).trans ?_
  have h2 : (y 2).val < 128 := (y 2).isLt
  have h3 : (y 3).val < 128 := (y 3).isLt
  constructor
  · intro H
    obtain ⟨j0, hj0, e0⟩ := H 0
    obtain ⟨j1, hj1, e1⟩ := H 1
    have hj0' : j0 < 1 := hj0
    have hj1' : j1 < 1 := hj1
    have e0' : (y 0).val = k.val + 1 * j0 := e0
    have e1' : (y 1).val = h.val + 1 * j1 := e1
    omega
  · rintro ⟨e0, e1⟩ a
    match a with
    | 0 => exact ⟨0, (by decide : 0 < 1), (by show (y 0).val = k.val + 1 * 0; omega)⟩
    | 1 => exact ⟨0, (by decide : 0 < 1), (by show (y 1).val = h.val + 1 * 0; omega)⟩
    | 2 => exact ⟨(y 2).val, h2, (by show (y 2).val = 0 + 1 * (y 2).val; omega)⟩
    | 3 => exact ⟨(y 3).val, h3, (by show (y 3).val = 0 + 1 * (y 3).val; omega)⟩

variable (M : Memref sig .tc .vmem SW .bf16)

/-- The elements of slot `k`. -/
def wset (k : Fin 16) : Finset M.view.ty.Idx := (M.view.slice (wrect k)).set

theorem wset_all : M.view.set = Finset.univ.biUnion fun k : Fin 16 => wset M k := by
  unfold wset
  ext y
  simp only [Finset.mem_biUnion, Finset.mem_univ, true_and, View.set_slice, Finset.mem_map]
  constructor
  · intro hy
    obtain ⟨a, _, rfl⟩ := Finset.mem_map.mp hy
    exact ⟨a 0, a, (mem_wrect _ _).mpr rfl, rfl⟩
  · rintro ⟨k, a, ha, rfl⟩; exact Finset.mem_map.mpr ⟨a, Finset.mem_univ _, rfl⟩

theorem wset_disj {k k' : Fin 16} (hne : k ≠ k') : Disjoint (wset M k) (wset M k') :=
  View.disjoint_slice (Finset.disjoint_left.mpr fun y hy hy' => hne (by
    rw [mem_wrect] at hy hy'
    exact Fin.ext (hy.symm.trans hy')))

theorem bset_sub (k : Fin 16) (h : Fin 2) : M.view.setOn (brect k h).set ⊆ wset M k := by
  unfold wset
  rw [View.set_slice]
  refine Finset.map_subset_map.mpr fun y hy => ?_
  rw [mem_wrect]
  exact ((mem_brect _ _ _).mp hy).1

/-- Slot `k` of device `c`'s buffer, held whole with contents `f`. -/
def wpts (c : Dev nD) (k : Fin 16) (f : M.view.ty.Contents Val) : sProp 𝕄 :=
  M.view.loc (c : Thread nD τ) ↦[wset M k]{fullShare} f

instance wpts_storable (c : Dev nD) (k : Fin 16) (f : M.view.ty.Contents Val) :
    BI.Storable (upEmb : UEmb _ 𝕄) (wpts (U := U) (τ := τ) M c k f) := by unfold wpts; infer_instance

/-- The buffer is its sixteen slots. -/
theorem slots_all (c : Dev nD) (f : M.view.ty.Contents Val) :
    (M.view.loc (c : Thread nD τ) ↦[M.view.set]{fullShare} f : sProp 𝕄)
      = bigSep (Finset.univ : Finset (Fin 16)) fun k => wpts M c k f := by
  unfold wpts
  rw [wset_all]
  exact pointsTo_biUnion _ _ fun k _ k' _ hne => wset_disj M hne

/-- The slot as the program slices it. -/
abbrev wsub (M : Memref sig .tc .vmem SW .bf16) (off : Fin 4 → ℕ) (inb : ∀ a, off a + (![1, 2, 128, 128] : Fin 4 → ℕ) a ≤ SW.size a)
    (hst : ∀ a, (Rect.unit (s := SW) off ![1, 2, 128, 128] inb).stride a = 1) (hsq : (⟨4, ![1, 2, 128, 128]⟩ : Shape).Squeezes SH) :
    Memref sig .tc .vmem SH .bf16 :=
  (M.slice (Rect.unit (s := SW) off ![1, 2, 128, 128] inb) hst).squeeze SH hsq

theorem wsub_pts (c : Dev nD) (k : Fin 16) (f : M.view.ty.Contents Val) {inb hst hsq} :
    ((wsub M (woff k) inb hst hsq).view.loc (c : Thread nD τ) ↦[(wsub M (woff k) inb hst hsq).view.set]{fullShare} f : sProp 𝕄)
      = wpts M c k f := by
  have e : (wsub M (woff k) inb hst hsq).view.set = wset M k := View.set_reshape _ _
  unfold wpts
  rw [← e]

/-- What is read of one slot of one buffer, written in another slot of another. -/
theorem wland (N : Memref sig .tc .vmem SW .bf16) (c : Dev nD) (k j : Fin 16) (f g : N.view.ty.Contents Val) (T : M.view.ty.Contents Val) {inb hst hsq inb' hst' hsq'}
    (h : (M.view.slice (wrect j)).read Val T = (N.view.slice (wrect k)).read Val g) :
    ((wsub N (woff k) inb hst hsq).view.loc (c : Thread nD τ) ↦[(wsub N (woff k) inb hst hsq).view.set]{fullShare}
        ((wsub N (woff k) inb hst hsq).view.write Val f ((wsub M (woff j) inb' hst' hsq').view.read Val T) Finset.univ) : sProp 𝕄)
      = wpts N c k g := by
  have h' : (wsub M (woff j) inb' hst' hsq').view.read Val T = (wsub N (woff k) inb hst hsq).view.read Val g := by
    funext y
    exact congrFun h _
  rw [h', View.write_read_eq_piecewise, ← wsub_pts N c k g (inb := inb) (hst := hst) (hsq := hsq)]
  exact pointsTo_congr fun i hi => Finset.piecewise_eq_of_mem _ _ _ (by exact hi)

/-! ## The others -/

/-- The device `o` places on. -/
def pl (c : Fin 16) (o : ℕ) : Fin 16 := ⟨(c.val + o) % 16, Nat.mod_lt _ (by decide)⟩

theorem pl_zero (c : Fin 16) : pl c 0 = c := Fin.ext (Nat.mod_eq_of_lt c.isLt)

theorem pl_inj (c : Fin 16) {a b : ℕ} (ha : a < 16) (hb : b < 16) (h : pl c a = pl c b) : a = b := by
  have := congrArg Fin.val h
  have h' : (c.val + a) % 16 = (c.val + b) % 16 := this
  have := c.isLt
  omega

/-- The distance from one device to another. -/
theorem pl_sub (c d : Fin 16) : pl c ((d.val + 16 - c.val) % 16) = d := by
  refine Fin.ext ?_
  show (c.val + (d.val + 16 - c.val) % 16) % 16 = d.val
  have := c.isLt
  have := d.isLt
  omega

theorem pl_ne (c : Fin 16) {o : ℕ} (h1 : 1 ≤ o) (h2 : o < 16) : pl c o ≠ c := fun h => by
  have := pl_inj c h2 (by decide : 0 < 16) (h.trans (pl_zero c).symm)
  omega

/-- A separating product over all devices, counted from one of them. -/
theorem around {𝕄' : Type} [URA 𝕄'] (c : Fin 16) (A : Fin 16 → sProp 𝕄') :
    bigSep (Finset.univ : Finset (Fin 16)) A = bigSep (Finset.Ico 0 16) fun o => A (pl c o) := by
  have e : (Finset.univ : Finset (Fin 16)) = (Finset.Ico 0 16).image (pl c) := by
    ext d
    simp only [Finset.mem_univ, Finset.mem_image, true_iff]
    exact ⟨(d.val + 16 - c.val) % 16, Finset.mem_Ico.mpr ⟨Nat.zero_le _, Nat.mod_lt _ (by decide)⟩, pl_sub c d⟩
  rw [e, bigSep_image_of_injOn]
  intro a ha b hb h
  exact pl_inj c (Finset.mem_Ico.mp ha).2 (Finset.mem_Ico.mp hb).2 h

/-- The same without the one counted from. -/
theorem others {𝕄' : Type} [URA 𝕄'] (c : Fin 16) (A : Fin 16 → sProp 𝕄') :
    bigSep ((Finset.univ : Finset (Fin 16)).erase c) A = bigSep (Finset.Ico 1 16) fun o => A (pl c o) := by
  have e : (Finset.univ : Finset (Fin 16)).erase c = (Finset.Ico 1 16).image (pl c) := by
    ext d
    simp only [Finset.mem_erase, Finset.mem_univ, and_true, Finset.mem_image]
    constructor
    · intro hd
      refine ⟨(d.val + 16 - c.val) % 16, Finset.mem_Ico.mpr ⟨?_, Nat.mod_lt _ (by decide)⟩, pl_sub c d⟩
      by_contra h
      have h0 : (d.val + 16 - c.val) % 16 = 0 := by omega
      exact hd (by have := pl_sub c d; rw [h0, pl_zero] at this; exact this.symm)
    · rintro ⟨o, ho, rfl⟩
      exact pl_ne c (Finset.mem_Ico.mp ho).1 (Finset.mem_Ico.mp ho).2
  rw [e, bigSep_image_of_injOn]
  intro a ha b hb h
  exact pl_inj c (Finset.mem_Ico.mp ha).2 (Finset.mem_Ico.mp hb).2 h

/-- A separating product from the first element on. -/
theorem first_on {𝕄' : Type} [URA 𝕄'] (A : ℕ → sProp 𝕄') :
    bigSep (Finset.Ico 0 16) A = iprop(A 0 ∗ bigSep (Finset.Ico 1 16) A) := bigSep_Ico_succ_bot (a := 0) (b := 16) (by decide) A

end Cert.Pipe
-- ==== Proof.PrepSched.lean ====
/-
  The semaphores of the preparation, what each of its cells is paid with, and the levels of its waits.
-/
module

public import proofs.«01_k».proof.Proof.Swap
public import proofs.«01_k».proof.Proof.Gen.PrepareIdeal
public import proofs.«01_k».proof.Proof.Gen.PrepareIdeal.Skeleton
public import proofs.«01_k».proof.Proof.Gen.PrepareIdeal.Launch
public import Idealize.ShloMosaic.Lib.Pipeline.Launch
public import Idealize.ShloMosaic.Lib.Pipeline.Kit
public import Idealize.ShloMosaic.Lib.Pointwise
public import Idealize.ShloMosaic.Lib.Tactic

@[expose] public section

noncomputable section

namespace Cert.PrepProof

open Cert.PrepareIdeal Cert.PrepareIdeal.Gen Cert.Pipe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The ring's buffer, the blocks staged for the others, the blocks received. -/
abbrev slM : Memref sig .tc .vmem SB .bf16 := Memref.whole cc0_scratch0
abbrev stM : Memref sig .tc .vmem SW .bf16 := Memref.whole cc0_scratch1
abbrev wrM : Memref sig .tc .vmem SW .bf16 := Memref.whole cc0_scratch2

/-! ## What is computed of the staged inputs -/

/-- The staged inputs of a device. -/
structure Inp (F : FTy → Type) [FloatOps F] where
  x : (cc0_stg0_0 : Ref sig .tc).ty.Contents (Elt F)
  wd : (cc0_stg1_0 : Ref sig .tc).ty.Contents (Elt F)
  uk : (cc0_stg2_0 : Ref sig .tc).ty.Contents (Elt F)
  uv : (cc0_stg3_0 : Ref sig .tc).ty.Contents (Elt F)
  wq : (cc0_stg4_0 : Ref sig .tc).ty.Contents (Elt F)
  qr : (cc0_stg5_0 : Ref sig .tc).ty.Contents (Elt F)
  kr : (cc0_stg6_0 : Ref sig .tc).ty.Contents (Elt F)

/-- The blocks a device stages: of each of two matrices the columns of each device. -/
def tJ (j : Inp F) : stM.view.ty.Contents (Elt F) := fun i =>
  (if (i 1).val = 0 then j.uk else j.uv) (ix2 (i 2) (⟨128 * (i 0).val + (i 3).val, by have h0 : (i 0).val < 16 := (i 0).isLt; have h3 : (i 3).val < 128 := (i 3).isLt; omega⟩ : Fin 2048))

/-- The blocks a device receives: from each device the columns that are its own. -/
def wJ (J : Dev nD → Inp F) (c : Dev nD) : wrM.view.ty.Contents (Elt F) := fun i => tJ (J (i 0)) (ix4 c (i 1) (i 2) (i 3))

/-- The array the ring gathers: slot `k` holds the block of device `k`. -/
def gJ (J : Dev nD → Inp F) : slM.view.ty.Contents (Elt F) := fun i => k0_pay40 (J (i 0)).x (J (i 0)).wd (ix3 0 (i 1) (i 2))

/-- What a device staged for another is what the other receives of it. -/
theorem read_swap (J : Dev nD → Inp F) (c d : Dev nD) :
    (stM.view.slice (wrect d)).read (Elt F) (tJ (J c)) = (wrM.view.slice (wrect c)).read (Elt F) (wJ J d) := by
  funext y
  obtain ⟨u, a, b, e, rfl⟩ : ∃ (u : Fin 1) (a : Fin 2) (b e : Fin 128), y = ix4 u a b e := ⟨y 0, y 1, y 2, y 3, eq_ix4 y⟩
  have hu : u = 0 := Subsingleton.elim _ _
  subst hu
  have h1 (k : Fin 16) : (wrect k).idx (ix4 0 a b e) = ix4 k a b e := by
    funext x
    fin_cases x <;> refine Fin.ext ?_
    · show k.val + 1 * 0 = k.val; omega
    · show 0 + 1 * a.val = a.val; omega
    · show 0 + 1 * b.val = b.val; omega
    · show 0 + 1 * e.val = e.val; omega
  show tJ (J c) ((wrect d).idx (ix4 0 a b e)) = wJ J d ((wrect c).idx (ix4 0 a b e))
  rw [h1, h1]
  rfl

/-! ## The semaphores -/

/-- The barrier semaphore. -/
abbrev barS : Sem sig := (SemArray.scalar (sig.barrier 0 rfl) : Sems sig S_).sem

/-- The DMA semaphore of a number. -/
def dsem (i : ℕ) : DmaSem sig := if h : i < 162 then (⟨i, h⟩ : Fin 162) else (⟨0, by decide⟩ : Fin 162)

theorem dsem_val {i : ℕ} (h : i < 162) : (dsem i).val = i := by unfold dsem; rw [dif_pos h]
theorem dsem_inj {i j : ℕ} (hi : i < 162) (hj : j < 162) (h : dsem i = dsem j) : i = j := by
  rw [← dsem_val hi, ← dsem_val hj, h]

/-- The two directions of the gather, departures and arrivals. -/
abbrev dC : Dir 16 sig := cw (fun m => dsem (42 + m)) (fun m => dsem (74 + m))
abbrev dN : Dir 16 sig := ccw (fun m => dsem (106 + m)) (fun m => dsem (134 + m))

/-- The semaphores of a device, the barrier first. -/
def csem (k : Fin 153) : SemLoc sig := if k.val = 0 then .reg barS else .dma (dsem (9 + k.val))
abbrev kcell (ck : Dev nD × Fin 153) : GSem nD τ sig := ((ck.1 : Thread nD τ), csem ck.2)
abbrev barCell (c : Dev nD) : GSem nD τ sig := ((c : Thread nD τ), .reg barS)

/-- The semaphores scoped to the launch. -/
abbrev osem (k : Fin 152) : SemLoc sig := .dma (⟨10 + k.val, by have := k.isLt; omega⟩ : Fin 162)

/-- Departure to, and arrival from, device `k`, of the exchange. -/
abbrev gone (c k : Dev nD) : GSem nD τ sig := ((c : Thread nD τ), .dma (dsem (10 + k.val)))
abbrev came (c k : Dev nD) : GSem nD τ sig := ((c : Thread nD τ), .dma (dsem (26 + k.val)))

abbrev NN : ℕ := NQ slM
theorem NN_pos : 0 < NN := View.dmaCredit_pos _ (by decide)
/-- The credit of one block's copy. -/
abbrev NW : ℕ := (wsub stM (woff 0) (woff_inb 0) (fun _ => rfl) (by decide)).view.dmaCredit
theorem NW_pos : 0 < NW := View.dmaCredit_pos _ (by decide)

/-! ## The schedule -/

variable (J : Dev nD → Inp F)

/-- What a DMA semaphore's round hands over. -/
def dmaPay (c : Dev nD) (i : ℕ) : sProp 𝕄 :=
  if i < 10 then iprop(emp)
  else if h : i < 26 then wpts stM c (⟨i - 10, by omega⟩ : Fin 16) (tJ (J c))
  else if h : i < 42 then wpts wrM c (⟨i - 26, by omega⟩ : Fin 16) (wJ J c)
  else if i < 74 then dC.pc slM c (i - 42) (dC.sh (i - 42)) (gJ J)
  else if i < 106 then dC.pc slM c (i - 74 + 4) fullShare (gJ J)
  else if i < 134 then dN.pc slM c (i - 106) (dN.sh (i - 106)) (gJ J)
  else dN.pc slM c (i - 134 + 4) fullShare (gJ J)

/-- Any contents of the slot device `d` keeps for device `p`. -/
def room (d p : Dev nD) : sProp 𝕄 := iprop(∃ f : wrM.view.ty.Contents (Elt F), wpts wrM d p f)

/-- What device `d` hands over at the barrier of device `p`: its slot for the block of `p`, and the pieces
    the ring's copies of `p` will write if the two are neighbours. -/
def barPay (p d : Dev nD) : sProp 𝕄 :=
  iprop(room d p ∗ (if d = nxt p then gift slM dC p else emp) ∗ (if d = prv p then gift slM dN p else emp))

instance gift_storable (D : Dir 16 sig) (c : Dev nD) : BI.Storable (upEmb : UEmb _ 𝕄) (gift slM D c) := by
  unfold gift; infer_instance
instance dmaPay_storable (c : Dev nD) (i : ℕ) : BI.Storable (upEmb : UEmb _ 𝕄) (dmaPay J c i) := by
  unfold dmaPay Dir.pc; (repeat' split) <;> infer_instance
instance room_storable (d p : Dev nD) : BI.Storable (upEmb : UEmb _ 𝕄) (room (F := F) d p) := by
  unfold room; infer_instance
instance ite_storable {p : Prop} [Decidable p] {A : sProp (MT nD τ sig Unit (Elt F) ℕ UU ℕ)} [BI.Storable (upEmb : UEmb _ 𝕄) A] :
    BI.Storable (upEmb : UEmb _ 𝕄) (if p then A else iprop(emp)) := by
  split <;> infer_instance
instance barPay_storable (c d : Dev nD) : BI.Storable (upEmb : UEmb _ 𝕄) (barPay (F := F) c d) := by
  unfold barPay; infer_instance

/-- The payers of a semaphore's one round on device `c`. -/
def duty (c : Dev nD) : SemLoc sig → Finset (Fin 16)
  | .reg s => if s = barS then Finset.univ.erase c else ∅
  | .dma q => if q.val < 10 ∨ q.val = 10 + c.val ∨ q.val = 26 + c.val then ∅ else {0}

def rd : Rounds.Schedule (GSem nD τ sig) (Fin 16) 𝕄 where
  duties x r := if r = 0 ∧ x.1.2 = .tc then duty x.1.1 x.2 else ∅
  unitless _ := False
  amount x _ _ := match x.2 with | .reg _ => 1 | .dma q => if q.val < 42 then NW else NN
  payload x _ d := match x.2 with | .reg _ => barPay x.1.1 d | .dma q => dmaPay J x.1.1 q.val
  amount_pos x _ _ _ := by
    match x with
    | (_, .reg _) => exact Nat.one_pos
    | (_, .dma q) => dsimp only; split; exacts [NW_pos, NN_pos]

instance rd_storable (x : GSem nD τ sig) (r : ℕ) (d : Fin 16) :
    BI.Storable (upEmb : UEmb _ 𝕄) ((rd (F := F) J).payload x r d) := by
  match x with
  | (t, .reg _) => exact barPay_storable _ _
  | (t, .dma q) => exact dmaPay_storable _ _ _

theorem duties_later (x : GSem nD τ sig) : ∀ r, 0 + 1 ≤ r → (rd (F := F) J).duties x r = ∅ :=
  fun r hr => if_neg fun h => by omega

theorem duties_of (c : Dev nD) (sm : SemLoc sig) : (rd (F := F) J).duties ((c : Thread nD τ), sm) 0 = duty c sm := by
  dsimp only [rd]; exact if_pos ⟨rfl, rfl⟩

theorem duties_dma (c : Dev nD) {i : ℕ} (h3 : 42 ≤ i) (hi : i < 162) : (rd (F := F) J).duties ((c : Thread nD τ), .dma (dsem i)) 0 = {0} := by
  have : c.val < 16 := c.isLt
  rw [duties_of]; dsimp only [duty]; rw [dsem_val hi, if_neg (by omega)]

theorem duties_gone {c k : Dev nD} (h : k ≠ c) : (rd (F := F) J).duties (gone c k) 0 = {0} := by
  have : c.val < 16 := c.isLt
  have : k.val < 16 := k.isLt
  rw [duties_of]; dsimp only [duty]; rw [dsem_val (by omega), if_neg]
  rintro (h' | h' | h') <;> [omega; exact h (Fin.ext (by omega)); omega]

theorem duties_came {c k : Dev nD} (h : k ≠ c) : (rd (F := F) J).duties (came c k) 0 = {0} := by
  have : c.val < 16 := c.isLt
  have : k.val < 16 := k.isLt
  rw [duties_of]; dsimp only [duty]; rw [dsem_val (by omega), if_neg]
  rintro (h' | h' | h') <;> [omega; omega; exact h (Fin.ext (by omega))]

/-- A device exchanges nothing with itself. -/
theorem duties_own (c : Dev nD) : (∀ r, 0 ≤ r → (rd (F := F) J).duties (gone c c) r = ∅) ∧ ∀ r, 0 ≤ r → (rd (F := F) J).duties (came c c) r = ∅ := by
  have : c.val < 16 := c.isLt
  constructor <;> intro r _ <;> rcases Nat.eq_zero_or_pos r with rfl | h
  · rw [duties_of]; dsimp only [duty]; rw [dsem_val (by omega), if_pos (Or.inr (Or.inl rfl))]
  · exact duties_later J _ r h
  · rw [duties_of]; dsimp only [duty]; rw [dsem_val (by omega), if_pos (Or.inr (Or.inr rfl))]
  · exact duties_later J _ r h

theorem duties_bar (c : Dev nD) : (rd (F := F) J).duties (barCell c) 0 = Finset.univ.erase c := by
  rw [duties_of]; dsimp only [duty]; rw [if_pos rfl]

theorem payload_dma (c : Dev nD) {i : ℕ} (hi : i < 162) (r : ℕ) (d : Fin 16) :
    (rd (F := F) J).payload ((c : Thread nD τ), .dma (dsem i)) r d = dmaPay J c i := by
  show dmaPay J c (dsem i).val = _
  rw [dsem_val hi]

theorem payload_gone (c k : Dev nD) (r : ℕ) (d : Fin 16) : (rd (F := F) J).payload (gone c k) r d = wpts stM c k (tJ (J c)) := by
  have : k.val < 16 := k.isLt
  rw [payload_dma J c (by omega)]
  unfold dmaPay
  rw [if_neg (by omega), dif_pos (by omega)]
  exact congrArg (fun i => wpts stM c i (tJ (J c))) (Fin.ext (Nat.add_sub_cancel_left 10 k.val))

theorem payload_came (c k : Dev nD) (r : ℕ) (d : Fin 16) : (rd (F := F) J).payload (came c k) r d = wpts wrM c k (wJ J c) := by
  have : k.val < 16 := k.isLt
  rw [payload_dma J c (by omega)]
  unfold dmaPay
  rw [if_neg (by omega), dif_neg (by omega), dif_pos (by omega)]
  exact congrArg (fun i => wpts wrM c i (wJ J c)) (Fin.ext (Nat.add_sub_cancel_left 26 k.val))

theorem amount_low (c : Dev nD) {i : ℕ} (hi : i < 42) : (rd (F := F) J).amount ((c : Thread nD τ), .dma (dsem i)) 0 0 = NW := by
  show (if (dsem i).val < 42 then NW else NN) = NW
  rw [dsem_val (by omega), if_pos hi]

theorem amount_high (c : Dev nD) {i : ℕ} (h3 : 42 ≤ i) (hi : i < 162) : (rd (F := F) J).amount ((c : Thread nD τ), .dma (dsem i)) 0 0 = NN := by
  show (if (dsem i).val < 42 then NW else NN) = NN
  rw [dsem_val (by omega), if_neg (by omega)]

theorem expect_bar (c : Dev nD) : (rd (F := F) J).expect (barCell c) 0 = 15 := by
  unfold Schedule.expect Schedule.amountOf
  rw [duties_bar]
  show ∑ d ∈ Finset.univ.erase c, 1 = 15
  rw [Finset.sum_const, Finset.card_erase_of_mem (Finset.mem_univ _)]
  rfl

/-- The rest of the barrier's round, no duty taken. -/
theorem rest_bar (c : Dev nD) :
    bigSep ((rd (F := F) J).duties (barCell c) 0 \ ∅) (fun d => (rd (F := F) J).payload (barCell c) 0 d) = bigSep (Finset.Ico 1 16) fun o => barPay c (pl c o) := by
  rw [Finset.sdiff_empty, duties_bar]
  exact others c _

/-! ## What every device knows of the cells -/

def L (x : GSem nD τ sig) : Finset Unit := if x.1.2 = .tc then {()} else ∅
/-- Barriers at 1; the arrivals of the exchange at 2; the arrivals of copy `m` at `2 + m`; everything else at 0. -/
def slv : SemLoc sig → ℕ
  | .reg _ => 1
  | .dma q => if q.val < 26 then 0 else if q.val < 42 then 2 else if q.val < 74 then 0 else if q.val < 106 then 2 + (q.val - 74) else if q.val < 134 then 0 else 2 + (q.val - 134)
def lv (x : GSem nD τ sig) (_ : Unit) : ℕ := slv x.2

theorem L_of_ne (x : GSem nD τ sig) (h : x.1.2 ≠ .tc) : L x = ∅ := if_neg h
theorem L_tc (c : Dev nD) (sm : SemLoc sig) : L ((c : Thread nD τ), sm) = {()} := if_pos rfl

theorem levC : dC.Lev τ L lv where
  mem c sm := by rw [L_tc]; exact Finset.mem_singleton_self _
  lvl c m hm := by
    have hm' : m < 32 := hm
    show slv (.dma (dsem (74 + m))) = _
    dsimp only [slv]
    rw [dsem_val (by omega), if_neg (by omega), if_neg (by omega), if_neg (by omega), if_pos (by omega)]; omega

theorem levN : dN.Lev τ L lv where
  mem c sm := by rw [L_tc]; exact Finset.mem_singleton_self _
  lvl c m hm := by
    have hm' : m < 28 := hm
    show slv (.dma (dsem (134 + m))) = _
    dsimp only [slv]
    rw [dsem_val (by omega), if_neg (by omega), if_neg (by omega), if_neg (by omega), if_neg (by omega), if_neg (by omega)]; omega

/-- The invariants of all cells, at the names `K`, and that each has reached its round. -/
def records (K : Dev nD × Fin 153 → ℕ) : sProp 𝕄 :=
  iprop((bigSep Finset.univ fun ck : Dev nD × Fin 153 => cellInv ER (rd J) (K ck) (kcell ck))
    ∗ bigSep Finset.univ fun ck : Dev nD × Fin 153 => reached ER (kcell ck) 0)

instance records_persistent (K : Dev nD × Fin 153 → ℕ) : BI.Persistent (records J K) := by unfold records; infer_instance

/-- What every device knows. -/
def II (K : Dev nD × Fin 153 → ℕ) : sProp 𝕄 := iprop(records J K ∗ levAts L lv)

instance II_persistent (K : Dev nD × Fin 153 → ℕ) : BI.Persistent (II J K) := by unfold II; infer_instance

variable (K : Dev nD × Fin 153 → ℕ)

theorem II_lev : II J K ⊢ levAts L lv := by unfold II; iintro ⟨-, H⟩; iexact H

theorem rec_at (ck : Dev nD × Fin 153) : II J K ⊢ iprop(∃ κ, cellInv ER (rd J) κ (kcell ck) ∗ reached ER (kcell ck) 0) := by
  unfold II records
  have h1 : (bigSep Finset.univ fun ck : Dev nD × Fin 153 => (cellInv ER (rd J) (K ck) (kcell ck) : sProp 𝕄)) ⊢ cellInv ER (rd J) (K ck) (kcell ck) :=
    bigSep_elim (Finset.mem_univ ck)
  have h2 : (bigSep Finset.univ fun ck : Dev nD × Fin 153 => (reached ER (kcell ck) 0 : sProp 𝕄)) ⊢ reached ER (kcell ck) 0 :=
    bigSep_elim (Finset.mem_univ ck)
  iintro ⟨⟨#HI, #HR⟩, -⟩
  iexists (K ck)
  isplitr; · iapply h1; iexact HI
  iapply h2; iexact HR

theorem rec_dma (c : Dev nD) {i : ℕ} (h3 : 10 ≤ i) (hi : i < 162) :
    II J K ⊢ iprop(∃ κ, cellInv ER (rd J) κ ((c : Thread nD τ), .dma (dsem i)) ∗ reached ER ((c : Thread nD τ), .dma (dsem i)) 0) := by
  have h := rec_at J K (c, (⟨i - 9, by omega⟩ : Fin 153))
  have e : kcell (c, (⟨i - 9, by omega⟩ : Fin 153)) = ((c : Thread nD τ), .dma (dsem i)) := by
    show ((c : Thread nD τ), csem ⟨i - 9, _⟩) = _
    unfold csem
    rw [if_neg (by show i - 9 ≠ 0; omega)]
    show ((c : Thread nD τ), SemLoc.dma (dsem (9 + (i - 9)))) = _
    rw [show 9 + (i - 9) = i by omega]
  rw [e] at h; exact h

theorem rec_bar (c : Dev nD) : II J K ⊢ iprop(∃ κ, cellInv ER (rd J) κ (barCell c) ∗ reached ER (barCell c) 0) :=
  rec_at J K (c, 0)

theorem okC : dC.Ok slM ER (rd J) (gJ J) (II J K) where
  sd c m hm := by have hm' : m < 32 := hm; exact duties_dma J c (by omega) (by omega)
  rdu c m hm := by have hm' : m < 32 := hm; exact duties_dma J c (by omega) (by omega)
  later c m hm := duties_later J _
  laterS c m hm := duties_later J _
  su c m hm h := h
  ru c m hm h := h
  sa c m hm := by have hm' : m < 32 := hm; exact amount_high J c (by omega) (by omega)
  ra c m hm := by have hm' : m < 32 := hm; exact amount_high J c (by omega) (by omega)
  sP c m hm := by
    have hm' : m < 32 := hm
    refine (payload_dma J c (by omega) 0 0).trans ?_
    unfold dmaPay
    rw [if_neg (by omega), dif_neg (by omega), dif_neg (by omega), if_pos (by omega), Nat.add_sub_cancel_left]
  rP c m hm := by
    have hm' : m < 32 := hm
    refine (payload_dma J c (by omega) 0 0).trans ?_
    unfold dmaPay
    rw [if_neg (by omega), dif_neg (by omega), dif_neg (by omega), if_neg (by omega), if_pos (by omega), Nat.add_sub_cancel_left]
  sI c m hm := by have hm' : m < 32 := hm; exact rec_dma J K c (by omega) (by omega)
  rI c m hm := by have hm' : m < 32 := hm; exact rec_dma J K c (by omega) (by omega)

theorem okN : dN.Ok slM ER (rd J) (gJ J) (II J K) where
  sd c m hm := by have hm' : m < 28 := hm; exact duties_dma J c (by omega) (by omega)
  rdu c m hm := by have hm' : m < 28 := hm; exact duties_dma J c (by omega) (by omega)
  later c m hm := duties_later J _
  laterS c m hm := duties_later J _
  su c m hm h := h
  ru c m hm h := h
  sa c m hm := by have hm' : m < 28 := hm; exact amount_high J c (by omega) (by omega)
  ra c m hm := by have hm' : m < 28 := hm; exact amount_high J c (by omega) (by omega)
  sP c m hm := by
    have hm' : m < 28 := hm
    refine (payload_dma J c (by omega) 0 0).trans ?_
    unfold dmaPay
    rw [if_neg (by omega), dif_neg (by omega), dif_neg (by omega), if_neg (by omega), if_neg (by omega), if_pos (by omega), Nat.add_sub_cancel_left]
  rP c m hm := by
    have hm' : m < 28 := hm
    refine (payload_dma J c (by omega) 0 0).trans ?_
    unfold dmaPay
    rw [if_neg (by omega), dif_neg (by omega), dif_neg (by omega), if_neg (by omega), if_neg (by omega), if_neg (by omega), Nat.add_sub_cancel_left]
  sI c m hm := by have hm' : m < 28 := hm; exact rec_dma J K c (by omega) (by omega)
  rI c m hm := by have hm' : m < 28 := hm; exact rec_dma J K c (by omega) (by omega)

/-- What a device knows of the exchange's cells. -/
theorem rec_gone (c k : Dev nD) : II J K ⊢ iprop(∃ κ, cellInv ER (rd J) κ (gone c k) ∗ reached ER (gone c k) 0) := by
  have : k.val < 16 := k.isLt
  exact rec_dma J K c (by omega) (by omega)
theorem rec_came (c k : Dev nD) : II J K ⊢ iprop(∃ κ, cellInv ER (rd J) κ (came c k) ∗ reached ER (came c k) 0) := by
  have : k.val < 16 := k.isLt
  exact rec_dma J K c (by omega) (by omega)

/-! ## What a device owes at launch -/

/-- The arrivals of every copy it makes at either neighbour; -/
def O₂ (c : Dev nD) : CellTallies nD τ sig Unit := dC.owed τ slM c 0 + dN.owed τ slM c 0
/-- the arrivals of its blocks at the devices from offset `s` on; -/
def aowed (c : Dev nD) (s : ℕ) : CellTallies nD τ sig Unit := ∑ o ∈ Finset.Ico s 16, tallyAt (came (pl c o) c) () NW
/-- and a unit to the barriers of the devices from offset `s` on. -/
def bowed (c : Dev nD) (s : ℕ) : CellTallies nD τ sig Unit := ∑ o ∈ Finset.Ico s 16, tallyAt (barCell (pl c o)) () 1
def O₀ (c : Dev nD) : CellTallies nD τ sig Unit := O₂ c + aowed c 1 + bowed c 1

theorem sum_first {A : Type} [AddCommMonoid A] (B : ℕ → A) {s : ℕ} (hs : s < 16) :
    ∑ o ∈ Finset.Ico s 16, B o = (∑ o ∈ Finset.Ico (s + 1) 16, B o) + B s := by
  have e : Finset.Ico s 16 = insert s (Finset.Ico (s + 1) 16) := by
    ext x; rw [Finset.mem_insert, Finset.mem_Ico, Finset.mem_Ico]; omega
  rw [e, Finset.sum_insert (by rw [Finset.mem_Ico]; omega), add_comm]

theorem aowed_step {c : Dev nD} {s : ℕ} (hs : s < 16) : aowed c s = aowed c (s + 1) + tallyAt (came (pl c s) c) () NW := sum_first _ hs
theorem bowed_step {c : Dev nD} {s : ℕ} (hs : s < 16) : bowed c s = bowed c (s + 1) + tallyAt (barCell (pl c s)) () 1 := sum_first _ hs
theorem aowed_end (c : Dev nD) : aowed c 16 = 0 := by unfold aowed; rw [Finset.Ico_self, Finset.sum_empty]
theorem bowed_end (c : Dev nD) : bowed c 16 = 0 := by unfold bowed; rw [Finset.Ico_self, Finset.sum_empty]

theorem O₂_pos {c : Dev nD} {x : GSem nD τ sig} {u : Unit} (h : 0 < O₂ c x u) : 2 ≤ lv x u ∧ x.1.2 = .tc := by
  unfold O₂ at h
  rw [Pi.add_apply, Finsupp.add_apply] at h
  rcases Nat.eq_zero_or_pos (dC.owed τ slM c 0 x u) with h0 | h0
  · rw [h0, Nat.zero_add] at h
    obtain ⟨m, -, h2, rfl⟩ := Dir.owed_pos h
    exact ⟨by rw [show lv (dN.rCell (dN.nx c) m) u = 2 + m from levN.lvl _ m h2]; omega, rfl⟩
  · obtain ⟨m, -, h2, rfl⟩ := Dir.owed_pos h0
    exact ⟨by rw [show lv (dC.rCell (dC.nx c) m) u = 2 + m from levC.lvl _ m h2]; omega, rfl⟩

theorem lev_came (c k : Dev nD) (u : Unit) : lv (came c k) u = 2 := by
  have : k.val < 16 := k.isLt
  show slv (.dma (dsem (26 + k.val))) = 2
  dsimp only [slv]
  rw [dsem_val (by omega), if_neg (by omega), if_pos (by omega)]

/-- A tally summed over offsets is of one of them. -/
theorem sum_pos {B : ℕ → GSem nD τ sig} {n s : ℕ} {x : GSem nD τ sig} {u : Unit}
    (h : 0 < (∑ o ∈ Finset.Ico s 16, tallyAt (B o) () n : CellTallies nD τ sig Unit) x u) : ∃ o, x = B o := by
  rw [Finset.sum_apply, Finsupp.finset_sum_apply] at h
  obtain ⟨o, ho, hne⟩ := Finset.exists_ne_zero_of_sum_ne_zero (Nat.pos_iff_ne_zero.mp h)
  refine ⟨o, ?_⟩
  by_contra hg
  exact hne (by rw [tallyAt_apply, if_neg fun h => hg h.1])

theorem O₁_pos {c : Dev nD} {x : GSem nD τ sig} {u : Unit} (h : 0 < (O₂ c + aowed c 1) x u) : 2 ≤ lv x u ∧ x.1.2 = .tc := by
  by_cases h2 : 0 < O₂ c x u
  · exact O₂_pos h2
  rw [Pi.add_apply, Finsupp.add_apply] at h
  obtain ⟨o, rfl⟩ := sum_pos (B := fun o => came (pl c o) c) (show 0 < aowed c 1 x u by omega)
  exact ⟨le_of_eq (lev_came _ _ _).symm, rfl⟩

theorem O₀_pos {c : Dev nD} {x : GSem nD τ sig} {u : Unit} (h : 0 < O₀ c x u) : 1 ≤ lv x u ∧ x.1.2 = .tc := by
  by_cases h2 : 0 < (O₂ c + aowed c 1) x u
  · have := O₁_pos h2; exact ⟨by omega, this.2⟩
  unfold O₀ at h
  rw [Pi.add_apply, Finsupp.add_apply] at h
  obtain ⟨o, rfl⟩ := sum_pos (B := fun o => barCell (pl c o)) (show 0 < bowed c 1 x u by omega)
  exact ⟨le_of_eq rfl, rfl⟩

theorem mem_L {x : GSem nD τ sig} {u : Unit} (h : x.1.2 = .tc) : u ∈ L x := by
  unfold L; rw [if_pos h]; exact Finset.mem_singleton_self _

/-- A wait at level `b` while only cells above it are owed. -/
theorem mayWait_cut {O : CellTallies nD τ sig Unit} (c : Dev nD) (sm : SemLoc sig) (b : ℕ) (hb : slv sm ≤ b)
    (hO : ∀ (x : GSem nD τ sig) (u : Unit), 0 < O x u → b + 1 ≤ lv x u ∧ x.1.2 = .tc) :
    (levAts L lv : sProp 𝕄) ⊢ MayWait (c : Thread nD τ) sm () O :=
  MayOwe.of_cut (L := L) (lev := lv) b (fun p hp => by rw [Finset.mem_singleton.mp hp]; exact mem_L rfl)
    (fun x u hx => mem_L (hO x u hx).2)
    (fun p hp => by rw [Finset.mem_singleton.mp hp]; exact hb)
    (fun x u hx => (hO x u hx).1)

/-- A staging semaphore may be waited for at the launch. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · exact mayWait_cut c _ 0 (by dsimp only [slv]; rw [if_pos (by omega)]) fun x u hx => O₀_pos hx
  · rw [MayWait_zero]; iintro -; iempintro

/-- The barrier may be waited for while only arrivals are owed. -/
theorem mayWait_bar (c : Dev nD) : (levAts L lv : sProp 𝕄) ⊢ MayWait (c : Thread nD τ) (.reg barS) () (O₂ c + aowed c 1) :=
  mayWait_cut c _ 1 (le_of_eq rfl) fun x u hx => O₁_pos hx

end Cert.PrepProof
-- ==== Proof.PrepSteps.lean ====
/-
  The steps of the preparation's body at a device while the ring runs: each copy started, each wait,
  each load and store, from the state before it to the state after it.
-/
module

public import proofs.«01_k».proof.Proof.PrepSched
public import proofs.«01_k».proof.Proof.Steps

@[expose] public section

set_option maxRecDepth 20000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xM : Memref sig .tc .vmem S1024x2048 .bf16 := Memref.whole cc0_stg0_0
abbrev wdM : Memref sig .tc .vmem S2048x128 .bf16 := Memref.whole cc0_stg1_0
abbrev ukM : Memref sig .tc .vmem S128x2048 .bf16 := Memref.whole cc0_stg2_0
abbrev uvM : Memref sig .tc .vmem S128x2048 .bf16 := Memref.whole cc0_stg3_0
abbrev wqM : Memref sig .tc .vmem S2048x128 .bf16 := Memref.whole cc0_stg4_0
abbrev qrM : Memref sig .tc .vmem S2048x32 .bf16 := Memref.whole cc0_stg5_0
abbrev krM : Memref sig .tc .vmem S2048x32 .bf16 := Memref.whole cc0_stg6_0
abbrev koM : Memref sig .tc .vmem S1024x160 .bf16 := Memref.whole cc0_stg7_0
abbrev voM : Memref sig .tc .vmem S1024x128 .bf16 := Memref.whole cc0_stg8_0
abbrev qoM : Memref sig .tc .vmem S1024x160 .bf16 := Memref.whole cc0_stg9_0
abbrev kvM : Memref sig .tc .vmem S2x1024x128 .f32 := Memref.whole cc0_scratch3

/-! ## Lending a part of what is held -/

/-- `A` may be taken out of `P`, and `B` put in its place. -/
def Swp (P A B P' : sProp 𝕄) : Prop := P ⊢ iprop(A ∗ (B -∗ P'))

theorem Swp.trans {P A A' P' B C : sProp (MT nD τ sig Unit (Elt F) ℕ UU ℕ)} (h1 : Swp P A A' P') (h2 : Swp A B C A') : Swp P B C P' := by
  unfold Swp at *
  iintro H
  ihave H := h1 $$ H
  icases H with ⟨HA, Hb⟩
  ihave HA := h2 $$ HA
  icases HA with ⟨HB, Hc⟩
  isplitl [HB]; · iexact HB
  iintro HC
  iapply Hb
  iapply Hc $$ HC

theorem Swp.refl {A B : sProp (MT nD τ sig Unit (Elt F) ℕ UU ℕ)} : Swp A A B B := by
  unfold Swp
  iintro H
  isplitl [H]; · iexact H
  iintro H
  iexact H

theorem Swp.head {A A' B : sProp (MT nD τ sig Unit (Elt F) ℕ UU ℕ)} : Swp iprop(A ∗ B) A A' iprop(A' ∗ B) := by
  unfold Swp
  iintro ⟨H, HB⟩
  isplitl [H]; · iexact H
  iintro H
  isplitl [H]; · iexact H
  iexact HB

theorem Swp.tail {A A' B B' P : sProp (MT nD τ sig Unit (Elt F) ℕ UU ℕ)} (h : Swp B A A' B') : Swp iprop(P ∗ B) A A' iprop(P ∗ B') := by
  unfold Swp at *
  iintro ⟨HP, H⟩
  ihave H := h $$ H
  icases H with ⟨H, Hb⟩
  isplitl [H]; · iexact H
  iintro H
  isplitl [HP]; · iexact HP
  iapply Hb $$ H

variable (J : Dev nD → Inp F) (K : Dev nD × Fin 153 → ℕ) (c : Dev nD)

/-- A state that keeps, besides its own, whatever else the device holds; `O` is what it owes. -/
def Host (P : sProp 𝕄 → sProp 𝕄) (O : CellTallies nD τ sig Unit) : Prop :=
  ∀ X Y : sProp (MT nD τ sig Unit (Elt F) ℕ UU ℕ), P X ⊢ iprop(II J K ∗ (∃ W, (owes (c : Thread nD τ) O W : sProp 𝕄)) ∗ X
    ∗ (((∃ W, (owes (c : Thread nD τ) O W : sProp 𝕄)) ∗ Y) -∗ P Y))

/-- The device in the ring. -/
def SS (wc sc wn sn : ℕ) (X : sProp (MT nD τ sig Unit (Elt F) ℕ UU ℕ)) : sProp 𝕄 := St slM ER (gJ J) (II J K) dC dN c wc sc wn sn X

/-- The device after the ring, departures waited for. -/
def DD (vc vn : ℕ) (X : sProp (MT nD τ sig Unit (Elt F) ℕ UU ℕ)) : sProp 𝕄 := Dr slM ER (gJ J) (II J K) dC dN c vc vn X

variable {J K c}

theorem Host.swp {P : sProp 𝕄 → sProp 𝕄} {O} (h : Host J K c P O) (X Y : sProp 𝕄) : Swp (P X) X Y (P Y) := by
  unfold Swp
  iintro H
  ihave H := (h X Y) $$ H
  icases H with ⟨-, HO, HX, Hb⟩
  isplitl [HX]; · iexact HX
  iintro HY
  iapply Hb
  isplitl [HO]; · iexact HO
  iexact HY

theorem hostS {wc sc wn sn : ℕ} : Host J K c (SS J K c wc sc wn sn) (dC.owed τ slM c sc + dN.owed τ slM c sn) := by
  intro X Y
  unfold SS St
  iintro ⟨#HI, HC, HN, HO, HX⟩
  isplitr; · iexact HI
  isplitl [HO]; · iexact HO
  isplitl [HX]; · iexact HX
  iintro ⟨HO, HY⟩
  isplitr; · iexact HI
  isplitl [HC]; · iexact HC
  isplitl [HN]; · iexact HN
  isplitl [HO]; · iexact HO
  iexact HY

theorem hostD {vc vn : ℕ} : Host J K c (DD J K c vc vn) 0 := by
  intro X Y
  unfold DD Dr
  iintro ⟨#HI, HC, HN, HO, HX⟩
  isplitr; · iexact HI
  isplitl [HO]; · iexact HO
  isplitl [HX]; · iexact HX
  iintro ⟨HO, HY⟩
  isplitr; · iexact HI
  isplitl [HC]; · iexact HC
  isplitl [HN]; · iexact HN
  isplitl [HO]; · iexact HO
  iexact HY

variable {α : Type} {Q : α → sProp (MT nD τ sig Unit (Elt F) ℕ UU ℕ)}

/-- What the program still does. -/
abbrev go (c : Dev nD) (p : Prog (TpuEff nD τ sig (Elt F) Λ₀ .tc) α) (Q : α → sProp (MT nD τ sig Unit (Elt F) ℕ UU ℕ)) : sProp 𝕄 :=
  Dir.run (U := UU) 𝒱₀ (defs₀ (F := F)) c p Q

/-- A load of something held. -/
theorem load_gen {s : Shape} {e : EltTy} {m : Memref sig .tc .vmem s e} {r : LoadRect s} {hl}
    {k : (r.shape.Idx → Elt F e) → Prog (TpuEff nD τ sig (Elt F) Λ₀ .tc) α} {S : Finset m.view.ty.Idx} {q : PosShare TreeShare}
    {f : m.view.ty.Contents (Elt F)} {P : sProp (MT nD τ sig Unit (Elt F) ℕ UU ℕ)} (hS : m.view.setOn r.set ⊆ S)
    (hP : Swp P (m.view.loc (c : Thread nD τ) ↦[S]{q} f) (m.view.loc (c : Thread nD τ) ↦[S]{q} f) P)
    (h : P ⊢ go c (k (m.view.readAt (Elt F) r f)) Q) : P ⊢ go c (Prog.lift (.load m r hl) >>= k) Q := by
  have key := wp_load (defs := defs₀ (F := F)) 𝒱₀ (c : Thread nD τ) none (Γ := .empty) Set.univ (m := m)
    (r := r) (hl := hl) (k := k) (Q := Q) (S := S) (q := q) (f := f) hS
  unfold Swp at hP
  iintro H
  ihave H := hP $$ H
  icases H with ⟨Hs, Hb⟩
  iapply key $$ Hs
  iintro Hs
  iapply h
  iapply Hb $$ Hs

/-- A store into something held. -/
theorem store_gen {s : Shape} {e : EltTy} {m : Memref sig .tc .vmem s e} {r : Rect s} {w : r.shape.Idx → Elt F e} {hx hm}
    {k : PUnit → Prog (TpuEff nD τ sig (Elt F) Λ₀ .tc) α} {S : Finset m.view.ty.Idx}
    {f : m.view.ty.Contents (Elt F)} {P P' : sProp (MT nD τ sig Unit (Elt F) ℕ UU ℕ)} (hS : (m.access r).set ⊆ S)
    (hP : Swp P (m.view.loc (c : Thread nD τ) ↦[S]{fullShare} f)
      (m.view.loc (c : Thread nD τ) ↦[S]{fullShare} (m.access r).write (Elt F) f w Finset.univ) P')
    (h : P' ⊢ go c (k ⟨⟩) Q) : P ⊢ go c (Prog.lift (.store m r w Finset.univ hx hm) >>= k) Q := by
  have key := wp_store (defs := defs₀ (F := F)) 𝒱₀ (c : Thread nD τ) none (Γ := .empty) Set.univ (m := m)
    (r := r) (w := w) (Mk := Finset.univ) (hx := hx) (hm := hm) (k := k) (Q := Q) (S := S) (f := f) hS
  unfold Swp at hP
  iintro H
  ihave H := hP $$ H
  icases H with ⟨Hs, Hb⟩
  iapply key $$ Hs
  iintro Hs
  iapply h
  iapply Hb $$ Hs

/-- A wait for a cell of the exchange. -/
theorem wait_cell {P : sProp 𝕄 → sProp 𝕄} {O} (hP : Host J K c P O) {q : DmaSem sig} {m1 m2 : Memref sig .tc .vmem SH .bf16} {hsrc hdst}
    (hN : m2.view.dmaCredit = NW) (hM : (II J K : sProp 𝕄) ⊢ MayWait (c : Thread nD τ) (.dma q) () O)
    (hI : II J K ⊢ iprop(∃ κ, cellInv ER (rd J) κ ((c : Thread nD τ), .dma q) ∗ reached ER ((c : Thread nD τ), .dma q) 0))
    (hd : (rd J).duties ((c : Thread nD τ), .dma q) 0 = {0}) (ha : (rd J).amount ((c : Thread nD τ), .dma q) 0 0 = NW)
    {A X X' : sProp (MT nD τ sig Unit (Elt F) ℕ UU ℕ)} (hpay : (rd J).payload ((c : Thread nD τ), .dma q) 0 0 = A)
    (hX : Swp X iprop(atPos ER ((c : Thread nD τ), .dma q) 0 (∅ : Finset (Fin 16)) 0 ∗ cred (tallyAt ((c : Thread nD τ), .dma q) () NW))
      iprop(semVal ((c : Thread nD τ), .dma q) 0 ∗ A) X')
    {k : PUnit → Prog (TpuEff nD τ sig (Elt F) Λ₀ .tc) α}
    (h : P X' ⊢ go c (k ⟨⟩) Q) : P X ⊢ go c (Prog.lift (.waitDma2 q m1 m2 hsrc hdst) >>= k) Q := by
  show _ ⊢ go c (.op (.waitDma2 q m1 m2 hsrc hdst) k) Q
  iintro H
  ihave H := (hP X X') $$ H
  icases H with ⟨#HI, ⟨%W, Ho⟩, HX, Hb⟩
  unfold Swp at hX
  ihave H := hX $$ HX
  icases H with ⟨⟨Hat, Hcr⟩, Hx⟩
  ihave HR := hI $$ HI
  icases HR with ⟨%κ, #HIR, #HrR⟩
  ihave HM := hM $$ HI
  have hwE : ∀ K' : PUnit → sProp 𝕄, wpE' (defs₀ (F := F)) 𝒱₀ (c : Thread nD τ) none .empty Set.univ
      (.waitDma2 q m1 m2 hsrc hdst) K' = waitSpec (c : Thread nD τ) Set.univ (.dma q) NW K' := fun K' => by rw [← hN]; rfl
  iapply (Rounds.wp_wait_rest_token (defs := defs₀ (F := F)) 𝒱₀ ER (rd J) (c : Thread nD τ) none (Q := Q) (κ := κ)
    hwE (Set.mem_univ _) () (O := O) (W := W) (R := 0) (m := 0)
    (T := (∅ : Finset (Fin 16))) (k' := NW) (sm := .dma q)
    (by unfold Rounds.Schedule.expect Rounds.Schedule.amountOf; rw [hd, Finset.sum_singleton, ha, Nat.zero_add]))
    $$ [Hat Hcr Ho HM]
  · isplitr; · iexact HIR
    isplitl [Hcr]; · iexact Hcr
    isplitl [Ho]; · iexact Ho
    isplitl [HM]; · iexact HM
    iexact Hat
  rw [hd, Finset.sdiff_empty, bigSep_singleton, hpay]
  iintro ⟨Ho, Hat, #Hre, Hpay⟩
  imod (Rounds.cell_close ER (rd J) (Set.mem_univ κ) (fun h => h) (R := 0 + 1) (duties_later J _)) $$ [Hat] with Hzw
  · isplitr; · iexact HIR
    iexact Hat
  iapply h
  iapply Hb
  isplitl [Ho]; · iexists _; iexact Ho
  iapply Hx
  isplitl [Hzw]; · iexact Hzw
  iexact Hpay

/-! ## What a device holds besides the ring -/

/-- The staged inputs. -/
def Ins (j : Inp F) (c : Dev nD) : sProp 𝕄 :=
  iprop((((c : Thread nD τ).loc cc0_stg0_0) ↦{fullShare} j.x) ∗ (((c : Thread nD τ).loc cc0_stg1_0) ↦{fullShare} j.wd)
    ∗ (((c : Thread nD τ).loc cc0_stg2_0) ↦{fullShare} j.uk) ∗ (((c : Thread nD τ).loc cc0_stg3_0) ↦{fullShare} j.uv)
    ∗ (((c : Thread nD τ).loc cc0_stg4_0) ↦{fullShare} j.wq) ∗ (((c : Thread nD τ).loc cc0_stg5_0) ↦{fullShare} j.qr)
    ∗ (((c : Thread nD τ).loc cc0_stg6_0) ↦{fullShare} j.kr))

abbrev KO (F : FTy → Type) [FloatOps F] : Type := (cc0_stg7_0 : Ref sig .tc).ty.Contents (Elt F)
abbrev VO (F : FTy → Type) [FloatOps F] : Type := (cc0_stg8_0 : Ref sig .tc).ty.Contents (Elt F)
abbrev QO (F : FTy → Type) [FloatOps F] : Type := (cc0_stg9_0 : Ref sig .tc).ty.Contents (Elt F)
abbrev KV (F : FTy → Type) [FloatOps F] : Type := (cc0_scratch3 : Ref sig .tc).ty.Contents (Elt F)

/-- The three outputs, staged. -/
def Outs (c : Dev nD) (kf : KO F) (vf : VO F) (qf : QO F) : sProp 𝕄 :=
  iprop((((c : Thread nD τ).loc cc0_stg7_0) ↦{fullShare} kf) ∗ (((c : Thread nD τ).loc cc0_stg8_0) ↦{fullShare} vf)
    ∗ (((c : Thread nD τ).loc cc0_stg9_0) ↦{fullShare} qf))

/-- One of the two halves of the accumulator. -/
abbrev hoff (h : Fin 2) : Fin 3 → ℕ := ![h.val, 0, 0]
theorem hoff_inb (h : Fin 2) : ∀ a, hoff h a + (![1, 1024, 128] : Fin 3 → ℕ) a ≤ S2x1024x128.size a := by revert h; decide
abbrev hrect (h : Fin 2) : Rect S2x1024x128 := Rect.unit (s := S2x1024x128) (hoff h) ![1, 1024, 128] (hoff_inb h)

/-- The block of half `h` of a received slot. -/
abbrev blkV (w : wrM.view.ty.Contents (Elt F)) (k : Fin 16) (h : Fin 2) : Vec F S1x1x128x128 .bf16 :=
  wrM.view.readAt (Elt F) (brect k h).toLoadRect w

variable (J c) in
/-- A half of the accumulator after `n` slots. -/
def acc (f : KV F) (h : Fin 2) : ℕ → Vec F S1x1024x128 .f32
  | 0 => fun y => f (ix3 h (y 1) (y 2))
  | 1 => k0_pay44 (slotV (M := slM) (gJ J) (ord c 0)) (blkV (wJ J c) (ord c 0) h)
  | n + 2 => k0_pay53 (acc f h (n + 1)) (slotV (M := slM) (gJ J) (ord c (n + 1))) (blkV (wJ J c) (ord c (n + 1)) h)

variable (J c) in
/-- The accumulator, its halves after `n0` and `n1` slots. -/
def kvc (f : KV F) (n0 n1 : ℕ) : KV F := fun i => acc J c f (i 0) (if (i 0).val = 0 then n0 else n1) (ix3 0 (i 1) (i 2))

theorem hrect_idx (h : Fin 2) (y : (hrect h).shape.Idx) : (hrect h).idx y = ix3 h (y 1) (y 2) := by
  have h0 : (y 0).val < 1 := (y 0).isLt
  funext x
  fin_cases x <;> refine Fin.ext ?_
  · show h.val + 1 * (y 0).val = h.val; omega
  · show 0 + 1 * (y 1).val = (y 1).val; omega
  · show 0 + 1 * (y 2).val = (y 2).val; omega

theorem unit_first (v : Vec F S1x1024x128 .f32) (y : S1x1024x128.Idx) : v (ix3 0 (y 1) (y 2)) = v y := by
  have h0 : y 0 = (0 : Fin 1) := Subsingleton.elim (α := Fin 1) _ _
  refine congrArg v ?_
  rw [← h0]
  exact (eq_ix3 y).symm

/-- A half of the accumulator is read. -/
theorem kv_read (f : KV F) (h : Fin 2) (n0 n1 : ℕ) :
    (kvM.access (hrect h)).read (Elt F) (kvc J c f n0 n1) = acc J c f h (if h.val = 0 then n0 else n1) := by
  funext y
  show kvc J c f n0 n1 ((hrect h).idx y) = _
  rw [hrect_idx]
  show acc J c f h (if h.val = 0 then n0 else n1) (ix3 0 (y 1) (y 2)) = _
  exact unit_first _ y

/-- A half of the accumulator is stored. -/
theorem kv_write (f : KV F) (h : Fin 2) (n0 n1 m0 m1 : ℕ) (h0 : h.val = 0 ∨ m0 = n0) (h1 : h.val = 1 ∨ m1 = n1) :
    (kvM.access (hrect h)).write (Elt F) (kvc J c f n0 n1) (acc J c f h (if h.val = 0 then m0 else m1)) Finset.univ = kvc J c f m0 m1 := by
  rw [← kv_read f h m0 m1]
  have e : (kvM.access (hrect h)).write (Elt F) (kvc J c f n0 n1) ((kvM.access (hrect h)).read (Elt F) (kvc J c f m0 m1)) Finset.univ = _ :=
    View.write_read_eq_piecewise _ _ _
  refine e.trans ?_
  funext i
  by_cases hi : i ∈ (kvM.access (hrect h)).set
  · exact Finset.piecewise_eq_of_mem _ _ _ hi
  · refine (Finset.piecewise_eq_of_notMem _ _ _ hi).trans ?_
    have hne : (i 0).val ≠ h.val := fun e => hi (Finset.mem_map.mpr ⟨ix3 0 (i 1) (i 2), Finset.mem_univ _, by
      show (hrect h).idx (ix3 0 (i 1) (i 2)) = i
      rw [hrect_idx]
      have e' : (i 0 : Fin 2) = h := Fin.ext e
      rw [← e']
      exact (eq_ix3 i).symm⟩)
    have hi2 : (i 0).val < 2 := (i 0).isLt
    have hh2 : h.val < 2 := h.isLt
    show acc J c f (i 0) (if (i 0).val = 0 then n0 else n1) _ = acc J c f (i 0) (if (i 0).val = 0 then m0 else m1) _
    have : (if (i 0).val = 0 then n0 else n1) = (if (i 0).val = 0 then m0 else m1) := by
      split <;> rename_i hz
      · rcases h0 with h0 | h0
        · omega
        · exact h0.symm
      · rcases h1 with h1 | h1
        · omega
        · exact h1.symm
    rw [this]

variable (J c) in
/-- What is held of the arrivals of the exchange, the first `a` in the order of use waited for. -/
def Arr (a : ℕ) : sProp 𝕄 :=
  iprop(bigSep (Finset.Ico a 16) (fun n => iprop(atPos ER (came c (ord c n)) 0 (∅ : Finset (Fin 16)) 0 ∗ cred (tallyAt (came c (ord c n)) () NW)))
    ∗ bigSep (Finset.Ico 0 a) (fun n => wpts wrM c (ord c n) (wJ J c))
    ∗ bigSep (Finset.Ico 1 a) (fun n => semVal (came c (ord c n)) 0))

variable (J c) in
/-- What is held of its departures, those before offset `v` waited for. -/
def Dep (v : ℕ) : sProp 𝕄 :=
  iprop(bigSep (Finset.Ico v 16) (fun o => iprop(atPos ER (gone c (pl c o)) 0 (∅ : Finset (Fin 16)) 0 ∗ cred (tallyAt (gone c (pl c o)) () NW)))
    ∗ bigSep (Finset.Ico 1 v) (fun o => iprop(semVal (gone c (pl c o)) 0 ∗ wpts stM c (pl c o) (tJ (J c)))))

variable (Y : sProp (MT nD τ sig Unit (Elt F) ℕ UU ℕ)) (f : KV F)

variable (J c) in
/-- What a device holds besides the ring. -/
def XX (kf : KO F) (vf : VO F) (qf : QO F) (a v n0 n1 : ℕ) : sProp 𝕄 :=
  iprop(Ins (J c) c ∗ Outs c kf vf qf ∗ (((c : Thread nD τ).loc cc0_scratch3) ↦{fullShare} kvc J c f n0 n1) ∗ Arr J c a ∗ Dep J c v ∗ Y)

variable {Y f} {kf kf' : KO F} {vf vf' : VO F} {qf qf' : QO F} {a a' v v' n0 n1 m0 m1 : ℕ}

theorem XX.ins : Swp (XX J c Y f kf vf qf a v n0 n1) (Ins (J c) c) (Ins (J c) c) (XX J c Y f kf vf qf a v n0 n1) := Swp.head
theorem XX.outs : Swp (XX J c Y f kf vf qf a v n0 n1) (Outs c kf vf qf) (Outs c kf' vf' qf') (XX J c Y f kf' vf' qf' a v n0 n1) := Swp.tail Swp.head
theorem XX.kv : Swp (XX J c Y f kf vf qf a v n0 n1) (((c : Thread nD τ).loc cc0_scratch3) ↦{fullShare} kvc J c f n0 n1)
    (((c : Thread nD τ).loc cc0_scratch3) ↦{fullShare} kvc J c f m0 m1) (XX J c Y f kf vf qf a v m0 m1) := Swp.tail (Swp.tail Swp.head)
theorem XX.arr : Swp (XX J c Y f kf vf qf a v n0 n1) (Arr J c a) (Arr J c a') (XX J c Y f kf vf qf a' v n0 n1) :=
  Swp.tail (Swp.tail (Swp.tail Swp.head))
theorem XX.dep : Swp (XX J c Y f kf vf qf a v n0 n1) (Dep J c v) (Dep J c v') (XX J c Y f kf vf qf a v' n0 n1) :=
  Swp.tail (Swp.tail (Swp.tail (Swp.tail Swp.head)))

theorem Outs.atK {A' : KO F} : Swp (Outs c kf vf qf) (((c : Thread nD τ).loc cc0_stg7_0) ↦{fullShare} kf) (((c : Thread nD τ).loc cc0_stg7_0) ↦{fullShare} A') (Outs c A' vf qf) := Swp.head
theorem Outs.atV {A' : VO F} : Swp (Outs c kf vf qf) (((c : Thread nD τ).loc cc0_stg8_0) ↦{fullShare} vf) (((c : Thread nD τ).loc cc0_stg8_0) ↦{fullShare} A') (Outs c kf A' qf) := Swp.tail Swp.head
theorem Outs.atQ {A' : QO F} : Swp (Outs c kf vf qf) (((c : Thread nD τ).loc cc0_stg9_0) ↦{fullShare} qf) (((c : Thread nD τ).loc cc0_stg9_0) ↦{fullShare} A') (Outs c kf vf A') := Swp.tail (Swp.tail Swp.refl)

theorem ord_ne {n : ℕ} (h1 : 1 ≤ n) (h2 : n < 16) : ord c n ≠ c := by
  have : ∀ (c : Fin 16) (n : Fin 16), 1 ≤ n.val → ord c n.val ≠ c := by decide +kernel
  exact this c ⟨n, h2⟩ h1

theorem Arr.step (h1 : 1 ≤ a) (h2 : a < 16) : Swp (Arr J c a)
    iprop(atPos ER (came c (ord c a)) 0 (∅ : Finset (Fin 16)) 0 ∗ cred (tallyAt (came c (ord c a)) () NW))
    iprop(semVal (came c (ord c a)) 0 ∗ wpts wrM c (ord c a) (wJ J c)) (Arr J c (a + 1)) := by
  unfold Swp Arr
  rw [bigSep_Ico_succ_bot h2, bigSep_Ico_succ_top (Nat.zero_le a), bigSep_Ico_succ_top h1]
  iintro ⟨⟨H, H1⟩, H2, H3⟩
  isplitl [H]; · iexact H
  iintro ⟨Hz, Hw⟩
  isplitl [H1]; · iexact H1
  isplitl [Hw H2]
  · isplitl [Hw]; · iexact Hw
    iexact H2
  isplitl [Hz]; · iexact Hz
  iexact H3

theorem Dep.step (h1 : 1 ≤ v) (h2 : v < 16) : Swp (Dep J c v)
    iprop(atPos ER (gone c (pl c v)) 0 (∅ : Finset (Fin 16)) 0 ∗ cred (tallyAt (gone c (pl c v)) () NW))
    iprop(semVal (gone c (pl c v)) 0 ∗ wpts stM c (pl c v) (tJ (J c))) (Dep J c (v + 1)) := by
  unfold Swp Dep
  rw [bigSep_Ico_succ_bot h2, bigSep_Ico_succ_top h1]
  iintro ⟨⟨H, H1⟩, H2⟩
  isplitl [H]; · iexact H
  iintro Hz
  isplitl [H1]; · iexact H1
  isplitl [Hz]; · iexact Hz
  iexact H2

theorem Arr.peek {n : ℕ} (hn : n < a) : Swp (Arr J c a) (wpts wrM c (ord c n) (wJ J c)) (wpts wrM c (ord c n) (wJ J c)) (Arr J c a) := by
  unfold Swp Arr
  rw [bigSep_part (Nat.zero_le n) (le_of_lt hn) (fun n => wpts wrM c (ord c n) (wJ J c)), bigSep_Ico_succ_bot hn]
  iintro ⟨H1, ⟨H2, H, H3⟩, H4⟩
  isplitl [H]; · iexact H
  iintro H
  isplitl [H1]; · iexact H1
  isplitr [H4]
  · isplitl [H2]; · iexact H2
    isplitl [H]; · iexact H
    iexact H3
  iexact H4

/-! ## The steps -/

variable {wc sc wn sn vc vn : ℕ} {k : PUnit → Prog (TpuEff nD τ sig (Elt F) Λ₀ .tc) α} {P : sProp (MT nD τ sig Unit (Elt F) ℕ UU ℕ) → sProp (MT nD τ sig Unit (Elt F) ℕ UU ℕ)}
  {O : CellTallies nD τ sig Unit} {X : sProp (MT nD τ sig Unit (Elt F) ℕ UU ℕ)}

theorem routes_all (a b : Dev nD) : τ.routes (a : Thread nD τ) (b : Thread nD τ) = true := by routes

theorem startC (hs : sc < 32) (hw : sc < wc + 4) {dv : Dev nD} (hn : dv = nxt c)
    {off : Fin 3 → ℕ} (hoff : off = qoff (slotC c (sc / 4)) (hq sc)) {inb hst hsq inb' hst' hsq'}
    {sS sR : DmaSem sig} (hS : sS = dsem (42 + sc)) (hR : sR = dsem (74 + sc))
    {hsc : (qsub slM (off) inb hst hsq : Memref sig (Dev.tc dv : Thread nD τ).2.kind .vmem SQ .bf16).view.ref.isScScratch = false}
    {hsrc : (qsub slM (off) inb' hst' hsq').view.WordExact} {hdst : (qsub slM (off) inb hst hsq).view.WordExact}
    {hsem : DmaTarget.Typed .vmem (.dma sR) (.remote (Dev.tc dv : Thread nD τ) (qsub slM (off) inb hst hsq) (.dma sS) hsc)}
    (h : SS J K c wc (sc + 1) wn sn X ⊢ go c (k ⟨⟩) Q) :
    SS J K c wc sc wn sn X ⊢ go c
      (Prog.lift (.enqueueDma (qsub slM (off) inb' hst' hsq') (.remote (Dev.tc dv : Thread nD τ) (qsub slM (off) inb hst hsq) (.dma sS) hsc)
                (.dma sR) hsrc hdst hsem) >>= k) Q :=
  St.startC (okC (F := F) J K) routes_all hs hw hn hoff hS hR h

theorem startN (hs : sn < 28) (hw : sn < wn + 4) {dv : Dev nD} (hn : dv = prv c)
    {off : Fin 3 → ℕ} (hoff : off = qoff (slotN c (sn / 4)) (hq sn)) {inb hst hsq inb' hst' hsq'}
    {sS sR : DmaSem sig} (hS : sS = dsem (106 + sn)) (hR : sR = dsem (134 + sn))
    {hsc : (qsub slM (off) inb hst hsq : Memref sig (Dev.tc dv : Thread nD τ).2.kind .vmem SQ .bf16).view.ref.isScScratch = false}
    {hsrc : (qsub slM (off) inb' hst' hsq').view.WordExact} {hdst : (qsub slM (off) inb hst hsq).view.WordExact}
    {hsem : DmaTarget.Typed .vmem (.dma sR) (.remote (Dev.tc dv : Thread nD τ) (qsub slM (off) inb hst hsq) (.dma sS) hsc)}
    (h : SS J K c wc sc wn (sn + 1) X ⊢ go c (k ⟨⟩) Q) :
    SS J K c wc sc wn sn X ⊢ go c
      (Prog.lift (.enqueueDma (qsub slM (off) inb' hst' hsq') (.remote (Dev.tc dv : Thread nD τ) (qsub slM (off) inb hst hsq) (.dma sS) hsc)
                (.dma sR) hsrc hdst hsem) >>= k) Q :=
  St.startN (okN (F := F) J K) routes_all hs hw hn hoff hS hR h

theorem waitC {sR : DmaSem sig} (hR : sR = dsem (74 + wc)) (hw : wc < 32) (hs : sc ≤ wc + 4) (h1 : wc < sc) (h2 : wc < sn ∨ 28 ≤ sn)
    {off : Fin 3 → ℕ} {inb hst hsq inb' hst' hsq'}
    {hsrc : (qsub slM off inb' hst' hsq').view.WordExact} {hdst : (qsub slM off inb hst hsq).view.WordExact}
    (h : SS J K c (wc + 1) sc wn sn X ⊢ go c (k ⟨⟩) Q) :
    SS J K c wc sc wn sn X ⊢ go c
      (Prog.lift (.waitDma2 sR (qsub slM off inb' hst' hsq') (qsub slM off inb hst hsq) hsrc hdst) >>= k) Q :=
  St.waitC (okC (F := F) J K) (II_lev (F := F) J K) levC levN hw hs h1 h2 hR h

theorem waitN {sR : DmaSem sig} (hR : sR = dsem (134 + wn)) (hw : wn < 28) (hs : sn ≤ wn + 4) (h1 : wn < sc) (h2 : wn < sn ∨ 28 ≤ sn)
    {off : Fin 3 → ℕ} {inb hst hsq inb' hst' hsq'}
    {hsrc : (qsub slM off inb' hst' hsq').view.WordExact} {hdst : (qsub slM off inb hst hsq).view.WordExact}
    (h : SS J K c wc sc (wn + 1) sn X ⊢ go c (k ⟨⟩) Q) :
    SS J K c wc sc wn sn X ⊢ go c
      (Prog.lift (.waitDma2 sR (qsub slM off inb' hst' hsq') (qsub slM off inb hst hsq) hsrc hdst) >>= k) Q :=
  St.waitN (okN (F := F) J K) (II_lev (F := F) J K) levC levN hw hs h1 h2 hR h

theorem departC {sS : DmaSem sig} (hS : sS = dsem (42 + vc)) (hv : vc < 32)
    {off : Fin 3 → ℕ} {inb hst hsq inb' hst' hsq'}
    {hsrc : (qsub slM off inb' hst' hsq').view.WordExact} {hdst : (qsub slM off inb hst hsq).view.WordExact}
    (h : DD J K c (vc + 1) vn X ⊢ go c (k ⟨⟩) Q) :
    DD J K c vc vn X ⊢ go c
      (Prog.lift (.waitDma2 sS (qsub slM off inb' hst' hsq') (qsub slM off inb hst hsq) hsrc hdst) >>= k) Q :=
  Dr.waitC (okC (F := F) J K) hv hS h

theorem departN {sS : DmaSem sig} (hS : sS = dsem (106 + vn)) (hv : vn < 28)
    {off : Fin 3 → ℕ} {inb hst hsq inb' hst' hsq'}
    {hsrc : (qsub slM off inb' hst' hsq').view.WordExact} {hdst : (qsub slM off inb hst hsq).view.WordExact}
    (h : DD J K c vc (vn + 1) X ⊢ go c (k ⟨⟩) Q) :
    DD J K c vc vn X ⊢ go c
      (Prog.lift (.waitDma2 sS (qsub slM off inb' hst' hsq') (qsub slM off inb hst hsq) hsrc hdst) >>= k) Q :=
  Dr.waitN (okN (F := F) J K) hv hS h

/-- After the last arrival only departures are waited for. -/
theorem toDepart {p : Prog (TpuEff nD τ sig (Elt F) Λ₀ .tc) α} (h1 : wc = 32) (h2 : sc = 32) (h3 : wn = 28) (h4 : sn = 28)
    (h : DD J K c 0 0 X ⊢ go c p Q) : SS J K c wc sc wn sn X ⊢ go c p Q := by
  subst h1 h2 h3 h4
  exact (Dr.of_St (M := slM) (C := dC) (N := dN)).trans h

theorem credit_st {off inb hst hsq} : (wsub stM off inb hst hsq).view.dmaCredit = NW := rfl
theorem credit_wr {off inb hst hsq} : (wsub wrM off inb hst hsq).view.dmaCredit = NW := rfl

theorem ord_lt (c : Dev nD) (n : ℕ) : (ord c n).val < 16 := (ord c n).isLt
theorem pl_lt (c : Dev nD) (o : ℕ) : (pl c o).val < 16 := (pl c o).isLt

/-- An arrival of the exchange is waited for. -/
theorem waitA (ha1 : 1 ≤ a) (ha2 : a < 16) (h1 : 0 < sc) (h2 : 0 < sn ∨ 28 ≤ sn) {sR : DmaSem sig} (hR : sR = dsem (26 + (ord c a).val))
    {off off' : Fin 4 → ℕ} {inb hst hsq inb' hst' hsq'}
    {hsrc : (wsub stM off' inb' hst' hsq').view.WordExact} {hdst : (wsub wrM off inb hst hsq).view.WordExact}
    (h : SS J K c wc sc wn sn (XX J c Y f kf vf qf (a + 1) v n0 n1) ⊢ go c (k ⟨⟩) Q) :
    SS J K c wc sc wn sn (XX J c Y f kf vf qf a v n0 n1) ⊢ go c
      (Prog.lift (.waitDma2 sR (wsub stM off' inb' hst' hsq') (wsub wrM off inb hst hsq) hsrc hdst) >>= k) Q := by
  subst hR
  refine wait_cell (m1 := wsub stM off' inb' hst' hsq') (m2 := wsub wrM off inb hst hsq) (hsrc := hsrc) (hdst := hdst) hostS credit_wr ?_ (rec_came J K c _) (duties_came J (ord_ne ha1 ha2)) (amount_low J c (by have := ord_lt c a; omega)) (payload_came J c _ _ _) (Swp.trans XX.arr (Arr.step ha1 ha2)) h
  exact may_wait (b := 2) (II_lev (F := F) J K) levC levN (lev_came c _ ()) (by omega) (by omega)

/-- A departure of the exchange is waited for. -/
theorem departA (hv1 : 1 ≤ v) (hv2 : v < 16) {sS : DmaSem sig} (hS : sS = dsem (10 + (pl c v).val))
    {off off' : Fin 4 → ℕ} {inb hst hsq inb' hst' hsq'}
    {hsrc : (wsub wrM off' inb' hst' hsq').view.WordExact} {hdst : (wsub stM off inb hst hsq).view.WordExact}
    (h : DD J K c vc vn (XX J c Y f kf vf qf a (v + 1) n0 n1) ⊢ go c (k ⟨⟩) Q) :
    DD J K c vc vn (XX J c Y f kf vf qf a v n0 n1) ⊢ go c
      (Prog.lift (.waitDma2 sS (wsub wrM off' inb' hst' hsq') (wsub stM off inb hst hsq) hsrc hdst) >>= k) Q := by
  subst hS
  refine wait_cell (m1 := wsub wrM off' inb' hst' hsq') (m2 := wsub stM off inb hst hsq) (hsrc := hsrc) (hdst := hdst) hostD credit_st ?_ (rec_gone J K c _) (duties_gone J (pl_ne c hv1 hv2)) (amount_low J c (by have := pl_lt c v; omega)) (payload_gone J c _ _ _) (Swp.trans XX.dep (Dep.step hv1 hv2)) h
  exact (II_lev (F := F) J K).trans (mayWait_cut c _ _ (le_refl _) (fun x u hx => absurd hx (Nat.lt_irrefl 0)))

/-- The `n`-th slot is read. -/
theorem loadSlot {off : Fin 3 → ℕ} (hoff : off = soff (ord c n1)) (hav : avail n1 wc wn)
    {inb : ∀ a, off a + (![1, 1024, 128] : Fin 3 → ℕ) a ≤ SB.size a} {hl}
    {k : _ → Prog (TpuEff nD τ sig (Elt F) Λ₀ .tc) α}
    (h : SS J K c wc sc wn sn (XX J c Y f kf vf qf a v n0 n1) ⊢ go c (k (slotV (M := slM) (gJ J) (ord c n1))) Q) :
    SS J K c wc sc wn sn (XX J c Y f kf vf qf a v n0 n1) ⊢ go c (Prog.lift (.load slM (Rect.unit (s := SB) (off) ![1, 1024, 128] inb).toLoadRect hl) >>= k) Q := by
  have ho := hoff
  unfold avail at hav
  unfold ord at ho h
  by_cases hb : (ordT n1).1 = true
  · rw [if_pos hb] at hav
    simp only [if_pos hb] at ho h
    exact St.loadC (ordT n1).2 (by omega) ho h
  · rw [if_neg hb] at hav
    simp only [if_neg hb] at ho h
    exact St.loadN (ordT n1).2 (by omega) (by omega) ho h

/-- A block of a received slot is read. -/
theorem loadBlk (hh : Fin 2) {off : Fin 4 → ℕ} (hoff : off = boff (ord c n1) hh) (hav : n1 < a)
    {inb : ∀ a, off a + (![1, 1, 128, 128] : Fin 4 → ℕ) a ≤ SW.size a} {hl}
    {k : _ → Prog (TpuEff nD τ sig (Elt F) Λ₀ .tc) α}
    (h : SS J K c wc sc wn sn (XX J c Y f kf vf qf a v n0 n1) ⊢ go c (k (blkV (wJ J c) (ord c n1) hh)) Q) :
    SS J K c wc sc wn sn (XX J c Y f kf vf qf a v n0 n1) ⊢ go c (Prog.lift (.load wrM (Rect.unit (s := SW) off ![1, 1, 128, 128] inb).toLoadRect hl) >>= k) Q := by
  subst hoff
  exact load_gen (bset_sub wrM (ord c n1) hh) ((hostS.swp _ _).trans (XX.arr.trans (Arr.peek hav))) h

/-- A half of the accumulator is read. -/
theorem loadKv (hP : Host J K c P O) (hh : Fin 2) {off : Fin 3 → ℕ} (hoff : off = hoff hh)
    {inb : ∀ a, off a + (![1, 1024, 128] : Fin 3 → ℕ) a ≤ S2x1024x128.size a} {hl}
    {k : Vec F S1x1024x128 .f32 → Prog (TpuEff nD τ sig (Elt F) Λ₀ .tc) α}
    (h : P (XX J c Y f kf vf qf a v n0 n1) ⊢ go c (k (acc J c f hh (if hh.val = 0 then n0 else n1))) Q) :
    P (XX J c Y f kf vf qf a v n0 n1) ⊢ go c (Prog.lift (.load kvM (Rect.unit (s := S2x1024x128) off ![1, 1024, 128] inb).toLoadRect hl) >>= k) Q := by
  subst hoff
  refine load_gen (m := kvM) (r := (hrect hh).toLoadRect) (q := fullShare) (S := Finset.univ) (f := kvc J c f n0 n1)
    (Finset.subset_univ _) ((hP.swp _ _).trans XX.kv) (h.trans (Entails.of_eq ?_))
  rw [show kvM.view.readAt (Elt F) (hrect hh).toLoadRect (kvc J c f n0 n1) = _ from kv_read f hh n0 n1]

theorem loadKv0 (hP : Host J K c P O) {inb : ∀ a, (![0, 0, 0] : Fin 3 → ℕ) a + (![1, 1024, 128] : Fin 3 → ℕ) a ≤ S2x1024x128.size a} {hl}
    {k : Vec F S1x1024x128 .f32 → Prog (TpuEff nD τ sig (Elt F) Λ₀ .tc) α}
    (h : P (XX J c Y f kf vf qf a v n0 n1) ⊢ go c (k (acc J c f 0 n0)) Q) :
    P (XX J c Y f kf vf qf a v n0 n1) ⊢ go c (Prog.lift (.load kvM (Rect.unit (s := S2x1024x128) ![0, 0, 0] ![1, 1024, 128] inb).toLoadRect hl) >>= k) Q :=
  loadKv hP 0 rfl h

theorem loadKv1 (hP : Host J K c P O) {inb : ∀ a, (![1, 0, 0] : Fin 3 → ℕ) a + (![1, 1024, 128] : Fin 3 → ℕ) a ≤ S2x1024x128.size a} {hl}
    {k : Vec F S1x1024x128 .f32 → Prog (TpuEff nD τ sig (Elt F) Λ₀ .tc) α}
    (h : P (XX J c Y f kf vf qf a v n0 n1) ⊢ go c (k (acc J c f 1 n1)) Q) :
    P (XX J c Y f kf vf qf a v n0 n1) ⊢ go c (Prog.lift (.load kvM (Rect.unit (s := S2x1024x128) ![1, 0, 0] ![1, 1024, 128] inb).toLoadRect hl) >>= k) Q :=
  loadKv hP 1 rfl h

/-- A half of the accumulator is stored with one more slot in it. -/
theorem storeKv (hP : Host J K c P O) (hh : Fin 2) {off : Fin 3 → ℕ} (hoff : off = hoff hh)
    {inb : ∀ a, off a + (![1, 1024, 128] : Fin 3 → ℕ) a ≤ S2x1024x128.size a} {hx hm}
    {w : Vec F S1x1024x128 .f32} (hw : w = acc J c f hh (if hh.val = 0 then m0 else m1))
    (h0 : hh.val = 0 ∨ m0 = n0) (h1 : hh.val = 1 ∨ m1 = n1)
    (h : P (XX J c Y f kf vf qf a v m0 m1) ⊢ go c (k ⟨⟩) Q) :
    P (XX J c Y f kf vf qf a v n0 n1) ⊢ go c
      (Prog.lift (.store kvM (Rect.unit (s := S2x1024x128) off ![1, 1024, 128] inb) w Finset.univ hx hm) >>= k) Q := by
  subst hoff hw
  refine store_gen (m := kvM) (r := hrect hh) (S := Finset.univ) (f := kvc J c f n0 n1)
    (Finset.subset_univ _) ?_ h
  rw [show (kvM.access (hrect hh)).write (Elt F) (kvc J c f n0 n1) (acc J c f hh (if hh.val = 0 then m0 else m1)) Finset.univ = _ from kv_write f hh n0 n1 m0 m1 h0 h1]
  exact (hP.swp _ _).trans XX.kv

theorem storeKv0 (hP : Host J K c P O) {inb : ∀ a, (![0, 0, 0] : Fin 3 → ℕ) a + (![1, 1024, 128] : Fin 3 → ℕ) a ≤ S2x1024x128.size a} {hx hm}
    {w : Vec F S1x1024x128 .f32} (hw : w = acc J c f 0 (n0 + 1)) (h : P (XX J c Y f kf vf qf a v (n0 + 1) n1) ⊢ go c (k ⟨⟩) Q) :
    P (XX J c Y f kf vf qf a v n0 n1) ⊢ go c
      (Prog.lift (.store kvM (Rect.unit (s := S2x1024x128) ![0, 0, 0] ![1, 1024, 128] inb) w Finset.univ hx hm) >>= k) Q :=
  storeKv hP 0 rfl hw (Or.inl rfl) (Or.inr rfl) h

theorem storeKv1 (hP : Host J K c P O) {inb : ∀ a, (![1, 0, 0] : Fin 3 → ℕ) a + (![1, 1024, 128] : Fin 3 → ℕ) a ≤ S2x1024x128.size a} {hx hm}
    {w : Vec F S1x1024x128 .f32} (hw : w = acc J c f 1 (n1 + 1)) (h : P (XX J c Y f kf vf qf a v n0 (n1 + 1)) ⊢ go c (k ⟨⟩) Q) :
    P (XX J c Y f kf vf qf a v n0 n1) ⊢ go c
      (Prog.lift (.store kvM (Rect.unit (s := S2x1024x128) ![1, 0, 0] ![1, 1024, 128] inb) w Finset.univ hx hm) >>= k) Q :=
  storeKv hP 1 rfl hw (Or.inr rfl) (Or.inl rfl) h

/-- A load from something wholly held. -/
theorem load_all {s : Shape} {e : EltTy} {m : Memref sig .tc .vmem s e} {r : LoadRect s} {hl}
    {k : (r.shape.Idx → Elt F e) → Prog (TpuEff nD τ sig (Elt F) Λ₀ .tc) α} {f : m.view.ty.Contents (Elt F)} {w} (hw : m.view.readAt (Elt F) r f = w)
    (hP : Host J K c P O) (hX : Swp X (m.view.loc (c : Thread nD τ) ↦[Finset.univ]{fullShare} f) (m.view.loc (c : Thread nD τ) ↦[Finset.univ]{fullShare} f) X)
    (h : P X ⊢ go c (k w) Q) : P X ⊢ go c (Prog.lift (.load m r hl) >>= k) Q := by
  subst hw
  exact load_gen (Finset.subset_univ _) ((hP.swp _ _).trans hX) h

theorem hz : (![0, 0] : Fin 2 → Nat) = fun _ => 0 := funext fun a => by fin_cases a <;> rfl

variable (hP : Host J K c P O) (hX : Swp X (Ins (J c) c) (Ins (J c) c) X)
include hP hX

theorem loadX {inb : ∀ a, (![0, 0] : Fin 2 → ℕ) a + S1024x2048.size a ≤ S1024x2048.size a} {hl}
    {k : Vec F S1024x2048 .bf16 → Prog (TpuEff nD τ sig (Elt F) Λ₀ .tc) α} (h : P X ⊢ go c (k (J c).x) Q) :
    P X ⊢ go c (Prog.lift (.load xM (Rect.unit (s := S1024x2048) ![0, 0] S1024x2048.size inb).toLoadRect hl) >>= k) Q :=
  load_all (m := xM) (f := (J c).x) (Memref.readAt_unit_zero (Elt F) cc0_stg0_0 hz _ _) hP (hX.trans Swp.head) h

theorem loadWd {inb : ∀ a, (![0, 0] : Fin 2 → ℕ) a + S2048x128.size a ≤ S2048x128.size a} {hl}
    {k : Vec F S2048x128 .bf16 → Prog (TpuEff nD τ sig (Elt F) Λ₀ .tc) α} (h : P X ⊢ go c (k (J c).wd) Q) :
    P X ⊢ go c (Prog.lift (.load wdM (Rect.unit (s := S2048x128) ![0, 0] S2048x128.size inb).toLoadRect hl) >>= k) Q :=
  load_all (m := wdM) (f := (J c).wd) (Memref.readAt_unit_zero (Elt F) cc0_stg1_0 hz _ _) hP (hX.trans (Swp.tail Swp.head)) h

theorem loadUk {r : Rect S128x2048} {hl} {k : (r.shape.Idx → Elt F .bf16) → Prog (TpuEff nD τ sig (Elt F) Λ₀ .tc) α}
    (h : P X ⊢ go c (k (ukM.view.readAt (Elt F) r.toLoadRect (J c).uk)) Q) : P X ⊢ go c (Prog.lift (.load ukM r.toLoadRect hl) >>= k) Q :=
  load_all (m := ukM) (f := (J c).uk) rfl hP (hX.trans (Swp.tail (Swp.tail Swp.head))) h

theorem loadUv {r : Rect S128x2048} {hl} {k : (r.shape.Idx → Elt F .bf16) → Prog (TpuEff nD τ sig (Elt F) Λ₀ .tc) α}
    (h : P X ⊢ go c (k (uvM.view.readAt (Elt F) r.toLoadRect (J c).uv)) Q) : P X ⊢ go c (Prog.lift (.load uvM r.toLoadRect hl) >>= k) Q :=
  load_all (m := uvM) (f := (J c).uv) rfl hP (hX.trans (Swp.tail (Swp.tail (Swp.tail Swp.head)))) h

theorem loadWq {inb : ∀ a, (![0, 0] : Fin 2 → ℕ) a + S2048x128.size a ≤ S2048x128.size a} {hl}
    {k : Vec F S2048x128 .bf16 → Prog (TpuEff nD τ sig (Elt F) Λ₀ .tc) α} (h : P X ⊢ go c (k (J c).wq) Q) :
    P X ⊢ go c (Prog.lift (.load wqM (Rect.unit (s := S2048x128) ![0, 0] S2048x128.size inb).toLoadRect hl) >>= k) Q :=
  load_all (m := wqM) (f := (J c).wq) (Memref.readAt_unit_zero (Elt F) cc0_stg4_0 hz _ _) hP (hX.trans (Swp.tail (Swp.tail (Swp.tail (Swp.tail Swp.head))))) h

theorem loadQr {inb : ∀ a, (![0, 0] : Fin 2 → ℕ) a + S2048x32.size a ≤ S2048x32.size a} {hl}
    {k : Vec F S2048x32 .bf16 → Prog (TpuEff nD τ sig (Elt F) Λ₀ .tc) α} (h : P X ⊢ go c (k (J c).qr) Q) :
    P X ⊢ go c (Prog.lift (.load qrM (Rect.unit (s := S2048x32) ![0, 0] S2048x32.size inb).toLoadRect hl) >>= k) Q :=
  load_all (m := qrM) (f := (J c).qr) (Memref.readAt_unit_zero (Elt F) cc0_stg5_0 hz _ _) hP (hX.trans (Swp.tail (Swp.tail (Swp.tail (Swp.tail (Swp.tail Swp.head)))))) h

theorem loadKr {inb : ∀ a, (![0, 0] : Fin 2 → ℕ) a + S2048x32.size a ≤ S2048x32.size a} {hl}
    {k : Vec F S2048x32 .bf16 → Prog (TpuEff nD τ sig (Elt F) Λ₀ .tc) α} (h : P X ⊢ go c (k (J c).kr) Q) :
    P X ⊢ go c (Prog.lift (.load krM (Rect.unit (s := S2048x32) ![0, 0] S2048x32.size inb).toLoadRect hl) >>= k) Q :=
  load_all (m := krM) (f := (J c).kr) (Memref.readAt_unit_zero (Elt F) cc0_stg6_0 hz _ _) hP (hX.trans (Swp.tail (Swp.tail (Swp.tail (Swp.tail (Swp.tail (Swp.tail Swp.refl))))))) h

omit hX

theorem loadKo {r : Rect S1024x160} {hl} {k : (r.shape.Idx → Elt F .bf16) → Prog (TpuEff nD τ sig (Elt F) Λ₀ .tc) α}
    (h : P (XX J c Y f kf vf qf a v n0 n1) ⊢ go c (k (koM.view.readAt (Elt F) r.toLoadRect kf)) Q) :
    P (XX J c Y f kf vf qf a v n0 n1) ⊢ go c (Prog.lift (.load koM r.toLoadRect hl) >>= k) Q :=
  load_all (m := koM) (f := kf) rfl hP (XX.outs.trans Outs.atK) h

theorem loadVo {r : Rect S1024x128} {hl} {k : (r.shape.Idx → Elt F .bf16) → Prog (TpuEff nD τ sig (Elt F) Λ₀ .tc) α}
    (h : P (XX J c Y f kf vf qf a v n0 n1) ⊢ go c (k (voM.view.readAt (Elt F) r.toLoadRect vf)) Q) :
    P (XX J c Y f kf vf qf a v n0 n1) ⊢ go c (Prog.lift (.load voM r.toLoadRect hl) >>= k) Q :=
  load_all (m := voM) (f := vf) rfl hP (XX.outs.trans Outs.atV) h

theorem loadQo {r : Rect S1024x160} {hl} {k : (r.shape.Idx → Elt F .bf16) → Prog (TpuEff nD τ sig (Elt F) Λ₀ .tc) α}
    (h : P (XX J c Y f kf vf qf a v n0 n1) ⊢ go c (k (qoM.view.readAt (Elt F) r.toLoadRect qf)) Q) :
    P (XX J c Y f kf vf qf a v n0 n1) ⊢ go c (Prog.lift (.load qoM r.toLoadRect hl) >>= k) Q :=
  load_all (m := qoM) (f := qf) rfl hP (XX.outs.trans Outs.atQ) h

theorem storeKo {r : Rect S1024x160} {w : r.shape.Idx → Elt F .bf16} {hx hm}
    (h : P (XX J c Y f ((koM.access r).write (Elt F) kf w Finset.univ) vf qf a v n0 n1) ⊢ go c (k ⟨⟩) Q) :
    P (XX J c Y f kf vf qf a v n0 n1) ⊢ go c (Prog.lift (.store koM r w Finset.univ hx hm) >>= k) Q :=
  store_gen (m := koM) (S := Finset.univ) (f := kf) (Finset.subset_univ _) ((hP.swp _ _).trans (XX.outs.trans Outs.atK)) h

theorem storeVo {r : Rect S1024x128} {w : r.shape.Idx → Elt F .bf16} {hx hm}
    (h : P (XX J c Y f kf ((voM.access r).write (Elt F) vf w Finset.univ) qf a v n0 n1) ⊢ go c (k ⟨⟩) Q) :
    P (XX J c Y f kf vf qf a v n0 n1) ⊢ go c (Prog.lift (.store voM r w Finset.univ hx hm) >>= k) Q :=
  store_gen (m := voM) (S := Finset.univ) (f := vf) (Finset.subset_univ _) ((hP.swp _ _).trans (XX.outs.trans Outs.atV)) h

theorem storeQo {r : Rect S1024x160} {w : r.shape.Idx → Elt F .bf16} {hx hm}
    (h : P (XX J c Y f kf vf ((qoM.access r).write (Elt F) qf w Finset.univ) a v n0 n1) ⊢ go c (k ⟨⟩) Q) :
    P (XX J c Y f kf vf qf a v n0 n1) ⊢ go c (Prog.lift (.store qoM r w Finset.univ hx hm) >>= k) Q :=
  store_gen (m := qoM) (S := Finset.univ) (f := qf) (Finset.subset_univ _) ((hP.swp _ _).trans (XX.outs.trans Outs.atQ)) h

omit hP

/-! ## Putting the parts of the program together -/

/-- A part of the program, then the rest. -/
theorem part {β : Type} {P R : sProp (MT nD τ sig Unit (Elt F) ℕ UU ℕ)} {p : Prog (TpuEff nD τ sig (Elt F) Λ₀ .tc) β}
    {k : β → Prog (TpuEff nD τ sig (Elt F) Λ₀ .tc) α}
    (h1 : P ⊢ go c p (fun _ => R)) (h2 : ∀ a, R ⊢ go c (k a) Q) : P ⊢ go c (p >>= k) Q := run_seq h1 h2

/-- A part of the program that returns a known value, then the rest. -/
theorem partV {β : Type} {P R : sProp (MT nD τ sig Unit (Elt F) ℕ UU ℕ)} {p : Prog (TpuEff nD τ sig (Elt F) Λ₀ .tc) β} {b : β}
    {k : β → Prog (TpuEff nD τ sig (Elt F) Λ₀ .tc) α}
    (h1 : P ⊢ go c p (fun a => iprop(⌜a = b⌝ ∗ R))) (h2 : R ⊢ go c (k b) Q) : P ⊢ go c (p >>= k) Q :=
  run_seq_eq h1 (fun a ha => by subst ha; exact h2)

theorem done {P : sProp (MT nD τ sig Unit (Elt F) ℕ UU ℕ)} {a : α} (h : P ⊢ Q a) : P ⊢ go c (pure a) Q := run_pure h

/-- A part ends with what it holds. -/
theorem stop {P : sProp (MT nD τ sig Unit (Elt F) ℕ UU ℕ)} {a : α} : P ⊢ go c (pure a) (fun _ => P) :=
  run_pure (by iintro H; iexact H)

/-- A part ends with what it holds and what it returns. -/
theorem stopV {P : sProp (MT nD τ sig Unit (Elt F) ℕ UU ℕ)} {a : α} : P ⊢ go c (pure a) (fun b => iprop(⌜b = a⌝ ∗ P)) :=
  run_pure (by iintro H; isplitr; · ipureintro; exact rfl
               iexact H)

end Cert.PrepProof
-- ==== Proof.PrepFill.lean ====
/-
  Between the barrier and the ring: the preparation stages a block for each device, keeps its own, sends
  the others, and stores its own block of the array the ring gathers.
-/
module

public import proofs.«01_k».proof.Proof.PrepSteps
public import proofs.«01_k».proof.Proof.Gen.PrepareIdeal.Skeleton
public import Idealize.ShloMosaic.Lib.Pointwise

@[expose] public section

set_option maxRecDepth 20000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (J : Dev nD → Inp F) (K : Dev nD × Fin 153 → ℕ) (c : Dev nD)

/-- The device past the barrier, the blocks for the first devices sent. -/
def SA (s : ℕ) (X : sProp (MT nD τ sig Unit (Elt F) ℕ UU ℕ)) : sProp 𝕄 :=
  iprop(II J K ∗ (∃ W, (owes (c : Thread nD τ) (O₂ c + aowed c s) W : sProp 𝕄)) ∗ X)

variable {J K c}

theorem hostB {s : ℕ} : Host J K c (SA J K c s) (O₂ c + aowed c s) := by
  intro X Y
  unfold SA
  iintro ⟨#HI, HO, HX⟩
  isplitr; · iexact HI
  isplitl [HO]; · iexact HO
  isplitl [HX]; · iexact HX
  iintro ⟨HO, HY⟩
  isplitr; · iexact HI
  isplitl [HO]; · iexact HO
  iexact HY

/-! ## The blocks staged -/

/-- The slot and the half of the `n`-th block. -/
def sk (n : ℕ) : Fin 16 := ⟨n / 2 % 16, Nat.mod_lt _ (by decide)⟩
def sh (n : ℕ) : Fin 2 := ⟨n % 2, Nat.mod_lt _ (by decide)⟩

/-- The buffer with its first `n` blocks stored. -/
def fl (j : Inp F) (f : stM.view.ty.Contents (Elt F)) (n : ℕ) : stM.view.ty.Contents (Elt F) :=
  fun i => if 2 * (i 0).val + (i 1).val < n then tJ j i else f i

theorem fl_zero (j : Inp F) (f : stM.view.ty.Contents (Elt F)) : fl j f 0 = f := by
  funext i; unfold fl; rw [if_neg (Nat.not_lt_zero _)]

theorem fl_all (j : Inp F) (f : stM.view.ty.Contents (Elt F)) : fl j f 32 = tJ j := by
  funext i
  have h0 : (i 0).val < 16 := (i 0).isLt
  have h1 : (i 1).val < 2 := (i 1).isLt
  unfold fl; rw [if_pos (by omega)]

theorem brect_idx (k : Fin 16) (h : Fin 2) (y : (brect k h).shape.Idx) : (brect k h).idx y = ix4 k h (y 2) (y 3) := by
  have h0 : (y 0).val < 1 := (y 0).isLt
  have h1 : (y 1).val < 1 := (y 1).isLt
  funext x
  fin_cases x <;> refine Fin.ext ?_
  · show k.val + 1 * (y 0).val = k.val; omega
  · show h.val + 1 * (y 1).val = h.val; omega
  · show 0 + 1 * (y 2).val = (y 2).val; omega
  · show 0 + 1 * (y 3).val = (y 3).val; omega

/-- One more block is stored. -/
theorem fl_write (j : Inp F) (f : stM.view.ty.Contents (Elt F)) {n : ℕ} (hn : n < 32) :
    (stM.access (brect (sk n) (sh n))).write (Elt F) (fl j f n) ((stM.access (brect (sk n) (sh n))).read (Elt F) (tJ j)) Finset.univ = fl j f (n + 1) := by
  have e : (stM.access (brect (sk n) (sh n))).write (Elt F) (fl j f n) ((stM.access (brect (sk n) (sh n))).read (Elt F) (tJ j)) Finset.univ = _ :=
    View.write_read_eq_piecewise _ _ _
  refine e.trans ?_
  funext i
  have h1 : (i 1).val < 2 := (i 1).isLt
  have hk : (sk n).val = n / 2 := Nat.mod_eq_of_lt (by omega)
  have hh : (sh n).val = n % 2 := rfl
  by_cases hi : i ∈ (stM.access (brect (sk n) (sh n))).set
  · refine (Finset.piecewise_eq_of_mem _ _ _ hi).trans ?_
    obtain ⟨y, -, hy⟩ := Finset.mem_map.mp hi
    have hy' : (brect (sk n) (sh n)).idx y = i := hy
    rw [brect_idx] at hy'
    have e0 : (i 0).val = (sk n).val := by rw [← hy']; rfl
    have e1 : (i 1).val = (sh n).val := by rw [← hy']; rfl
    unfold fl; rw [if_pos (by omega)]
  · refine (Finset.piecewise_eq_of_notMem _ _ _ hi).trans ?_
    have hne : ¬ ((i 0).val = (sk n).val ∧ (i 1).val = (sh n).val) := fun ⟨e0, e1⟩ => hi (Finset.mem_map.mpr ⟨ix4 0 0 (i 2) (i 3), Finset.mem_univ _, by
      show (brect (sk n) (sh n)).idx (ix4 0 0 (i 2) (i 3)) = i
      rw [brect_idx, show sk n = i 0 from Fin.ext e0.symm, show sh n = i 1 from Fin.ext e1.symm]
      exact (eq_ix4 i).symm⟩)
    unfold fl
    by_cases hlt : 2 * (i 0).val + (i 1).val < n
    · rw [if_pos hlt, if_pos (by omega)]
    · rw [if_neg hlt, if_neg (by omega)]

theorem cast_apply (v : Vec F S128x128 .bf16) (a b : Fin 128) : k0_pay1 v (ix4 0 0 a b) = v (ix2 a b) := by
  pointwise [k0_pay1]

/-- The block of columns read is the block to be stored; -/
theorem val_uk (j : Inp F) (k : Fin 16) (h : Fin 2) (hh : h = 0) {off : Fin 2 → ℕ} (hoff : off = ![0, 128 * k.val]) {inb} :
    k0_pay1 (ukM.view.readAt (Elt F) (Rect.unit (s := S128x2048) off S128x128.size inb).toLoadRect j.uk) = (stM.access (brect k h)).read (Elt F) (tJ j) := by
  subst hoff hh
  funext y
  obtain ⟨u, t, a, b, rfl⟩ : ∃ (u t : Fin 1) (a b : Fin 128), y = ix4 u t a b := ⟨y 0, y 1, y 2, y 3, eq_ix4 y⟩
  have hu : u = 0 := Subsingleton.elim _ _
  have ht : t = 0 := Subsingleton.elim _ _
  subst hu ht
  refine (cast_apply _ a b).trans ?_
  show j.uk ((Rect.unit (s := S128x2048) ![0, 128 * k.val] S128x128.size inb).idx (ix2 a b)) = tJ j ((brect k 0).idx (ix4 0 0 a b))
  rw [brect_idx]
  show _ = (if (0 : ℕ) = 0 then j.uk else j.uv) (ix2 a (⟨128 * k.val + b.val, _⟩ : Fin 2048))
  rw [if_pos rfl]
  refine congrArg j.uk ?_
  funext x
  fin_cases x <;> refine Fin.ext ?_
  · show 0 + 1 * a.val = a.val; omega
  · show 128 * k.val + 1 * b.val = 128 * k.val + b.val; omega

/-- and so of the second matrix. -/
theorem val_uv (j : Inp F) (k : Fin 16) (h : Fin 2) (hh : h = 1) {off : Fin 2 → ℕ} (hoff : off = ![0, 128 * k.val]) {inb} :
    k0_pay1 (uvM.view.readAt (Elt F) (Rect.unit (s := S128x2048) off S128x128.size inb).toLoadRect j.uv) = (stM.access (brect k h)).read (Elt F) (tJ j) := by
  subst hoff hh
  funext y
  obtain ⟨u, t, a, b, rfl⟩ : ∃ (u t : Fin 1) (a b : Fin 128), y = ix4 u t a b := ⟨y 0, y 1, y 2, y 3, eq_ix4 y⟩
  have hu : u = 0 := Subsingleton.elim _ _
  have ht : t = 0 := Subsingleton.elim _ _
  subst hu ht
  refine (cast_apply _ a b).trans ?_
  show j.uv ((Rect.unit (s := S128x2048) ![0, 128 * k.val] S128x128.size inb).idx (ix2 a b)) = tJ j ((brect k 1).idx (ix4 0 0 a b))
  rw [brect_idx]
  show _ = (if (1 : ℕ) = 0 then j.uk else j.uv) (ix2 a (⟨128 * k.val + b.val, _⟩ : Fin 2048))
  rw [if_neg (by decide)]
  refine congrArg j.uv ?_
  funext x
  fin_cases x <;> refine Fin.ext ?_
  · show 0 + 1 * a.val = a.val; omega
  · show 128 * k.val + 1 * b.val = 128 * k.val + b.val; omega

variable (J c) in
/-- What is held while the blocks are staged. -/
def X1 (f : stM.view.ty.Contents (Elt F)) (n : ℕ) (R : sProp (MT nD τ sig Unit (Elt F) ℕ UU ℕ)) : sProp 𝕄 :=
  iprop(Ins (J c) c ∗ (stM.view.loc (c : Thread nD τ) ↦[Finset.univ]{fullShare} fl (J c) f n) ∗ room c c ∗ R)

variable {α : Type} {Q : α → sProp (MT nD τ sig Unit (Elt F) ℕ UU ℕ)} {R : sProp (MT nD τ sig Unit (Elt F) ℕ UU ℕ)}
  {f : stM.view.ty.Contents (Elt F)} {n s : ℕ} {k : PUnit → Prog (TpuEff nD τ sig (Elt F) Λ₀ .tc) α}

theorem fillUk {r : Rect S128x2048} {hl} {k : (r.shape.Idx → Elt F .bf16) → Prog (TpuEff nD τ sig (Elt F) Λ₀ .tc) α}
    (h : SA J K c s (X1 J c f n R) ⊢ go c (k (ukM.view.readAt (Elt F) r.toLoadRect (J c).uk)) Q) :
    SA J K c s (X1 J c f n R) ⊢ go c (Prog.lift (.load ukM r.toLoadRect hl) >>= k) Q := loadUk hostB Swp.head h

theorem fillUv {r : Rect S128x2048} {hl} {k : (r.shape.Idx → Elt F .bf16) → Prog (TpuEff nD τ sig (Elt F) Λ₀ .tc) α}
    (h : SA J K c s (X1 J c f n R) ⊢ go c (k (uvM.view.readAt (Elt F) r.toLoadRect (J c).uv)) Q) :
    SA J K c s (X1 J c f n R) ⊢ go c (Prog.lift (.load uvM r.toLoadRect hl) >>= k) Q := loadUv hostB Swp.head h

/-- The buffer is read where a block will be stored. -/
theorem fillDrop {off : Fin 4 → ℕ} {inb : ∀ a, off a + (![1, 1, 128, 128] : Fin 4 → ℕ) a ≤ SW.size a} {hl}
    {k : ((Rect.unit (s := SW) off ![1, 1, 128, 128] inb).shape.Idx → Elt F .bf16) → Prog (TpuEff nD τ sig (Elt F) Λ₀ .tc) α}
    (h : ∀ v, SA J K c s (X1 J c f n R) ⊢ go c (k v) Q) :
    SA J K c s (X1 J c f n R) ⊢ go c (Prog.lift (.load stM (Rect.unit (s := SW) off ![1, 1, 128, 128] inb).toLoadRect hl) >>= k) Q :=
  load_gen (Finset.subset_univ _) ((hostB.swp _ _).trans (Swp.tail Swp.head)) (h _)

/-- A block is stored. -/
theorem fillStore (hn : n < 32) {off : Fin 4 → ℕ} (hoff : off = boff (sk n) (sh n))
    {inb : ∀ a, off a + (![1, 1, 128, 128] : Fin 4 → ℕ) a ≤ SW.size a} {hx hm} {w : Vec F S1x1x128x128 .bf16}
    (hw : w = (stM.access (brect (sk n) (sh n))).read (Elt F) (tJ (J c)))
    (h : SA J K c s (X1 J c f (n + 1) R) ⊢ go c (k ⟨⟩) Q) :
    SA J K c s (X1 J c f n R) ⊢ go c (Prog.lift (.store stM (Rect.unit (s := SW) off ![1, 1, 128, 128] inb) w Finset.univ hx hm) >>= k) Q := by
  subst hoff hw
  refine store_gen (m := stM) (r := brect (sk n) (sh n)) (S := Finset.univ) (f := fl (J c) f n) (Finset.subset_univ _) ?_ h
  rw [show (stM.access (brect (sk n) (sh n))).write (Elt F) (fl (J c) f n) ((stM.access (brect (sk n) (sh n))).read (Elt F) (tJ (J c))) Finset.univ = _ from fl_write (J c) f hn]
  exact (hostB.swp _ _).trans (Swp.tail Swp.head)

/-! ## The own block kept -/

theorem cast_id (v : Vec F S1x2x128x128 .bf16) : k0_pay39 v = v := by
  funext y
  obtain ⟨u, t, a, b, rfl⟩ : ∃ (u : Fin 1) (t : Fin 2) (a b : Fin 128), y = ix4 u t a b := ⟨y 0, y 1, y 2, y 3, eq_ix4 y⟩
  have hu : u = 0 := Subsingleton.elim _ _
  subst hu
  pointwise [k0_pay39]

/-- The own slot of the received blocks once the own block is stored in it. -/
theorem kept_block (w : wrM.view.ty.Contents (Elt F)) :
    (wrM.view.loc (c : Thread nD τ) ↦[wset wrM c]{fullShare} (wrM.access (wrect c)).write (Elt F) w
        (k0_pay39 (stM.view.readAt (Elt F) (wrect c).toLoadRect (tJ (J c)))) Finset.univ : sProp 𝕄) = wpts wrM c c (wJ J c) := by
  rw [cast_id, show stM.view.readAt (Elt F) (wrect c).toLoadRect (tJ (J c)) = _ from read_swap J c c]
  have e : (wrM.access (wrect c)).write (Elt F) w ((wrM.access (wrect c)).read (Elt F) (wJ J c)) Finset.univ = _ := View.write_read_eq_piecewise _ _ _
  unfold wpts
  refine pointsTo_congr fun i hi => ?_
  refine (congrFun e i).trans ?_
  exact Finset.piecewise_eq_of_mem _ _ _ hi

variable (J c) in
/-- What is held while the blocks are sent. -/
def X2 (s : ℕ) (R : sProp (MT nD τ sig Unit (Elt F) ℕ UU ℕ)) : sProp 𝕄 :=
  iprop(Ins (J c) c
    ∗ (bigSep (Finset.Ico s 16) fun o => iprop((dutyTok ER (gone c (pl c o)) 0 (0 : Fin 16) ∗ dutyTok ER (came (pl c o) c) 0 (0 : Fin 16))
        ∗ room (pl c o) c ∗ wpts stM c (pl c o) (tJ (J c))))
    ∗ (bigSep (Finset.Ico 1 s) fun o => cred (tallyAt (gone c (pl c o)) () NW)) ∗ R)

theorem st_set : stM.view.set = Finset.univ := View.set_whole _
theorem wr_set : wrM.view.set = Finset.univ := View.set_whole _

theorem st_slots (c : Dev nD) (g : stM.view.ty.Contents (Elt F)) :
    (stM.view.loc (c : Thread nD τ) ↦[Finset.univ]{fullShare} g : sProp 𝕄) = bigSep Finset.univ fun k => wpts stM c k g := by
  rw [← slots_all stM c g, st_set]

/-- The tokens and the slots with which the blocks are sent. -/
def post (c : Dev nD) : sProp 𝕄 :=
  iprop((bigSep (Finset.Ico 1 16) fun o => iprop(dutyTok ER (gone c (pl c o)) 0 (0 : Fin 16) ∗ dutyTok ER (came (pl c o) c) 0 (0 : Fin 16)))
    ∗ bigSep (Finset.Ico 1 16) fun o => room (pl c o) c)

theorem to_sends : iprop(Ins (J c) c ∗ (stM.view.loc (c : Thread nD τ) ↦[Finset.univ]{fullShare} tJ (J c)) ∗ wpts wrM c c (wJ J c) ∗ post c ∗ R)
    ⊢ (X2 J c 1 iprop(wpts stM c c (tJ (J c)) ∗ wpts wrM c c (wJ J c) ∗ R) : sProp 𝕄) := by
  unfold X2 post
  rw [Finset.Ico_self, bigSep_empty, st_slots, around c, first_on, pl_zero]
  simp only [bigSep_sep']
  iintro ⟨HI, ⟨H0, Hs⟩, Hw, ⟨Ht, Hr⟩, HR⟩
  isplitl [HI]; · iexact HI
  isplitl [Hs Ht Hr]
  · isplitl [Ht]; · iexact Ht
    isplitl [Hr]; · iexact Hr
    iexact Hs
  isplitr; · iempintro
  isplitl [H0]; · iexact H0
  isplitl [Hw]; · iexact Hw
  iexact HR

/-- The own block is copied. -/
theorem copyOwn {off : Fin 4 → ℕ} (hoff : off = woff c) {inb inb' inb'' : ∀ a, off a + (![1, 2, 128, 128] : Fin 4 → ℕ) a ≤ SW.size a} {hl hl' hx hm}
    (h : SA J K c s (X2 J c 1 iprop(wpts stM c c (tJ (J c)) ∗ wpts wrM c c (wJ J c) ∗ R)) ⊢ go c (k ⟨⟩) Q) :
    SA J K c s (X1 J c f 32 iprop(post c ∗ R)) ⊢ go c (do
      let v ← Prog.lift (.load stM (Rect.unit (s := SW) off ![1, 2, 128, 128] inb).toLoadRect hl)
      let _ ← Prog.lift (.load wrM (Rect.unit (s := SW) off ![1, 2, 128, 128] inb').toLoadRect hl')
      let u ← Prog.lift (.store wrM (Rect.unit (s := SW) off ![1, 2, 128, 128] inb'') (k0_pay39 v) Finset.univ hx hm)
      k u) Q := by
  subst hoff
  unfold X1
  rw [fl_all]
  refine load_gen (m := stM) (r := (wrect c).toLoadRect) (S := Finset.univ) (q := fullShare) (f := tJ (J c)) (Finset.subset_univ _)
    ((hostB.swp _ _).trans (Swp.tail Swp.head)) ?_
  unfold room
  have hs (w : wrM.view.ty.Contents (Elt F)) : SA J K c s iprop(Ins (J c) c ∗ (stM.view.loc (c : Thread nD τ) ↦[Finset.univ]{fullShare} tJ (J c)) ∗ wpts wrM c c w ∗ post c ∗ R)
      ⊢ go c (do
        let _ ← Prog.lift (.load wrM (Rect.unit (s := SW) (woff c) ![1, 2, 128, 128] inb').toLoadRect hl')
        let u ← Prog.lift (.store wrM (Rect.unit (s := SW) (woff c) ![1, 2, 128, 128] inb'') (k0_pay39 (stM.view.readAt (Elt F) (wrect c).toLoadRect (tJ (J c)))) Finset.univ hx hm)
        k u) Q := by
    refine load_gen (m := wrM) (r := (wrect c).toLoadRect) (S := wset wrM c) (q := fullShare) (f := w) ?_
      ((hostB.swp _ _).trans (Swp.tail (Swp.tail Swp.head))) ?_
    · show wrM.view.setOn (wrect c).set ⊆ wset wrM c; unfold wset; rw [View.set_slice]; exact Finset.Subset.refl _
    refine store_gen (m := wrM) (r := wrect c) (S := wset wrM c) (f := w)
      (P' := SA J K c s iprop(Ins (J c) c ∗ (stM.view.loc (c : Thread nD τ) ↦[Finset.univ]{fullShare} tJ (J c)) ∗ wpts wrM c c (wJ J c) ∗ post c ∗ R))
      (Finset.Subset.refl _) ?_ ?_
    · rw [kept_block]
      exact (hostB.swp _ _).trans (Swp.tail (Swp.tail Swp.head))
    · refine BIBase.Entails.trans ?_ h
      unfold SA
      iintro ⟨HI, HO, HX⟩
      isplitl [HI]; · iexact HI
      isplitl [HO]; · iexact HO
      iapply to_sends $$ HX
  iintro H
  unfold SA
  icases H with ⟨HI, HO, HIn, Hst, ⟨%w, Hw⟩, HR⟩
  iapply (hs w)
  unfold SA
  isplitl [HI]; · iexact HI
  isplitl [HO]; · iexact HO
  isplitl [HIn]; · iexact HIn
  isplitl [Hst]; · iexact Hst
  isplitl [Hw]; · iexact Hw
  iexact HR

/-- A block is sent. -/
theorem sendA (h1 : 1 ≤ s) (h2 : s < 16) {dv : Dev nD} (hn : dv = pl c s)
    {off off' : Fin 4 → ℕ} (hoff : off = woff c) (hoff' : off' = woff (pl c s)) {inb hst hsq inb' hst' hsq'}
    {sS sR : DmaSem sig} (hS : sS = dsem (10 + (pl c s).val)) (hR : sR = dsem (26 + c.val))
    {hsc : (wsub wrM off inb hst hsq : Memref sig (Dev.tc dv : Thread nD τ).2.kind .vmem SH .bf16).view.ref.isScScratch = false}
    {hsrc : (wsub stM off' inb' hst' hsq').view.WordExact} {hdst : (wsub wrM off inb hst hsq).view.WordExact}
    {hsem : DmaTarget.Typed .vmem (.dma sR) (.remote (Dev.tc dv : Thread nD τ) (wsub wrM off inb hst hsq) (.dma sS) hsc)}
    (h : SA J K c (s + 1) (X2 J c (s + 1) R) ⊢ go c (k ⟨⟩) Q) :
    SA J K c s (X2 J c s R) ⊢ go c
      (Prog.lift (.enqueueDma (wsub stM off' inb' hst' hsq') (.remote (Dev.tc dv : Thread nD τ) (wsub wrM off inb hst hsq) (.dma sS) hsc)
                (.dma sR) hsrc hdst hsem) >>= k) Q := by
  subst hn hoff hoff' hS hR
  show _ ⊢ go c (.op _ k) Q
  unfold SA X2 room
  rw [bigSep_Ico_succ_bot h2]
  iintro ⟨#HI, ⟨%W, HO⟩, HIn, ⟨⟨⟨Ht1, Ht2⟩, ⟨%fd, Hd⟩, Hp⟩, Hrest⟩, Hc, HR⟩
  ihave HS := (rec_gone J K c (pl c s)) $$ HI
  ihave HR' := (rec_came J K (pl c s) c) $$ HI
  icases HS with ⟨%κ₁, #HIS, #HrS⟩
  icases HR' with ⟨%κ₂, #HIR, #HrR⟩
  have hne := pl_ne c h1 h2
  have key := Rounds.wp_send_pointsTo (defs := defs₀ (F := F)) 𝒱₀ ER (rd J) (c : Thread nD τ) none (Γ := .empty) (Q := Q) (κ₁ := κ₁) (κ₂ := κ₂)
    (c' := (pl c s : Thread nD τ))
    (src := wsub stM (woff (pl c s)) inb' hst' hsq') (dst := wsub wrM (woff c) inb hst hsq)
    (hsc := hsc) (hsrc := hsrc) (hdst := hdst) (hsem := hsem) (k := k) (q := fullShare) (fs := tJ (J c))
    (r₁ := 0) (r₂ := 0) (d₁ := 0) (d₂ := 0) (fd := fd)
    (by rw [duties_gone J hne]; exact Finset.mem_singleton_self _) (by rw [duties_came J hne.symm]; exact Finset.mem_singleton_self _)
    () () NW rfl (amount_low J c (by have : (pl c s).val < 16 := pl_lt c s; omega)) (amount_low J (pl c s) (by have : c.val < 16 := c.isLt; omega)) (O₂ c + aowed c (s + 1))
    (O₀ := O₂ c + aowed c s) (by rw [aowed_step h2, add_assoc]) (W := W)
    (by rw [payload_gone, wsub_pts])
    (by rw [payload_came, wland stM wrM (pl c s) c (pl c s) fd (wJ J (pl c s)) (tJ (J c)) (read_swap J c (pl c s))]) (Es := Set.univ) (routes_all _ _)
  rw [wsub_pts, wsub_pts] at key
  iapply key $$ [Hp Hd HO Ht1 Ht2]
  · isplitr; · iexact HIS
    isplitr; · iexact HIR
    isplitl [Hp]; · iexact Hp
    isplitl [Hd]; · iexact Hd
    isplitl [HO]; · iexact HO
    isplitl [Ht1]; · iexact Ht1
    isplitr; · iexact HrS
    isplitl [Ht2]; · iexact Ht2
    iexact HrR
  iintro ⟨HcS, HO⟩
  iapply h
  unfold SA X2 room
  rw [bigSep_Ico_succ_top h1]
  isplitr; · iexact HI
  isplitl [HO]; · iexists _; iexact HO
  isplitl [HIn]; · iexact HIn
  isplitl [Hrest]; · iexact Hrest
  isplitl [HcS Hc]
  · isplitl [HcS]; · iexact HcS
    iexact Hc
  iexact HR

/-! ## The own block of the ring -/

/-- What a device is given of one direction at launch. -/
def linear (D : Dir 16 sig) (c : Dev nD) : sProp 𝕄 :=
  iprop(bigSep (Finset.Ico 0 D.n) (fun m => iprop(atPos ER (D.rCell c m) 0 (∅ : Finset (Fin 16)) 0 ∗ cred (tallyAt (D.rCell c m) () NN)))
    ∗ bigSep (Finset.Ico 0 D.n) (fun m => iprop(dutyTok ER (D.sCell c m) 0 (0 : Fin 16) ∗ dutyTok ER (D.rCell (D.nx c) m) 0 (0 : Fin 16)))
    ∗ bigSep (Finset.Ico 0 D.n) (fun m => atPos ER (D.sCell c m) 0 (∅ : Finset (Fin 16)) 0))

/-- With the pieces of the neighbour and the own slot, a direction may start. -/
theorem half_intro (g : slM.view.ty.Contents (Elt F)) (D : Dir 16 sig) (c : Dev nD) (lo : ℕ) :
    iprop(linear D c ∗ gift slM D c ∗ bigSep (Finset.Ico 0 4) (fun m => D.pc slM c m (D.sh m) g)
        ∗ bigSep (Finset.Ico lo 4) (fun m => D.pc slM c m fullShare.right g))
      ⊢ (D.half slM ER g c 0 0 lo : sProp 𝕄) := by
  unfold linear gift Dir.half
  rw [Finset.Ico_self, bigSep_empty, bigSep_empty]
  simp only [bigSep_sep']
  iintro ⟨⟨⟨H1, H1'⟩, ⟨H2, H2'⟩, H3⟩, H4, H5, H6⟩
  isplitl [H1 H1']
  · isplitl [H1]; · iexact H1
    iexact H1'
  isplitl [H2 H2' H4]
  · isplitl [H2]; · iexact H2
    isplitl [H2']; · iexact H2'
    iexact H4
  isplitl [H5]; · iexact H5
  isplitl [H6]; · iexact H6
  isplitr; · iempintro
  isplitl [H3]; · iexact H3
  iempintro

/-- The own block of the gathered array. -/
theorem own_slot : k0_pay40 (J c).x (J c).wd = slotV (M := slM) (gJ J) c := by
  funext y
  obtain ⟨u, a, b, rfl⟩ : ∃ (u : Fin 1) (a : Fin 1024) (b : Fin 128), y = ix3 u a b := ⟨y 0, y 1, y 2, eq_ix3 y⟩
  have hu : u = 0 := Subsingleton.elim _ _
  subst hu
  have e : (srect c).toLoadRect.idx (ix3 0 a b) = ix3 c a b := by
    funext x
    fin_cases x <;> refine Fin.ext ?_
    · show c.val + 1 * 0 = c.val; omega
    · show 0 + 1 * a.val = a.val; omega
    · show 0 + 1 * b.val = b.val; omega
  show _ = gJ J ((srect c).toLoadRect.idx (ix3 0 a b))
  rw [e]
  rfl

/-- The own slot once the block is stored in it. -/
theorem stored (g : slM.view.ty.Contents (Elt F)) (v : Vec F S1x1024x128 .bf16) (hv : v = slotV (M := slM) g c) (f : slM.view.ty.Contents (Elt F)) :
    (slM.view.loc (c : Thread nD τ) ↦[sset slM c]{fullShare} (slM.access (srect c)).write (Elt F) f v Finset.univ : sProp 𝕄)
      = slotPts slM c c fullShare g := by
  subst hv
  have e : (slM.access (srect c)).write (Elt F) f ((slM.access (srect c)).read (Elt F) g) Finset.univ = _ := View.write_read_eq_piecewise _ _ _
  unfold slotPts
  refine pointsTo_congr fun i hi => ?_
  refine (congrFun e i).trans ?_
  exact Finset.piecewise_eq_of_mem _ _ _ hi

theorem ord_zero (c : Fin 16) : ord c 0 = c := by revert c; decide

/-- The accumulator before the first slot is what it was. -/
theorem kvc_zero (f : KV F) : kvc J c f 0 0 = f := by
  funext i
  have e : (if (i 0).val = 0 then 0 else 0 : ℕ) = 0 := by split <;> rfl
  show acc J c f (i 0) (if (i 0).val = 0 then 0 else 0) _ = _
  rw [e]
  exact congrArg f (eq_ix3 i).symm

/-- What else is kept until the ring. -/
def rest (c : Dev nD) (f : KV F) (kf : KO F) (vf : VO F) (qf : QO F) (Z : sProp (MT nD τ sig Unit (Elt F) ℕ UU ℕ)) : sProp 𝕄 :=
  iprop((linear dC c ∗ linear dN c ∗ gift slM dC c ∗ gift slM dN c) ∗ Outs c kf vf qf ∗ (((c : Thread nD τ).loc cc0_scratch3) ↦{fullShare} f)
    ∗ (bigSep (Finset.Ico 1 16) fun n => iprop(atPos ER (came c (ord c n)) 0 (∅ : Finset (Fin 16)) 0 ∗ cred (tallyAt (came c (ord c n)) () NW)))
    ∗ (bigSep (Finset.Ico 1 16) fun o => atPos ER (gone c (pl c o)) 0 (∅ : Finset (Fin 16)) 0) ∗ Z)

variable {kf : KO F} {vf : VO F} {qf : QO F} {fk : KV F} {Z : sProp (MT nD τ sig Unit (Elt F) ℕ UU ℕ)}

/-- With the own slot stored the ring may start. -/
theorem to_ring : SA J K c 16 (X2 J c 16 iprop(wpts stM c c (tJ (J c)) ∗ wpts wrM c c (wJ J c) ∗ slotPts slM c c fullShare (gJ J) ∗ rest c fk kf vf qf Z))
    ⊢ SS J K c 0 0 0 0 (XX J c iprop(wpts stM c c (tJ (J c)) ∗ Z) fk kf vf qf 1 1 0 0) := by
  unfold SA X2 rest SS St XX Arr Dep O₂
  rw [aowed_end, add_zero, Finset.Ico_self, Finset.Ico_self, bigSep_empty, bigSep_empty, kvc_zero,
    show (bigSep (Finset.Ico 0 1) fun n => (wpts wrM c (ord c n) (wJ J c) : sProp 𝕄)) = wpts wrM c c (wJ J c) from by rw [bigSep_Ico_one, ord_zero],
    bigSep_sep' (Finset.Ico 1 16) (fun o => (atPos ER (gone c (pl c o)) 0 (∅ : Finset (Fin 16)) 0 : sProp 𝕄)) (fun o => cred (tallyAt (gone c (pl c o)) () NW))]
  iintro ⟨HI, HO, HIn, -, Hcr, Hst, Hwr, Hs, ⟨HC, HN, HgC, HgN⟩, Hou, Hkv, HA, HD, HZ⟩
  ihave H := (ownShare slM (fun m => dsem (42 + m)) (fun m => dsem (74 + m)) (fun m => dsem (106 + m)) (fun m => dsem (134 + m)) c (gJ J)).1 $$ Hs
  icases H with ⟨HsA, HsB, HsD⟩
  isplitl [HI]; · iexact HI
  isplitl [HC HgC HsA HsB]
  · iapply (half_intro (gJ J) dC c 0)
    isplitl [HC]; · iexact HC
    isplitl [HgC]; · iexact HgC
    isplitl [HsA]; · iexact HsA
    iexact HsB
  isplitl [HN HgN HsD]
  · iapply (half_intro (gJ J) dN c 4)
    isplitl [HN]; · iexact HN
    isplitl [HgN]; · iexact HgN
    isplitl [HsD]; · iexact HsD
    rw [Finset.Ico_self, bigSep_empty]; iempintro
  isplitl [HO]; · iexact HO
  isplitl [HIn]; · iexact HIn
  isplitl [Hou]; · iexact Hou
  isplitl [Hkv]; · iexact Hkv
  isplitl [HA Hwr]
  · isplitl [HA]; · iexact HA
    isplitl [Hwr]; · iexact Hwr
    iempintro
  isplitl [HD Hcr]
  · isplitl [HD Hcr]
    · isplitl [HD]; · iexact HD
      iexact Hcr
    iempintro
  isplitl [Hst]; · iexact Hst
  iexact HZ

/-- The inputs of the own block are read. -/
theorem sendX {inb : ∀ a, (![0, 0] : Fin 2 → ℕ) a + S1024x2048.size a ≤ S1024x2048.size a} {hl}
    {k : (S1024x2048.Idx → Elt F .bf16) → Prog (TpuEff nD τ sig (Elt F) Λ₀ .tc) α}
    (h : SA J K c s (X2 J c n R) ⊢ go c (k (J c).x) Q) :
    SA J K c s (X2 J c n R) ⊢ go c (Prog.lift (.load xM (Rect.unit (s := S1024x2048) ![0, 0] S1024x2048.size inb).toLoadRect hl) >>= k) Q :=
  loadX hostB Swp.head h

theorem sendWd {inb : ∀ a, (![0, 0] : Fin 2 → ℕ) a + S2048x128.size a ≤ S2048x128.size a} {hl}
    {k : (S2048x128.Idx → Elt F .bf16) → Prog (TpuEff nD τ sig (Elt F) Λ₀ .tc) α}
    (h : SA J K c s (X2 J c n R) ⊢ go c (k (J c).wd) Q) :
    SA J K c s (X2 J c n R) ⊢ go c (Prog.lift (.load wdM (Rect.unit (s := S2048x128) ![0, 0] S2048x128.size inb).toLoadRect hl) >>= k) Q :=
  loadWd hostB Swp.head h

/-- The own block is computed and stored in its slot. -/
theorem storeOwn {off : Fin 3 → ℕ} (hoff : off = soff c) {inb inb' : ∀ a, off a + (![1, 1024, 128] : Fin 3 → ℕ) a ≤ Cert.Pipe.SB.size a} {hl hx hm}
    (h : SS J K c 0 0 0 0 (XX J c iprop(wpts stM c c (tJ (J c)) ∗ Z) fk kf vf qf 1 1 0 0) ⊢ go c (k ⟨⟩) Q) :
    SA J K c 16 (X2 J c 16 iprop(wpts stM c c (tJ (J c)) ∗ wpts wrM c c (wJ J c)
        ∗ (∃ f : slM.view.ty.Contents (Elt F), slotPts slM c c fullShare f) ∗ rest c fk kf vf qf Z)) ⊢ go c (do
      let _ ← Prog.lift (.load slM (Rect.unit (s := Cert.Pipe.SB) off ![1, 1024, 128] inb).toLoadRect hl)
      let u ← Prog.lift (.store slM (Rect.unit (s := Cert.Pipe.SB) off ![1, 1024, 128] inb') (k0_pay40 (J c).x (J c).wd) Finset.univ hx hm)
      k u) Q := by
  subst hoff
  have hs (w : slM.view.ty.Contents (Elt F)) : SA J K c 16 (X2 J c 16 iprop(wpts stM c c (tJ (J c)) ∗ wpts wrM c c (wJ J c) ∗ slotPts slM c c fullShare w ∗ rest c fk kf vf qf Z))
      ⊢ go c (do
        let _ ← Prog.lift (.load slM (Rect.unit (s := Cert.Pipe.SB) (soff c) ![1, 1024, 128] inb).toLoadRect hl)
        let u ← Prog.lift (.store slM (Rect.unit (s := Cert.Pipe.SB) (soff c) ![1, 1024, 128] inb') (k0_pay40 (J c).x (J c).wd) Finset.univ hx hm)
        k u) Q := by
    refine load_gen (m := slM) (r := (srect c).toLoadRect) (S := sset slM c) (q := fullShare) (f := w) ?_
      ((hostB.swp _ _).trans (Swp.tail (Swp.tail (Swp.tail (Swp.tail (Swp.tail Swp.head)))))) ?_
    · show slM.view.setOn (srect c).set ⊆ sset slM c; unfold sset; rw [View.set_slice]; exact Finset.Subset.refl _
    refine store_gen (m := slM) (r := srect c) (S := sset slM c) (f := w)
      (P' := SA J K c 16 (X2 J c 16 iprop(wpts stM c c (tJ (J c)) ∗ wpts wrM c c (wJ J c) ∗ slotPts slM c c fullShare (gJ J) ∗ rest c fk kf vf qf Z)))
      (Finset.Subset.refl _) ?_ (to_ring.trans h)
    rw [stored (gJ J) _ own_slot]
    exact (hostB.swp _ _).trans (Swp.tail (Swp.tail (Swp.tail (Swp.tail (Swp.tail Swp.head)))))
  iintro H
  unfold SA X2
  icases H with ⟨HI, HO, HIn, HT, Hcr, Hst, Hwr, ⟨%w, Hs⟩, HR⟩
  iapply (hs w)
  unfold SA X2
  isplitl [HI]; · iexact HI
  isplitl [HO]; · iexact HO
  isplitl [HIn]; · iexact HIn
  isplitl [HT]; · iexact HT
  isplitl [Hcr]; · iexact Hcr
  isplitl [Hst]; · iexact Hst
  isplitl [Hwr]; · iexact Hwr
  isplitl [Hs]; · iexact Hs
  iexact HR

end Cert.PrepProof
-- ==== Proof.PrepOpen.lean ====
/-
  The preparation's barrier: a device hands every other device the slot it keeps for that device's block,
  and either neighbour the pieces of the gathered array the neighbour's copies will write.
-/
module

public import proofs.«01_k».proof.Proof.PrepFill

@[expose] public section

set_option maxRecDepth 20000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the program, then the rest, a fact known of the value between. -/
theorem partEq {c : Dev nD} {α β : Type} {Q : α → sProp (MT nD τ sig Unit (Elt F) ℕ UU ℕ)} {P R : sProp (MT nD τ sig Unit (Elt F) ℕ UU ℕ)}
    {p : Prog (TpuEff nD τ sig (Elt F) Λ₀ .tc) β} {k : β → Prog (TpuEff nD τ sig (Elt F) Λ₀ .tc) α} (good : β → Prop)
    (h1 : P ⊢ go c p (fun a => iprop(⌜good a⌝ ∗ R))) (h2 : ∀ a, good a → R ⊢ go c (k a) Q) : P ⊢ go c (p >>= k) Q := run_seq_eq h1 h2

/-- A part ends with what it holds, and a fact of what it returns. -/
theorem doneEq {c : Dev nD} {α : Type} {P : sProp (MT nD τ sig Unit (Elt F) ℕ UU ℕ)} {a : α} {good : α → Prop} (h : good a) :
    P ⊢ go c (pure a) (fun a => iprop(⌜good a⌝ ∗ P)) :=
  run_pure (by iintro H; isplitr; · ipureintro; exact h
               iexact H)

/-- Of what is given at one device only, that is all. -/
theorem single (c a : Fin 16) (ha : a ≠ c) (P : Fin 16 → Prop) [DecidablePred P] (hP : ∀ p, P p ↔ p = a) (A : Fin 16 → sProp (MT nD τ sig Unit (Elt F) ℕ UU ℕ)) :
    (bigSep (Finset.Ico 1 16) fun o => if P (pl c o) then A (pl c o) else iprop(emp)) = A a := by
  rw [← others c (fun p => if P p then A p else iprop(emp))]
  refine (bigSep_erase (Finset.mem_erase.mpr ⟨ha, Finset.mem_univ a⟩)).trans ?_
  have e : bigSep ((Finset.univ.erase c).erase a) (fun p => if P p then A p else iprop(emp)) = iprop(emp) :=
    (bigSep_congr (fun p hp => if_neg fun h => (Finset.mem_erase.mp hp).1 ((hP p).mp h))).trans (bigSep_emp_const _)
  rw [e, if_pos ((hP a).mpr rfl)]
  exact sep_emp_eq _

theorem nxt_ne (c : Fin 16) : nxt c ≠ c := by revert c; decide
theorem prv_ne (c : Fin 16) : prv c ≠ c := by revert c; decide
theorem from_nxt (c p : Fin 16) : c = nxt p ↔ p = prv c := by
  constructor
  · rintro rfl; exact (prv_nxt p).symm
  · rintro rfl; exact (nxt_prv c).symm
theorem from_prv (c p : Fin 16) : c = prv p ↔ p = nxt c := by
  constructor
  · rintro rfl; exact (nxt_prv p).symm
  · rintro rfl; exact (prv_nxt c).symm

/-- What a device hands over at the other barriers; -/
theorem paid (c : Dev nD) : (bigSep (Finset.Ico 1 16) fun o => barPay (F := F) (pl c o) c)
    = iprop((bigSep (Finset.Ico 1 16) fun o => room c (pl c o)) ∗ gift slM dC (prv c) ∗ gift slM dN (nxt c)) := by
  unfold barPay
  rw [bigSep_sep', bigSep_sep',
    single c (prv c) (prv_ne c) (fun p => c = nxt p) (from_nxt c) (fun p => gift slM dC p),
    single c (nxt c) (nxt_ne c) (fun p => c = prv p) (from_prv c) (fun p => gift slM dN p)]

/-- and what it is handed at its own. -/
theorem got (c : Dev nD) : (bigSep (Finset.Ico 1 16) fun o => barPay (F := F) c (pl c o))
    = iprop((bigSep (Finset.Ico 1 16) fun o => room (pl c o) c) ∗ gift slM dC c ∗ gift slM dN c) := by
  unfold barPay
  rw [bigSep_sep', bigSep_sep',
    single c (nxt c) (nxt_ne c) (fun p => p = nxt c) (fun p => Iff.rfl) (fun p => gift slM dC c),
    single c (prv c) (prv_ne c) (fun p => p = prv c) (fun p => Iff.rfl) (fun p => gift slM dN c)]

variable (J : Dev nD → Inp F) (K : Dev nD × Fin 153 → ℕ) (c : Dev nD)

/-- The device before the barrier, the first devices signalled. -/
def SO (s : ℕ) (X : sProp (MT nD τ sig Unit (Elt F) ℕ UU ℕ)) : sProp 𝕄 :=
  iprop(II J K ∗ (∃ W, (owes (c : Thread nD τ) (O₂ c + aowed c 1 + bowed c s) W : sProp 𝕄))
    ∗ (bigSep (Finset.Ico s 16) fun o => iprop(dutyTok ER (barCell (pl c o)) 0 (c : Fin 16) ∗ barPay (pl c o) c)) ∗ X)

/-- The tokens with which the blocks are sent. -/
def sendTok : sProp 𝕄 :=
  bigSep (Finset.Ico 1 16) fun o => iprop(dutyTok ER (gone c (pl c o)) 0 (0 : Fin 16) ∗ dutyTok ER (came (pl c o) c) 0 (0 : Fin 16))

/-- Where the device stands at the cells of no copy, and at its barrier. -/
def posts : sProp 𝕄 :=
  iprop(atPos ER (barCell c) 0 (∅ : Finset (Fin 16)) 0 ∗ cred (tallyAt (barCell c) () 15)
    ∗ atPos ER (gone c c) 0 (∅ : Finset (Fin 16)) 0 ∗ atPos ER (came c c) 0 (∅ : Finset (Fin 16)) 0)

/-- These once closed. -/
def shut : sProp 𝕄 := iprop(semVal (barCell c) 0 ∗ semVal (gone c c) 0 ∗ semVal (came c c) 0)

variable (fk : KV F) (kf : KO F) (vf : VO F) (qf : QO F)

/-- What else is given of the copies and the buffers. -/
def given : sProp 𝕄 :=
  iprop((linear dC c ∗ linear dN c) ∗ Outs c kf vf qf ∗ (((c : Thread nD τ).loc cc0_scratch3) ↦{fullShare} fk)
    ∗ (bigSep (Finset.Ico 1 16) fun n => iprop(atPos ER (came c (ord c n)) 0 (∅ : Finset (Fin 16)) 0 ∗ cred (tallyAt (came c (ord c n)) () NW)))
    ∗ (bigSep (Finset.Ico 1 16) fun o => atPos ER (gone c (pl c o)) 0 (∅ : Finset (Fin 16)) 0))

/-- What a device starts from. -/
def opening : sProp 𝕄 :=
  iprop(II J K ∗ (∃ W, (owes (c : Thread nD τ) (O₀ c) W : sProp 𝕄))
    ∗ (bigSep (Finset.Ico 1 16) fun o => dutyTok ER (barCell (pl c o)) 0 (c : Fin 16))
    ∗ sendTok c ∗ posts c ∗ given c fk kf vf qf ∗ Ins (J c) c
    ∗ (∃ f, slM.view.loc (c : Thread nD τ) ↦[slM.view.set]{fullShare} f)
    ∗ (∃ f, stM.view.loc (c : Thread nD τ) ↦[Finset.univ]{fullShare} f)
    ∗ (∃ f, wrM.view.loc (c : Thread nD τ) ↦[Finset.univ]{fullShare} f))

/-- What is kept through the barrier. -/
def through (f : stM.view.ty.Contents (Elt F)) : sProp 𝕄 :=
  iprop(sendTok c ∗ posts c ∗ given c fk kf vf qf ∗ Ins (J c) c
    ∗ (∃ f : slM.view.ty.Contents (Elt F), slotPts slM c c fullShare f) ∗ (stM.view.loc (c : Thread nD τ) ↦[Finset.univ]{fullShare} f) ∗ room c c)

variable {J K c fk kf vf qf}
variable {α : Type} {Q : α → sProp (MT nD τ sig Unit (Elt F) ℕ UU ℕ)} {R : sProp (MT nD τ sig Unit (Elt F) ℕ UU ℕ)}
  {f : stM.view.ty.Contents (Elt F)} {s : ℕ} {k : PUnit → Prog (TpuEff nD τ sig (Elt F) Λ₀ .tc) α}

theorem wr_slots (c : Dev nD) (g : wrM.view.ty.Contents (Elt F)) :
    (wrM.view.loc (c : Thread nD τ) ↦[Finset.univ]{fullShare} g : sProp 𝕄) = bigSep Finset.univ fun k => wpts wrM c k g := by
  rw [← slots_all wrM c g, wr_set]

theorem rooms_all (c : Dev nD) (g : wrM.view.ty.Contents (Elt F)) :
    (wrM.view.loc (c : Thread nD τ) ↦[Finset.univ]{fullShare} g : sProp 𝕄) ⊢ iprop(room c c ∗ bigSep (Finset.Ico 1 16) fun o => room c (pl c o)) := by
  rw [wr_slots, around c, first_on, pl_zero]
  have hw (p : Fin 16) : wpts wrM c p g ⊢ (room c p : sProp 𝕄) := by unfold room; iintro H; iexists g; iexact H
  have h : (bigSep (Finset.Ico 1 16) fun o => (wpts wrM c (pl c o) g : sProp 𝕄)) ⊢ bigSep (Finset.Ico 1 16) fun o => room c (pl c o) :=
    bigSep_mono fun o _ => hw _
  iintro ⟨H0, H⟩
  isplitl [H0]
  · unfold room; iexists g; iexact H0
  iapply h; iexact H

/-- The device comes to the barrier. -/
theorem openPrep {G : sProp (MT nD τ sig Unit (Elt F) ℕ UU ℕ)} (h : ∀ f, SO J K c 1 (through J c fk kf vf qf f) ⊢ G) :
    opening J K c fk kf vf qf ⊢ G := by
  unfold opening
  iintro ⟨HI, HO, Ht, Hst, Hp, Hg, HIn, ⟨%f, Hs⟩, ⟨%f1, H1⟩, ⟨%f2, H2⟩⟩
  ihave H := (handOut slM (fun m => dsem (42 + m)) (fun m => dsem (74 + m)) (fun m => dsem (106 + m)) (fun m => dsem (134 + m)) c f) $$ Hs
  icases H with ⟨Hs, HgC, HgN⟩
  ihave H := (rooms_all c f2) $$ H2
  icases H with ⟨H2, Hrooms⟩
  iapply (h f1)
  unfold SO through
  rw [bigSep_sep', paid]
  isplitl [HI]; · iexact HI
  isplitl [HO]; · iexact HO
  isplitl [Ht Hrooms HgC HgN]
  · isplitl [Ht]; · iexact Ht
    isplitl [Hrooms]; · iexact Hrooms
    isplitl [HgC]; · iexact HgC
    iexact HgN
  isplitl [Hst]; · iexact Hst
  isplitl [Hp]; · iexact Hp
  isplitl [Hg]; · iexact Hg
  isplitl [HIn]; · iexact HIn
  isplitl [Hs]; · iexists f; iexact Hs
  isplitl [H1]; · iexact H1
  iexact H2

/-- A device is signalled. -/
theorem signal (h1 : 1 ≤ s) (h2 : s < 16) {n : Dev nD} (hn : n = pl c s)
    (h : SO J K c (s + 1) R ⊢ go c (k ⟨⟩) Q) : SO J K c s R ⊢ go c (semSignalWord n barS 1#32 >>= k) Q := by
  subst hn
  simp only [go, Dir.run, semSignalWord, Prog.lift, Prog.bind_op, Prog.bind_ret, Prog.pure_eq_ret] at h ⊢
  have hb : (c : Fin 16) ∈ (rd (F := F) J).duties (barCell (pl c s)) 0 := by
    rw [duties_bar]; exact Finset.mem_erase.mpr ⟨(pl_ne c h1 h2).symm, Finset.mem_univ _⟩
  have hp : barPay (pl c s) c ⊢ (rd (F := F) J).payload (barCell (pl c s)) 0 c := BIBase.Entails.of_eq rfl
  unfold SO
  rw [bigSep_Ico_succ_bot h2]
  iintro ⟨#HI, ⟨%W, HO⟩, ⟨⟨Ht, Hp⟩, Hrest⟩, HR⟩
  ihave H := (rec_bar J K (pl c s)) $$ HI
  icases H with ⟨%κ, #Hb, #Hr⟩
  iapply (Rounds.wp_signal 𝒱₀ ER (rd J) (c : Thread nD τ) none (dst := (pl c s : Thread nD τ)) (κ := κ)
      (d := c) hb (show 1 = _ from rfl) () (O₀ := O₂ c + aowed c 1 + bowed c s) (O₂ c + aowed c 1 + bowed c (s + 1)) (by rw [bowed_step h2, ← add_assoc])) $$ [HO Ht Hp]
  · isplitr; · iexact Hb
    isplitl [HO]; · iexact HO
    isplitl [Ht]; · iexact Ht
    isplitl [Hp]; · iapply hp; iexact Hp
    iexact Hr
  iintro HO
  iapply h
  unfold SO
  isplitr; · iexact HI
  isplitl [HO]; · iexists _; iexact HO
  isplitl [Hrest]; · iexact Hrest
  iexact HR

/-- The device passes its barrier. -/
theorem waitBar (h : SA J K c 1 (X1 J c f 0 iprop(post c
      ∗ (∃ f : slM.view.ty.Contents (Elt F), slotPts slM c c fullShare f) ∗ rest c fk kf vf qf (shut c))) ⊢ go c (k ⟨⟩) Q) :
    SO J K c 16 (through J c fk kf vf qf f) ⊢ go c (semWaitWord barS 15#32 >>= k) Q := by
  simp only [go, Dir.run, semWaitWord, Prog.lift, Prog.bind_op, Prog.bind_ret, Prog.pure_eq_ret] at h ⊢
  unfold SO through posts given
  rw [bowed_end, add_zero]
  iintro ⟨#HI, ⟨%W, HO⟩, -, Hst, ⟨Hat, Hcr, Hag, Hac⟩, ⟨⟨HC, HN⟩, Hou, Hkv, HA, HD⟩, HIn, Hs, H1, H2⟩
  ihave H := (rec_bar J K c) $$ HI
  icases H with ⟨%κ, #Hb, -⟩
  ihave H := (rec_gone J K c c) $$ HI
  icases H with ⟨%κg, #Hbg, -⟩
  ihave H := (rec_came J K c c) $$ HI
  icases H with ⟨%κc, #Hbc, -⟩
  iapply (Rounds.wp_wait_rest_token 𝒱₀ ER (rd J) (c : Thread nD τ) none (κ := κ)
      (wpE_semWait_eq 𝒱₀ (c : Thread nD τ) none Set.univ) (Set.mem_univ _) () (O := O₂ c + aowed c 1) (W := W) (R := 0) (m := 0) (T := ∅)
      (by rw [expect_bar]; decide)) $$ [Hcr HO Hat]
  · isplitr; · iexact Hb
    isplitl [Hcr]; · iexact Hcr
    isplitl [HO]; · iexact HO
    isplitr; · iapply (mayWait_bar c); iapply (II_lev J K); iexact HI
    iexact Hat
  iintro ⟨HO, Hat, -, Hpay⟩
  ihave Hp := (BIBase.Entails.of_eq ((rest_bar J c).trans (got c))) $$ Hpay
  icases Hp with ⟨Hrooms, HgC, HgN⟩
  imod (Rounds.cell_close ER (rd J) (Set.mem_univ κ) (fun h => h) (R := 0 + 1) (duties_later J (barCell c))) $$ [Hat] with Hz
  · isplitr; · iexact Hb
    iexact Hat
  imod (Rounds.cell_close ER (rd J) (Set.mem_univ κg) (fun h => h) (R := 0) (duties_own J c).1) $$ [Hag] with Hzg
  · isplitr; · iexact Hbg
    iexact Hag
  imod (Rounds.cell_close ER (rd J) (Set.mem_univ κc) (fun h => h) (R := 0) (duties_own J c).2) $$ [Hac] with Hzc
  · isplitr; · iexact Hbc
    iexact Hac
  iapply h
  unfold SA X1 post rest shut sendTok
  rw [fl_zero]
  isplitr; · iexact HI
  isplitl [HO]; · iexists _; iexact HO
  isplitl [HIn]; · iexact HIn
  isplitl [H1]; · iexact H1
  isplitl [H2]; · iexact H2
  isplitl [Hst Hrooms]
  · isplitl [Hst]; · iexact Hst
    iexact Hrooms
  isplitl [Hs]; · iexact Hs
  isplitl [HC HN HgC HgN]
  · isplitl [HC]; · iexact HC
    isplitl [HN]; · iexact HN
    isplitl [HgC]; · iexact HgC
    iexact HgN
  isplitl [Hou]; · iexact Hou
  isplitl [Hkv]; · iexact Hkv
  isplitl [HA]; · iexact HA
  isplitl [HD]; · iexact HD
  isplitl [Hz]; · iexact Hz
  isplitl [Hzg]; · iexact Hzg
  iexact Hzc

end Cert.PrepProof
-- ==== Proof.PrepDeal.lean ====
/-
  What the launch of the preparation deals to every device: the invariants of all cells, the positions and the
  tokens of the duties each device pays, and the credit of its waits.
-/
module

public import proofs.«01_k».proof.Proof.PrepOpen

@[expose] public section

set_option maxRecDepth 20000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores of a device, sorted -/

/-- A separating product over a range, counted from zero. -/
theorem shift (B : ℕ → sProp (MT nD τ sig Unit (Elt F) ℕ UU ℕ)) (a n : ℕ) :
    (bigSep (Finset.Ico a (a + n)) B : sProp 𝕄) = bigSep (Finset.Ico 0 n) fun m => B (a + m) := by
  have e : Finset.Ico a (a + n) = (Finset.Ico 0 n).map (addLeftEmbedding a) := by
    ext x
    rw [Finset.mem_map]
    constructor
    · intro hx
      have h := Finset.mem_Ico.mp hx
      exact ⟨x - a, Finset.mem_Ico.mpr ⟨by omega, by omega⟩, by show a + (x - a) = x; omega⟩
    · rintro ⟨y, hy, rfl⟩
      have h := Finset.mem_Ico.mp hy
      exact Finset.mem_Ico.mpr ⟨by show a ≤ a + y; omega, by show a + y < a + n; omega⟩
  rw [e, bigSep_map]; rfl

/-- A separating product over the first numbers. -/
theorem overFin (n : ℕ) (B : ℕ → sProp (MT nD τ sig Unit (Elt F) ℕ UU ℕ)) :
    (bigSep Finset.univ (fun k : Fin n => B k.val) : sProp 𝕄) = bigSep (Finset.Ico 0 n) B := by
  have e : Finset.Ico 0 n = (Finset.univ : Finset (Fin n)).map Fin.valEmbedding := by
    ext x
    rw [Finset.mem_map]
    constructor
    · intro hx
      exact ⟨⟨x, (Finset.mem_Ico.mp hx).2⟩, Finset.mem_univ _, rfl⟩
    · rintro ⟨y, -, rfl⟩
      exact Finset.mem_Ico.mpr ⟨Nat.zero_le _, y.isLt⟩
  rw [e, bigSep_map]; rfl

/-- The copies' semaphores: of the exchange those departing and those arriving, then departures and arrivals of
    the ring's two directions. -/
def sixKinds (A : SemLoc sig → sProp (MT nD τ sig Unit (Elt F) ℕ UU ℕ)) : sProp 𝕄 :=
  iprop((bigSep Finset.univ fun k : Fin 16 => A (.dma (dsem (10 + k.val)))) ∗ (bigSep Finset.univ fun k : Fin 16 => A (.dma (dsem (26 + k.val))))
    ∗ (bigSep (Finset.Ico 0 32) fun m => A (.dma (dsem (42 + m)))) ∗ (bigSep (Finset.Ico 0 32) fun m => A (.dma (dsem (74 + m))))
    ∗ (bigSep (Finset.Ico 0 28) fun m => A (.dma (dsem (106 + m)))) ∗ (bigSep (Finset.Ico 0 28) fun m => A (.dma (dsem (134 + m)))))

theorem kinds_eq (A : SemLoc sig → sProp (MT nD τ sig Unit (Elt F) ℕ UU ℕ)) :
    (bigSep (Finset.Ico 0 152) fun m => A (.dma (dsem (10 + m)))) = sixKinds A := by
  unfold sixKinds
  rw [bigSep_part (show 0 ≤ 16 by decide) (show 16 ≤ 152 by decide), bigSep_part (show 16 ≤ 32 by decide) (show 32 ≤ 152 by decide),
    bigSep_part (show 32 ≤ 64 by decide) (show 64 ≤ 152 by decide), bigSep_part (show 64 ≤ 96 by decide) (show 96 ≤ 152 by decide),
    bigSep_part (show 96 ≤ 124 by decide) (show 124 ≤ 152 by decide),
    show (bigSep (Finset.Ico 16 32) fun m => A (.dma (dsem (10 + m)))) = _ from shift _ 16 16,
    show (bigSep (Finset.Ico 32 64) fun m => A (.dma (dsem (10 + m)))) = _ from shift _ 32 32,
    show (bigSep (Finset.Ico 64 96) fun m => A (.dma (dsem (10 + m)))) = _ from shift _ 64 32,
    show (bigSep (Finset.Ico 96 124) fun m => A (.dma (dsem (10 + m)))) = _ from shift _ 96 28,
    show (bigSep (Finset.Ico 124 152) fun m => A (.dma (dsem (10 + m)))) = _ from shift _ 124 28,
    ← overFin 16 (fun m => A (.dma (dsem (10 + m)))), ← overFin 16 (fun m => A (.dma (dsem (10 + (16 + m)))))]
  simp only [← Nat.add_assoc]

/-- All of a device's semaphores: the barrier, then the copies'. -/
theorem cells_split (A : SemLoc sig → sProp (MT nD τ sig Unit (Elt F) ℕ UU ℕ)) :
    (bigSep Finset.univ (fun k : Fin 153 => A (csem k)) : sProp 𝕄) = iprop(A (.reg barS) ∗ sixKinds A) := by
  have h := overFin 153 (fun i => A (if i = 0 then .reg barS else .dma (dsem (9 + i))))
  refine h.trans ?_
  rw [bigSep_part (show 0 ≤ 1 by decide) (show 1 ≤ 153 by decide), bigSep_Ico_one, ← kinds_eq,
    show (bigSep (Finset.Ico 1 153) fun i => A (if i = 0 then .reg barS else .dma (dsem (9 + i)))) = _ from shift _ 1 152]
  refine congrArg₂ _ rfl (bigSep_congr fun m _ => ?_)
  rw [if_neg (by omega), ← Nat.add_assoc]

theorem osem_eq (k : Fin 152) : osem k = .dma (dsem (10 + k.val)) := by
  have hk := k.isLt
  unfold osem
  refine congrArg SemLoc.dma (Fin.ext ?_)
  rw [dsem_val (by omega)]

/-- The launch's own semaphores are the copies'. -/
theorem ownSems_split (A : SemLoc sig → sProp (MT nD τ sig Unit (Elt F) ℕ UU ℕ)) :
    (bigSep Finset.univ (fun k : Fin 152 => A (osem k)) : sProp 𝕄) = sixKinds A := by
  rw [← kinds_eq]
  refine Eq.trans (bigSep_congr fun k _ => ?_) (overFin 152 fun m => A (.dma (dsem (10 + m))))
  rw [osem_eq]

theorem ownSems0_eq (c : Dev nD) : (Pipeline.ownSems0 (Ix := Unit) (Name := ℕ) (U := UU) (Lvl := ℕ) (Val := Elt F) (τ := τ) osem c : sProp 𝕄)
    = sixKinds fun s => semVal ((c : Thread nD τ), s) 0 := by
  unfold Pipeline.ownSems0
  exact ownSems_split fun s => semVal ((c : Thread nD τ), s) 0

/-- The barrier is the one semaphore outlasting the launch. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 153 => semVal (kcell (c, k)) 0 : sProp 𝕄) := by
  rw [ownSems0_eq, unscopedSems0_eq, cells_split fun s => semVal ((c : Thread nD τ), s) 0]
  iintro ⟨HA, HB⟩
  isplitl [HB]; · iexact HB
  iexact HA

theorem csem_injective : Function.Injective csem := by
  intro k k' h
  have hk := k.isLt
  have hk' := k'.isLt
  unfold csem at h
  by_cases h0 : k.val = 0 <;> by_cases h0' : k'.val = 0
  · exact Fin.ext (by omega)
  · rw [if_pos h0, if_neg h0'] at h; cases h
  · rw [if_neg h0, if_pos h0'] at h; cases h
  · rw [if_neg h0, if_neg h0'] at h
    have := dsem_inj (by omega) (by omega) (SemLoc.dma.inj h)
    exact Fin.ext (by omega)

theorem kcell_injective : Function.Injective (kcell : Dev nD × Fin 153 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The cells of the preparation, on every device. -/
def allCells : Finset (GSem nD τ sig) := Finset.univ.map ⟨kcell, kcell_injective⟩

theorem osem_injective : Function.Injective osem := by
  intro k k' h
  have hk := k.isLt
  have hk' := k'.isLt
  rw [osem_eq, osem_eq] at h
  have := dsem_inj (by omega) (by omega) (SemLoc.dma.inj h)
  exact Fin.ext (by omega)

/-- The duty of every copy's cell, and the duties of the barriers. -/
def tokA (ck : Dev nD × Fin 152) : GSem nD τ sig × ℕ × Fin 16 := (((ck.1 : Thread nD τ), osem ck.2), 0, 0)
def tokB (cd : Dev nD × Fin 16) : GSem nD τ sig × ℕ × Fin 16 := (barCell cd.1, 0, cd.2)
theorem tokA_injective : Function.Injective tokA := by
  rintro ⟨c, k⟩ ⟨c', k'⟩ h
  have h1 : c = c' := by have := congrArg (fun g : GSem nD τ sig × ℕ × Fin 16 => g.1.1.1) h; exact this
  subst h1
  have h2 : osem k = osem k' := congrArg (fun g : GSem nD τ sig × ℕ × Fin 16 => g.1.2) h
  rw [osem_injective h2]
theorem tokB_injective : Function.Injective tokB := by
  rintro ⟨c, d⟩ ⟨c', d'⟩ h
  have h1 : c = c' := by have := congrArg (fun g : GSem nD τ sig × ℕ × Fin 16 => g.1.1.1) h; exact this
  have h2 : d = d' := congrArg (fun g : GSem nD τ sig × ℕ × Fin 16 => g.2.2) h
  rw [h1, h2]
def toksA : Finset (GSem nD τ sig × ℕ × Fin 16) := Finset.univ.map ⟨tokA, tokA_injective⟩
def toksB : Finset (GSem nD τ sig × ℕ × Fin 16) := Finset.univ.map ⟨tokB, tokB_injective⟩
theorem toks_disj : Disjoint toksA toksB := by
  rw [Finset.disjoint_left]
  intro x hx hx'
  obtain ⟨a, -, rfl⟩ := Finset.mem_map.mp hx
  obtain ⟨b, -, h⟩ := Finset.mem_map.mp hx'
  have h2 : SemLoc.reg barS = osem a.2 := congrArg (fun g : GSem nD τ sig × ℕ × Fin 16 => g.1.2) h
  cases h2

def u₀ : UU :=
  (initOf (Pipeline.cells cfgs cellOf_inj) (Pipeline.launchToks cfgs cellOf_inj), initOf allCells (toksA ∪ toksB))

variable (J : Dev nD → Inp F)

/-- The tokens of a device's own cells. -/
def toks (c : Dev nD) : sProp 𝕄 :=
  iprop((bigSep Finset.univ fun k : Fin 152 => dutyTok ER ((c : Thread nD τ), osem k) 0 (0 : Fin 16))
    ∗ bigSep Finset.univ fun d : Fin 16 => dutyTok ER (barCell c) 0 d)

/-- What each device is given of the ghost state. -/
def G (c : Dev nD) : sProp 𝕄 :=
  iprop((bigSep Finset.univ fun k : Fin 153 => roundState ER (rd J) (kcell (c, k)) 0)
    ∗ (bigSep Finset.univ fun k : Fin 153 => iprop(atPos ER (kcell (c, k)) 0 (∅ : Finset (Fin 16)) 0 ∗ reached ER (kcell (c, k)) 0)) ∗ toks c)

theorem fund_cells : BI.own (ER (initOf allCells (toksA ∪ toksB))) ⊢ (|==> bigSep Finset.univ (G J) : sProp 𝕄) := by
  have hX (Φ : GSem nD τ sig → sProp 𝕄) : bigSep allCells Φ = bigSep Finset.univ fun c : Dev nD => bigSep Finset.univ fun k : Fin 153 => Φ (kcell (c, k)) := by
    unfold allCells; rw [bigSep_map, bigSep_univ_prod]; rfl
  have hT : bigSep (toksA ∪ toksB) (fun x => (dutyTok ER x.1 x.2.1 x.2.2 : sProp 𝕄)) = bigSep Finset.univ fun c : Dev nD => toks c := by
    rw [bigSep_union toks_disj]
    unfold toksA toksB toks
    rw [bigSep_sep', bigSep_map, bigSep_map, bigSep_univ_prod, bigSep_univ_prod]; rfl
  iintro HX
  imod (Rounds.fund ER (rd J) allCells (toksA ∪ toksB)) $$ HX with ⟨Hst, Hr, Hat, Htok⟩
  imodintro
  ihave Hst' := (Entails.of_eq (hX fun x => roundState ER (rd J) x 0)) $$ Hst
  ihave Hat' := (Entails.of_eq (hX fun x => atPos ER x 0 ∅ 0)) $$ Hat
  ihave Hr' := (Entails.of_eq (hX fun x => reached ER x 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G J c)
      ⊢ |={Set.univ}=> iprop((bigSep Finset.univ fun k => iprop(∃ κ : ℕ, cellInv ER (rd J) κ (kcell (c, k))))
          ∗ (bigSep Finset.univ fun k => iprop(atPos ER (kcell (c, k)) 0 (∅ : Finset (Fin 16)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 153 => semVal (kcell (c, k)) 0) ∗ bigSep Finset.univ fun k : Fin 153 => roundState ER (rd J) (kcell (c, k)) 0)
      ⊢ (|={Set.univ}=> bigSep Finset.univ fun k => iprop(∃ κ : ℕ, cellInv ER (rd J) κ (kcell (c, k))) : sProp 𝕄) from by
        rw [← bigSep_sep']
        exact (bigSep_mono fun k _ => (Rounds.body_intro ER (rd J) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks (c : Dev nD) : sProp 𝕄 :=
  iprop((bigSep (Finset.Ico 1 16) fun o => dutyTok ER (barCell (pl c o)) 0 (c : Fin 16)) ∗ sendTok c
    ∗ (bigSep (Finset.Ico 0 32) fun m => dutyTok ER (dC.sCell c m) 0 (0 : Fin 16)) ∗ (bigSep (Finset.Ico 0 32) fun m => dutyTok ER (dC.rCell (nxt c) m) 0 (0 : Fin 16))
    ∗ (bigSep (Finset.Ico 0 28) fun m => dutyTok ER (dN.sCell c m) 0 (0 : Fin 16)) ∗ (bigSep (Finset.Ico 0 28) fun m => dutyTok ER (dN.rCell (prv c) m) 0 (0 : Fin 16)))

def ring : Dev nD ≃ Dev nD := ⟨nxt, prv, prv_nxt, nxt_prv⟩

/-- Of what there is for every two devices, each second device takes its own at the others. -/
theorem crosswise (A : Fin 16 → Fin 16 → sProp (MT nD τ sig Unit (Elt F) ℕ UU ℕ)) :
    (bigSep (Finset.univ : Finset (Fin 16)) fun p => bigSep (Finset.univ : Finset (Fin 16)) fun d => A p d : sProp 𝕄)
      ⊢ bigSep (Finset.univ : Finset (Fin 16)) fun d => bigSep (Finset.Ico 1 16) fun o => A (pl d o) d := by
  have e := bigSep_univ_prod (fun x : Fin 16 × Fin 16 => A x.1 x.2)
  rw [bigSep_univ_equiv (Equiv.prodComm (Fin 16) (Fin 16)), bigSep_univ_prod] at e
  refine (Entails.of_eq e.symm).trans (bigSep_mono fun d _ => ?_)
  show (bigSep (Finset.univ : Finset (Fin 16)) fun p => A p d) ⊢ _
  rw [around d, first_on]
  iintro ⟨-, H⟩
  iexact H

/-- Of what there is for every device, a device takes that of the others. -/
theorem offOwn (c : Fin 16) (A : Fin 16 → sProp (MT nD τ sig Unit (Elt F) ℕ UU ℕ)) :
    (bigSep (Finset.univ : Finset (Fin 16)) A : sProp 𝕄) = iprop(A c ∗ bigSep (Finset.Ico 1 16) fun o => A (pl c o)) := by
  rw [around c, first_on, pl_zero]

theorem sep_drop {A B : sProp (MT nD τ sig Unit (Elt F) ℕ UU ℕ)} : iprop(A ∗ B) ⊢ B := by
  iintro ⟨-, H⟩
  iexact H

/-- The tokens dealt to those who pay: a barrier's to all others, an arrival's to the sender. -/
theorem toks_around : (bigSep Finset.univ fun c : Dev nD => (toks c : sProp 𝕄)) ⊢ bigSep Finset.univ fun c : Dev nD => payToks c := by
  have e (c : Dev nD) : (toks c : sProp 𝕄) = iprop(((bigSep Finset.univ fun k : Fin 16 => dutyTok ER (gone c k) 0 (0 : Fin 16))
      ∗ (bigSep Finset.univ fun k : Fin 16 => dutyTok ER (came c k) 0 (0 : Fin 16))
      ∗ (bigSep (Finset.Ico 0 32) fun m => dutyTok ER (dC.sCell c m) 0 (0 : Fin 16)) ∗ (bigSep (Finset.Ico 0 32) fun m => dutyTok ER (dC.rCell c m) 0 (0 : Fin 16))
      ∗ (bigSep (Finset.Ico 0 28) fun m => dutyTok ER (dN.sCell c m) 0 (0 : Fin 16)) ∗ (bigSep (Finset.Ico 0 28) fun m => dutyTok ER (dN.rCell c m) 0 (0 : Fin 16)))
      ∗ bigSep Finset.univ fun d : Fin 16 => dutyTok ER (barCell c) 0 d) := by
    unfold toks
    rw [show (bigSep Finset.univ fun k : Fin 152 => (dutyTok ER ((c : Thread nD τ), osem k) 0 (0 : Fin 16) : sProp 𝕄)) = _ from
      ownSems_split fun s => dutyTok ER ((c : Thread nD τ), s) 0 (0 : Fin 16)]
    rfl
  have hg : (bigSep Finset.univ fun c : Dev nD => bigSep Finset.univ fun k : Fin 16 => (dutyTok ER (gone c k) 0 (0 : Fin 16) : sProp 𝕄))
      ⊢ bigSep Finset.univ fun c : Dev nD => bigSep (Finset.Ico 1 16) fun o => dutyTok ER (gone c (pl c o)) 0 (0 : Fin 16) :=
    bigSep_mono fun c _ => (Entails.of_eq (offOwn c _)).trans sep_drop
  rw [bigSep_congr fun c _ => e c]
  unfold payToks sendTok
  simp only [bigSep_sep']
  rw [bigSep_univ_equiv ring (fun c : Dev nD => (bigSep (Finset.Ico 0 32) fun m => dutyTok ER (dC.rCell c m) 0 (0 : Fin 16) : sProp 𝕄)),
    bigSep_univ_equiv ring.symm (fun c : Dev nD => (bigSep (Finset.Ico 0 28) fun m => dutyTok ER (dN.rCell c m) 0 (0 : Fin 16) : sProp 𝕄))]
  iintro ⟨⟨HG, HA, HCs, HCr, HNs, HNr⟩, HB⟩
  isplitl [HB]; · iapply (crosswise (F := F) fun p d => dutyTok ER (barCell p) 0 d); iexact HB
  isplitl [HG HA]
  · isplitl [HG]; · iapply hg; iexact HG
    iapply (crosswise (F := F) fun p d => dutyTok ER (came p d) 0 (0 : Fin 16)); iexact HA
  isplitl [HCs]; · iexact HCs
  isplitl [HCr]; · iexact HCr
  isplitl [HNs]; · iexact HNs
  iexact HNr

/-- What stays with a device: its positions and the tokens it pays with. -/
def held (c : Dev nD) : sProp 𝕄 :=
  iprop((bigSep Finset.univ fun k : Fin 153 => atPos ER (kcell (c, k)) 0 (∅ : Finset (Fin 16)) 0) ∗ payToks c)

/-- What a device has when all cells are shared. -/
def G' (c : Dev nD) : sProp 𝕄 := iprop(∃ K, records J K ∗ held c)

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : (iprop(R ∗ bigSep S Φ) : sProp 𝕄) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd J) κ (kcell (c, k))))
          ∗ (bigSep Finset.univ fun k => iprop(atPos ER (kcell (c, k)) 0 (∅ : Finset (Fin 16)) 0 ∗ reached ER (kcell (c, k)) 0)) ∗ toks c) : sProp 𝕄)
      ⊢ bigSep Finset.univ (G' J) := by
  rw [bigSep_sep', bigSep_sep', ← bigSep_univ_prod (fun ck : Dev nD × Fin 153 => iprop(∃ κ : ℕ, cellInv ER (rd J) κ (kcell ck))),
    bigSep_congr (s := Finset.univ) (fun (c : Dev nD) _ => bigSep_sep' Finset.univ (fun k : Fin 153 => (atPos ER (kcell (c, k)) 0 ∅ 0 : sProp 𝕄)) (fun k => reached ER (kcell (c, k)) 0)),
    bigSep_sep', ← bigSep_univ_prod (fun ck : Dev nD × Fin 153 => (reached ER (kcell ck) 0 : sProp 𝕄))]
  iintro ⟨HI, ⟨Hat, #HR⟩, Htok⟩
  ihave HK := (BI.bigSep_exists_pi Finset.univ (fun (ck : Dev nD × Fin 153) (κ : ℕ) => (cellInv ER (rd J) κ (kcell ck) : sProp 𝕄))) $$ HI
  icases HK with ⟨%K, #HI⟩
  ihave Htk := (toks_around (F := F)) $$ Htok
  have hG (c : Dev nD) : iprop(records J K ∗ held c) ⊢ G' J c := by
    unfold G'; iintro H; iexists K; iexact H
  iapply (bigSep_with_persistent (R := records J K) fun c _ => hG c)
  isplitr
  · unfold records; isplitl; · iexact HI
    iexact HR
  · unfold held
    rw [bigSep_sep']
    isplitl [Hat]; · iexact Hat
    iexact Htk

/-- All semaphores of all devices shared at once. -/
theorem glob : (bigSep Finset.univ fun c => iprop(Pipeline.ownSems0 (Ix := Unit) (Name := ℕ) (U := UU) (Lvl := ℕ) (Val := Elt F) (τ := τ) osem c ∗ unscopedSems0 c ∗ G J c) : sProp 𝕄)
    ⊢ |={Set.univ}=> bigSep Finset.univ (G' J) :=
  ((bigSep_mono fun c _ => core_alloc J c).trans (bigSep_fupd _ _)).trans (BI.fupd_mono (regroup J))

/-- The numbering of the slots meets every device once. -/
theorem ordered (c : Fin 16) (A : Fin 16 → sProp (MT nD τ sig Unit (Elt F) ℕ UU ℕ)) :
    (bigSep (Finset.univ : Finset (Fin 16)) A : sProp 𝕄) = iprop(A c ∗ bigSep (Finset.Ico 1 16) fun n => A (ord c n)) := by
  have hb : Function.Bijective fun i : Fin 16 => ord c i.val :=
    Finite.injective_iff_bijective.mp ((by decide +kernel : ∀ c : Fin 16, Function.Injective fun i : Fin 16 => ord c i.val) c)
  rw [bigSep_univ_equiv (Equiv.ofBijective _ hb) A]
  refine (overFin 16 fun n => A (ord c n)).trans ?_
  rw [first_on, ord_zero]

/-- The positions and the tokens, sorted by what they are for. -/
theorem held_sort (c : Dev nD) :
    (held c : sProp 𝕄) ⊢ iprop((bigSep (Finset.Ico 1 16) fun o => dutyTok ER (barCell (pl c o)) 0 (c : Fin 16)) ∗ sendTok c
      ∗ (atPos ER (barCell c) 0 (∅ : Finset (Fin 16)) 0 ∗ atPos ER (gone c c) 0 (∅ : Finset (Fin 16)) 0 ∗ atPos ER (came c c) 0 (∅ : Finset (Fin 16)) 0)
      ∗ (bigSep (Finset.Ico 1 16) fun n => atPos ER (came c (ord c n)) 0 (∅ : Finset (Fin 16)) 0)
      ∗ (bigSep (Finset.Ico 1 16) fun o => atPos ER (gone c (pl c o)) 0 (∅ : Finset (Fin 16)) 0)
      ∗ ((bigSep (Finset.Ico 0 32) fun m => atPos ER (dC.rCell c m) 0 (∅ : Finset (Fin 16)) 0)
        ∗ (bigSep (Finset.Ico 0 32) fun m => iprop(dutyTok ER (dC.sCell c m) 0 (0 : Fin 16) ∗ dutyTok ER (dC.rCell (nxt c) m) 0 (0 : Fin 16)))
        ∗ (bigSep (Finset.Ico 0 32) fun m => atPos ER (dC.sCell c m) 0 (∅ : Finset (Fin 16)) 0))
      ∗ ((bigSep (Finset.Ico 0 28) fun m => atPos ER (dN.rCell c m) 0 (∅ : Finset (Fin 16)) 0)
        ∗ (bigSep (Finset.Ico 0 28) fun m => iprop(dutyTok ER (dN.sCell c m) 0 (0 : Fin 16) ∗ dutyTok ER (dN.rCell (prv c) m) 0 (0 : Fin 16)))
        ∗ (bigSep (Finset.Ico 0 28) fun m => atPos ER (dN.sCell c m) 0 (∅ : Finset (Fin 16)) 0))) := by
  unfold held payToks
  rw [show (bigSep Finset.univ fun k : Fin 153 => (atPos ER (kcell (c, k)) 0 (∅ : Finset (Fin 16)) 0 : sProp 𝕄)) = _ from
    cells_split fun s => atPos ER ((c : Thread nD τ), s) 0 (∅ : Finset (Fin 16)) 0, bigSep_sep', bigSep_sep']
  unfold sixKinds
  rw [offOwn c fun k => (atPos ER (gone c k) 0 (∅ : Finset (Fin 16)) 0 : sProp 𝕄), ordered c fun k => (atPos ER (came c k) 0 (∅ : Finset (Fin 16)) 0 : sProp 𝕄)]
  iintro ⟨⟨HB, ⟨HG0, HG⟩, ⟨HA0, HA⟩, HCs, HCr, HNs, HNr⟩, HTB, HTS, HTCs, HTCr, HTNs, HTNr⟩
  isplitl [HTB]; · iexact HTB
  isplitl [HTS]; · iexact HTS
  isplitl [HB HG0 HA0]
  · isplitl [HB]; · iexact HB
    isplitl [HG0]; · iexact HG0
    iexact HA0
  isplitl [HA]; · iexact HA
  isplitl [HG]; · iexact HG
  isplitl [HCs HCr HTCs HTCr]
  · isplitl [HCr]; · iexact HCr
    isplitl [HTCs HTCr]
    · isplitl [HTCs]; · iexact HTCs
      iexact HTCr
    iexact HCs
  isplitl [HNr]; · iexact HNr
  isplitl [HTNs HTNr]
  · isplitl [HTNs]; · iexact HTNs
    iexact HTNr
  iexact HNs

/-! ## The credit of the waits -/

theorem owed_at (D : Dir 16 sig) (d : Dev nD) (x : GSem nD τ sig) :
    D.owed τ slM d 0 x () = ∑ m ∈ Finset.Ico 0 D.n, if x = D.rCell (D.nx d) m then NN else 0 := by
  unfold Dir.owed
  rw [Finset.sum_apply, Finsupp.finset_sum_apply]
  refine Finset.sum_congr rfl fun m _ => ?_
  rw [tallyAt_apply]
  by_cases h : x = D.rCell (D.nx d) m
  · rw [if_pos ⟨h, rfl⟩, if_pos h]
  · rw [if_neg (fun h' => h h'.1), if_neg h]

theorem owed_none (D : Dir 16 sig) (d : Dev nD) (x : GSem nD τ sig) (h : ∀ m < D.n, x ≠ D.rCell (D.nx d) m) : D.owed τ slM d 0 x () = 0 := by
  rw [owed_at]
  exact Finset.sum_eq_zero fun m hm => if_neg (h m (Finset.mem_Ico.mp hm).2)

theorem owed_one (D : Dir 16 sig) (hinj : ∀ a < D.n, ∀ b < D.n, D.R a = D.R b → a = b) (d c : Dev nD) (m : ℕ) (hm : m < D.n) :
    D.owed τ slM d 0 (D.rCell c m) () = if D.nx d = c then NN else 0 := by
  by_cases h : D.nx d = c
  · subst h
    rw [owed_at, if_pos rfl, Finset.sum_eq_single m]
    · exact if_pos rfl
    · intro b hb hne
      exact if_neg fun h => hne (hinj b (Finset.mem_Ico.mp hb).2 m hm (SemLoc.dma.inj (congrArg Prod.snd h)).symm)
    · intro h; exact absurd (Finset.mem_Ico.mpr ⟨Nat.zero_le _, hm⟩) h
  · rw [if_neg h]
    exact owed_none D d _ fun m' _ h' => h (congrArg (fun g : GSem nD τ sig => g.1.1) h').symm

theorem nxt_eq (d c : Dev nD) : (nxt d = c) = (d = prv c) :=
  propext ⟨fun h => by rw [← h, prv_nxt], fun h => by rw [h, nxt_prv]⟩
theorem prv_eq (d c : Dev nD) : (prv d = c) = (d = nxt c) :=
  propext ⟨fun h => by rw [← h, nxt_prv], fun h => by rw [h, prv_nxt]⟩

/-- What is owed at a copy's cell, summed over offsets, and at a barrier. -/
theorem sum_at (B : ℕ → GSem nD τ sig) (n : ℕ) (x : GSem nD τ sig) :
    (∑ o ∈ Finset.Ico 1 16, tallyAt (B o) () n : CellTallies nD τ sig Unit) x () = ∑ o ∈ Finset.Ico 1 16, if x = B o then n else 0 := by
  rw [Finset.sum_apply, Finsupp.finset_sum_apply]
  refine Finset.sum_congr rfl fun o _ => ?_
  rw [tallyAt_apply]
  by_cases h : x = B o
  · rw [if_pos ⟨h, rfl⟩, if_pos h]
  · rw [if_neg (fun h' => h h'.1), if_neg h]

theorem sum_none (B : ℕ → GSem nD τ sig) (n : ℕ) (x : GSem nD τ sig) (h : ∀ o, x ≠ B o) :
    (∑ o ∈ Finset.Ico 1 16, tallyAt (B o) () n : CellTallies nD τ sig Unit) x () = 0 := by
  rw [sum_at]; exact Finset.sum_eq_zero fun o _ => if_neg (h o)

/-- Every other device is met once. -/
theorem met_once (d c : Fin 16) (n : ℕ) : (∑ o ∈ Finset.Ico 1 16, if pl d o = c then n else 0) = if d = c then 0 else n := by
  have h : (∑ o ∈ Finset.Ico 1 16, if pl d o = c then 1 else 0) = if d = c then 0 else 1 := by
    revert d c; decide +kernel
  have e : (∑ o ∈ Finset.Ico 1 16, if pl d o = c then n else 0) = (∑ o ∈ Finset.Ico 1 16, if pl d o = c then 1 else 0) * n := by
    rw [Finset.sum_mul]
    refine Finset.sum_congr rfl fun o _ => ?_
    split
    · exact (Nat.one_mul n).symm
    · exact (Nat.zero_mul n).symm
  rw [e, h]
  split
  · exact Nat.zero_mul n
  · exact Nat.one_mul n

theorem O₀_apply (d : Dev nD) (x : GSem nD τ sig) : O₀ d x () = dC.owed τ slM d 0 x () + dN.owed τ slM d 0 x () + aowed d 1 x () + bowed d 1 x () := rfl

theorem bowed_dma (d c : Dev nD) (q : DmaSem sig) : bowed d 1 ((c : Thread nD τ), .dma q) () = 0 :=
  sum_none _ _ _ fun o h => by have := congrArg Prod.snd h; cases this

theorem aowed_high (d c : Dev nD) {i : ℕ} (h3 : 42 ≤ i) (hi : i < 162) : aowed d 1 ((c : Thread nD τ), .dma (dsem i)) () = 0 :=
  sum_none _ _ _ fun o h => by
    have : d.val < 16 := d.isLt
    have := dsem_inj (by omega) (by omega) (SemLoc.dma.inj (congrArg Prod.snd h) : dsem i = dsem (26 + d.val))
    omega

theorem cell_dev {d c : Dev nD} {a b : SemLoc sig} (h : (((d : Thread nD τ), a) : GSem nD τ sig) = ((c : Thread nD τ), b)) : d = c :=
  congrArg (fun g : GSem nD τ sig => g.1.1) h

theorem owed_bar (d c : Dev nD) : O₀ d (barCell c) () = if d = c then 0 else 1 := by
  have ha : aowed d 1 (barCell c) () = 0 := sum_none _ _ _ fun o h => by have := congrArg Prod.snd h; cases this
  have hb : bowed d 1 (barCell c) () = if d = c then 0 else 1 := by
    refine Eq.trans ?_ (met_once d c 1)
    refine (sum_at _ _ _).trans (Finset.sum_congr rfl fun o _ => ?_)
    by_cases h : pl d o = c
    · rw [if_pos h, if_pos (by rw [h])]
    · rw [if_neg h, if_neg fun h' => h (cell_dev h').symm]
  rw [O₀_apply, owed_none dC d _ (fun m _ h => by have := congrArg Prod.snd h; cases this),
    owed_none dN d _ (fun m _ h => by have := congrArg Prod.snd h; cases this), ha, hb, Nat.zero_add]

theorem owed_came (d c k : Dev nD) (hk : k ≠ c) : O₀ d (came c k) () = if d = k then NW else 0 := by
  have hk' : k.val < 16 := k.isLt
  have hC : dC.owed τ slM d 0 (came c k) () = 0 := owed_none dC d _ fun m' hm' h => by
    have hm'' : m' < 32 := hm'
    have := dsem_inj (by omega) (by omega) (SemLoc.dma.inj (congrArg Prod.snd h) : dsem (26 + k.val) = dsem (74 + m'))
    omega
  have hN : dN.owed τ slM d 0 (came c k) () = 0 := owed_none dN d _ fun m' hm' h => by
    have hm'' : m' < 28 := hm'
    have := dsem_inj (by omega) (by omega) (SemLoc.dma.inj (congrArg Prod.snd h) : dsem (26 + k.val) = dsem (134 + m'))
    omega
  have ha : aowed d 1 (came c k) () = if d = k then NW else 0 := by
    by_cases hd : d = k
    · subst hd
      rw [if_pos rfl]
      refine Eq.trans ?_ ((met_once d c NW).trans (if_neg hk))
      refine (sum_at _ _ _).trans (Finset.sum_congr rfl fun o _ => ?_)
      by_cases h : pl d o = c
      · rw [if_pos h, if_pos (by rw [h])]
      · rw [if_neg h, if_neg fun h' => h (cell_dev h').symm]
    · rw [if_neg hd]
      refine sum_none _ _ _ fun o h => hd ?_
      have : d.val < 16 := d.isLt
      have := dsem_inj (by omega) (by omega) (SemLoc.dma.inj (congrArg Prod.snd h) : dsem (26 + k.val) = dsem (26 + d.val))
      exact Fin.ext (by omega)
  rw [O₀_apply, hC, hN, ha, bowed_dma, Nat.add_zero, Nat.zero_add]

theorem owed_recvC (d c : Dev nD) (m : ℕ) (hm : m < 32) : O₀ d (dC.rCell c m) () = if d = prv c then NN else 0 := by
  have h2 : dN.owed τ slM d 0 (dC.rCell c m) () = 0 := owed_none dN d _ fun m' hm' h => by
    have hm'' : m' < 28 := hm'
    have := dsem_inj (by omega) (by omega) (SemLoc.dma.inj (congrArg Prod.snd h) : dsem (74 + m) = dsem (134 + m'))
    omega
  have h1 : dC.owed τ slM d 0 (dC.rCell c m) () = if nxt d = c then NN else 0 := owed_one dC (fun a ha b hb h => by
    have ha' : a < 32 := ha
    have hb' : b < 32 := hb
    have := dsem_inj (by omega) (by omega) (h : dsem (74 + a) = dsem (74 + b))
    omega) d c m hm
  have aH := aowed_high d c (i := 74 + m) (by omega) (by omega)
  rw [O₀_apply, h1, h2, show aowed d 1 (dC.rCell c m) () = 0 from aH, show bowed d 1 (dC.rCell c m) () = 0 from bowed_dma d c _, Nat.add_zero]
  simp only [nxt_eq]

theorem owed_recvN (d c : Dev nD) (m : ℕ) (hm : m < 28) : O₀ d (dN.rCell c m) () = if d = nxt c then NN else 0 := by
  have h2 : dC.owed τ slM d 0 (dN.rCell c m) () = 0 := owed_none dC d _ fun m' hm' h => by
    have hm'' : m' < 32 := hm'
    have := dsem_inj (by omega) (by omega) (SemLoc.dma.inj (congrArg Prod.snd h) : dsem (134 + m) = dsem (74 + m'))
    omega
  have h1 : dN.owed τ slM d 0 (dN.rCell c m) () = if prv d = c then NN else 0 := owed_one dN (fun a ha b hb h => by
    have ha' : a < 28 := ha
    have hb' : b < 28 := hb
    have := dsem_inj (by omega) (by omega) (h : dsem (134 + a) = dsem (134 + b))
    omega) d c m hm
  have aH := aowed_high d c (i := 134 + m) (by omega) (by omega)
  rw [O₀_apply, h1, h2, show aowed d 1 (dN.rCell c m) () = 0 from aH, show bowed d 1 (dN.rCell c m) () = 0 from bowed_dma d c _, Nat.add_zero, Nat.zero_add]
  simp only [prv_eq]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_one (x : GSem nD τ sig) (e : Dev nD) (n : ℕ) (h : ∀ d, O₀ d x () = if d = e then n else 0) :
    tallyOn x (launchCredit (Pipeline.owing O₀) 0 x) = (tallyAt x () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

/-- The credit a device waits with. -/
theorem creds (c : Dev nD) :
    (Pipeline.launchCred O₀ c : sProp 𝕄) ⊢ iprop(cred (tallyAt (barCell c) () 15)
      ∗ (bigSep (Finset.Ico 1 16) fun n => cred (tallyAt (came c (ord c n)) () NW))
      ∗ (bigSep (Finset.Ico 0 32) fun m => cred (tallyAt (dC.rCell c m) () NN)) ∗ (bigSep (Finset.Ico 0 28) fun m => cred (tallyAt (dN.rCell c m) () NN))) := by
  have hA : (bigSep (Finset.Ico 1 16) fun n => (cred (tallyOn (came c (ord c n)) (launchCredit (Pipeline.owing O₀) 0 (came c (ord c n)))) : sProp 𝕄))
      = bigSep (Finset.Ico 1 16) fun n => cred (tallyAt (came c (ord c n)) () NW) :=
    bigSep_congr fun n hn => by
      have hne := ord_ne (c := c) (Finset.mem_Ico.mp hn).1 (Finset.mem_Ico.mp hn).2
      rw [launch_one _ (ord c n) NW fun d => owed_came d c (ord c n) hne]
  have hC : (bigSep (Finset.Ico 0 32) fun m => (cred (tallyOn (dC.rCell c m) (launchCredit (Pipeline.owing O₀) 0 (dC.rCell c m))) : sProp 𝕄))
      = bigSep (Finset.Ico 0 32) fun m => cred (tallyAt (dC.rCell c m) () NN) :=
    bigSep_congr fun m hm => by rw [launch_one _ (prv c) NN fun d => owed_recvC d c m (Finset.mem_Ico.mp hm).2]
  have hN : (bigSep (Finset.Ico 0 28) fun m => (cred (tallyOn (dN.rCell c m) (launchCredit (Pipeline.owing O₀) 0 (dN.rCell c m))) : sProp 𝕄))
      = bigSep (Finset.Ico 0 28) fun m => cred (tallyAt (dN.rCell c m) () NN) :=
    bigSep_congr fun m hm => by rw [launch_one _ (nxt c) NN fun d => owed_recvN d c m (Finset.mem_Ico.mp hm).2]
  rw [← hA, ← hC, ← hN, ← launch_bar]
  unfold Pipeline.launchCred
  refine (bigSep_subset (Finset.subset_univ (Finset.univ.map ⟨csem, csem_injective⟩))).trans ?_
  rw [bigSep_map]
  refine (Entails.of_eq (cells_split fun s => (cred (tallyOn ((c : Thread nD τ), s) (launchCredit (Pipeline.owing O₀) 0 ((c : Thread nD τ), s))) : sProp 𝕄))).trans ?_
  unfold sixKinds
  rw [ordered c fun k => (cred (tallyOn (came c k) (launchCredit (Pipeline.owing O₀) 0 (came c k))) : sProp 𝕄)]
  iintro ⟨HB, -, ⟨-, HA⟩, -, HC, -, HN⟩
  isplitl [HB]; · iexact HB
  isplitl [HA]; · iexact HA
  isplitl [HC]; · iexact HC
  iexact HN

end Cert.PrepProof
-- ==== Proof.PrepWalkFirst.lean ====
/-
  The barrier of the preparation, the exchange and the first quarter of the ring at a device.
-/
module

public import proofs.«01_k».proof.Proof.PrepOpen
public import proofs.«01_k».proof.Proof.Gen.PrepareIdeal.Skeleton

@[expose] public section

set_option maxRecDepth 20000
set_option maxHeartbeats 8000000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {J : Dev nD → Inp F} {K : Dev nD × Fin 153 → ℕ} {c : Dev nD}
variable {fk : KV F} {kf : KO F} {vf : VO F} {qf : QO F}

/-- What is kept from the exchange on. -/
def kept (J : Dev nD → Inp F) (c : Dev nD) : sProp (MT nD τ sig Unit (Elt F) ℕ UU ℕ) := iprop(wpts stM c c (tJ (J c)) ∗ shut c)

/-- From the opening to the second slot. -/
theorem walk_first (h0 : xM.IsWhole) (h1 : wdM.IsWhole) (h2 : ukM.IsWhole) (h3 : uvM.IsWhole) (h4 : wqM.IsWhole) (h5 : qrM.IsWhole) (h6 : krM.IsWhole)
    (h7 : koM.IsWhole) (h8 : voM.IsWhole) (h9 : qoM.IsWhole) (h10 : slM.IsWhole) (h11 : stM.IsWhole) (h12 : wrM.IsWhole) (h13 : kvM.IsWhole) :
    opening J K c fk kf vf qf ⊢ go c (k0_part233 (F := F) xM h0 wdM h1 ukM h2 uvM h3 wqM h4 qrM h5 krM h6 koM h7 voM h8 qoM h9 slM h10 stM h11 wrM h12 kvM h13 cc0_scratch4 cc0_scratch5 cc0_scratch6
      cc0_scratch7 cc0_scratch8 cc0_scratch9)
      fun a => iprop(⌜c = a.1 ∧ a.2.2.2.2 = k0_pay51 (J c).x⌝ ∗ SS J K c 4 8 4 8 (XX J c (kept J c) fk kf vf
        ((qoM.access (Rect.unit (s := S1024x160) ![0, 128] S1024x32.size inb_S1024x160_S1024x32_0_128)).write (Elt F)
          ((qoM.access (Rect.unit (s := S1024x160) ![0, 0] S1024x128.size inb_S1024x160_S1024x128_0_0)).write (Elt F) qf (k0_pay45 (J c).x (J c).wq) Finset.univ)
          (k0_pay50 (J c).x (J c).qr) Finset.univ) 2 1 2 2)) := by
  simp only [k0_part233_eq_skeleton]
  delta k0_part233_skel
  refine partEq (R := opening J K c fk kf vf qf) (fun a => c = a.1) ?_ (fun a ha => ?_)
  focus
    simp only [k0_part1_eq_skeleton]
    delta k0_part1_skel
    simp only [go, Dir.run, Prog.lift, Prog.bind_op, Prog.bind_ret, wp_deviceId]
    exact doneEq rfl
    done
  obtain ⟨d0, r⟩ := a
  dsimp only at ha
  subst ha
  refine openPrep fun f => ?_
  iterate 2
    apply part
    focus
      simp only [k0_part2_eq_skeleton, k0_part3_eq_skeleton]
      delta k0_part2_skel k0_part3_skel
      repeat first
        | exact stop
      done
    intro a
  apply partV
  focus
    simp only [k0_part4_eq_skeleton]
    delta k0_part4_skel
    repeat first
      | (with_reducible refine signal ?_ ?_ ?_ ?_) <;> [decide; decide; (generalize c = d; revert d; decide +kernel); skip]
      | exact stopV
    done
  dsimp only
  iterate 5
    apply part
    focus
      simp only [k0_part5_eq_skeleton, k0_part6_eq_skeleton, k0_part7_eq_skeleton, k0_part8_eq_skeleton, k0_part9_eq_skeleton]
      delta k0_part5_skel k0_part6_skel k0_part7_skel k0_part8_skel k0_part9_skel
      repeat first
        | (with_reducible refine signal ?_ ?_ ?_ ?_) <;> [decide; decide; (generalize c = d; revert d; decide +kernel); skip]
        | exact stop
      done
    intro a
  apply partV
  focus
    simp only [k0_part10_eq_skeleton]
    delta k0_part10_skel
    repeat first
      | (with_reducible refine signal ?_ ?_ ?_ ?_) <;> [decide; decide; (generalize c = d; revert d; decide +kernel); skip]
      | with_reducible refine waitBar ?_
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply partV
  focus
    simp only [k0_part11_eq_skeleton]
    delta k0_part11_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply partV
  focus
    simp only [k0_part12_eq_skeleton]
    delta k0_part12_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply partV
  focus
    simp only [k0_part13_eq_skeleton]
    delta k0_part13_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply partV
  focus
    simp only [k0_part14_eq_skeleton]
    delta k0_part14_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply partV
  focus
    simp only [k0_part15_eq_skeleton]
    delta k0_part15_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
      | exact stopV
    done
  apply part
  focus
    simp only [k0_part16_eq_skeleton]
    delta k0_part16_skel
    repeat first
      | with_reducible refine fillUk ?_
      | with_reducible refine fillUv ?_
      | with_reducible refine fillDrop fun _ => ?_
      | (with_reducible refine fillStore ?_ ?_ ?_ ?_) <;> [decide; rfl; (first | (refine val_uk (F := F) (J c) (sk _) (sh _) ?_ ?_ <;> rfl) | (refine val_uv (F := F) (J c) (sk _) (sh _) ?_ ?_ <;> rfl)); skip]
    (refine copyOwn ?_ ?_) <;> [(generalize c = d; revert d; decide +kernel); exact stop]
    done
  intro a
  iterate 9
    apply part
    focus
      simp only [k0_part17_eq_skeleton, k0_part18_eq_skeleton, k0_part19_eq_skeleton, k0_part20_eq_skeleton, k0_part21_eq_skeleton,
          k0_part22_eq_skeleton, k0_part23_eq_skeleton, k0_part24_eq_skeleton, k0_part25_eq_skeleton]
      delta k0_part17_skel k0_part18_skel k0_part19_skel k0_part20_skel k0_part21_skel k0_part22_skel k0_part23_skel
          k0_part24_skel k0_part25_skel
      repeat first
        | (with_reducible refine sendA ?_ ?_ ?_ ?_ ?_ ?_ ?_ ?_) <;> [decide; decide; (generalize c = d; revert d; decide +kernel); (generalize c = d; revert d; decide +kernel); (generalize c = d; revert d; decide +kernel); (generalize c = d; revert d; decide +kernel); (generalize c = d; revert d; decide +kernel); skip]
        | exact stop
      done
    intro a
  apply part
  focus
    simp only [k0_part26_eq_skeleton]
    delta k0_part26_skel
    refine sendX ?_
    refine sendWd ?_
    (refine storeOwn ?_ ?_) <;> [(generalize c = d; revert d; decide +kernel); exact stop]
    done
  intro a
  iterate 9
    apply part
    focus
      simp only [k0_part27_eq_skeleton, k0_part28_eq_skeleton, k0_part29_eq_skeleton, k0_part30_eq_skeleton, k0_part31_eq_skeleton,
          k0_part32_eq_skeleton, k0_part33_eq_skeleton, k0_part34_eq_skeleton, k0_part35_eq_skeleton]
      delta k0_part27_skel k0_part28_skel k0_part29_skel k0_part30_skel k0_part31_skel k0_part32_skel k0_part33_skel
          k0_part34_skel k0_part35_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
      done
    intro a
  apply partV
  focus
    simp only [k0_part36_eq_skeleton]
    delta k0_part36_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
    done
  apply part
  focus
    simp only [k0_part37_eq_skeleton]
    delta k0_part37_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | with_reducible refine loadX hostS XX.ins ?_
      | with_reducible refine loadWq hostS XX.ins ?_
      | with_reducible refine loadQr hostS XX.ins ?_
      | with_reducible refine loadKr hostS XX.ins ?_
      | with_reducible refine loadQo hostS ?_
      | with_reducible refine storeQo hostS ?_
      | with_reducible refine loadKo hostS ?_
      | with_reducible refine storeKo hostS ?_
      | exact stop
    done
  intro a
  iterate 21
    apply part
    focus
      simp only [k0_part38_eq_skeleton, k0_part39_eq_skeleton, k0_part40_eq_skeleton, k0_part41_eq_skeleton, k0_part42_eq_skeleton,
          k0_part43_eq_skeleton, k0_part44_eq_skeleton, k0_part45_eq_skeleton, k0_part46_eq_skeleton, k0_part47_eq_skeleton,
          k0_part48_eq_skeleton, k0_part49_eq_skeleton, k0_part50_eq_skeleton, k0_part51_eq_skeleton, k0_part52_eq_skeleton,
          k0_part53_eq_skeleton, k0_part54_eq_skeleton, k0_part55_eq_skeleton, k0_part56_eq_skeleton, k0_part57_eq_skeleton,
          k0_part58_eq_skeleton]
      delta k0_part38_skel k0_part39_skel k0_part40_skel k0_part41_skel k0_part42_skel k0_part43_skel k0_part44_skel
          k0_part45_skel k0_part46_skel k0_part47_skel k0_part48_skel k0_part49_skel k0_part50_skel k0_part51_skel
          k0_part52_skel k0_part53_skel k0_part54_skel k0_part55_skel k0_part56_skel k0_part57_skel k0_part58_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
      done
    intro a
  apply partV
  focus
    simp only [k0_part59_eq_skeleton]
    delta k0_part59_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
    done
  apply partV
  focus
    simp only [k0_part60_eq_skeleton]
    delta k0_part60_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | with_reducible refine loadX hostS XX.ins ?_
      | with_reducible refine loadWq hostS XX.ins ?_
      | with_reducible refine loadQr hostS XX.ins ?_
      | with_reducible refine loadKr hostS XX.ins ?_
      | with_reducible refine loadQo hostS ?_
      | with_reducible refine storeQo hostS ?_
      | with_reducible refine loadKo hostS ?_
      | with_reducible refine storeKo hostS ?_
      | exact stopV
    done
  exact doneEq ⟨rfl, rfl⟩

end Cert.PrepProof
-- ==== Proof.PrepWalkMid.lean ====
/-
  The second quarter of the ring of the preparation at a device.
-/
module

public import proofs.«01_k».proof.Proof.PrepSteps
public import proofs.«01_k».proof.Proof.Gen.PrepareIdeal.Skeleton

@[expose] public section

set_option maxRecDepth 20000
set_option maxHeartbeats 2000000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {J : Dev nD → Inp F} {K : Dev nD × Fin 153 → ℕ} {c : Dev nD}
variable {Y : sProp (MT nD τ sig Unit (Elt F) ℕ UU ℕ)} {f : KV F} {kf : KO F} {vf : VO F} {qf : QO F}

/-- The key columns the rotation works on are written, the seventh slot is added. -/
theorem walk_mid (h0 : xM.IsWhole) (h1 : wdM.IsWhole) (h2 : ukM.IsWhole) (h3 : uvM.IsWhole) (h4 : wqM.IsWhole) (h5 : qrM.IsWhole) (h6 : krM.IsWhole)
    (h7 : koM.IsWhole) (h8 : voM.IsWhole) (h9 : qoM.IsWhole) (h10 : slM.IsWhole) (h11 : stM.IsWhole) (h12 : wrM.IsWhole) (h13 : kvM.IsWhole)
    (v38 v77 v116 : BitVec 32) :
    SS J K c 4 8 4 8 (XX J c Y f kf vf qf 2 1 2 2) ⊢ go c (k0_part234 (F := F) xM h0 wdM h1 ukM h2 uvM h3 wqM h4 qrM h5 krM h6 koM h7 voM h8 qoM h9 slM h10 stM h11 wrM h12 kvM h13 cc0_scratch4 cc0_scratch5 cc0_scratch6
      cc0_scratch7 cc0_scratch8 cc0_scratch9
      c v38 v77 v116 (k0_pay51 (J c).x))
      fun _ => SS J K c 14 17 13 17 (XX J c Y f ((koM.access (Rect.unit (s := S1024x160) ![0, 128] S1024x32.size inb_S1024x160_S1024x32_0_128)).write (Elt F) kf
        (k0_pay52 (k0_pay51 (J c).x) (J c).kr) Finset.univ) vf qf 7 1 7 7) := by
  simp only [k0_part234_eq_skeleton]
  delta k0_part234_skel
  apply part
  · simp only [k0_part61_eq_skeleton]
    delta k0_part61_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | with_reducible refine loadX hostS XX.ins ?_
      | with_reducible refine loadWq hostS XX.ins ?_
      | with_reducible refine loadQr hostS XX.ins ?_
      | with_reducible refine loadKr hostS XX.ins ?_
      | with_reducible refine loadQo hostS ?_
      | with_reducible refine storeQo hostS ?_
      | with_reducible refine loadKo hostS ?_
      | with_reducible refine storeKo hostS ?_
      | exact stop
  intro a
  apply partV
  · simp only [k0_part62_eq_skeleton]
    delta k0_part62_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  iterate 22
    apply part
    · simp only [k0_part63_eq_skeleton, k0_part64_eq_skeleton, k0_part65_eq_skeleton, k0_part66_eq_skeleton, k0_part67_eq_skeleton,
          k0_part68_eq_skeleton, k0_part69_eq_skeleton, k0_part70_eq_skeleton, k0_part71_eq_skeleton, k0_part72_eq_skeleton,
          k0_part73_eq_skeleton, k0_part74_eq_skeleton, k0_part75_eq_skeleton, k0_part76_eq_skeleton, k0_part77_eq_skeleton,
          k0_part78_eq_skeleton, k0_part79_eq_skeleton, k0_part80_eq_skeleton, k0_part81_eq_skeleton, k0_part82_eq_skeleton,
          k0_part83_eq_skeleton, k0_part84_eq_skeleton]
      delta k0_part63_skel k0_part64_skel k0_part65_skel k0_part66_skel k0_part67_skel k0_part68_skel k0_part69_skel
          k0_part70_skel k0_part71_skel k0_part72_skel k0_part73_skel k0_part74_skel k0_part75_skel k0_part76_skel
          k0_part77_skel k0_part78_skel k0_part79_skel k0_part80_skel k0_part81_skel k0_part82_skel k0_part83_skel
          k0_part84_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  apply partV
  · simp only [k0_part85_eq_skeleton]
    delta k0_part85_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  iterate 24
    apply part
    · simp only [k0_part86_eq_skeleton, k0_part87_eq_skeleton, k0_part88_eq_skeleton, k0_part89_eq_skeleton, k0_part90_eq_skeleton,
          k0_part91_eq_skeleton, k0_part92_eq_skeleton, k0_part93_eq_skeleton, k0_part94_eq_skeleton, k0_part95_eq_skeleton,
          k0_part96_eq_skeleton, k0_part97_eq_skeleton, k0_part98_eq_skeleton, k0_part99_eq_skeleton, k0_part100_eq_skeleton,
          k0_part101_eq_skeleton, k0_part102_eq_skeleton, k0_part103_eq_skeleton, k0_part104_eq_skeleton, k0_part105_eq_skeleton,
          k0_part106_eq_skeleton, k0_part107_eq_skeleton, k0_part108_eq_skeleton, k0_part109_eq_skeleton]
      delta k0_part86_skel k0_part87_skel k0_part88_skel k0_part89_skel k0_part90_skel k0_part91_skel k0_part92_skel
          k0_part93_skel k0_part94_skel k0_part95_skel k0_part96_skel k0_part97_skel k0_part98_skel k0_part99_skel
          k0_part100_skel k0_part101_skel k0_part102_skel k0_part103_skel k0_part104_skel k0_part105_skel k0_part106_skel
          k0_part107_skel k0_part108_skel k0_part109_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  apply partV
  · simp only [k0_part110_eq_skeleton]
    delta k0_part110_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  apply part
  · simp only [k0_part111_eq_skeleton]
    delta k0_part111_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stop
  intro a
  apply partV
  · simp only [k0_part112_eq_skeleton]
    delta k0_part112_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  iterate 8
    apply part
    · simp only [k0_part113_eq_skeleton, k0_part114_eq_skeleton, k0_part115_eq_skeleton, k0_part116_eq_skeleton, k0_part117_eq_skeleton,
          k0_part118_eq_skeleton, k0_part119_eq_skeleton, k0_part120_eq_skeleton]
      delta k0_part113_skel k0_part114_skel k0_part115_skel k0_part116_skel k0_part117_skel k0_part118_skel k0_part119_skel
          k0_part120_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  exact stop

end Cert.PrepProof
-- ==== Proof.PrepWalkLate.lean ====
/-
  The third quarter of the ring of the preparation at a device.
-/
module

public import proofs.«01_k».proof.Proof.PrepSteps
public import proofs.«01_k».proof.Proof.Gen.PrepareIdeal.Skeleton

@[expose] public section

set_option maxRecDepth 20000
set_option maxHeartbeats 2000000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {J : Dev nD → Inp F} {K : Dev nD × Fin 153 → ℕ} {c : Dev nD}
variable {Y : sProp (MT nD τ sig Unit (Elt F) ℕ UU ℕ)} {f : KV F} {kf : KO F} {vf : VO F} {qf : QO F}

/-- From the seventh slot to the eleventh. -/
theorem walk_late (h0 : xM.IsWhole) (h1 : wdM.IsWhole) (h2 : ukM.IsWhole) (h3 : uvM.IsWhole) (h4 : wqM.IsWhole) (h5 : qrM.IsWhole) (h6 : krM.IsWhole)
    (h7 : koM.IsWhole) (h8 : voM.IsWhole) (h9 : qoM.IsWhole) (h10 : slM.IsWhole) (h11 : stM.IsWhole) (h12 : wrM.IsWhole) (h13 : kvM.IsWhole)
    (v38 v77 v116 : BitVec 32) :
    SS J K c 14 17 13 17 (XX J c Y f kf vf qf 7 1 7 7) ⊢ go c (k0_part235 (F := F) xM h0 wdM h1 ukM h2 uvM h3 wqM h4 qrM h5 krM h6 koM h7 voM h8 qoM h9 slM h10 stM h11 wrM h12 kvM h13 cc0_scratch4 cc0_scratch5 cc0_scratch6
      cc0_scratch7 cc0_scratch8 cc0_scratch9
      c v38 v77 v116)
      fun _ => SS J K c 24 27 23 27 (XX J c Y f kf vf qf 11 1 11 11) := by
  simp only [k0_part235_eq_skeleton]
  delta k0_part235_skel
  iterate 14
    apply part
    · simp only [k0_part121_eq_skeleton, k0_part122_eq_skeleton, k0_part123_eq_skeleton, k0_part124_eq_skeleton, k0_part125_eq_skeleton,
          k0_part126_eq_skeleton, k0_part127_eq_skeleton, k0_part128_eq_skeleton, k0_part129_eq_skeleton, k0_part130_eq_skeleton,
          k0_part131_eq_skeleton, k0_part132_eq_skeleton, k0_part133_eq_skeleton, k0_part134_eq_skeleton]
      delta k0_part121_skel k0_part122_skel k0_part123_skel k0_part124_skel k0_part125_skel k0_part126_skel k0_part127_skel
          k0_part128_skel k0_part129_skel k0_part130_skel k0_part131_skel k0_part132_skel k0_part133_skel k0_part134_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  apply partV
  · simp only [k0_part135_eq_skeleton]
    delta k0_part135_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  apply part
  · simp only [k0_part136_eq_skeleton]
    delta k0_part136_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stop
  intro a
  apply partV
  · simp only [k0_part137_eq_skeleton]
    delta k0_part137_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  iterate 22
    apply part
    · simp only [k0_part138_eq_skeleton, k0_part139_eq_skeleton, k0_part140_eq_skeleton, k0_part141_eq_skeleton, k0_part142_eq_skeleton,
          k0_part143_eq_skeleton, k0_part144_eq_skeleton, k0_part145_eq_skeleton, k0_part146_eq_skeleton, k0_part147_eq_skeleton,
          k0_part148_eq_skeleton, k0_part149_eq_skeleton, k0_part150_eq_skeleton, k0_part151_eq_skeleton, k0_part152_eq_skeleton,
          k0_part153_eq_skeleton, k0_part154_eq_skeleton, k0_part155_eq_skeleton, k0_part156_eq_skeleton, k0_part157_eq_skeleton,
          k0_part158_eq_skeleton, k0_part159_eq_skeleton]
      delta k0_part138_skel k0_part139_skel k0_part140_skel k0_part141_skel k0_part142_skel k0_part143_skel k0_part144_skel
          k0_part145_skel k0_part146_skel k0_part147_skel k0_part148_skel k0_part149_skel k0_part150_skel k0_part151_skel
          k0_part152_skel k0_part153_skel k0_part154_skel k0_part155_skel k0_part156_skel k0_part157_skel k0_part158_skel
          k0_part159_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  apply partV
  · simp only [k0_part160_eq_skeleton]
    delta k0_part160_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  apply part
  · simp only [k0_part161_eq_skeleton]
    delta k0_part161_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stop
  intro a
  apply partV
  · simp only [k0_part162_eq_skeleton]
    delta k0_part162_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
  iterate 18
    apply part
    · simp only [k0_part163_eq_skeleton, k0_part164_eq_skeleton, k0_part165_eq_skeleton, k0_part166_eq_skeleton, k0_part167_eq_skeleton,
          k0_part168_eq_skeleton, k0_part169_eq_skeleton, k0_part170_eq_skeleton, k0_part171_eq_skeleton, k0_part172_eq_skeleton,
          k0_part173_eq_skeleton, k0_part174_eq_skeleton, k0_part175_eq_skeleton, k0_part176_eq_skeleton, k0_part177_eq_skeleton,
          k0_part178_eq_skeleton, k0_part179_eq_skeleton, k0_part180_eq_skeleton]
      delta k0_part163_skel k0_part164_skel k0_part165_skel k0_part166_skel k0_part167_skel k0_part168_skel k0_part169_skel
          k0_part170_skel k0_part171_skel k0_part172_skel k0_part173_skel k0_part174_skel k0_part175_skel k0_part176_skel
          k0_part177_skel k0_part178_skel k0_part179_skel k0_part180_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | exact stop
    intro a
  exact stop

end Cert.PrepProof
-- ==== Proof.PrepWalkLast.lean ====
/-
  The last quarter of the ring of the preparation at a device, and the departures.
-/
module

public import proofs.«01_k».proof.Proof.PrepSteps
public import proofs.«01_k».proof.Proof.Gen.PrepareIdeal.Skeleton

@[expose] public section

set_option maxRecDepth 20000
set_option maxHeartbeats 8000000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {J : Dev nD → Inp F} {K : Dev nD × Fin 153 → ℕ} {c : Dev nD}
variable {Y : sProp (MT nD τ sig Unit (Elt F) ℕ UU ℕ)} {f : KV F} {kf : KO F} {vf : VO F} {qf : QO F}

/-- A program that ends with an operation returns its value. -/
theorem tail {α : Type} {Q : α → sProp (MT nD τ sig Unit (Elt F) ℕ UU ℕ)} {P : sProp (MT nD τ sig Unit (Elt F) ℕ UU ℕ)}
    {p : Prog (TpuEff nD τ sig (Elt F) Λ₀ .tc) α} (h : P ⊢ go c (p >>= pure) Q) : P ⊢ go c p Q := by
  rwa [bind_pure] at h

/-- From the eleventh slot to the departures. -/
theorem walk_last (h0 : xM.IsWhole) (h1 : wdM.IsWhole) (h2 : ukM.IsWhole) (h3 : uvM.IsWhole) (h4 : wqM.IsWhole) (h5 : qrM.IsWhole) (h6 : krM.IsWhole)
    (h7 : koM.IsWhole) (h8 : voM.IsWhole) (h9 : qoM.IsWhole) (h10 : slM.IsWhole) (h11 : stM.IsWhole) (h12 : wrM.IsWhole) (h13 : kvM.IsWhole)
    (v38 v77 v116 w1 w2 w3 w4 w5 : BitVec 32) :
    SS J K c 24 27 23 27 (XX J c Y f kf vf qf 11 1 11 11) ⊢ go c (k0_part236 (F := F) xM h0 wdM h1 ukM h2 uvM h3 wqM h4 qrM h5 krM h6 koM h7 voM h8 qoM h9 slM h10 stM h11 wrM h12 kvM h13 cc0_scratch4 cc0_scratch5 cc0_scratch6
      cc0_scratch7 cc0_scratch8 cc0_scratch9
      c v38 v77 v116 w1 w2 w3 w4 w5)
      fun _ => DD J K c 32 28 (XX J c Y f ((koM.access (Rect.unit (s := S1024x160) ![0, 0] S1024x128.size inb_S1024x160_S1024x128_0_0)).write (Elt F) kf
          (k0_pay94 (acc J c f 0 16)) Finset.univ)
        ((voM.access (Rect.unit (s := S1024x128) ![0, 0] S1024x128.size inb_S1024x128_S1024x128_0_0)).write (Elt F) vf (k0_pay95 (acc J c f 1 16)) Finset.univ)
        qf 16 13 16 16) := by
  simp only [k0_part236_eq_skeleton]
  delta k0_part236_skel
  iterate 4
    apply part
    focus
      simp only [k0_part181_eq_skeleton, k0_part182_eq_skeleton, k0_part183_eq_skeleton, k0_part184_eq_skeleton]
      delta k0_part181_skel k0_part182_skel k0_part183_skel k0_part184_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | with_reducible exact stop
      done
    intro a
  apply partV
  focus
    simp only [k0_part185_eq_skeleton]
    delta k0_part185_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
    done
  iterate 14
    apply part
    focus
      simp only [k0_part186_eq_skeleton, k0_part187_eq_skeleton, k0_part188_eq_skeleton, k0_part189_eq_skeleton, k0_part190_eq_skeleton,
          k0_part191_eq_skeleton, k0_part192_eq_skeleton, k0_part193_eq_skeleton, k0_part194_eq_skeleton, k0_part195_eq_skeleton,
          k0_part196_eq_skeleton, k0_part197_eq_skeleton, k0_part198_eq_skeleton, k0_part199_eq_skeleton]
      delta k0_part186_skel k0_part187_skel k0_part188_skel k0_part189_skel k0_part190_skel k0_part191_skel k0_part192_skel
          k0_part193_skel k0_part194_skel k0_part195_skel k0_part196_skel k0_part197_skel k0_part198_skel k0_part199_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | with_reducible exact stop
      done
    intro a
  apply partV
  focus
    simp only [k0_part200_eq_skeleton]
    delta k0_part200_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
    done
  iterate 11
    apply part
    focus
      simp only [k0_part201_eq_skeleton, k0_part202_eq_skeleton, k0_part203_eq_skeleton, k0_part204_eq_skeleton, k0_part205_eq_skeleton,
          k0_part206_eq_skeleton, k0_part207_eq_skeleton, k0_part208_eq_skeleton, k0_part209_eq_skeleton, k0_part210_eq_skeleton,
          k0_part211_eq_skeleton]
      delta k0_part201_skel k0_part202_skel k0_part203_skel k0_part204_skel k0_part205_skel k0_part206_skel k0_part207_skel
          k0_part208_skel k0_part209_skel k0_part210_skel k0_part211_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | with_reducible exact stop
      done
    intro a
  apply partV
  focus
    simp only [k0_part212_eq_skeleton]
    delta k0_part212_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | exact stopV
    done
  apply part
  focus
    simp only [k0_part213_eq_skeleton]
    delta k0_part213_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | with_reducible exact stop
    done
  intro a
  iterate 15
    apply part
    focus
      simp only [k0_part214_eq_skeleton, k0_part215_eq_skeleton, k0_part216_eq_skeleton, k0_part217_eq_skeleton, k0_part218_eq_skeleton,
          k0_part219_eq_skeleton, k0_part220_eq_skeleton, k0_part221_eq_skeleton, k0_part222_eq_skeleton, k0_part223_eq_skeleton,
          k0_part224_eq_skeleton, k0_part225_eq_skeleton, k0_part226_eq_skeleton, k0_part227_eq_skeleton, k0_part228_eq_skeleton]
      delta k0_part214_skel k0_part215_skel k0_part216_skel k0_part217_skel k0_part218_skel k0_part219_skel k0_part220_skel
          k0_part221_skel k0_part222_skel k0_part223_skel k0_part224_skel k0_part225_skel k0_part226_skel k0_part227_skel
          k0_part228_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | (with_reducible refine departC ?_ ?_ ?_) <;> [rfl; decide; skip]
        | (with_reducible refine departN ?_ ?_ ?_) <;> [rfl; decide; skip]
        | (with_reducible refine departA ?_ ?_ ?_ ?_) <;> [decide; decide; (generalize c = d; revert d; decide +kernel); skip]
        | with_reducible refine loadKv0 hostD ?_
        | with_reducible refine loadKv1 hostD ?_
        | with_reducible refine loadKo hostD ?_
        | with_reducible refine storeKo hostD ?_
        | with_reducible refine loadVo hostD ?_
        | with_reducible refine storeVo hostD ?_
        | with_reducible exact stop
        | (with_reducible refine toDepart ?_ ?_ ?_ ?_ ?_) <;> [rfl; rfl; rfl; rfl; skip]
      done
    intro a
  apply partV
  focus
    simp only [k0_part229_eq_skeleton]
    delta k0_part229_skel
    repeat first
      | (with_reducible refine startC ?_ ?_ ?_ ?_ ?_ ?_ ?_) <;> [decide; decide; (generalize c = d; revert d; decide +kernel); (generalize c = d; revert d; decide +kernel); rfl; rfl; skip]
      | (with_reducible refine startN ?_ ?_ ?_ ?_ ?_ ?_ ?_) <;> [decide; decide; (generalize c = d; revert d; decide +kernel); (generalize c = d; revert d; decide +kernel); rfl; rfl; skip]
      | (with_reducible refine waitC ?_ ?_ ?_ ?_ ?_ ?_) <;> [rfl; decide; decide; decide; decide; skip]
      | (with_reducible refine waitN ?_ ?_ ?_ ?_ ?_ ?_) <;> [rfl; decide; decide; decide; decide; skip]
      | (with_reducible refine waitA ?_ ?_ ?_ ?_ ?_ ?_) <;> [decide; decide; decide; decide; (generalize c = d; revert d; decide +kernel); skip]
      | (with_reducible refine loadSlot ?_ ?_ ?_) <;> [(generalize c = d; revert d; decide +kernel); decide; skip]
      | (with_reducible refine loadBlk 0 ?_ ?_ ?_) <;> [(generalize c = d; revert d; decide +kernel); decide; skip]
      | (with_reducible refine loadBlk 1 ?_ ?_ ?_) <;> [(generalize c = d; revert d; decide +kernel); decide; skip]
      | with_reducible refine loadKv0 hostS ?_
      | with_reducible refine loadKv1 hostS ?_
      | (with_reducible refine storeKv0 hostS ?_ ?_) <;> [rfl; skip]
      | (with_reducible refine storeKv1 hostS ?_ ?_) <;> [rfl; skip]
      | (with_reducible refine departC ?_ ?_ ?_) <;> [rfl; decide; skip]
      | (with_reducible refine departN ?_ ?_ ?_) <;> [rfl; decide; skip]
      | (with_reducible refine departA ?_ ?_ ?_ ?_) <;> [decide; decide; (generalize c = d; revert d; decide +kernel); skip]
      | with_reducible refine loadKv0 hostD ?_
      | with_reducible refine loadKv1 hostD ?_
      | with_reducible refine loadKo hostD ?_
      | with_reducible refine storeKo hostD ?_
      | with_reducible refine loadVo hostD ?_
      | with_reducible refine storeVo hostD ?_
      | exact stopV
      | (with_reducible refine toDepart ?_ ?_ ?_ ?_ ?_) <;> [rfl; rfl; rfl; rfl; skip]
    refine tail ?_
    with_reducible refine loadKv0 hostD ?_
    exact stopV
    done
  iterate 3
    apply part
    focus
      simp only [k0_part230_eq_skeleton, k0_part231_eq_skeleton, k0_part232_eq_skeleton]
      delta k0_part230_skel k0_part231_skel k0_part232_skel
      repeat first
        | (with_reducible refine startC ?_ ?_ ?_ ?_ ?_ ?_ ?_) <;> [decide; decide; (generalize c = d; revert d; decide +kernel); (generalize c = d; revert d; decide +kernel); rfl; rfl; skip]
        | (with_reducible refine startN ?_ ?_ ?_ ?_ ?_ ?_ ?_) <;> [decide; decide; (generalize c = d; revert d; decide +kernel); (generalize c = d; revert d; decide +kernel); rfl; rfl; skip]
        | (with_reducible refine waitC ?_ ?_ ?_ ?_ ?_ ?_) <;> [rfl; decide; decide; decide; decide; skip]
        | (with_reducible refine waitN ?_ ?_ ?_ ?_ ?_ ?_) <;> [rfl; decide; decide; decide; decide; skip]
        | (with_reducible refine waitA ?_ ?_ ?_ ?_ ?_ ?_) <;> [decide; decide; decide; decide; (generalize c = d; revert d; decide +kernel); skip]
        | (with_reducible refine loadSlot ?_ ?_ ?_) <;> [(generalize c = d; revert d; decide +kernel); decide; skip]
        | (with_reducible refine loadBlk 0 ?_ ?_ ?_) <;> [(generalize c = d; revert d; decide +kernel); decide; skip]
        | (with_reducible refine loadBlk 1 ?_ ?_ ?_) <;> [(generalize c = d; revert d; decide +kernel); decide; skip]
        | with_reducible refine loadKv0 hostS ?_
        | with_reducible refine loadKv1 hostS ?_
        | (with_reducible refine storeKv0 hostS ?_ ?_) <;> [rfl; skip]
        | (with_reducible refine storeKv1 hostS ?_ ?_) <;> [rfl; skip]
        | (with_reducible refine departC ?_ ?_ ?_) <;> [rfl; decide; skip]
        | (with_reducible refine departN ?_ ?_ ?_) <;> [rfl; decide; skip]
        | (with_reducible refine departA ?_ ?_ ?_ ?_) <;> [decide; decide; (generalize c = d; revert d; decide +kernel); skip]
        | with_reducible refine loadKv0 hostD ?_
        | with_reducible refine loadKv1 hostD ?_
        | with_reducible refine loadKo hostD ?_
        | with_reducible refine storeKo hostD ?_
        | with_reducible refine loadVo hostD ?_
        | with_reducible refine storeVo hostD ?_
        | with_reducible exact stop
        | (with_reducible refine toDepart ?_ ?_ ?_ ?_ ?_) <;> [rfl; rfl; rfl; rfl; skip]
      done
    intro a
  (with_reducible refine departA ?_ ?_ ?_ ?_) <;> [decide; decide; (generalize c = d; revert d; decide +kernel); skip]
  exact stop

end Cert.PrepProof
-- ==== Proof.PrepWalk.lean ====
/-
  The preparation at a device, from what the launch deals to the three outputs.
-/
module

public import proofs.«01_k».proof.Proof.PrepWalkFirst
public import proofs.«01_k».proof.Proof.PrepWalkMid
public import proofs.«01_k».proof.Proof.PrepWalkLate
public import proofs.«01_k».proof.Proof.PrepWalkLast
public import proofs.«01_k».proof.Proof.Gen.PrepareIdeal.Skeleton

@[expose] public section

set_option maxRecDepth 20000
set_option maxHeartbeats 2000000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {J : Dev nD → Inp F} {K : Dev nD × Fin 153 → ℕ} {c : Dev nD}
variable {fk : KV F} {kf : KO F} {vf : VO F} {qf : QO F}

/-- The three outputs, each written part by part. -/
def kEnd (J : Dev nD → Inp F) (c : Dev nD) (fk : KV F) (kf : KO F) : KO F :=
  (koM.access (Rect.unit (s := S1024x160) ![0, 0] S1024x128.size inb_S1024x160_S1024x128_0_0)).write (Elt F)
    ((koM.access (Rect.unit (s := S1024x160) ![0, 128] S1024x32.size inb_S1024x160_S1024x32_0_128)).write (Elt F) kf
      (k0_pay52 (k0_pay51 (J c).x) (J c).kr) Finset.univ) (k0_pay94 (acc J c fk 0 16)) Finset.univ
def vEnd (J : Dev nD → Inp F) (c : Dev nD) (fk : KV F) (vf : VO F) : VO F :=
  (voM.access (Rect.unit (s := S1024x128) ![0, 0] S1024x128.size inb_S1024x128_S1024x128_0_0)).write (Elt F) vf (k0_pay95 (acc J c fk 1 16)) Finset.univ
def qEnd (J : Dev nD → Inp F) (c : Dev nD) (qf : QO F) : QO F :=
  (qoM.access (Rect.unit (s := S1024x160) ![0, 128] S1024x32.size inb_S1024x160_S1024x32_0_128)).write (Elt F)
    ((qoM.access (Rect.unit (s := S1024x160) ![0, 0] S1024x128.size inb_S1024x160_S1024x128_0_0)).write (Elt F) qf (k0_pay45 (J c).x (J c).wq) Finset.univ)
    (k0_pay50 (J c).x (J c).qr) Finset.univ

/-- The whole body of the preparation at a device. -/
theorem walk (h0 : xM.IsWhole) (h1 : wdM.IsWhole) (h2 : ukM.IsWhole) (h3 : uvM.IsWhole) (h4 : wqM.IsWhole) (h5 : qrM.IsWhole) (h6 : krM.IsWhole)
    (h7 : koM.IsWhole) (h8 : voM.IsWhole) (h9 : qoM.IsWhole) (h10 : slM.IsWhole) (h11 : stM.IsWhole) (h12 : wrM.IsWhole) (h13 : kvM.IsWhole) :
    opening J K c fk kf vf qf ⊢ go c (cc0__prep_body (F := F) xM h0 wdM h1 ukM h2 uvM h3 wqM h4 qrM h5 krM h6 koM h7 voM h8 qoM h9 slM h10 stM h11 wrM h12 kvM h13 cc0_scratch4 cc0_scratch5 cc0_scratch6
      cc0_scratch7 cc0_scratch8 cc0_scratch9)
      fun _ => DD J K c 32 28 (XX J c (kept J c) fk (kEnd J c fk kf) (vEnd J c fk vf) (qEnd J c qf) 16 16 16 16) := by
  simp only [cc0__prep_body_eq_skeleton]
  delta cc0__prep_body_skel
  refine partEq (fun a => c = a.1 ∧ a.2.2.2.2 = k0_pay51 (J c).x) (walk_first h0 h1 h2 h3 h4 h5 h6 h7 h8 h9 h10 h11 h12 h13) (fun a ha => ?_)
  obtain ⟨d0, r1, r2, r3, r4⟩ := a
  dsimp only at ha
  obtain ⟨ha, hb⟩ := ha
  subst ha hb
  refine part (walk_mid h0 h1 h2 h3 h4 h5 h6 h7 h8 h9 h10 h11 h12 h13 _ _ _) (fun a => ?_)
  refine part (walk_late h0 h1 h2 h3 h4 h5 h6 h7 h8 h9 h10 h11 h12 h13 _ _ _) (fun a => ?_)
  refine part (walk_last h0 h1 h2 h3 h4 h5 h6 h7 h8 h9 h10 h11 h12 h13 _ _ _ _ _ _ _ _) (fun a => ?_)
  iterate 3 (with_reducible refine departA ?_ ?_ ?_ ?_) <;> [decide; decide; (generalize c = d; revert d; decide +kernel); skip]
  exact stop

end Cert.PrepProof
-- ==== Proof.PrepRun.lean ====
/-
  The run of the preparation: on every device the body from what the launch deals to the three outputs, and what
  every device's arrays hold when all have returned.
-/
module

public import proofs.«01_k».proof.Proof.PrepDeal
public import proofs.«01_k».proof.Proof.PrepWalk
public import proofs.«01_k».proof.Proof.Gen.PrepareIdeal.Points
public import Idealize.ShloMosaic.Lib.Pipeline.CollectiveSegs
public import Idealize.ShloMosaic.Lib.Pointwise

@[expose] public section

set_option maxRecDepth 20000

noncomputable section

namespace Cert.PrepProof

open Cert.PrepareIdeal Cert.PrepareIdeal.Gen Cert.Pipe
open Cert.AgProof (ordT ord avail)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The outputs as arrays -/

/-- Two blocks of columns side by side. -/
def beside {α : Type} (a : S1024x128.Idx → α) (b : S1024x32.Idx → α) : S1024x160.Idx → α := fun i =>
  if h : (i 1).val < 128 then a (ix2 (i 0) (⟨(i 1).val, h⟩ : Fin 128))
  else b (ix2 (i 0) (⟨(i 1).val - 128, by have : (i 1).val < 160 := (i 1).isLt; omega⟩ : Fin 32))

abbrev rectA : Rect S1024x160 := Rect.unit (s := S1024x160) ![0, 0] S1024x128.size inb_S1024x160_S1024x128_0_0
abbrev rectB : Rect S1024x160 := Rect.unit (s := S1024x160) ![0, 128] S1024x32.size inb_S1024x160_S1024x32_0_128
abbrev rectV : Rect S1024x128 := Rect.unit (s := S1024x128) ![0, 0] S1024x128.size inb_S1024x128_S1024x128_0_0

theorem rectA_idx (a : Fin 1024) (b : Fin 128) : rectA.idx (ix2 a b) = ix2 a (⟨b.val, by omega⟩ : Fin 160) := by
  funext x
  fin_cases x <;> refine Fin.ext ?_
  · show 0 + 1 * a.val = a.val; omega
  · show 0 + 1 * b.val = b.val; omega
theorem rectB_idx (a : Fin 1024) (b : Fin 32) : rectB.idx (ix2 a b) = ix2 a (⟨128 + b.val, by omega⟩ : Fin 160) := by
  funext x
  fin_cases x <;> refine Fin.ext ?_
  · show 0 + 1 * a.val = a.val; omega
  · show 128 + 1 * b.val = 128 + b.val; omega
theorem rectV_idx (a : Fin 1024) (b : Fin 128) : rectV.idx (ix2 a b) = ix2 a b := by
  funext x
  fin_cases x <;> refine Fin.ext ?_
  · show 0 + 1 * a.val = a.val; omega
  · show 0 + 1 * b.val = b.val; omega

/-- The blocks are the columns before 128 and from 128 on. -/
theorem beside_A {α : Type} (a : S1024x128.Idx → α) (b : S1024x32.Idx → α) (y : S1024x128.Idx) : beside a b (rectA.idx y) = a y := by
  obtain ⟨p, q, rfl⟩ : ∃ (p : Fin 1024) (q : Fin 128), y = ix2 p q := ⟨y 0, y 1, eq_ix2 y⟩
  rw [rectA_idx]
  have hq : ((ix2 p (⟨q.val, by omega⟩ : Fin 160) : S1024x160.Idx) 1).val < 128 := q.isLt
  unfold beside
  rw [dif_pos hq]
  rfl
theorem beside_B {α : Type} (a : S1024x128.Idx → α) (b : S1024x32.Idx → α) (y : S1024x32.Idx) : beside a b (rectB.idx y) = b y := by
  obtain ⟨p, q, rfl⟩ : ∃ (p : Fin 1024) (q : Fin 32), y = ix2 p q := ⟨y 0, y 1, eq_ix2 y⟩
  rw [rectB_idx]
  have hq : ¬ ((ix2 p (⟨128 + q.val, by omega⟩ : Fin 160) : S1024x160.Idx) 1).val < 128 := by
    show ¬ 128 + q.val < 128
    omega
  unfold beside
  rw [dif_neg hq]
  exact congrArg b (congrArg (ix2 p) (Fin.ext (Nat.add_sub_cancel_left 128 q.val)))

/-- Every index is in one of the blocks. -/
theorem in_A_or_B (i : S1024x160.Idx) : (∃ y, rectA.idx y = i) ∨ ∃ y, rectB.idx y = i := by
  obtain ⟨p, q, rfl⟩ : ∃ (p : Fin 1024) (q : Fin 160), i = ix2 p q := ⟨i 0, i 1, eq_ix2 i⟩
  by_cases hq : q.val < 128
  · exact Or.inl ⟨ix2 p (⟨q.val, hq⟩ : Fin 128), rectA_idx _ _⟩
  · exact Or.inr ⟨ix2 p (⟨q.val - 128, by omega⟩ : Fin 32), (rectB_idx _ _).trans (congrArg (ix2 p) (Fin.ext (by show 128 + (q.val - 128) = q.val; omega)))⟩

section
variable (J : Dev nD → Inp F) (c : Dev nD)

/-- The outputs of a device: keys and queries each with their rotary part beside them, and values. -/
def kOut : KO F := beside (k0_pay94 (acc J c (fun _ => default) 0 16)) (k0_pay52 (k0_pay51 (J c).x) (J c).kr)
def vOut : VO F := k0_pay95 (acc J c (fun _ => default) 1 16)
def qOut : QO F := beside (k0_pay45 (J c).x (J c).wq) (k0_pay50 (J c).x (J c).qr)

theorem acc_any (f f' : KV F) (h : Fin 2) (n : ℕ) : acc J c f h (n + 1) = acc J c f' h (n + 1) := by
  induction n with
  | zero => rfl
  | succ n ih => show k0_pay53 (acc J c f h (n + 1)) _ _ = k0_pay53 (acc J c f' h (n + 1)) _ _; rw [ih]

theorem kEnd_eq (fk : KV F) (kf : KO F) : kEnd J c fk kf = kOut J c := by
  have eA : k0_pay94 (acc J c fk 0 16) = (koM.access rectA).read (Elt F) (kOut J c) := by
    rw [acc_any J c fk (fun _ => default) 0 15]
    exact funext fun y => (beside_A _ _ y).symm
  have eB : k0_pay52 (k0_pay51 (J c).x) (J c).kr = (koM.access rectB).read (Elt F) (kOut J c) := funext fun y => (beside_B _ _ y).symm
  unfold kEnd
  rw [eA, eB]
  have e (g : KO F) : (koM.access rectA).write (Elt F) g ((koM.access rectA).read (Elt F) (kOut J c)) Finset.univ = _ := View.write_read_eq_piecewise _ _ _
  have e' (g : KO F) : (koM.access rectB).write (Elt F) g ((koM.access rectB).read (Elt F) (kOut J c)) Finset.univ = _ := View.write_read_eq_piecewise _ _ _
  refine (e _).trans ?_
  funext i
  by_cases hi : i ∈ (koM.access rectA).set
  · exact Finset.piecewise_eq_of_mem _ _ _ hi
  · refine (Finset.piecewise_eq_of_notMem _ _ _ hi).trans ((congrFun (e' kf) i).trans (Finset.piecewise_eq_of_mem _ _ _ ?_))
    rcases in_A_or_B i with ⟨y, hy⟩ | ⟨y, hy⟩
    · exact absurd (Finset.mem_map.mpr ⟨y, Finset.mem_univ _, hy⟩) hi
    · exact Finset.mem_map.mpr ⟨y, Finset.mem_univ _, hy⟩

theorem qEnd_eq (qf : QO F) : qEnd J c qf = qOut J c := by
  have eA : k0_pay45 (J c).x (J c).wq = (qoM.access rectA).read (Elt F) (qOut J c) := funext fun y => (beside_A _ _ y).symm
  have eB : k0_pay50 (J c).x (J c).qr = (qoM.access rectB).read (Elt F) (qOut J c) := funext fun y => (beside_B _ _ y).symm
  unfold qEnd
  rw [eA, eB]
  have e (g : QO F) : (qoM.access rectB).write (Elt F) g ((qoM.access rectB).read (Elt F) (qOut J c)) Finset.univ = _ := View.write_read_eq_piecewise _ _ _
  have e' (g : QO F) : (qoM.access rectA).write (Elt F) g ((qoM.access rectA).read (Elt F) (qOut J c)) Finset.univ = _ := View.write_read_eq_piecewise _ _ _
  refine (e _).trans ?_
  funext i
  by_cases hi : i ∈ (qoM.access rectB).set
  · exact Finset.piecewise_eq_of_mem _ _ _ hi
  · refine (Finset.piecewise_eq_of_notMem _ _ _ hi).trans ((congrFun (e' qf) i).trans (Finset.piecewise_eq_of_mem _ _ _ ?_))
    rcases in_A_or_B i with ⟨y, hy⟩ | ⟨y, hy⟩
    · exact Finset.mem_map.mpr ⟨y, Finset.mem_univ _, hy⟩
    · exact absurd (Finset.mem_map.mpr ⟨y, Finset.mem_univ _, hy⟩) hi

theorem vEnd_eq (fk : KV F) (vf : VO F) : vEnd J c fk vf = vOut J c := by
  have eA : k0_pay95 (acc J c fk 1 16) = (voM.access rectV).read (Elt F) (vOut J c) := by
    rw [acc_any J c fk (fun _ => default) 1 15]
    funext y
    obtain ⟨p, q, rfl⟩ : ∃ (p : Fin 1024) (q : Fin 128), y = ix2 p q := ⟨y 0, y 1, eq_ix2 y⟩
    show _ = vOut J c (rectV.idx (ix2 p q))
    rw [rectV_idx]
    rfl
  unfold vEnd
  rw [eA]
  have e (g : VO F) : (voM.access rectV).write (Elt F) g ((voM.access rectV).read (Elt F) (vOut J c)) Finset.univ = _ := View.write_read_eq_piecewise _ _ _
  refine (e vf).trans ?_
  funext i
  exact Finset.piecewise_eq_of_mem _ _ _ (Finset.mem_map.mpr ⟨i, Finset.mem_univ _, (congrArg rectV.idx (eq_ix2 i)).trans ((rectV_idx _ _).trans (eq_ix2 i).symm)⟩)

end

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The staged arrays of a device. -/
def inp (c : Dev nD) : Inp F where
  x := (win0_0.blk (0 : Fin 1)).view.read (Elt F) ((s₀ m ρ).mem ((c : Thread nD τ).loc main_arg0))
  wd := (win0_1.blk (0 : Fin 1)).view.read (Elt F) ((s₀ m ρ).mem ((c : Thread nD τ).loc main_arg1))
  uk := (win0_2.blk (0 : Fin 1)).view.read (Elt F) ((s₀ m ρ).mem ((c : Thread nD τ).loc main_arg2))
  uv := (win0_3.blk (0 : Fin 1)).view.read (Elt F) ((s₀ m ρ).mem ((c : Thread nD τ).loc main_arg3))
  wq := (win0_4.blk (0 : Fin 1)).view.read (Elt F) ((s₀ m ρ).mem ((c : Thread nD τ).loc main_arg4))
  qr := (win0_5.blk (0 : Fin 1)).view.read (Elt F) ((s₀ m ρ).mem ((c : Thread nD τ).loc main_arg5))
  kr := (win0_6.blk (0 : Fin 1)).view.read (Elt F) ((s₀ m ρ).mem ((c : Thread nD τ).loc main_arg6))

/-! ## Before and after the body -/

/-- What a device's body starts from. -/
def start (c : Dev nD) : sProp 𝕄 :=
  iprop(G' (inp m ρ) c ∗ (cred (tallyAt (barCell c) () 15)
      ∗ (bigSep (Finset.Ico 1 16) fun n => cred (tallyAt (came c (ord c n)) () NW))
      ∗ (bigSep (Finset.Ico 0 32) fun m => cred (tallyAt (dC.rCell c m) () NN)) ∗ (bigSep (Finset.Ico 0 28) fun m => cred (tallyAt (dN.rCell c m) () NN)))
    ∗ levAts L lv)

/-- The four arrays of a device's own. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m ρ c ∗ scr c)
/-- After the body: the four arrays, and every semaphore at zero. -/
def Φ₁ (c : Dev nD) : sProp 𝕄 :=
  iprop(scr c ∗ (sixKinds fun s => semVal ((c : Thread nD τ), s) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ c).x
    | ⟨1, _⟩ => (inp m ρ c).wd
    | ⟨2, _⟩ => (inp m ρ c).uk
    | ⟨3, _⟩ => (inp m ρ c).uv
    | ⟨4, _⟩ => (inp m ρ c).wq
    | ⟨5, _⟩ => (inp m ρ c).qr
    | ⟨6, _⟩ => (inp m ρ c).kr
    | ⟨7, _⟩ => kOut (inp m ρ) c
    | ⟨8, _⟩ => vOut (inp m ρ) c
    | ⟨9, _⟩ => qOut (inp m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : b.ty.Contents (Elt F)) : (((c : Thread nD τ).loc b) ↦{fullShare} X : sProp 𝕄) ⊢ stg c b X := by
  iintro H
  iexists X
  isplitr; · (ipureintro; rfl)
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 10) t0_0 d))
    ∗ (∃ d, stg c cc0_stg1_0 ((dats m ρ 0 c).before (1 : Fin 10) t0_0 d))
    ∗ (∃ d, stg c cc0_stg2_0 ((dats m ρ 0 c).before (2 : Fin 10) t0_0 d))
    ∗ (∃ d, stg c cc0_stg3_0 ((dats m ρ 0 c).before (3 : Fin 10) t0_0 d))
    ∗ (∃ d, stg c cc0_stg4_0 ((dats m ρ 0 c).before (4 : Fin 10) t0_0 d))
    ∗ (∃ d, stg c cc0_stg5_0 ((dats m ρ 0 c).before (5 : Fin 10) t0_0 d))
    ∗ (∃ d, stg c cc0_stg6_0 ((dats m ρ 0 c).before (6 : Fin 10) t0_0 d))
    ∗ (∃ d, stg c cc0_stg7_0 ((dats m ρ 0 c).before (7 : Fin 10) t0_0 d))
    ∗ (∃ d, stg c cc0_stg8_0 ((dats m ρ 0 c).before (8 : Fin 10) t0_0 d))
    ∗ (∃ d, stg c cc0_stg9_0 ((dats m ρ 0 c).before (9 : Fin 10) t0_0 d)))

def bodyPost (c : Dev nD) : sProp 𝕄 :=
  iprop(Φ₁ c ∗ (dats m ρ 0 c).owesAt () t0_0.succ
    ∗ stg c cc0_stg0_0 (inp m ρ c).x ∗ stg c cc0_stg1_0 (inp m ρ c).wd ∗ stg c cc0_stg2_0 (inp m ρ c).uk ∗ stg c cc0_stg3_0 (inp m ρ c).uv ∗ stg c cc0_stg4_0 (inp m ρ c).wq ∗ stg c cc0_stg5_0 (inp m ρ c).qr ∗ stg c cc0_stg6_0 (inp m ρ c).kr
    ∗ stg c cc0_stg7_0 (kOut (inp m ρ) c) ∗ stg c cc0_stg8_0 (vOut (inp m ρ) c) ∗ stg c cc0_stg9_0 (qOut (inp m ρ) c))

theorem sl_set : slM.view.set = Finset.univ := View.set_whole _

/-- The launch's share and the staged arrays are the opening of the body. -/
theorem to_opening (c : Dev nD) : (bodyPre m ρ c : sProp 𝕄) ⊢ iprop(∃ K fk kf vf qf, opening (inp m ρ) K c fk kf vf qf) := by
  unfold bodyPre Φ₀ start scr G' Dat.owesAt Pipeline.owesWithin
  iintro ⟨⟨⟨⟨%K, #HR, Hh⟩, ⟨HcB, HcW, HcC, HcN⟩, #Hlev⟩, ⟨⟨%fs, Hs⟩, ⟨%ft, Hst⟩, ⟨%fw, Hwr⟩, ⟨%fk, Hkv⟩⟩⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩⟩
  have e0 : g0 = (inp m ρ c).x := by rw [hg0]; unfold Dat.before; rw [if_pos (fetch0_0 t0_0)]; rfl
  have e1 : g1 = (inp m ρ c).wd := by rw [hg1]; unfold Dat.before; rw [if_pos (fetch0_1 t0_0)]; rfl
  have e2 : g2 = (inp m ρ c).uk := by rw [hg2]; unfold Dat.before; rw [if_pos (fetch0_2 t0_0)]; rfl
  have e3 : g3 = (inp m ρ c).uv := by rw [hg3]; unfold Dat.before; rw [if_pos (fetch0_3 t0_0)]; rfl
  have e4 : g4 = (inp m ρ c).wq := by rw [hg4]; unfold Dat.before; rw [if_pos (fetch0_4 t0_0)]; rfl
  have e5 : g5 = (inp m ρ c).qr := by rw [hg5]; unfold Dat.before; rw [if_pos (fetch0_5 t0_0)]; rfl
  have e6 : g6 = (inp m ρ c).kr := by rw [hg6]; unfold Dat.before; rw [if_pos (fetch0_6 t0_0)]; rfl
  subst e0 e1 e2 e3 e4 e5 e6
  ihave H := (held_sort (F := F) c) $$ Hh
  icases H with ⟨HB, Ht, Hp, HaW, HgW, ⟨HCr, HCt, HCs⟩, ⟨HNr, HNt, HNs⟩⟩
  icases Hp with ⟨Hp0, Hp1, Hp2⟩
  iexists K; iexists fk; iexists g7; iexists g8; iexists g9
  unfold opening II given linear posts Ins Outs
  isplitr
  · isplitr; · iexact HR
    iexact Hlev
  isplitl [HO]; · iexists W; iexact HO
  isplitl [HB]; · iexact HB
  isplitl [Ht]; · iexact Ht
  isplitl [Hp0 Hp1 Hp2 HcB]
  · isplitl [Hp0]; · iexact Hp0
    isplitl [HcB]; · iexact HcB
    isplitl [Hp1]; · iexact Hp1
    iexact Hp2
  isplitl [HCr HcC HCt HCs HNr HcN HNt HNs H7 H8 H9 Hkv HaW HcW HgW]
  · isplitl [HCr HcC HCt HCs HNr HcN HNt HNs]
    · isplitl [HCr HcC HCt HCs]
      · isplitl [HCr HcC]
        · iapply (Entails.of_eq (bigSep_sep' _ _ _).symm)
          isplitl [HCr]; · iexact HCr
          iexact HcC
        isplitl [HCt]; · iexact HCt
        iexact HCs
      isplitl [HNr HcN]
      · iapply (Entails.of_eq (bigSep_sep' _ _ _).symm)
        isplitl [HNr]; · iexact HNr
        iexact HcN
      isplitl [HNt]; · iexact HNt
      iexact HNs
    isplitl [H7 H8 H9]
    · isplitl [H7]; · iexact H7
      isplitl [H8]; · iexact H8
      iexact H9
    isplitl [Hkv]; · iexact Hkv
    isplitl [HaW HcW]
    · iapply (Entails.of_eq (bigSep_sep' _ _ _).symm)
      isplitl [HaW]; · iexact HaW
      iexact HcW
    iexact HgW
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hs]; · iexists fs; rw [sl_set]; iexact Hs
  isplitl [Hst]; · iexists ft; iexact Hst
  iexists fw; iexact Hwr

/-- The blocks received make the whole array, their semaphores all of theirs; -/
theorem arr_all (c : Dev nD) (J : Dev nD → Inp F) :
    iprop(Arr J c 16 ∗ semVal (came c c) 0) ⊢ (iprop((wrM.view.loc (c : Thread nD τ) ↦[Finset.univ]{fullShare} wJ J c)
      ∗ bigSep Finset.univ fun k : Fin 16 => semVal (came c k) 0) : sProp 𝕄) := by
  have hA : (bigSep (Finset.Ico 0 16) fun n => (wpts wrM c (ord c n) (wJ J c) : sProp 𝕄)) = iprop(wpts wrM c c (wJ J c) ∗ bigSep (Finset.Ico 1 16) fun n => wpts wrM c (ord c n) (wJ J c)) := by
    rw [first_on, ord_zero]
  unfold Arr
  rw [wr_slots, ordered c fun k => wpts wrM c k (wJ J c), ordered c fun k => semVal (came c k) 0, hA]
  iintro ⟨⟨-, HA, HB⟩, Hz⟩
  isplitl [HA]; · iexact HA
  isplitl [Hz]; · iexact Hz
  iexact HB

/-- and those sent likewise. -/
theorem dep_all (c : Dev nD) (J : Dev nD → Inp F) :
    iprop(Dep J c 16 ∗ wpts stM c c (tJ (J c)) ∗ semVal (gone c c) 0) ⊢ (iprop((stM.view.loc (c : Thread nD τ) ↦[Finset.univ]{fullShare} tJ (J c))
      ∗ bigSep Finset.univ fun k : Fin 16 => semVal (gone c k) 0) : sProp 𝕄) := by
  unfold Dep
  rw [st_slots, offOwn c fun k => wpts stM c k (tJ (J c)), offOwn c fun k => semVal (gone c k) 0, bigSep_sep' (Finset.Ico 1 16)]
  iintro ⟨⟨-, HA, HB⟩, Hw, Hz⟩
  isplitl [Hw HB]
  · isplitl [Hw]; · iexact Hw
    iexact HB
  isplitl [Hz]; · iexact Hz
  iexact HA

/-- The end of the body is what the launch takes back. -/
theorem of_end (K : Dev nD × Fin 153 → ℕ) (fk : KV F) (kf : KO F) (vf : VO F) (qf : QO F) (c : Dev nD) :
    DD (inp m ρ) K c 32 28 (XX (inp m ρ) c (kept (inp m ρ) c) fk (kEnd (inp m ρ) c fk kf) (vEnd (inp m ρ) c fk vf) (qEnd (inp m ρ) c qf) 16 16 16 16)
      ⊢ bodyPost m ρ c := by
  rw [kEnd_eq, vEnd_eq, qEnd_eq]
  unfold DD Dr XX kept shut bodyPost Φ₁ scr sixKinds Ins Outs Dat.owesAt Pipeline.owesWithin
  iintro ⟨-, HC, HN, ⟨%W, HO⟩, ⟨H0, H1, H2, H3, H4, H5, H6⟩, ⟨H7, H8, H9⟩, Hkv, Ha, Hd, Hst, HzB, Hzg, Hzc⟩
  ihave H := (whole_again slM (fun m => dsem (42 + m)) (fun m => dsem (74 + m)) (fun m => dsem (106 + m)) (fun m => dsem (134 + m)) c (gJ (inp m ρ))) $$ [HC HN]
  · isplitl [HC]; · iexact HC
    iexact HN
  icases H with ⟨Hs, Hz1, Hz2, Hz3, Hz4⟩
  ihave H := (arr_all c (inp m ρ)) $$ [Ha Hzc]
  · isplitl [Ha]; · iexact Ha
    iexact Hzc
  icases H with ⟨Hwr, Hz6⟩
  ihave H := (dep_all c (inp m ρ)) $$ [Hd Hst Hzg]
  · isplitl [Hd]; · iexact Hd
    isplitl [Hst]; · iexact Hst
    iexact Hzg
  icases H with ⟨Hst, Hz5⟩
  isplitl [Hs Hst Hwr Hkv Hz1 Hz2 Hz3 Hz4 Hz5 Hz6 HzB]
  · isplitl [Hs Hst Hwr Hkv]
    · isplitl [Hs]; · iexists (gJ (inp m ρ)); rw [sl_set]; iexact Hs
      isplitl [Hst]; · iexists _; iexact Hst
      isplitl [Hwr]; · iexists _; iexact Hwr
      iexists _; iexact Hkv
    isplitr [HzB]
    · isplitl [Hz5]; · iexact Hz5
      isplitl [Hz6]; · iexact Hz6
      isplitl [Hz1]; · iexact Hz1
      isplitl [Hz2]; · iexact Hz2
      isplitl [Hz3]; · iexact Hz3
      iexact Hz4
    iexact HzB
  isplitl [HO]
  · iexists W
    isplitr; · ipureintro; exact fun _ _ => Or.inl trivial
    iexact HO
  isplitl [H0]; · iapply (stg_intro c cc0_stg0_0 _) $$ H0
  isplitl [H1]; · iapply (stg_intro c cc0_stg1_0 _) $$ H1
  isplitl [H2]; · iapply (stg_intro c cc0_stg2_0 _) $$ H2
  isplitl [H3]; · iapply (stg_intro c cc0_stg3_0 _) $$ H3
  isplitl [H4]; · iapply (stg_intro c cc0_stg4_0 _) $$ H4
  isplitl [H5]; · iapply (stg_intro c cc0_stg5_0 _) $$ H5
  isplitl [H6]; · iapply (stg_intro c cc0_stg6_0 _) $$ H6
  isplitl [H7]; · iapply (stg_intro c cc0_stg7_0 _) $$ H7
  isplitl [H8]; · iapply (stg_intro c cc0_stg8_0 _) $$ H8
  iapply (stg_intro c cc0_stg9_0 _) $$ H9

/-- The body of a device. -/
theorem sound_body (c : Dev nD) :
    bodyPre m ρ c ⊢ wp frame (wpE (defs₀ (F := F)) 𝒱₀ c none) Set.univ
      (cc0__prep_body xM (Memref.isWhole_whole _) wdM (Memref.isWhole_whole _) ukM (Memref.isWhole_whole _) uvM (Memref.isWhole_whole _) wqM (Memref.isWhole_whole _) qrM (Memref.isWhole_whole _) krM (Memref.isWhole_whole _) koM (Memref.isWhole_whole _) voM (Memref.isWhole_whole _) qoM (Memref.isWhole_whole _) slM (Memref.isWhole_whole _) stM (Memref.isWhole_whole _) wrM (Memref.isWhole_whole _) kvM (Memref.isWhole_whole _)
        cc0_scratch4 cc0_scratch5 cc0_scratch6 cc0_scratch7 cc0_scratch8 cc0_scratch9) (fun _ => bodyPost m ρ c) := by
  have h (K fk kf vf qf) : opening (inp m ρ) K c fk kf vf qf ⊢ wp frame (wpE (defs₀ (F := F)) 𝒱₀ c none) Set.univ
      (cc0__prep_body xM (Memref.isWhole_whole _) wdM (Memref.isWhole_whole _) ukM (Memref.isWhole_whole _) uvM (Memref.isWhole_whole _) wqM (Memref.isWhole_whole _) qrM (Memref.isWhole_whole _) krM (Memref.isWhole_whole _) koM (Memref.isWhole_whole _) voM (Memref.isWhole_whole _) qoM (Memref.isWhole_whole _) slM (Memref.isWhole_whole _) stM (Memref.isWhole_whole _) wrM (Memref.isWhole_whole _) kvM (Memref.isWhole_whole _)
        cc0_scratch4 cc0_scratch5 cc0_scratch6 cc0_scratch7 cc0_scratch8 cc0_scratch9) (fun _ => bodyPost m ρ c) :=
    (walk (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)).trans
      (wp_mono _ _ _ fun _ => of_end m ρ K fk kf vf qf c)
  iintro H
  ihave H := (to_opening m ρ c) $$ H
  icases H with ⟨%K, %fk, %kf, %vf, %qf, H⟩
  iapply (h K fk kf vf qf) $$ H

set_option maxRecDepth 200000 in
/-- The obligation of the launch on each device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold scr; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HA, HzB⟩
  isplitl [HzB]; · iexact HzB
  isplitl [HA]; · iexact HA
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- The sixteen devices run to the end, every array at what was computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m ρ)) (G' := G' (inp m ρ)) (u₀ := u₀)
    (hu₀ := by
      unfold u₀
      iintro Hu
      ihave H := (ownU_pair _ _) $$ Hu
      icases H with ⟨HP, HX⟩
      imod (fund_cells (inp m ρ)) $$ HX with HG
      imodintro
      isplitl [HP] <;> iassumption)
    (hglob := glob (inp m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged arrays are the argument arrays. -/
theorem inp_x (c : Dev nD) : (inp m ρ c).x = m ((c : Thread nD τ).loc main_arg0) := by
  show (win0_0.blk (0 : Fin 1)).view.read (Elt F) (m ((c : Thread nD τ).loc main_arg0)) = _
  exact Memref.read_access_unit_zero (Elt F) main_arg0 (off := fun a => win0_0.kind.off (win0_0.index (0 : Fin 1) a) (win0_0.size a)) (funext fun a => Nat.zero_mul _) _ _
theorem inp_wd (c : Dev nD) : (inp m ρ c).wd = m ((c : Thread nD τ).loc main_arg1) := by
  show (win0_1.blk (0 : Fin 1)).view.read (Elt F) (m ((c : Thread nD τ).loc main_arg1)) = _
  exact Memref.read_access_unit_zero (Elt F) main_arg1 (off := fun a => win0_1.kind.off (win0_1.index (0 : Fin 1) a) (win0_1.size a)) (funext fun a => Nat.zero_mul _) _ _
theorem inp_uk (c : Dev nD) : (inp m ρ c).uk = m ((c : Thread nD τ).loc main_arg2) := by
  show (win0_2.blk (0 : Fin 1)).view.read (Elt F) (m ((c : Thread nD τ).loc main_arg2)) = _
  exact Memref.read_access_unit_zero (Elt F) main_arg2 (off := fun a => win0_2.kind.off (win0_2.index (0 : Fin 1) a) (win0_2.size a)) (funext fun a => Nat.zero_mul _) _ _
theorem inp_uv (c : Dev nD) : (inp m ρ c).uv = m ((c : Thread nD τ).loc main_arg3) := by
  show (win0_3.blk (0 : Fin 1)).view.read (Elt F) (m ((c : Thread nD τ).loc main_arg3)) = _
  exact Memref.read_access_unit_zero (Elt F) main_arg3 (off := fun a => win0_3.kind.off (win0_3.index (0 : Fin 1) a) (win0_3.size a)) (funext fun a => Nat.zero_mul _) _ _
theorem inp_wq (c : Dev nD) : (inp m ρ c).wq = m ((c : Thread nD τ).loc main_arg4) := by
  show (win0_4.blk (0 : Fin 1)).view.read (Elt F) (m ((c : Thread nD τ).loc main_arg4)) = _
  exact Memref.read_access_unit_zero (Elt F) main_arg4 (off := fun a => win0_4.kind.off (win0_4.index (0 : Fin 1) a) (win0_4.size a)) (funext fun a => Nat.zero_mul _) _ _
theorem inp_qr (c : Dev nD) : (inp m ρ c).qr = m ((c : Thread nD τ).loc main_arg5) := by
  show (win0_5.blk (0 : Fin 1)).view.read (Elt F) (m ((c : Thread nD τ).loc main_arg5)) = _
  exact Memref.read_access_unit_zero (Elt F) main_arg5 (off := fun a => win0_5.kind.off (win0_5.index (0 : Fin 1) a) (win0_5.size a)) (funext fun a => Nat.zero_mul _) _ _
theorem inp_kr (c : Dev nD) : (inp m ρ c).kr = m ((c : Thread nD τ).loc main_arg6) := by
  show (win0_6.blk (0 : Fin 1)).view.read (Elt F) (m ((c : Thread nD τ).loc main_arg6)) = _
  exact Memref.read_access_unit_zero (Elt F) main_arg6 (off := fun a => win0_6.kind.off (win0_6.index (0 : Fin 1) a) (win0_6.size a)) (funext fun a => Nat.zero_mul _) _ _

/-- The outputs of a device are in its result arrays. -/
theorem finalA_k (c : Dev nD) : finalA m ρ c (7 : Fin 10) = kOut (inp m ρ) c := by
  unfold finalA
  show (dats (F := F) m ρ 0 c).arrAt (7 : Fin 10) ((t0_0 : Fin cfg0.N).val + 1) = _
  rw [(dats (F := F) m ρ 0 c).arrAt_succ, if_pos (flush0_7 t0_0)]
  exact Memref.write_access_unit_zero_univ (Elt F) main_v1_0 (off := fun a => win0_7.kind.off (win0_7.index (0 : Fin 1) a) (win0_7.size a)) (funext fun a => Nat.zero_mul _) _ _ _
theorem finalA_v (c : Dev nD) : finalA m ρ c (8 : Fin 10) = vOut (inp m ρ) c := by
  unfold finalA
  show (dats (F := F) m ρ 0 c).arrAt (8 : Fin 10) ((t0_0 : Fin cfg0.N).val + 1) = _
  rw [(dats (F := F) m ρ 0 c).arrAt_succ, if_pos (flush0_8 t0_0)]
  exact Memref.write_access_unit_zero_univ (Elt F) main_v1_1 (off := fun a => win0_8.kind.off (win0_8.index (0 : Fin 1) a) (win0_8.size a)) (funext fun a => Nat.zero_mul _) _ _ _
theorem finalA_q (c : Dev nD) : finalA m ρ c (9 : Fin 10) = qOut (inp m ρ) c := by
  unfold finalA
  show (dats (F := F) m ρ 0 c).arrAt (9 : Fin 10) ((t0_0 : Fin cfg0.N).val + 1) = _
  rw [(dats (F := F) m ρ 0 c).arrAt_succ, if_pos (flush0_9 t0_0)]
  exact Memref.write_access_unit_zero_univ (Elt F) main_v1_2 (off := fun a => win0_9.kind.off (win0_9.index (0 : Fin 1) a) (win0_9.size a)) (funext fun a => Nat.zero_mul _) _ _ _

/-- The arguments are what they were. -/
theorem finalA_arg0 (c : Dev nD) : finalA m ρ c (0 : Fin 10) = m ((c : Thread nD τ).loc main_arg0) :=
  (dats (F := F) m ρ 0 c).arrAt_in (0 : Fin 10) rfl _
theorem finalA_arg1 (c : Dev nD) : finalA m ρ c (1 : Fin 10) = m ((c : Thread nD τ).loc main_arg1) :=
  (dats (F := F) m ρ 0 c).arrAt_in (1 : Fin 10) rfl _
theorem finalA_arg2 (c : Dev nD) : finalA m ρ c (2 : Fin 10) = m ((c : Thread nD τ).loc main_arg2) :=
  (dats (F := F) m ρ 0 c).arrAt_in (2 : Fin 10) rfl _
theorem finalA_arg3 (c : Dev nD) : finalA m ρ c (3 : Fin 10) = m ((c : Thread nD τ).loc main_arg3) :=
  (dats (F := F) m ρ 0 c).arrAt_in (3 : Fin 10) rfl _
theorem finalA_arg4 (c : Dev nD) : finalA m ρ c (4 : Fin 10) = m ((c : Thread nD τ).loc main_arg4) :=
  (dats (F := F) m ρ 0 c).arrAt_in (4 : Fin 10) rfl _
theorem finalA_arg5 (c : Dev nD) : finalA m ρ c (5 : Fin 10) = m ((c : Thread nD τ).loc main_arg5) :=
  (dats (F := F) m ρ 0 c).arrAt_in (5 : Fin 10) rfl _
theorem finalA_arg6 (c : Dev nD) : finalA m ρ c (6 : Fin 10) = m ((c : Thread nD τ).loc main_arg6) :=
  (dats (F := F) m ρ 0 c).arrAt_in (6 : Fin 10) rfl _

end Cert.PrepProof
-- ==== Proof.PrepValue.lean ====
/-
  The values of the preparation: each output of a device is its block of columns of the reference's result.
-/
module

public import proofs.«01_k».proof.Proof.PrepRun
public import proofs.«01_k».proof.Proof.Value
public import proofs.«01_k».proof.Proof.Gen.PrepareReferenceIdeal.Run

@[expose] public section

set_option maxRecDepth 20000

noncomputable section

namespace Cert.PrepProof

open Cert.PrepareIdeal Cert.PrepareIdeal.Gen Cert.Pipe
open Cert.AgProof (ord ord_bijective row_lt sum_cut)

open Idealize.ShloMosaic
open Idealize.ShloMosaic.TcCoe

/-! ## The payloads at an index -/

theorem pay40_apply (x : Vec Ideal S1024x2048 .bf16) (w : Vec Ideal S2048x128 .bf16) (r : Fin 1024) (b : Fin 128) :
    k0_pay40 x w (ix3 0 r b) = ∑ p : Fin 2048, x (ix2 r p) * w (ix2 p b) := by
  pointwise [k0_pay40]

theorem pay45_apply (x : Vec Ideal S1024x2048 .bf16) (w : Vec Ideal S2048x128 .bf16) (r : Fin 1024) (b : Fin 128) :
    k0_pay45 x w (ix2 r b) = ∑ p : Fin 2048, x (ix2 r p) * w (ix2 p b) := by
  pointwise [k0_pay45]

theorem pay50_apply (x : Vec Ideal S1024x2048 .bf16) (w : Vec Ideal S2048x32 .bf16) (r : Fin 1024) (b : Fin 32) :
    k0_pay50 x w (ix2 r b) = ∑ p : Fin 2048, x (ix2 r p) * w (ix2 p b) := by
  pointwise [k0_pay50]

theorem pay52_apply (x : Vec Ideal S1024x2048 .bf16) (w : Vec Ideal S2048x32 .bf16) (r : Fin 1024) (b : Fin 32) :
    k0_pay52 (k0_pay51 x) w (ix2 r b) = ∑ p : Fin 2048, x (ix2 r p) * w (ix2 p b) := by
  pointwise [k0_pay52, k0_pay51]

theorem pay44_apply (v : Vec Ideal S1x1024x128 .bf16) (q : Vec Ideal S1x1x128x128 .bf16) (r : Fin 1024) (l : Fin 128) :
    k0_pay44 v q (ix3 0 r l) = ∑ b : Fin 128, v (ix3 0 r b) * q (ix4 0 0 b l) := by
  pointwise [k0_pay44]

theorem pay53_apply (s : Vec Ideal S1x1024x128 .f32) (v : Vec Ideal S1x1024x128 .bf16) (q : Vec Ideal S1x1x128x128 .bf16) (r : Fin 1024) (l : Fin 128) :
    k0_pay53 s v q (ix3 0 r l) = s (ix3 0 r l) + ∑ b : Fin 128, v (ix3 0 r b) * q (ix4 0 0 b l) := by
  pointwise [k0_pay53]

theorem pay94_apply (s : Vec Ideal S1x1024x128 .f32) (r : Fin 1024) (l : Fin 128) : k0_pay94 s (ix2 r l) = s (ix3 0 r l) := by
  pointwise [k0_pay94]

theorem pay95_apply (s : Vec Ideal S1x1024x128 .f32) (r : Fin 1024) (l : Fin 128) : k0_pay95 s (ix2 r l) = s (ix3 0 r l) := by
  pointwise [k0_pay95]

/-! ## The reference at an index -/

/-- The product of two matrices, as the reference takes it. -/
abbrev prod (X : FVec Ideal Cert.PrepareReferenceIdeal.S1024x2048 .f32) (W : FVec Ideal Cert.PrepareReferenceIdeal.S2048x2048 .f32) : FVec Ideal Cert.PrepareReferenceIdeal.S1024x2048 .f32 :=
  Host.dotGeneral Cert.PrepareReferenceIdeal.dot_S1024x2048_S2048x2048_S1024x2048_1_0_0_1_n_n none X W
abbrev up {s : Shape} (X : FVec Ideal s .bf16) : FVec Ideal s .f32 := extf .f32 X Cert.PrepareReferenceIdeal.Gen.bitsLt_bf16_f32

theorem prod_apply (X W) (r : Fin 1024) (l : Fin 2048) : prod X W (ix2 r l) = ∑ q : Fin 2048, X (ix2 r q) * W (ix2 q l) := by
  pointwise [prod]

/-- The heads of one array beside the heads of another, the heads side by side. -/
def heads (A : FVec Ideal Cert.PrepareReferenceIdeal.S1024x16x128 .f32) (B : FVec Ideal Cert.PrepareReferenceIdeal.S1024x16x32 .f32) : FVec Ideal Cert.PrepareReferenceIdeal.S1024x2560 .bf16 :=
  truncf .bf16 (shapeCast _ (concatenate Cert.PrepareReferenceIdeal.S1024x16x160 2 [⟨Cert.PrepareReferenceIdeal.S1024x16x128, A⟩, ⟨Cert.PrepareReferenceIdeal.S1024x16x32, B⟩]
    Cert.PrepareReferenceIdeal.Gen.concatenates_S1024x16x128_S1024x16x32_S1024x16x160_d2) Cert.PrepareReferenceIdeal.Gen.shapeCasts_S1024x16x160_S1024x2560) Cert.PrepareReferenceIdeal.Gen.bitsLt_bf16_f32

theorem heads_lo (A B) (r : Fin 1024) (c : Fin 16) (q : Fin 128) :
    heads A B (ix2 r (⟨160 * c.val + q.val, by omega⟩ : Fin 2560)) = A (ix3 r c q) := by
  have e : (160 * c.val + q.val) % 160 = q.val := by omega
  pointwise [heads]
  simp only [e, q.isLt, dif_pos]

theorem heads_hi (A B) (r : Fin 1024) (c : Fin 16) (q : Fin 32) :
    heads A B (ix2 r (⟨160 * c.val + (128 + q.val), by omega⟩ : Fin 2560)) = B (ix3 r c q) := by
  have e : (160 * c.val + (128 + q.val)) % 160 = 128 + q.val := by omega
  have h : ¬ 128 + q.val < 128 := by omega
  pointwise [heads]
  simp only [e, h, dif_neg, not_false_eq_true, Nat.add_sub_cancel_left]

theorem split128 (X : FVec Ideal Cert.PrepareReferenceIdeal.S1024x2048 .f32) (r : Fin 1024) (c : Fin 16) (q : Fin 128) :
    shapeCast Cert.PrepareReferenceIdeal.S1024x16x128 X Cert.PrepareReferenceIdeal.Gen.shapeCasts_S1024x2048_S1024x16x128 (ix3 r c q) = X (ix2 r (⟨q.val + 128 * c.val, row_lt c q⟩ : Fin 2048)) := by
  pointwise []
  exact congrArg X (congrArg (ix2 r) (Fin.ext (by show c.val * 128 + q.val = q.val + 128 * c.val; omega)))

theorem split32 (X : FVec Ideal Cert.PrepareReferenceIdeal.S1024x512 .f32) (r : Fin 1024) (c : Fin 16) (q : Fin 32) :
    shapeCast Cert.PrepareReferenceIdeal.S1024x16x32 X Cert.PrepareReferenceIdeal.Gen.shapeCasts_S1024x512_S1024x16x32 (ix3 r c q) = X (ix2 r (⟨q.val + 32 * c.val, by omega⟩ : Fin 512)) := by
  pointwise []
  exact congrArg X (congrArg (ix2 r) (Fin.ext (by show c.val * 32 + q.val = q.val + 32 * c.val; omega)))

theorem prod512_apply (X : FVec Ideal Cert.PrepareReferenceIdeal.S1024x2048 .f32) (W : FVec Ideal Cert.PrepareReferenceIdeal.S2048x512 .f32) (r : Fin 1024) (l : Fin 512) :
    Host.dotGeneral Cert.PrepareReferenceIdeal.dot_S1024x2048_S2048x512_S1024x512_1_0_0_1_n_n none X W (ix2 r l) = ∑ p : Fin 2048, X (ix2 r p) * W (ix2 p l) := by
  pointwise []

/-- The rotary part of the keys, the same for every head. -/
def spread (X : FVec Ideal Cert.PrepareReferenceIdeal.S1024x2048 .f32) (W : FVec Ideal Cert.PrepareReferenceIdeal.S2048x32 .f32) : FVec Ideal Cert.PrepareReferenceIdeal.S1024x16x32 .f32 :=
  broadcastInDim Cert.PrepareReferenceIdeal.S1024x16x32 ![0, 1, 2] Cert.PrepareReferenceIdeal.Gen.bcast_S1024x1x32_S1024x16x32_0_1_2
    (shapeCast _ (Host.dotGeneral Cert.PrepareReferenceIdeal.dot_S1024x2048_S2048x32_S1024x32_1_0_0_1_n_n none X W) Cert.PrepareReferenceIdeal.Gen.shapeCasts_S1024x32_S1024x1x32)

theorem spread_apply (X W) (r : Fin 1024) (c : Fin 16) (q : Fin 32) : spread X W (ix3 r c q) = ∑ p : Fin 2048, X (ix2 r p) * W (ix2 p q) := by
  pointwise [spread]

/-- The reference's three results. -/
def refK (X : FVec Ideal Cert.PrepareReferenceIdeal.S1024x2048 .bf16) (D U : FVec Ideal Cert.PrepareReferenceIdeal.S2048x2048 .bf16) (W : FVec Ideal Cert.PrepareReferenceIdeal.S2048x32 .bf16) : FVec Ideal Cert.PrepareReferenceIdeal.S1024x2560 .bf16 :=
  heads (shapeCast _ (prod (prod (up X) (up D)) (up U)) Cert.PrepareReferenceIdeal.Gen.shapeCasts_S1024x2048_S1024x16x128) (spread (up X) (up W))
def refV (X : FVec Ideal Cert.PrepareReferenceIdeal.S1024x2048 .bf16) (D U : FVec Ideal Cert.PrepareReferenceIdeal.S2048x2048 .bf16) : FVec Ideal Cert.PrepareReferenceIdeal.S1024x2048 .bf16 :=
  truncf .bf16 (prod (prod (up X) (up D)) (up U)) Cert.PrepareReferenceIdeal.Gen.bitsLt_bf16_f32
def refQ (X : FVec Ideal Cert.PrepareReferenceIdeal.S1024x2048 .bf16) (Q : FVec Ideal Cert.PrepareReferenceIdeal.S2048x2048 .bf16) (W : FVec Ideal Cert.PrepareReferenceIdeal.S2048x512 .bf16) : FVec Ideal Cert.PrepareReferenceIdeal.S1024x2560 .bf16 :=
  heads (shapeCast _ (prod (up X) (up Q)) Cert.PrepareReferenceIdeal.Gen.shapeCasts_S1024x2048_S1024x16x128)
    (shapeCast _ (Host.dotGeneral Cert.PrepareReferenceIdeal.dot_S1024x2048_S2048x512_S1024x512_1_0_0_1_n_n none (up X) (up W)) Cert.PrepareReferenceIdeal.Gen.shapeCasts_S1024x512_S1024x16x32)

theorem up_apply {s : Shape} (X : FVec Ideal s .bf16) (i : s.Idx) : up X i = X i := by
  pointwise [up]

/-- A product of three matrices, the middle sum cut in sixteen. -/
theorem triple_apply (X : FVec Ideal Cert.PrepareReferenceIdeal.S1024x2048 .bf16) (D U : FVec Ideal Cert.PrepareReferenceIdeal.S2048x2048 .bf16) (r : Fin 1024) (l : Fin 2048) :
    prod (prod (up X) (up D)) (up U) (ix2 r l)
      = ∑ k : Fin 16, ∑ b : Fin 128, (∑ p : Fin 2048, X (ix2 r p) * D (ix2 p (⟨b.val + 128 * k.val, row_lt k b⟩ : Fin 2048)))
          * U (ix2 (⟨b.val + 128 * k.val, row_lt k b⟩ : Fin 2048) l) := by
  rw [prod_apply, sum_cut]
  simp only [prod_apply, up_apply]

/-! ## The outputs at an index -/

/-- A slot of the gathered array, and a received block, read at an index. -/
theorem slot_apply {F : FTy → Type} [FloatOps F] (g : slM.view.ty.Contents (Elt F)) (k : Fin 16) (a : Fin 1024) (b : Fin 128) :
    slotV (M := slM) g k (ix3 0 a b) = g (ix3 k a b) := by
  have e : (srect k).toLoadRect.idx (ix3 0 a b) = ix3 k a b := by
    funext x
    fin_cases x <;> refine Fin.ext ?_
    · show k.val + 1 * 0 = k.val; omega
    · show 0 + 1 * a.val = a.val; omega
    · show 0 + 1 * b.val = b.val; omega
  show g ((srect k).toLoadRect.idx (ix3 0 a b)) = _
  rw [e]

theorem blk_apply {F : FTy → Type} [FloatOps F] (w : wrM.view.ty.Contents (Elt F)) (k : Fin 16) (h : Fin 2) (a b : Fin 128) :
    blkV w k h (ix4 0 0 a b) = w (ix4 k h a b) := by
  show w ((brect k h).idx (ix4 0 0 a b)) = _
  rw [brect_idx]
  rfl

/-- The share of slot `k` in an accumulator. -/
def slotSum (J : Dev nD → Inp Ideal) (c : Dev nD) (h : Fin 2) (r : Fin 1024) (l : Fin 128) (k : Fin 16) : EReal :=
  ∑ b : Fin 128, (show EReal from gJ J (ix3 k r b)) * (show EReal from wJ J c (ix4 k h b l))

/-- After `n + 1` slots an accumulator holds the sum of their shares. -/
theorem acc_apply (J : Dev nD → Inp Ideal) (c : Dev nD) (f : KV Ideal) (h : Fin 2) (r : Fin 1024) (l : Fin 128) (n : ℕ) :
    acc J c f h (n + 1) (ix3 0 r l) = (∑ i ∈ Finset.range (n + 1), slotSum J c h r l (ord c i) : EReal) := by
  induction n with
  | zero =>
    rw [Finset.sum_range_one]
    refine (pay44_apply _ _ r l).trans (Finset.sum_congr rfl fun b _ => ?_)
    rw [slot_apply, blk_apply]
  | succ n ih =>
    rw [Finset.sum_range_succ, ← ih]
    refine (pay53_apply _ _ _ r l).trans (congrArg _ (Finset.sum_congr rfl fun b _ => ?_))
    rw [slot_apply, blk_apply]

theorem acc_all (J : Dev nD → Inp Ideal) (c : Dev nD) (f : KV Ideal) (h : Fin 2) (r : Fin 1024) (l : Fin 128) :
    acc J c f h 16 (ix3 0 r l) = (∑ k : Fin 16, slotSum J c h r l k : EReal) := by
  refine (acc_apply J c f h r l 15).trans ?_
  rw [Finset.sum_range]
  exact (ord_bijective c).sum_comp (fun k => slotSum J c h r l k)

/-! ## The blocks of the whole arrays -/

theorem cols_apply {α : Type} {n w N : ℕ} (h : Layout.Tiles ⟨2, ![n, w]⟩ ⟨2, ![n, N]⟩ 1 16) (v : (⟨2, ![n, N]⟩ : Shape).Idx → α) (k : Fin 16)
    (a : Fin n) (b : Fin w) (hb : b.val + w * k.val < N) :
    Layout.block ⟨2, ![n, w]⟩ ⟨2, ![n, N]⟩ 1 16 k v h (ix2 a b) = v (ix2 a (⟨b.val + w * k.val, hb⟩ : Fin N)) := by
  show v _ = v _
  congr 1
  funext x
  fin_cases x <;> refine Fin.ext ?_
  · rfl
  · show k.val * w + b.val = b.val + w * k.val
    rw [Nat.mul_comm, Nat.add_comm]

theorem rows_apply {α : Type} {n w N : ℕ} (h : Layout.Tiles ⟨2, ![w, n]⟩ ⟨2, ![N, n]⟩ 0 16) (v : (⟨2, ![N, n]⟩ : Shape).Idx → α) (k : Fin 16)
    (b : Fin w) (a : Fin n) (hb : b.val + w * k.val < N) :
    Layout.block ⟨2, ![w, n]⟩ ⟨2, ![N, n]⟩ 0 16 k v h (ix2 b a) = v (ix2 (⟨b.val + w * k.val, hb⟩ : Fin N) a) := by
  show v _ = v _
  congr 1
  funext x
  fin_cases x <;> refine Fin.ext ?_
  · show k.val * w + b.val = b.val + w * k.val
    rw [Nat.mul_comm, Nat.add_comm]
  · rfl

/-! ## The outputs -/

/-- What the devices hold of the whole arrays. -/
structure Holds (J : Dev nD → Inp Ideal) (X : FVec Ideal Cert.PrepareReferenceIdeal.S1024x2048 .bf16) (D U V Q : FVec Ideal Cert.PrepareReferenceIdeal.S2048x2048 .bf16)
    (W : FVec Ideal Cert.PrepareReferenceIdeal.S2048x512 .bf16) (Z : FVec Ideal Cert.PrepareReferenceIdeal.S2048x32 .bf16) : Prop where
  x c : (J c).x = X
  wd c : (J c).wd = Layout.block ⟨2, ![2048, 128]⟩ ⟨2, ![2048, 2048]⟩ 1 16 c D
  uk c : (J c).uk = Layout.block ⟨2, ![128, 2048]⟩ ⟨2, ![2048, 2048]⟩ 0 16 c U
  uv c : (J c).uv = Layout.block ⟨2, ![128, 2048]⟩ ⟨2, ![2048, 2048]⟩ 0 16 c V
  wq c : (J c).wq = Layout.block ⟨2, ![2048, 128]⟩ ⟨2, ![2048, 2048]⟩ 1 16 c Q
  qr c : (J c).qr = Layout.block ⟨2, ![2048, 32]⟩ ⟨2, ![2048, 512]⟩ 1 16 c W
  kr c : (J c).kr = Z

variable {J : Dev nD → Inp Ideal} {X : FVec Ideal Cert.PrepareReferenceIdeal.S1024x2048 .bf16} {D U V Q : FVec Ideal Cert.PrepareReferenceIdeal.S2048x2048 .bf16}
  {W : FVec Ideal Cert.PrepareReferenceIdeal.S2048x512 .bf16} {Z : FVec Ideal Cert.PrepareReferenceIdeal.S2048x32 .bf16}

/-- The gathered array holds the product of the first two matrices, by columns. -/
theorem g_apply (H : Holds J X D U V Q W Z) (k : Fin 16) (r : Fin 1024) (b : Fin 128) :
    (show EReal from gJ J (ix3 k r b)) = ∑ p : Fin 2048, X (ix2 r p) * D (ix2 p (⟨b.val + 128 * k.val, row_lt k b⟩ : Fin 2048)) := by
  show k0_pay40 (J k).x (J k).wd (ix3 0 r b) = _
  rw [pay40_apply, H.x, H.wd]
  exact Finset.sum_congr rfl fun p _ => congrArg _ (cols_apply _ D k p b (row_lt k b))

/-- The received blocks hold the device's columns of the two matrices that follow. -/
theorem w_apply (H : Holds J X D U V Q W Z) (c k : Fin 16) (h : Fin 2) (b l : Fin 128) :
    (show EReal from wJ J c (ix4 k h b l))
      = (if h.val = 0 then U else V) (ix2 (⟨b.val + 128 * k.val, row_lt k b⟩ : Fin 2048) (⟨l.val + 128 * c.val, row_lt c l⟩ : Fin 2048)) := by
  show (if h.val = 0 then (J k).uk else (J k).uv) (ix2 b (⟨128 * c.val + l.val, by omega⟩ : Fin 2048)) = _
  rw [H.uk, H.uv]
  have e : (⟨128 * c.val + l.val, by omega⟩ : Fin 2048) = ⟨l.val + 128 * c.val, row_lt c l⟩ := Fin.ext (Nat.add_comm _ _)
  rw [e]
  split
  · exact rows_apply _ U k b _ (row_lt k b)
  · exact rows_apply _ V k b _ (row_lt k b)

/-- An accumulator ends with the device's columns of the product of three. -/
theorem acc_prod (H : Holds J X D U V Q W Z) (c : Dev nD) (f : KV Ideal) (h : Fin 2) (r : Fin 1024) (l : Fin 128) :
    acc J c f h 16 (ix3 0 r l) = prod (prod (up X) (up D)) (up (if h.val = 0 then U else V)) (ix2 r (⟨l.val + 128 * c.val, row_lt c l⟩ : Fin 2048)) := by
  rw [acc_all, triple_apply]
  refine Finset.sum_congr rfl fun k _ => Finset.sum_congr rfl fun b _ => ?_
  rw [g_apply H, w_apply H]

/-- The values of a device are its columns of the reference's; -/
theorem value_v (H : Holds J X D U V Q W Z) (c : Dev nD) : vOut J c = Layout.block ⟨2, ![1024, 128]⟩ ⟨2, ![1024, 2048]⟩ 1 16 c (refV X D V) := by
  funext y
  obtain ⟨r, l, rfl⟩ : ∃ (r : Fin 1024) (l : Fin 128), y = ix2 r l := ⟨y 0, y 1, eq_ix2 y⟩
  refine Eq.trans ?_ (cols_apply _ (refV X D V) c r l (row_lt c l)).symm
  refine (pay95_apply _ r l).trans ((acc_prod H c _ 1 r l).trans ?_)
  unfold refV
  pointwise []

/-- an array of heads is cut into its heads; -/
theorem heads_block (A : FVec Ideal Cert.PrepareReferenceIdeal.S1024x16x128 .f32) (B : FVec Ideal Cert.PrepareReferenceIdeal.S1024x16x32 .f32) (c : Fin 16)
    (a : FVec Ideal S1024x128 .bf16) (b : FVec Ideal S1024x32 .bf16) (ha : ∀ r q, a (ix2 r q) = A (ix3 r c q)) (hb : ∀ r q, b (ix2 r q) = B (ix3 r c q)) :
    beside a b = Layout.block ⟨2, ![1024, 160]⟩ ⟨2, ![1024, 2560]⟩ 1 16 c (heads A B) := by
  funext y
  rcases in_A_or_B y with ⟨y, rfl⟩ | ⟨y, rfl⟩
  · obtain ⟨r, q, rfl⟩ : ∃ (r : Fin 1024) (q : Fin 128), y = ix2 r q := ⟨y 0, y 1, eq_ix2 y⟩
    rw [beside_A, rectA_idx, ha, ← heads_lo A B r c q]
    refine Eq.trans ?_ (cols_apply _ (heads A B) c r _ (by show q.val + 160 * c.val < 2560; omega)).symm
    exact congrArg (heads A B) (congrArg (ix2 r) (Fin.ext (Nat.add_comm _ _)))
  · obtain ⟨r, q, rfl⟩ : ∃ (r : Fin 1024) (q : Fin 32), y = ix2 r q := ⟨y 0, y 1, eq_ix2 y⟩
    rw [beside_B, rectB_idx, hb, ← heads_hi A B r c q]
    refine Eq.trans ?_ (cols_apply _ (heads A B) c r _ (by show 128 + q.val + 160 * c.val < 2560; omega)).symm
    exact congrArg (heads A B) (congrArg (ix2 r) (Fin.ext (Nat.add_comm _ _)))

/-- so the keys of a device are its columns of the reference's, -/
theorem value_k (H : Holds J X D U V Q W Z) (c : Dev nD) : kOut J c = Layout.block ⟨2, ![1024, 160]⟩ ⟨2, ![1024, 2560]⟩ 1 16 c (refK X D U Z) := by
  refine heads_block _ _ c _ _ (fun r q => ?_) (fun r q => ?_)
  · rw [split128]
    exact (pay94_apply _ r q).trans (acc_prod H c _ 0 r q)
  · rw [spread_apply, pay52_apply, H.x, H.kr]
    simp only [up_apply]

/-- and the queries. -/
theorem value_q (H : Holds J X D U V Q W Z) (c : Dev nD) : qOut J c = Layout.block ⟨2, ![1024, 160]⟩ ⟨2, ![1024, 2560]⟩ 1 16 c (refQ X Q W) := by
  refine heads_block _ _ c _ _ (fun r q => ?_) (fun r q => ?_)
  · rw [split128, prod_apply, pay45_apply, H.x, H.wq]
    simp only [up_apply]
    exact Finset.sum_congr rfl fun p _ => congrArg _ (cols_apply _ Q c p q (row_lt c q))
  · rw [split32, prod512_apply, pay50_apply, H.x, H.qr]
    simp only [up_apply]
    exact Finset.sum_congr rfl fun p _ => congrArg _ (cols_apply _ W c p q (by omega))

/-- The staged arrays hold the whole arrays as the arguments do. -/
theorem holds_inp (m : (ℓ : Loc nD τ sig) → Buf (Elt Ideal) ℓ) (ρ : Dev nD → PrngReg)
    (h : ∀ c : Dev nD, m ((c : Thread nD τ).loc main_arg0) = X
      ∧ m ((c : Thread nD τ).loc main_arg1) = Layout.block ⟨2, ![2048, 128]⟩ ⟨2, ![2048, 2048]⟩ 1 16 c D
      ∧ m ((c : Thread nD τ).loc main_arg2) = Layout.block ⟨2, ![128, 2048]⟩ ⟨2, ![2048, 2048]⟩ 0 16 c U
      ∧ m ((c : Thread nD τ).loc main_arg3) = Layout.block ⟨2, ![128, 2048]⟩ ⟨2, ![2048, 2048]⟩ 0 16 c V
      ∧ m ((c : Thread nD τ).loc main_arg4) = Layout.block ⟨2, ![2048, 128]⟩ ⟨2, ![2048, 2048]⟩ 1 16 c Q
      ∧ m ((c : Thread nD τ).loc main_arg5) = Layout.block ⟨2, ![2048, 32]⟩ ⟨2, ![2048, 512]⟩ 1 16 c W
      ∧ m ((c : Thread nD τ).loc main_arg6) = Z) : Holds (inp m ρ) X D U V Q W Z where
  x c := (inp_x m ρ c).trans (h c).1
  wd c := (inp_wd m ρ c).trans (h c).2.1
  uk c := (inp_uk m ρ c).trans (h c).2.2.1
  uv c := (inp_uv m ρ c).trans (h c).2.2.2.1
  wq c := (inp_wq m ρ c).trans (h c).2.2.2.2.1
  qr c := (inp_qr m ρ c).trans (h c).2.2.2.2.2.1
  kr c := (inp_kr m ρ c).trans (h c).2.2.2.2.2.2

end Cert.PrepProof
-- ==== Proof.PrepText.lean ====
/-
  The two programs of the preparation have one text: the kernel read over its words is the kernel read in exact arithmetic, at the words.
-/
module

public import proofs.«01_k».proof.Proof.Gen.Prepare
public import proofs.«01_k».proof.Proof.Gen.PrepareIdeal
public import proofs.«01_k».proof.Defs

@[expose] public section

set_option maxRecDepth 100000

noncomputable section

namespace Cert.PrepProof

open Idealize.ShloMosaic Idealize.SL.Sem

/-- The body is the same; -/
theorem body_eq : Cert.Prepare.cc0__prep_body (F := Bits) = Cert.PrepareIdeal.cc0__prep_body (F := Bits) := rfl

/-- so are the kernels' tables, -/
theorem defs₀_eq : Cert.Prepare.defs₀ (F := Bits) = Cert.PrepareIdeal.defs₀ (F := Bits) := by
  refine congrArg Defs.onTc (funext fun l => funext fun x => ?_)
  match l, x with
  | ⟨0, _⟩, ⟨t, s⟩ =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _

/-- and the programs' tables. -/
theorem defs_eq : Cert.Prepare.defs (F := Bits) = Cert.PrepareIdeal.defs (F := Bits) :=
  congrArg (Pipeline.defs Cert.PrepareIdeal.pcfgs) defs₀_eq

/-- The programs are the same. -/
theorem main_eq : Cert.Prepare.main (F := Bits) = Cert.PrepareIdeal.main (F := Bits) := rfl

end Cert.PrepProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Prepare
public import proofs.«01_k».proof.Proof.Gen.PrepareIdeal
public import proofs.«01_k».proof.Proof.Gen.PrepareIdeal.Skeleton
public import proofs.«01_k».proof.Proof.Gen.PrepareIdeal.Launch
public import proofs.«01_k».proof.Proof.Gen.PrepareIdeal.Points
public import proofs.«01_k».proof.Proof.Gen.PrepareReferenceIdeal
public import proofs.«01_k».proof.Proof.Gen.PrepareReferenceIdeal.Run
public import proofs.«01_k».proof.Proof.Run
public import proofs.«01_k».proof.Proof.Value
public import proofs.«01_k».proof.Proof.Text
public import proofs.«01_k».proof.Proof.PrepValue
public import proofs.«01_k».proof.Proof.PrepText
public import Idealize.ShloMosaic.Adequacy
public import Idealize.ShloMosaic.Init

@[expose] public section

noncomputable section

namespace Cert.Proof

open Idealize.ShloMosaic Idealize.SL.Sem Cert.Kernel

/-- The kernel ends, its arguments as they were and every counter at zero. -/
theorem frame_kernel : Cert.quiescent_Kernel := fun m ρ _ => by
  have h := (θ_run Cert.KernelIdeal.defs _ _).mono
    (fun (r : PUnit × MemSt Cert.KernelIdeal.nD Cert.KernelIdeal.τ Cert.KernelIdeal.sig (Elt Bits)) h =>
      (⟨fun c => ⟨(h.1 c (0 : Fin 3)).trans (AgProof.finalA_arg0 (F := Bits) m ρ c), (h.1 c (1 : Fin 3)).trans (AgProof.finalA_arg1 (F := Bits) m ρ c)⟩, h.2⟩ :
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0))
    (AgProof.run_main (F := Bits) m ρ)
  rw [AgProof.defs_eq, AgProof.main_eq]
  exact h

/-- So does it in exact arithmetic; -/
theorem frame_kernelIdeal : Cert.quiescent_KernelIdeal := fun m ρ _ =>
  (θ_run Cert.KernelIdeal.defs _ _).mono
    (fun _ h => ⟨fun c => ⟨(h.1 c (0 : Fin 3)).trans (AgProof.finalA_arg0 (F := Ideal) m ρ c), (h.1 c (1 : Fin 3)).trans (AgProof.finalA_arg1 (F := Ideal) m ρ c)⟩, h.2⟩)
    (AgProof.run_main (F := Ideal) m ρ)

/-- and the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the result of the reference. -/
theorem algebraic : Cert.algebraic_KernelIdeal_ReferenceIdeal := fun m ρ m' ρ' _ hag =>
  ⟨AgProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (AgProof.finalA_out (F := Ideal) m ρ c)).trans
          (AgProof.value m ρ _ _ (fun c => (hag c).1) (fun c => (hag c).2) c),
        (h.1 c (0 : Fin 3)).trans (AgProof.finalA_arg0 (F := Ideal) m ρ c), (h.1 c (1 : Fin 3)).trans (AgProof.finalA_arg1 (F := Ideal) m ρ c)⟩)
      (AgProof.run_main (F := Ideal) m ρ),
    (θ_run Cert.ReferenceIdeal.defs _ _).mono (fun _ h => h 0) (Cert.ReferenceIdeal.Value.run (F := Ideal) m' ρ')⟩

/-- The preparation ends, its arguments as they were and every counter at zero. -/
theorem frame_prepare : Cert.quiescent_Prepare := fun m ρ _ => by
  have h := (θ_run Cert.PrepareIdeal.defs _ _).mono
    (fun (r : PUnit × MemSt Cert.PrepareIdeal.nD Cert.PrepareIdeal.τ Cert.PrepareIdeal.sig (Elt Bits)) h =>
      (⟨fun c => ⟨(h.1 c (0 : Fin 10)).trans (PrepProof.finalA_arg0 (F := Bits) m ρ c), (h.1 c (1 : Fin 10)).trans (PrepProof.finalA_arg1 (F := Bits) m ρ c), (h.1 c (2 : Fin 10)).trans (PrepProof.finalA_arg2 (F := Bits) m ρ c), (h.1 c (3 : Fin 10)).trans (PrepProof.finalA_arg3 (F := Bits) m ρ c), (h.1 c (4 : Fin 10)).trans (PrepProof.finalA_arg4 (F := Bits) m ρ c), (h.1 c (5 : Fin 10)).trans (PrepProof.finalA_arg5 (F := Bits) m ρ c), (h.1 c (6 : Fin 10)).trans (PrepProof.finalA_arg6 (F := Bits) m ρ c)⟩, h.2⟩ :
        (∀ c : Dev Cert.PrepareIdeal.nD,
          r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
          ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
          ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
        ∧ r.2.sem = fun _ => 0))
    (PrepProof.run_main (F := Bits) m ρ)
  rw [PrepProof.defs_eq, PrepProof.main_eq]
  exact h

/-- So does it in exact arithmetic; -/
theorem frame_prepareIdeal : Cert.quiescent_PrepareIdeal := fun m ρ _ =>
  (θ_run Cert.PrepareIdeal.defs _ _).mono
    (fun _ h => ⟨fun c => ⟨(h.1 c (0 : Fin 10)).trans (PrepProof.finalA_arg0 (F := Ideal) m ρ c), (h.1 c (1 : Fin 10)).trans (PrepProof.finalA_arg1 (F := Ideal) m ρ c), (h.1 c (2 : Fin 10)).trans (PrepProof.finalA_arg2 (F := Ideal) m ρ c), (h.1 c (3 : Fin 10)).trans (PrepProof.finalA_arg3 (F := Ideal) m ρ c), (h.1 c (4 : Fin 10)).trans (PrepProof.finalA_arg4 (F := Ideal) m ρ c), (h.1 c (5 : Fin 10)).trans (PrepProof.finalA_arg5 (F := Ideal) m ρ c), (h.1 c (6 : Fin 10)).trans (PrepProof.finalA_arg6 (F := Ideal) m ρ c)⟩, h.2⟩)
    (PrepProof.run_main (F := Ideal) m ρ)

/-- and its reference. -/
theorem frame_prepareReferenceIdeal : Cert.quiescent_PrepareReferenceIdeal := fun m ρ _ =>
  (θ_run Cert.PrepareReferenceIdeal.defs _ _).mono (fun r h => ⟨fun c => (h c).2.2.2, sem_eq_zero_of_no_sems (by decide) r.2⟩)
    (Cert.PrepareReferenceIdeal.Value.run (F := Ideal) m ρ)

/-- Every device of the preparation ends with its blocks of the three results of the reference. -/
theorem algebraic_prepare : Cert.algebraic_PrepareIdeal_PrepareReferenceIdeal := fun m ρ m' ρ' _ hag =>
  have H := PrepProof.holds_inp m ρ hag
  ⟨PrepProof.refK (m' (((0 : Dev Cert.PrepareReferenceIdeal.nD).tc : Thread Cert.PrepareReferenceIdeal.nD Cert.PrepareReferenceIdeal.τ).loc Cert.PrepareReferenceIdeal.main_arg0)) (m' (((0 : Dev Cert.PrepareReferenceIdeal.nD).tc : Thread Cert.PrepareReferenceIdeal.nD Cert.PrepareReferenceIdeal.τ).loc Cert.PrepareReferenceIdeal.main_arg1)) (m' (((0 : Dev Cert.PrepareReferenceIdeal.nD).tc : Thread Cert.PrepareReferenceIdeal.nD Cert.PrepareReferenceIdeal.τ).loc Cert.PrepareReferenceIdeal.main_arg2)) (m' (((0 : Dev Cert.PrepareReferenceIdeal.nD).tc : Thread Cert.PrepareReferenceIdeal.nD Cert.PrepareReferenceIdeal.τ).loc Cert.PrepareReferenceIdeal.main_arg6)),
    PrepProof.refV (m' (((0 : Dev Cert.PrepareReferenceIdeal.nD).tc : Thread Cert.PrepareReferenceIdeal.nD Cert.PrepareReferenceIdeal.τ).loc Cert.PrepareReferenceIdeal.main_arg0)) (m' (((0 : Dev Cert.PrepareReferenceIdeal.nD).tc : Thread Cert.PrepareReferenceIdeal.nD Cert.PrepareReferenceIdeal.τ).loc Cert.PrepareReferenceIdeal.main_arg1)) (m' (((0 : Dev Cert.PrepareReferenceIdeal.nD).tc : Thread Cert.PrepareReferenceIdeal.nD Cert.PrepareReferenceIdeal.τ).loc Cert.PrepareReferenceIdeal.main_arg3)),
    PrepProof.refQ (m' (((0 : Dev Cert.PrepareReferenceIdeal.nD).tc : Thread Cert.PrepareReferenceIdeal.nD Cert.PrepareReferenceIdeal.τ).loc Cert.PrepareReferenceIdeal.main_arg0)) (m' (((0 : Dev Cert.PrepareReferenceIdeal.nD).tc : Thread Cert.PrepareReferenceIdeal.nD Cert.PrepareReferenceIdeal.τ).loc Cert.PrepareReferenceIdeal.main_arg4)) (m' (((0 : Dev Cert.PrepareReferenceIdeal.nD).tc : Thread Cert.PrepareReferenceIdeal.nD Cert.PrepareReferenceIdeal.τ).loc Cert.PrepareReferenceIdeal.main_arg5)),
    (θ_run Cert.PrepareIdeal.defs _ _).mono
      (fun _ h c => ⟨((h.1 c (7 : Fin 10)).trans (PrepProof.finalA_k (F := Ideal) m ρ c)).trans (PrepProof.value_k H c),
        ((h.1 c (8 : Fin 10)).trans (PrepProof.finalA_v (F := Ideal) m ρ c)).trans (PrepProof.value_v H c),
        ((h.1 c (9 : Fin 10)).trans (PrepProof.finalA_q (F := Ideal) m ρ c)).trans (PrepProof.value_q H c),
        (h.1 c (0 : Fin 10)).trans (PrepProof.finalA_arg0 (F := Ideal) m ρ c), (h.1 c (1 : Fin 10)).trans (PrepProof.finalA_arg1 (F := Ideal) m ρ c), (h.1 c (2 : Fin 10)).trans (PrepProof.finalA_arg2 (F := Ideal) m ρ c), (h.1 c (3 : Fin 10)).trans (PrepProof.finalA_arg3 (F := Ideal) m ρ c), (h.1 c (4 : Fin 10)).trans (PrepProof.finalA_arg4 (F := Ideal) m ρ c), (h.1 c (5 : Fin 10)).trans (PrepProof.finalA_arg5 (F := Ideal) m ρ c), (h.1 c (6 : Fin 10)).trans (PrepProof.finalA_arg6 (F := Ideal) m ρ c)⟩)
      (PrepProof.run_main (F := Ideal) m ρ),
    (θ_run Cert.PrepareReferenceIdeal.defs _ _).mono (fun _ h => h 0) (Cert.PrepareReferenceIdeal.Value.run (F := Ideal) m' ρ')⟩

theorem claim : Cert.Claim := ⟨Cert.Kernel.Gen.facts, Cert.KernelIdeal.Gen.facts, Cert.ReferenceIdeal.Gen.facts,
  Cert.Prepare.Gen.facts, Cert.PrepareIdeal.Gen.facts, Cert.PrepareReferenceIdeal.Gen.facts,
  frame_kernel, frame_kernelIdeal, frame_referenceIdeal, frame_prepare, frame_prepareIdeal, frame_prepareReferenceIdeal,
  trivial, algebraic, trivial, algebraic_prepare⟩

end Cert.Proof

end
